-- ==== Defs.lean ====
def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxRefIdeal (m : (ℓ : Loc Cert.MlpDxRefIdeal.nD Cert.MlpDxRefIdeal.τ Cert.MlpDxRefIdeal.sig) → Buf (Elt Ideal) ℓ) : Prop :=
  True

def Pre_MlpDw (m : (ℓ : Loc Cert.MlpDw.nD Cert.MlpDw.τ Cert.MlpDw.sig) → Buf (Elt Bits) ℓ) : Prop :=
  True

def Pre_MlpDwIdeal (m : (ℓ : Loc Cert.MlpDwIdeal.nD Cert.MlpDwIdeal.τ Cert.MlpDwIdeal.sig) → Buf (Elt Ideal) ℓ) : Prop :=
  True

def Pre_MlpDwRefIdeal (m : (ℓ : Loc Cert.MlpDwRefIdeal.nD Cert.MlpDwRefIdeal.τ Cert.MlpDwRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxIdeal_mix_in_finite [hPre_mix_in_finite : Cert.Pre_mix_in_finite.Facts] (m : (ℓ : Loc Cert.MixInDxIdeal.nD Cert.MixInDxIdeal.τ Cert.MixInDxIdeal.sig) → Buf (Elt Ideal) ℓ) : Prop :=
  ∀ c : Dev Cert.MixInDxIdeal.nD,
    (Cert.Pre_mix_in_finite.fn (F := Ideal) (m ((c.tc : Thread Cert.MixInDxIdeal.nD Cert.MixInDxIdeal.τ).loc Cert.MixInDxIdeal.main_arg0)) (m ((c.tc : Thread Cert.MixInDxIdeal.nD Cert.MixInDxIdeal.τ).loc Cert.MixInDxIdeal.main_arg1)) (m ((c.tc : Thread Cert.MixInDxIdeal.nD Cert.MixInDxIdeal.τ).loc Cert.MixInDxIdeal.main_arg2)) (m ((c.tc : Thread Cert.MixInDxIdeal.nD Cert.MixInDxIdeal.τ).loc Cert.MixInDxIdeal.main_arg3)) (m ((c.tc : Thread Cert.MixInDxIdeal.nD Cert.MixInDxIdeal.τ).loc Cert.MixInDxIdeal.main_arg4)) (m ((c.tc : Thread Cert.MixInDxIdeal.nD Cert.MixInDxIdeal.τ).loc Cert.MixInDxIdeal.main_arg5))).1 = (fun _ => 1#1)
    ∧ (Cert.Pre_mix_in_finite.fn (F := Ideal) (m ((c.tc : Thread Cert.MixInDxIdeal.nD Cert.MixInDxIdeal.τ).loc Cert.MixInDxIdeal.main_arg0)) (m ((c.tc : Thread Cert.MixInDxIdeal.nD Cert.MixInDxIdeal.τ).loc Cert.MixInDxIdeal.main_arg1)) (m ((c.tc : Thread Cert.MixInDxIdeal.nD Cert.MixInDxIdeal.τ).loc Cert.MixInDxIdeal.main_arg2)) (m ((c.tc : Thread Cert.MixInDxIdeal.nD Cert.MixInDxIdeal.τ).loc Cert.MixInDxIdeal.main_arg3)) (m ((c.tc : Thread Cert.MixInDxIdeal.nD Cert.MixInDxIdeal.τ).loc Cert.MixInDxIdeal.main_arg4)) (m ((c.tc : Thread Cert.MixInDxIdeal.nD Cert.MixInDxIdeal.τ).loc Cert.MixInDxIdeal.main_arg5))).2.1 = (fun _ => 1#1)
    ∧ (Cert.Pre_mix_in_finite.fn (F := Ideal) (m ((c.tc : Thread Cert.MixInDxIdeal.nD Cert.MixInDxIdeal.τ).loc Cert.MixInDxIdeal.main_arg0)) (m ((c.tc : Thread Cert.MixInDxIdeal.nD Cert.MixInDxIdeal.τ).loc Cert.MixInDxIdeal.main_arg1)) (m ((c.tc : Thread Cert.MixInDxIdeal.nD Cert.MixInDxIdeal.τ).loc Cert.MixInDxIdeal.main_arg2)) (m ((c.tc : Thread Cert.MixInDxIdeal.nD Cert.MixInDxIdeal.τ).loc Cert.MixInDxIdeal.main_arg3)) (m ((c.tc : Thread Cert.MixInDxIdeal.nD Cert.MixInDxIdeal.τ).loc Cert.MixInDxIdeal.main_arg4)) (m ((c.tc : Thread Cert.MixInDxIdeal.nD Cert.MixInDxIdeal.τ).loc Cert.MixInDxIdeal.main_arg5))).2.2.1 = (fun _ => 1#1)
    ∧ (Cert.Pre_mix_in_finite.fn (F := Ideal) (m ((c.tc : Thread Cert.MixInDxIdeal.nD Cert.MixInDxIdeal.τ).loc Cert.MixInDxIdeal.main_arg0)) (m ((c.tc : Thread Cert.MixInDxIdeal.nD Cert.MixInDxIdeal.τ).loc Cert.MixInDxIdeal.main_arg1)) (m ((c.tc : Thread Cert.MixInDxIdeal.nD Cert.MixInDxIdeal.τ).loc Cert.MixInDxIdeal.main_arg2)) (m ((c.tc : Thread Cert.MixInDxIdeal.nD Cert.MixInDxIdeal.τ).loc Cert.MixInDxIdeal.main_arg3)) (m ((c.tc : Thread Cert.MixInDxIdeal.nD Cert.MixInDxIdeal.τ).loc Cert.MixInDxIdeal.main_arg4)) (m ((c.tc : Thread Cert.MixInDxIdeal.nD Cert.MixInDxIdeal.τ).loc Cert.MixInDxIdeal.main_arg5))).2.2.2.1 = (fun _ => 1#1)
    ∧ (Cert.Pre_mix_in_finite.fn (F := Ideal) (m ((c.tc : Thread Cert.MixInDxIdeal.nD Cert.MixInDxIdeal.τ).loc Cert.MixInDxIdeal.main_arg0)) (m ((c.tc : Thread Cert.MixInDxIdeal.nD Cert.MixInDxIdeal.τ).loc Cert.MixInDxIdeal.main_arg1)) (m ((c.tc : Thread Cert.MixInDxIdeal.nD Cert.MixInDxIdeal.τ).loc Cert.MixInDxIdeal.main_arg2)) (m ((c.tc : Thread Cert.MixInDxIdeal.nD Cert.MixInDxIdeal.τ).loc Cert.MixInDxIdeal.main_arg3)) (m ((c.tc : Thread Cert.MixInDxIdeal.nD Cert.MixInDxIdeal.τ).loc Cert.MixInDxIdeal.main_arg4)) (m ((c.tc : Thread Cert.MixInDxIdeal.nD Cert.MixInDxIdeal.τ).loc Cert.MixInDxIdeal.main_arg5))).2.2.2.2 = (fun _ => 1#1)

def Pre_MixInDxRefIdeal (m : (ℓ : Loc Cert.MixInDxRefIdeal.nD Cert.MixInDxRefIdeal.τ Cert.MixInDxRefIdeal.sig) → Buf (Elt Ideal) ℓ) : Prop :=
  True

def Pre_MixInDxRefIdeal_mix_in_finite [hPre_mix_in_finite : Cert.Pre_mix_in_finite.Facts] (m : (ℓ : Loc Cert.MixInDxRefIdeal.nD Cert.MixInDxRefIdeal.τ Cert.MixInDxRefIdeal.sig) → Buf (Elt Ideal) ℓ) : Prop :=
  ∀ c : Dev Cert.MixInDxRefIdeal.nD,
    (Cert.Pre_mix_in_finite.fn (F := Ideal) (m ((c.tc : Thread Cert.MixInDxRefIdeal.nD Cert.MixInDxRefIdeal.τ).loc Cert.MixInDxRefIdeal.main_arg0)) (m ((c.tc : Thread Cert.MixInDxRefIdeal.nD Cert.MixInDxRefIdeal.τ).loc Cert.MixInDxRefIdeal.main_arg1)) (m ((c.tc : Thread Cert.MixInDxRefIdeal.nD Cert.MixInDxRefIdeal.τ).loc Cert.MixInDxRefIdeal.main_arg2)) (m ((c.tc : Thread Cert.MixInDxRefIdeal.nD Cert.MixInDxRefIdeal.τ).loc Cert.MixInDxRefIdeal.main_arg3)) (m ((c.tc : Thread Cert.MixInDxRefIdeal.nD Cert.MixInDxRefIdeal.τ).loc Cert.MixInDxRefIdeal.main_arg4)) (m ((c.tc : Thread Cert.MixInDxRefIdeal.nD Cert.MixInDxRefIdeal.τ).loc Cert.MixInDxRefIdeal.main_arg5))).1 = (fun _ => 1#1)
    ∧ (Cert.Pre_mix_in_finite.fn (F := Ideal) (m ((c.tc : Thread Cert.MixInDxRefIdeal.nD Cert.MixInDxRefIdeal.τ).loc Cert.MixInDxRefIdeal.main_arg0)) (m ((c.tc : Thread Cert.MixInDxRefIdeal.nD Cert.MixInDxRefIdeal.τ).loc Cert.MixInDxRefIdeal.main_arg1)) (m ((c.tc : Thread Cert.MixInDxRefIdeal.nD Cert.MixInDxRefIdeal.τ).loc Cert.MixInDxRefIdeal.main_arg2)) (m ((c.tc : Thread Cert.MixInDxRefIdeal.nD Cert.MixInDxRefIdeal.τ).loc Cert.MixInDxRefIdeal.main_arg3)) (m ((c.tc : Thread Cert.MixInDxRefIdeal.nD Cert.MixInDxRefIdeal.τ).loc Cert.MixInDxRefIdeal.main_arg4)) (m ((c.tc : Thread Cert.MixInDxRefIdeal.nD Cert.MixInDxRefIdeal.τ).loc Cert.MixInDxRefIdeal.main_arg5))).2.1 = (fun _ => 1#1)
    ∧ (Cert.Pre_mix_in_finite.fn (F := Ideal) (m ((c.tc : Thread Cert.MixInDxRefIdeal.nD Cert.MixInDxRefIdeal.τ).loc Cert.MixInDxRefIdeal.main_arg0)) (m ((c.tc : Thread Cert.MixInDxRefIdeal.nD Cert.MixInDxRefIdeal.τ).loc Cert.MixInDxRefIdeal.main_arg1)) (m ((c.tc : Thread Cert.MixInDxRefIdeal.nD Cert.MixInDxRefIdeal.τ).loc Cert.MixInDxRefIdeal.main_arg2)) (m ((c.tc : Thread Cert.MixInDxRefIdeal.nD Cert.MixInDxRefIdeal.τ).loc Cert.MixInDxRefIdeal.main_arg3)) (m ((c.tc : Thread Cert.MixInDxRefIdeal.nD Cert.MixInDxRefIdeal.τ).loc Cert.MixInDxRefIdeal.main_arg4)) (m ((c.tc : Thread Cert.MixInDxRefIdeal.nD Cert.MixInDxRefIdeal.τ).loc Cert.MixInDxRefIdeal.main_arg5))).2.2.1 = (fun _ => 1#1)
    ∧ (Cert.Pre_mix_in_finite.fn (F := Ideal) (m ((c.tc : Thread Cert.MixInDxRefIdeal.nD Cert.MixInDxRefIdeal.τ).loc Cert.MixInDxRefIdeal.main_arg0)) (m ((c.tc : Thread Cert.MixInDxRefIdeal.nD Cert.MixInDxRefIdeal.τ).loc Cert.MixInDxRefIdeal.main_arg1)) (m ((c.tc : Thread Cert.MixInDxRefIdeal.nD Cert.MixInDxRefIdeal.τ).loc Cert.MixInDxRefIdeal.main_arg2)) (m ((c.tc : Thread Cert.MixInDxRefIdeal.nD Cert.MixInDxRefIdeal.τ).loc Cert.MixInDxRefIdeal.main_arg3)) (m ((c.tc : Thread Cert.MixInDxRefIdeal.nD Cert.MixInDxRefIdeal.τ).loc Cert.MixInDxRefIdeal.main_arg4)) (m ((c.tc : Thread Cert.MixInDxRefIdeal.nD Cert.MixInDxRefIdeal.τ).loc Cert.MixInDxRefIdeal.main_arg5))).2.2.2.1 = (fun _ => 1#1)
    ∧ (Cert.Pre_mix_in_finite.fn (F := Ideal) (m ((c.tc : Thread Cert.MixInDxRefIdeal.nD Cert.MixInDxRefIdeal.τ).loc Cert.MixInDxRefIdeal.main_arg0)) (m ((c.tc : Thread Cert.MixInDxRefIdeal.nD Cert.MixInDxRefIdeal.τ).loc Cert.MixInDxRefIdeal.main_arg1)) (m ((c.tc : Thread Cert.MixInDxRefIdeal.nD Cert.MixInDxRefIdeal.τ).loc Cert.MixInDxRefIdeal.main_arg2)) (m ((c.tc : Thread Cert.MixInDxRefIdeal.nD Cert.MixInDxRefIdeal.τ).loc Cert.MixInDxRefIdeal.main_arg3)) (m ((c.tc : Thread Cert.MixInDxRefIdeal.nD Cert.MixInDxRefIdeal.τ).loc Cert.MixInDxRefIdeal.main_arg4)) (m ((c.tc : Thread Cert.MixInDxRefIdeal.nD Cert.MixInDxRefIdeal.τ).loc Cert.MixInDxRefIdeal.main_arg5))).2.2.2.2 = (fun _ => 1#1)

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdIdeal_mix_out_finite [hPre_mix_out_finite : Cert.Pre_mix_out_finite.Facts] (m : (ℓ : Loc Cert.MixOutBwdIdeal.nD Cert.MixOutBwdIdeal.τ Cert.MixOutBwdIdeal.sig) → Buf (Elt Ideal) ℓ) : Prop :=
  ∀ c : Dev Cert.MixOutBwdIdeal.nD,
    (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).1 = (fun _ => 1#1)
    ∧ (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).2.1 = (fun _ => 1#1)
    ∧ (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).2.2.1 = (fun _ => 1#1)
    ∧ (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).2.2.2.1 = (fun _ => 1#1)
    ∧ (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).2.2.2.2.1 = (fun _ => 1#1)
    ∧ (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).2.2.2.2.2.1 = (fun _ => 1#1)
    ∧ (Cert.Pre_mix_out_finite.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6))).2.2.2.2.2.2 = (fun _ => 1#1)

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_MixOutBwdRefIdeal_mix_out_finite [hPre_mix_out_finite : Cert.Pre_mix_out_finite.Facts] (m : (ℓ : Loc Cert.MixOutBwdRefIdeal.nD Cert.MixOutBwdRefIdeal.τ Cert.MixOutBwdRefIdeal.sig) → Buf (Elt Ideal) ℓ) : Prop :=
  ∀ c : Dev Cert.MixOutBwdRefIdeal.nD,
    (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).1 = (fun _ => 1#1)
    ∧ (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).2.1 = (fun _ => 1#1)
    ∧ (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).2.2.1 = (fun _ => 1#1)
    ∧ (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).2.2.2.1 = (fun _ => 1#1)
    ∧ (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).2.2.2.2.1 = (fun _ => 1#1)
    ∧ (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).2.2.2.2.2.1 = (fun _ => 1#1)
    ∧ (Cert.Pre_mix_out_finite.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6))).2.2.2.2.2.2 = (fun _ => 1#1)

def Pre_MlpLoss (m : (ℓ : Loc Cert.MlpLoss.nD Cert.MlpLoss.τ Cert.MlpLoss.sig) → Buf (Elt Bits) ℓ) : Prop :=
  True

def Pre_MlpLossIdeal (m : (ℓ : Loc Cert.MlpLossIdeal.nD Cert.MlpLossIdeal.τ Cert.MlpLossIdeal.sig) → Buf (Elt Ideal) ℓ) : Prop :=
  True

def Pre_MlpLossIdeal_mlp_loss_finite [hPre_mlp_loss_finite : Cert.Pre_mlp_loss_finite.Facts] (m : (ℓ : Loc Cert.MlpLossIdeal.nD Cert.MlpLossIdeal.τ Cert.MlpLossIdeal.sig) → Buf (Elt Ideal) ℓ) : Prop :=
  ∀ c : Dev Cert.MlpLossIdeal.nD,
    (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).1 = (fun _ => 1#1)
    ∧ (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).2.1 = (fun _ => 1#1)
    ∧ (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).2.2.1 = (fun _ => 1#1)
    ∧ (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).2.2.2.1 = (fun _ => 1#1)
    ∧ (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).2.2.2.2.1 = (fun _ => 1#1)
    ∧ (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).2.2.2.2.2.1 = (fun _ => 1#1)
    ∧ (Cert.Pre_mlp_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))).2.2.2.2.2.2 = (fun _ => 1#1)

def Pre_MlpLossRefIdeal (m : (ℓ : Loc Cert.MlpLossRefIdeal.nD Cert.MlpLossRefIdeal.τ Cert.MlpLossRefIdeal.sig) → Buf (Elt Ideal) ℓ) : Prop :=
  True

def Pre_MlpLossRefIdeal_mlp_loss_finite [hPre_mlp_loss_finite : Cert.Pre_mlp_loss_finite.Facts] (m : (ℓ : Loc Cert.MlpLossRefIdeal.nD Cert.MlpLossRefIdeal.τ Cert.MlpLossRefIdeal.sig) → Buf (Elt Ideal) ℓ) : Prop :=
  ∀ c : Dev Cert.MlpLossRefIdeal.nD,
    (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).1 = (fun _ => 1#1)
    ∧ (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).2.1 = (fun _ => 1#1)
    ∧ (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).2.2.1 = (fun _ => 1#1)
    ∧ (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).2.2.2.1 = (fun _ => 1#1)
    ∧ (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).2.2.2.2.1 = (fun _ => 1#1)
    ∧ (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).2.2.2.2.2.1 = (fun _ => 1#1)
    ∧ (Cert.Pre_mlp_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))).2.2.2.2.2.2 = (fun _ => 1#1)

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdaAdam (m : (ℓ : Loc Cert.AdaAdam.nD Cert.AdaAdam.τ Cert.AdaAdam.sig) → Buf (Elt Bits) ℓ) : Prop :=
  True

def Pre_AdaAdamIdeal (m : (ℓ : Loc Cert.AdaAdamIdeal.nD Cert.AdaAdamIdeal.τ Cert.AdaAdamIdeal.sig) → Buf (Elt Ideal) ℓ) : Prop :=
  True

def Pre_AdaAdamRefIdeal (m : (ℓ : Loc Cert.AdaAdamRefIdeal.nD Cert.AdaAdamRefIdeal.τ Cert.AdaAdamRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_PairOut [hPre_core_and_chip : Cert.Pre_core_and_chip.Facts] (m : (ℓ : Loc Cert.PairOut.nD Cert.PairOut.τ Cert.PairOut.sig) → Buf (Elt Bits) ℓ) : Prop :=
  ∀ c : Dev Cert.PairOut.nD,
    (Cert.Pre_core_and_chip.fn (F := Bits) (m ((c.tc : Thread Cert.PairOut.nD Cert.PairOut.τ).loc Cert.PairOut.main_arg0)) (m ((c.tc : Thread Cert.PairOut.nD Cert.PairOut.τ).loc Cert.PairOut.main_arg1)) (m ((c.tc : Thread Cert.PairOut.nD Cert.PairOut.τ).loc Cert.PairOut.main_arg2))).1 = (fun _ => 1#1)
    ∧ (Cert.Pre_core_and_chip.fn (F := Bits) (m ((c.tc : Thread Cert.PairOut.nD Cert.PairOut.τ).loc Cert.PairOut.main_arg0)) (m ((c.tc : Thread Cert.PairOut.nD Cert.PairOut.τ).loc Cert.PairOut.main_arg1)) (m ((c.tc : Thread Cert.PairOut.nD Cert.PairOut.τ).loc Cert.PairOut.main_arg2))).2.1 = (fun _ => 1#1)
    ∧ (Cert.Pre_core_and_chip.fn (F := Bits) (m ((c.tc : Thread Cert.PairOut.nD Cert.PairOut.τ).loc Cert.PairOut.main_arg0)) (m ((c.tc : Thread Cert.PairOut.nD Cert.PairOut.τ).loc Cert.PairOut.main_arg1)) (m ((c.tc : Thread Cert.PairOut.nD Cert.PairOut.τ).loc Cert.PairOut.main_arg2))).2.2 = (fun _ => 1#1)

def Pre_PairOutIdeal [hPre_core_and_chip : Cert.Pre_core_and_chip.Facts] (m : (ℓ : Loc Cert.PairOutIdeal.nD Cert.PairOutIdeal.τ Cert.PairOutIdeal.sig) → Buf (Elt Ideal) ℓ) : Prop :=
  ∀ c : Dev Cert.PairOutIdeal.nD,
    (Cert.Pre_core_and_chip.fn (F := Ideal) (m ((c.tc : Thread Cert.PairOutIdeal.nD Cert.PairOutIdeal.τ).loc Cert.PairOutIdeal.main_arg0)) (m ((c.tc : Thread Cert.PairOutIdeal.nD Cert.PairOutIdeal.τ).loc Cert.PairOutIdeal.main_arg1)) (m ((c.tc : Thread Cert.PairOutIdeal.nD Cert.PairOutIdeal.τ).loc Cert.PairOutIdeal.main_arg2))).1 = (fun _ => 1#1)
    ∧ (Cert.Pre_core_and_chip.fn (F := Ideal) (m ((c.tc : Thread Cert.PairOutIdeal.nD Cert.PairOutIdeal.τ).loc Cert.PairOutIdeal.main_arg0)) (m ((c.tc : Thread Cert.PairOutIdeal.nD Cert.PairOutIdeal.τ).loc Cert.PairOutIdeal.main_arg1)) (m ((c.tc : Thread Cert.PairOutIdeal.nD Cert.PairOutIdeal.τ).loc Cert.PairOutIdeal.main_arg2))).2.1 = (fun _ => 1#1)
    ∧ (Cert.Pre_core_and_chip.fn (F := Ideal) (m ((c.tc : Thread Cert.PairOutIdeal.nD Cert.PairOutIdeal.τ).loc Cert.PairOutIdeal.main_arg0)) (m ((c.tc : Thread Cert.PairOutIdeal.nD Cert.PairOutIdeal.τ).loc Cert.PairOutIdeal.main_arg1)) (m ((c.tc : Thread Cert.PairOutIdeal.nD Cert.PairOutIdeal.τ).loc Cert.PairOutIdeal.main_arg2))).2.2 = (fun _ => 1#1)

def Pre_PairOutRefIdeal (m : (ℓ : Loc Cert.PairOutRefIdeal.nD Cert.PairOutRefIdeal.τ Cert.PairOutRefIdeal.sig) → Buf (Elt Ideal) ℓ) : Prop :=
  True

def Pre_PairOutRefIdeal_core_and_chip [hPre_core_and_chip : Cert.Pre_core_and_chip.Facts] (m : (ℓ : Loc Cert.PairOutRefIdeal.nD Cert.PairOutRefIdeal.τ Cert.PairOutRefIdeal.sig) → Buf (Elt Ideal) ℓ) : Prop :=
  ∀ c : Dev Cert.PairOutRefIdeal.nD,
    (Cert.Pre_core_and_chip.fn (F := Ideal) (m ((c.tc : Thread Cert.PairOutRefIdeal.nD Cert.PairOutRefIdeal.τ).loc Cert.PairOutRefIdeal.main_arg0)) (m ((c.tc : Thread Cert.PairOutRefIdeal.nD Cert.PairOutRefIdeal.τ).loc Cert.PairOutRefIdeal.main_arg1)) (m ((c.tc : Thread Cert.PairOutRefIdeal.nD Cert.PairOutRefIdeal.τ).loc Cert.PairOutRefIdeal.main_arg2))).1 = (fun _ => 1#1)
    ∧ (Cert.Pre_core_and_chip.fn (F := Ideal) (m ((c.tc : Thread Cert.PairOutRefIdeal.nD Cert.PairOutRefIdeal.τ).loc Cert.PairOutRefIdeal.main_arg0)) (m ((c.tc : Thread Cert.PairOutRefIdeal.nD Cert.PairOutRefIdeal.τ).loc Cert.PairOutRefIdeal.main_arg1)) (m ((c.tc : Thread Cert.PairOutRefIdeal.nD Cert.PairOutRefIdeal.τ).loc Cert.PairOutRefIdeal.main_arg2))).2.1 = (fun _ => 1#1)
    ∧ (Cert.Pre_core_and_chip.fn (F := Ideal) (m ((c.tc : Thread Cert.PairOutRefIdeal.nD Cert.PairOutRefIdeal.τ).loc Cert.PairOutRefIdeal.main_arg0)) (m ((c.tc : Thread Cert.PairOutRefIdeal.nD Cert.PairOutRefIdeal.τ).loc Cert.PairOutRefIdeal.main_arg1)) (m ((c.tc : Thread Cert.PairOutRefIdeal.nD Cert.PairOutRefIdeal.τ).loc Cert.PairOutRefIdeal.main_arg2))).2.2 = (fun _ => 1#1)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2)
      ∧ r.2.mem ((c.tc : Thread Cert.MlpDx.nD Cert.MlpDx.τ).loc Cert.MlpDx.main_arg3) = m ((c.tc : Thread Cert.MlpDx.nD Cert.MlpDx.τ).loc Cert.MlpDx.main_arg3))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3))
      ∧ r.2.sem = fun _ => 0)

def quiescent_MlpDw [hMlpDw : Cert.MlpDw.Facts] : Prop :=
  ∀ (m : (ℓ : Loc Cert.MlpDw.nD Cert.MlpDw.τ Cert.MlpDw.sig) → Buf (Elt Bits) ℓ) (g : Dev Cert.MlpDw.nD → PrngReg), Pre_MlpDw m →
    θ_run (Cert.MlpDw.defs (F := Bits)) (onTc (τ := Cert.MlpDw.τ) (Cert.MlpDw.main (F := Bits))) ⟨m, fun _ => 0, g⟩ (fun r => (∀ c : Dev Cert.MlpDw.nD,
      r.2.mem ((c.tc : Thread Cert.MlpDw.nD Cert.MlpDw.τ).loc Cert.MlpDw.main_arg0) = m ((c.tc : Thread Cert.MlpDw.nD Cert.MlpDw.τ).loc Cert.MlpDw.main_arg0)
      ∧ r.2.mem ((c.tc : Thread Cert.MlpDw.nD Cert.MlpDw.τ).loc Cert.MlpDw.main_arg1) = m ((c.tc : Thread Cert.MlpDw.nD Cert.MlpDw.τ).loc Cert.MlpDw.main_arg1)
      ∧ r.2.mem ((c.tc : Thread Cert.MlpDw.nD Cert.MlpDw.τ).loc Cert.MlpDw.main_arg2) = m ((c.tc : Thread Cert.MlpDw.nD Cert.MlpDw.τ).loc Cert.MlpDw.main_arg2)
      ∧ r.2.mem ((c.tc : Thread Cert.MlpDw.nD Cert.MlpDw.τ).loc Cert.MlpDw.main_arg3) = m ((c.tc : Thread Cert.MlpDw.nD Cert.MlpDw.τ).loc Cert.MlpDw.main_arg3))
      ∧ r.2.sem = fun _ => 0)

def quiescent_MlpDwIdeal [hMlpDwIdeal : Cert.MlpDwIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg), Pre_MlpDwIdeal m →
    θ_run (Cert.MlpDwIdeal.defs (F := Ideal)) (onTc (τ := Cert.MlpDwIdeal.τ) (Cert.MlpDwIdeal.main (F := Ideal))) ⟨m, fun _ => 0, g⟩ (fun r => (∀ c : Dev Cert.MlpDwIdeal.nD,
      r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
      ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1)
      ∧ r.2.mem ((c.tc : Thread Cert.MlpDwIdeal.nD Cert.MlpDwIdeal.τ).loc Cert.MlpDwIdeal.main_arg2) = m ((c.tc : Thread Cert.MlpDwIdeal.nD Cert.MlpDwIdeal.τ).loc Cert.MlpDwIdeal.main_arg2)
      ∧ r.2.mem ((c.tc : Thread Cert.MlpDwIdeal.nD Cert.MlpDwIdeal.τ).loc Cert.MlpDwIdeal.main_arg3) = m ((c.tc : Thread Cert.MlpDwIdeal.nD Cert.MlpDwIdeal.τ).loc Cert.MlpDwIdeal.main_arg3))
      ∧ r.2.sem = fun _ => 0)

def quiescent_MlpDwRefIdeal [hMlpDwRefIdeal : Cert.MlpDwRefIdeal.Facts] : Prop :=
  ∀ (m : (ℓ : Loc Cert.MlpDwRefIdeal.nD Cert.MlpDwRefIdeal.τ Cert.MlpDwRefIdeal.sig) → Buf (Elt Ideal) ℓ) (g : Dev Cert.MlpDwRefIdeal.nD → PrngReg), Pre_MlpDwRefIdeal m →
    θ_run (Cert.MlpDwRefIdeal.defs (F := Ideal)) (onTc (τ := Cert.MlpDwRefIdeal.τ) (Cert.MlpDwRefIdeal.main (F := Ideal))) ⟨m, fun _ => 0, g⟩ (fun r => (∀ c : Dev Cert.MlpDwRefIdeal.nD,
      r.2.mem ((c.tc : Thread Cert.MlpDwRefIdeal.nD Cert.MlpDwRefIdeal.τ).loc Cert.MlpDwRefIdeal.main_arg0) = m ((c.tc : Thread Cert.MlpDwRefIdeal.nD Cert.MlpDwRefIdeal.τ).loc Cert.MlpDwRefIdeal.main_arg0)
      ∧ r.2.mem ((c.tc : Thread Cert.MlpDwRefIdeal.nD Cert.MlpDwRefIdeal.τ).loc Cert.MlpDwRefIdeal.main_arg1) = m ((c.tc : Thread Cert.MlpDwRefIdeal.nD Cert.MlpDwRefIdeal.τ).loc Cert.MlpDwRefIdeal.main_arg1)
      ∧ r.2.mem ((c.tc : Thread Cert.MlpDwRefIdeal.nD Cert.MlpDwRefIdeal.τ).loc Cert.MlpDwRefIdeal.main_arg2) = m ((c.tc : Thread Cert.MlpDwRefIdeal.nD Cert.MlpDwRefIdeal.τ).loc Cert.MlpDwRefIdeal.main_arg2)
      ∧ r.2.mem ((c.tc : Thread Cert.MlpDwRefIdeal.nD Cert.MlpDwRefIdeal.τ).loc Cert.MlpDwRefIdeal.main_arg3) = m ((c.tc : Thread Cert.MlpDwRefIdeal.nD Cert.MlpDwRefIdeal.τ).loc Cert.MlpDwRefIdeal.main_arg3))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1)
      ∧ r.2.mem ((c.tc : Thread Cert.MixInDw.nD Cert.MixInDw.τ).loc Cert.MixInDw.main_arg2) = m ((c.tc : Thread Cert.MixInDw.nD Cert.MixInDw.τ).loc Cert.MixInDw.main_arg2))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1)
      ∧ r.2.mem ((c.tc : Thread Cert.MixInDwIdeal.nD Cert.MixInDwIdeal.τ).loc Cert.MixInDwIdeal.main_arg2) = m ((c.tc : Thread Cert.MixInDwIdeal.nD Cert.MixInDwIdeal.τ).loc Cert.MixInDwIdeal.main_arg2))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1)
      ∧ r.2.mem ((c.tc : Thread Cert.MixInDwRefIdeal.nD Cert.MixInDwRefIdeal.τ).loc Cert.MixInDwRefIdeal.main_arg2) = m ((c.tc : Thread Cert.MixInDwRefIdeal.nD Cert.MixInDwRefIdeal.τ).loc Cert.MixInDwRefIdeal.main_arg2))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1)
      ∧ r.2.mem ((c.tc : Thread Cert.MixInDx.nD Cert.MixInDx.τ).loc Cert.MixInDx.main_arg2) = m ((c.tc : Thread Cert.MixInDx.nD Cert.MixInDx.τ).loc Cert.MixInDx.main_arg2)
      ∧ r.2.mem ((c.tc : Thread Cert.MixInDx.nD Cert.MixInDx.τ).loc Cert.MixInDx.main_arg3) = m ((c.tc : Thread Cert.MixInDx.nD Cert.MixInDx.τ).loc Cert.MixInDx.main_arg3)
      ∧ r.2.mem ((c.tc : Thread Cert.MixInDx.nD Cert.MixInDx.τ).loc Cert.MixInDx.main_arg4) = m ((c.tc : Thread Cert.MixInDx.nD Cert.MixInDx.τ).loc Cert.MixInDx.main_arg4)
      ∧ r.2.mem ((c.tc : Thread Cert.MixInDx.nD Cert.MixInDx.τ).loc Cert.MixInDx.main_arg5) = m ((c.tc : Thread Cert.MixInDx.nD Cert.MixInDx.τ).loc Cert.MixInDx.main_arg5))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
      ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
      ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
      ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4)
      ∧ r.2.mem ((c.tc : Thread Cert.MixInDxIdeal.nD Cert.MixInDxIdeal.τ).loc Cert.MixInDxIdeal.main_arg5) = m ((c.tc : Thread Cert.MixInDxIdeal.nD Cert.MixInDxIdeal.τ).loc Cert.MixInDxIdeal.main_arg5))
      ∧ r.2.sem = fun _ => 0)

def quiescent_MixInDxIdeal_pre_mix_in_finite [hMixInDxIdeal : Cert.MixInDxIdeal.Facts] [hPre_mix_in_finite : Cert.Pre_mix_in_finite.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal_mix_in_finite m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
      ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
      ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
      ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4)
      ∧ r.2.mem ((c.tc : Thread Cert.MixInDxIdeal.nD Cert.MixInDxIdeal.τ).loc Cert.MixInDxIdeal.main_arg5) = m ((c.tc : Thread Cert.MixInDxIdeal.nD Cert.MixInDxIdeal.τ).loc Cert.MixInDxIdeal.main_arg5))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1)
      ∧ r.2.mem ((c.tc : Thread Cert.MixInDxRefIdeal.nD Cert.MixInDxRefIdeal.τ).loc Cert.MixInDxRefIdeal.main_arg2) = m ((c.tc : Thread Cert.MixInDxRefIdeal.nD Cert.MixInDxRefIdeal.τ).loc Cert.MixInDxRefIdeal.main_arg2)
      ∧ r.2.mem ((c.tc : Thread Cert.MixInDxRefIdeal.nD Cert.MixInDxRefIdeal.τ).loc Cert.MixInDxRefIdeal.main_arg3) = m ((c.tc : Thread Cert.MixInDxRefIdeal.nD Cert.MixInDxRefIdeal.τ).loc Cert.MixInDxRefIdeal.main_arg3)
      ∧ r.2.mem ((c.tc : Thread Cert.MixInDxRefIdeal.nD Cert.MixInDxRefIdeal.τ).loc Cert.MixInDxRefIdeal.main_arg4) = m ((c.tc : Thread Cert.MixInDxRefIdeal.nD Cert.MixInDxRefIdeal.τ).loc Cert.MixInDxRefIdeal.main_arg4)
      ∧ r.2.mem ((c.tc : Thread Cert.MixInDxRefIdeal.nD Cert.MixInDxRefIdeal.τ).loc Cert.MixInDxRefIdeal.main_arg5) = m ((c.tc : Thread Cert.MixInDxRefIdeal.nD Cert.MixInDxRefIdeal.τ).loc Cert.MixInDxRefIdeal.main_arg5))
      ∧ r.2.sem = fun _ => 0)

def quiescent_MixInDxRefIdeal_pre_mix_in_finite [hMixInDxRefIdeal : Cert.MixInDxRefIdeal.Facts] [hPre_mix_in_finite : Cert.Pre_mix_in_finite.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal_mix_in_finite m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1)
      ∧ r.2.mem ((c.tc : Thread Cert.MixInDxRefIdeal.nD Cert.MixInDxRefIdeal.τ).loc Cert.MixInDxRefIdeal.main_arg2) = m ((c.tc : Thread Cert.MixInDxRefIdeal.nD Cert.MixInDxRefIdeal.τ).loc Cert.MixInDxRefIdeal.main_arg2)
      ∧ r.2.mem ((c.tc : Thread Cert.MixInDxRefIdeal.nD Cert.MixInDxRefIdeal.τ).loc Cert.MixInDxRefIdeal.main_arg3) = m ((c.tc : Thread Cert.MixInDxRefIdeal.nD Cert.MixInDxRefIdeal.τ).loc Cert.MixInDxRefIdeal.main_arg3)
      ∧ r.2.mem ((c.tc : Thread Cert.MixInDxRefIdeal.nD Cert.MixInDxRefIdeal.τ).loc Cert.MixInDxRefIdeal.main_arg4) = m ((c.tc : Thread Cert.MixInDxRefIdeal.nD Cert.MixInDxRefIdeal.τ).loc Cert.MixInDxRefIdeal.main_arg4)
      ∧ r.2.mem ((c.tc : Thread Cert.MixInDxRefIdeal.nD Cert.MixInDxRefIdeal.τ).loc Cert.MixInDxRefIdeal.main_arg5) = m ((c.tc : Thread Cert.MixInDxRefIdeal.nD Cert.MixInDxRefIdeal.τ).loc Cert.MixInDxRefIdeal.main_arg5))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ r.2.sem = fun _ => 0)

def quiescent_MixOutBwdIdeal_pre_mix_out_finite [hMixOutBwdIdeal : Cert.MixOutBwdIdeal.Facts] [hPre_mix_out_finite : Cert.Pre_mix_out_finite.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal_mix_out_finite m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4)
      ∧ r.2.mem ((c.tc : Thread Cert.MixOutBwdRefIdeal.nD Cert.MixOutBwdRefIdeal.τ).loc Cert.MixOutBwdRefIdeal.main_arg5) = m ((c.tc : Thread Cert.MixOutBwdRefIdeal.nD Cert.MixOutBwdRefIdeal.τ).loc Cert.MixOutBwdRefIdeal.main_arg5)
      ∧ r.2.mem ((c.tc : Thread Cert.MixOutBwdRefIdeal.nD Cert.MixOutBwdRefIdeal.τ).loc Cert.MixOutBwdRefIdeal.main_arg6) = m ((c.tc : Thread Cert.MixOutBwdRefIdeal.nD Cert.MixOutBwdRefIdeal.τ).loc Cert.MixOutBwdRefIdeal.main_arg6))
      ∧ r.2.sem = fun _ => 0)

def quiescent_MixOutBwdRefIdeal_pre_mix_out_finite [hMixOutBwdRefIdeal : Cert.MixOutBwdRefIdeal.Facts] [hPre_mix_out_finite : Cert.Pre_mix_out_finite.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal_mix_out_finite m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4)
      ∧ r.2.mem ((c.tc : Thread Cert.MixOutBwdRefIdeal.nD Cert.MixOutBwdRefIdeal.τ).loc Cert.MixOutBwdRefIdeal.main_arg5) = m ((c.tc : Thread Cert.MixOutBwdRefIdeal.nD Cert.MixOutBwdRefIdeal.τ).loc Cert.MixOutBwdRefIdeal.main_arg5)
      ∧ r.2.mem ((c.tc : Thread Cert.MixOutBwdRefIdeal.nD Cert.MixOutBwdRefIdeal.τ).loc Cert.MixOutBwdRefIdeal.main_arg6) = m ((c.tc : Thread Cert.MixOutBwdRefIdeal.nD Cert.MixOutBwdRefIdeal.τ).loc Cert.MixOutBwdRefIdeal.main_arg6))
      ∧ r.2.sem = fun _ => 0)

def quiescent_MlpLoss [hMlpLoss : Cert.MlpLoss.Facts] : Prop :=
  ∀ (m : (ℓ : Loc Cert.MlpLoss.nD Cert.MlpLoss.τ Cert.MlpLoss.sig) → Buf (Elt Bits) ℓ) (g : Dev Cert.MlpLoss.nD → PrngReg), Pre_MlpLoss m →
    θ_run (Cert.MlpLoss.defs (F := Bits)) (onTc (τ := Cert.MlpLoss.τ) (Cert.MlpLoss.main (F := Bits))) ⟨m, fun _ => 0, g⟩ (fun r => (∀ c : Dev Cert.MlpLoss.nD,
      r.2.mem ((c.tc : Thread Cert.MlpLoss.nD Cert.MlpLoss.τ).loc Cert.MlpLoss.main_arg0) = m ((c.tc : Thread Cert.MlpLoss.nD Cert.MlpLoss.τ).loc Cert.MlpLoss.main_arg0)
      ∧ r.2.mem ((c.tc : Thread Cert.MlpLoss.nD Cert.MlpLoss.τ).loc Cert.MlpLoss.main_arg1) = m ((c.tc : Thread Cert.MlpLoss.nD Cert.MlpLoss.τ).loc Cert.MlpLoss.main_arg1)
      ∧ r.2.mem ((c.tc : Thread Cert.MlpLoss.nD Cert.MlpLoss.τ).loc Cert.MlpLoss.main_arg2) = m ((c.tc : Thread Cert.MlpLoss.nD Cert.MlpLoss.τ).loc Cert.MlpLoss.main_arg2)
      ∧ r.2.mem ((c.tc : Thread Cert.MlpLoss.nD Cert.MlpLoss.τ).loc Cert.MlpLoss.main_arg3) = m ((c.tc : Thread Cert.MlpLoss.nD Cert.MlpLoss.τ).loc Cert.MlpLoss.main_arg3)
      ∧ r.2.mem ((c.tc : Thread Cert.MlpLoss.nD Cert.MlpLoss.τ).loc Cert.MlpLoss.main_arg4) = m ((c.tc : Thread Cert.MlpLoss.nD Cert.MlpLoss.τ).loc Cert.MlpLoss.main_arg4)
      ∧ r.2.mem ((c.tc : Thread Cert.MlpLoss.nD Cert.MlpLoss.τ).loc Cert.MlpLoss.main_arg5) = m ((c.tc : Thread Cert.MlpLoss.nD Cert.MlpLoss.τ).loc Cert.MlpLoss.main_arg5)
      ∧ r.2.mem ((c.tc : Thread Cert.MlpLoss.nD Cert.MlpLoss.τ).loc Cert.MlpLoss.main_arg6) = m ((c.tc : Thread Cert.MlpLoss.nD Cert.MlpLoss.τ).loc Cert.MlpLoss.main_arg6))
      ∧ r.2.sem = fun _ => 0)

def quiescent_MlpLossIdeal [hMlpLossIdeal : Cert.MlpLossIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6))
      ∧ r.2.sem = fun _ => 0)

def quiescent_MlpLossIdeal_pre_mlp_loss_finite [hMlpLossIdeal : Cert.MlpLossIdeal.Facts] [hPre_mlp_loss_finite : Cert.Pre_mlp_loss_finite.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal_mlp_loss_finite m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6))
      ∧ r.2.sem = fun _ => 0)

def quiescent_MlpLossRefIdeal [hMlpLossRefIdeal : Cert.MlpLossRefIdeal.Facts] : Prop :=
  ∀ (m : (ℓ : Loc Cert.MlpLossRefIdeal.nD Cert.MlpLossRefIdeal.τ Cert.MlpLossRefIdeal.sig) → Buf (Elt Ideal) ℓ) (g : Dev Cert.MlpLossRefIdeal.nD → PrngReg), Pre_MlpLossRefIdeal m →
    θ_run (Cert.MlpLossRefIdeal.defs (F := Ideal)) (onTc (τ := Cert.MlpLossRefIdeal.τ) (Cert.MlpLossRefIdeal.main (F := Ideal))) ⟨m, fun _ => 0, g⟩ (fun r => (∀ c : Dev Cert.MlpLossRefIdeal.nD,
      r.2.mem ((c.tc : Thread Cert.MlpLossRefIdeal.nD Cert.MlpLossRefIdeal.τ).loc Cert.MlpLossRefIdeal.main_arg0) = m ((c.tc : Thread Cert.MlpLossRefIdeal.nD Cert.MlpLossRefIdeal.τ).loc Cert.MlpLossRefIdeal.main_arg0)
      ∧ r.2.mem ((c.tc : Thread Cert.MlpLossRefIdeal.nD Cert.MlpLossRefIdeal.τ).loc Cert.MlpLossRefIdeal.main_arg1) = m ((c.tc : Thread Cert.MlpLossRefIdeal.nD Cert.MlpLossRefIdeal.τ).loc Cert.MlpLossRefIdeal.main_arg1)
      ∧ r.2.mem ((c.tc : Thread Cert.MlpLossRefIdeal.nD Cert.MlpLossRefIdeal.τ).loc Cert.MlpLossRefIdeal.main_arg2) = m ((c.tc : Thread Cert.MlpLossRefIdeal.nD Cert.MlpLossRefIdeal.τ).loc Cert.MlpLossRefIdeal.main_arg2)
      ∧ r.2.mem ((c.tc : Thread Cert.MlpLossRefIdeal.nD Cert.MlpLossRefIdeal.τ).loc Cert.MlpLossRefIdeal.main_arg3) = m ((c.tc : Thread Cert.MlpLossRefIdeal.nD Cert.MlpLossRefIdeal.τ).loc Cert.MlpLossRefIdeal.main_arg3)
      ∧ r.2.mem ((c.tc : Thread Cert.MlpLossRefIdeal.nD Cert.MlpLossRefIdeal.τ).loc Cert.MlpLossRefIdeal.main_arg4) = m ((c.tc : Thread Cert.MlpLossRefIdeal.nD Cert.MlpLossRefIdeal.τ).loc Cert.MlpLossRefIdeal.main_arg4)
      ∧ r.2.mem ((c.tc : Thread Cert.MlpLossRefIdeal.nD Cert.MlpLossRefIdeal.τ).loc Cert.MlpLossRefIdeal.main_arg5) = m ((c.tc : Thread Cert.MlpLossRefIdeal.nD Cert.MlpLossRefIdeal.τ).loc Cert.MlpLossRefIdeal.main_arg5)
      ∧ r.2.mem ((c.tc : Thread Cert.MlpLossRefIdeal.nD Cert.MlpLossRefIdeal.τ).loc Cert.MlpLossRefIdeal.main_arg6) = m ((c.tc : Thread Cert.MlpLossRefIdeal.nD Cert.MlpLossRefIdeal.τ).loc Cert.MlpLossRefIdeal.main_arg6))
      ∧ r.2.sem = fun _ => 0)

def quiescent_MlpLossRefIdeal_pre_mlp_loss_finite [hMlpLossRefIdeal : Cert.MlpLossRefIdeal.Facts] [hPre_mlp_loss_finite : Cert.Pre_mlp_loss_finite.Facts] : Prop :=
  ∀ (m : (ℓ : Loc Cert.MlpLossRefIdeal.nD Cert.MlpLossRefIdeal.τ Cert.MlpLossRefIdeal.sig) → Buf (Elt Ideal) ℓ) (g : Dev Cert.MlpLossRefIdeal.nD → PrngReg), Pre_MlpLossRefIdeal_mlp_loss_finite m →
    θ_run (Cert.MlpLossRefIdeal.defs (F := Ideal)) (onTc (τ := Cert.MlpLossRefIdeal.τ) (Cert.MlpLossRefIdeal.main (F := Ideal))) ⟨m, fun _ => 0, g⟩ (fun r => (∀ c : Dev Cert.MlpLossRefIdeal.nD,
      r.2.mem ((c.tc : Thread Cert.MlpLossRefIdeal.nD Cert.MlpLossRefIdeal.τ).loc Cert.MlpLossRefIdeal.main_arg0) = m ((c.tc : Thread Cert.MlpLossRefIdeal.nD Cert.MlpLossRefIdeal.τ).loc Cert.MlpLossRefIdeal.main_arg0)
      ∧ r.2.mem ((c.tc : Thread Cert.MlpLossRefIdeal.nD Cert.MlpLossRefIdeal.τ).loc Cert.MlpLossRefIdeal.main_arg1) = m ((c.tc : Thread Cert.MlpLossRefIdeal.nD Cert.MlpLossRefIdeal.τ).loc Cert.MlpLossRefIdeal.main_arg1)
      ∧ r.2.mem ((c.tc : Thread Cert.MlpLossRefIdeal.nD Cert.MlpLossRefIdeal.τ).loc Cert.MlpLossRefIdeal.main_arg2) = m ((c.tc : Thread Cert.MlpLossRefIdeal.nD Cert.MlpLossRefIdeal.τ).loc Cert.MlpLossRefIdeal.main_arg2)
      ∧ r.2.mem ((c.tc : Thread Cert.MlpLossRefIdeal.nD Cert.MlpLossRefIdeal.τ).loc Cert.MlpLossRefIdeal.main_arg3) = m ((c.tc : Thread Cert.MlpLossRefIdeal.nD Cert.MlpLossRefIdeal.τ).loc Cert.MlpLossRefIdeal.main_arg3)
      ∧ r.2.mem ((c.tc : Thread Cert.MlpLossRefIdeal.nD Cert.MlpLossRefIdeal.τ).loc Cert.MlpLossRefIdeal.main_arg4) = m ((c.tc : Thread Cert.MlpLossRefIdeal.nD Cert.MlpLossRefIdeal.τ).loc Cert.MlpLossRefIdeal.main_arg4)
      ∧ r.2.mem ((c.tc : Thread Cert.MlpLossRefIdeal.nD Cert.MlpLossRefIdeal.τ).loc Cert.MlpLossRefIdeal.main_arg5) = m ((c.tc : Thread Cert.MlpLossRefIdeal.nD Cert.MlpLossRefIdeal.τ).loc Cert.MlpLossRefIdeal.main_arg5)
      ∧ r.2.mem ((c.tc : Thread Cert.MlpLossRefIdeal.nD Cert.MlpLossRefIdeal.τ).loc Cert.MlpLossRefIdeal.main_arg6) = m ((c.tc : Thread Cert.MlpLossRefIdeal.nD Cert.MlpLossRefIdeal.τ).loc Cert.MlpLossRefIdeal.main_arg6))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3)
      ∧ r.2.mem ((c.tc : Thread Cert.MixOutFwd.nD Cert.MixOutFwd.τ).loc Cert.MixOutFwd.main_arg4) = m ((c.tc : Thread Cert.MixOutFwd.nD Cert.MixOutFwd.τ).loc Cert.MixOutFwd.main_arg4))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
      ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdaAdam [hAdaAdam : Cert.AdaAdam.Facts] : Prop :=
  ∀ (m : (ℓ : Loc Cert.AdaAdam.nD Cert.AdaAdam.τ Cert.AdaAdam.sig) → Buf (Elt Bits) ℓ) (g : Dev Cert.AdaAdam.nD → PrngReg), Pre_AdaAdam m →
    θ_run (Cert.AdaAdam.defs (F := Bits)) (onTc (τ := Cert.AdaAdam.τ) (Cert.AdaAdam.main (F := Bits))) ⟨m, fun _ => 0, g⟩ (fun r => (∀ c : Dev Cert.AdaAdam.nD,
      r.2.mem ((c.tc : Thread Cert.AdaAdam.nD Cert.AdaAdam.τ).loc Cert.AdaAdam.main_arg0) = m ((c.tc : Thread Cert.AdaAdam.nD Cert.AdaAdam.τ).loc Cert.AdaAdam.main_arg0)
      ∧ r.2.mem ((c.tc : Thread Cert.AdaAdam.nD Cert.AdaAdam.τ).loc Cert.AdaAdam.main_arg1) = m ((c.tc : Thread Cert.AdaAdam.nD Cert.AdaAdam.τ).loc Cert.AdaAdam.main_arg1)
      ∧ r.2.mem ((c.tc : Thread Cert.AdaAdam.nD Cert.AdaAdam.τ).loc Cert.AdaAdam.main_arg2) = m ((c.tc : Thread Cert.AdaAdam.nD Cert.AdaAdam.τ).loc Cert.AdaAdam.main_arg2)
      ∧ r.2.mem ((c.tc : Thread Cert.AdaAdam.nD Cert.AdaAdam.τ).loc Cert.AdaAdam.main_arg3) = m ((c.tc : Thread Cert.AdaAdam.nD Cert.AdaAdam.τ).loc Cert.AdaAdam.main_arg3)
      ∧ r.2.mem ((c.tc : Thread Cert.AdaAdam.nD Cert.AdaAdam.τ).loc Cert.AdaAdam.main_arg4) = m ((c.tc : Thread Cert.AdaAdam.nD Cert.AdaAdam.τ).loc Cert.AdaAdam.main_arg4)
      ∧ r.2.mem ((c.tc : Thread Cert.AdaAdam.nD Cert.AdaAdam.τ).loc Cert.AdaAdam.main_arg5) = m ((c.tc : Thread Cert.AdaAdam.nD Cert.AdaAdam.τ).loc Cert.AdaAdam.main_arg5))
      ∧ r.2.sem = fun _ => 0)

def quiescent_AdaAdamIdeal [hAdaAdamIdeal : Cert.AdaAdamIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg), Pre_AdaAdamIdeal m →
    θ_run (Cert.AdaAdamIdeal.defs (F := Ideal)) (onTc (τ := Cert.AdaAdamIdeal.τ) (Cert.AdaAdamIdeal.main (F := Ideal))) ⟨m, fun _ => 0, g⟩ (fun r => (∀ c : Dev Cert.AdaAdamIdeal.nD,
      r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
      ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
      ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
      ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
      ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4)
      ∧ r.2.mem ((c.tc : Thread Cert.AdaAdamIdeal.nD Cert.AdaAdamIdeal.τ).loc Cert.AdaAdamIdeal.main_arg5) = m ((c.tc : Thread Cert.AdaAdamIdeal.nD Cert.AdaAdamIdeal.τ).loc Cert.AdaAdamIdeal.main_arg5))
      ∧ r.2.sem = fun _ => 0)

def quiescent_AdaAdamRefIdeal [hAdaAdamRefIdeal : Cert.AdaAdamRefIdeal.Facts] : Prop :=
  ∀ (m : (ℓ : Loc Cert.AdaAdamRefIdeal.nD Cert.AdaAdamRefIdeal.τ Cert.AdaAdamRefIdeal.sig) → Buf (Elt Ideal) ℓ) (g : Dev Cert.AdaAdamRefIdeal.nD → PrngReg), Pre_AdaAdamRefIdeal m →
    θ_run (Cert.AdaAdamRefIdeal.defs (F := Ideal)) (onTc (τ := Cert.AdaAdamRefIdeal.τ) (Cert.AdaAdamRefIdeal.main (F := Ideal))) ⟨m, fun _ => 0, g⟩ (fun r => (∀ c : Dev Cert.AdaAdamRefIdeal.nD,
      r.2.mem ((c.tc : Thread Cert.AdaAdamRefIdeal.nD Cert.AdaAdamRefIdeal.τ).loc Cert.AdaAdamRefIdeal.main_arg0) = m ((c.tc : Thread Cert.AdaAdamRefIdeal.nD Cert.AdaAdamRefIdeal.τ).loc Cert.AdaAdamRefIdeal.main_arg0)
      ∧ r.2.mem ((c.tc : Thread Cert.AdaAdamRefIdeal.nD Cert.AdaAdamRefIdeal.τ).loc Cert.AdaAdamRefIdeal.main_arg1) = m ((c.tc : Thread Cert.AdaAdamRefIdeal.nD Cert.AdaAdamRefIdeal.τ).loc Cert.AdaAdamRefIdeal.main_arg1)
      ∧ r.2.mem ((c.tc : Thread Cert.AdaAdamRefIdeal.nD Cert.AdaAdamRefIdeal.τ).loc Cert.AdaAdamRefIdeal.main_arg2) = m ((c.tc : Thread Cert.AdaAdamRefIdeal.nD Cert.AdaAdamRefIdeal.τ).loc Cert.AdaAdamRefIdeal.main_arg2)
      ∧ r.2.mem ((c.tc : Thread Cert.AdaAdamRefIdeal.nD Cert.AdaAdamRefIdeal.τ).loc Cert.AdaAdamRefIdeal.main_arg3) = m ((c.tc : Thread Cert.AdaAdamRefIdeal.nD Cert.AdaAdamRefIdeal.τ).loc Cert.AdaAdamRefIdeal.main_arg3)
      ∧ r.2.mem ((c.tc : Thread Cert.AdaAdamRefIdeal.nD Cert.AdaAdamRefIdeal.τ).loc Cert.AdaAdamRefIdeal.main_arg4) = m ((c.tc : Thread Cert.AdaAdamRefIdeal.nD Cert.AdaAdamRefIdeal.τ).loc Cert.AdaAdamRefIdeal.main_arg4)
      ∧ r.2.mem ((c.tc : Thread Cert.AdaAdamRefIdeal.nD Cert.AdaAdamRefIdeal.τ).loc Cert.AdaAdamRefIdeal.main_arg5) = m ((c.tc : Thread Cert.AdaAdamRefIdeal.nD Cert.AdaAdamRefIdeal.τ).loc Cert.AdaAdamRefIdeal.main_arg5))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_PairOut [hPairOut : Cert.PairOut.Facts] [hPre_core_and_chip : Cert.Pre_core_and_chip.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1)
      ∧ r.2.mem ((c.tc : Thread Cert.PairOut.nD Cert.PairOut.τ).loc Cert.PairOut.main_arg2) = m ((c.tc : Thread Cert.PairOut.nD Cert.PairOut.τ).loc Cert.PairOut.main_arg2))
      ∧ r.2.sem = fun _ => 0)

def quiescent_PairOutIdeal [hPairOutIdeal : Cert.PairOutIdeal.Facts] [hPre_core_and_chip : Cert.Pre_core_and_chip.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1)
      ∧ r.2.mem ((c.tc : Thread Cert.PairOutIdeal.nD Cert.PairOutIdeal.τ).loc Cert.PairOutIdeal.main_arg2) = m ((c.tc : Thread Cert.PairOutIdeal.nD Cert.PairOutIdeal.τ).loc Cert.PairOutIdeal.main_arg2))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1)
      ∧ r.2.mem ((c.tc : Thread Cert.PairOutRefIdeal.nD Cert.PairOutRefIdeal.τ).loc Cert.PairOutRefIdeal.main_arg2) = m ((c.tc : Thread Cert.PairOutRefIdeal.nD Cert.PairOutRefIdeal.τ).loc Cert.PairOutRefIdeal.main_arg2))
      ∧ r.2.sem = fun _ => 0)

def quiescent_PairOutRefIdeal_pre_core_and_chip [hPairOutRefIdeal : Cert.PairOutRefIdeal.Facts] [hPre_core_and_chip : Cert.Pre_core_and_chip.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal_core_and_chip m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1)
      ∧ r.2.mem ((c.tc : Thread Cert.PairOutRefIdeal.nD Cert.PairOutRefIdeal.τ).loc Cert.PairOutRefIdeal.main_arg2) = m ((c.tc : Thread Cert.PairOutRefIdeal.nD Cert.PairOutRefIdeal.τ).loc Cert.PairOutRefIdeal.main_arg2))
      ∧ r.2.sem = fun _ => 0)

def preserves_MlpDx_MlpDxIdeal : Prop :=
  True

def algebraic_MlpDxIdeal_MlpDxRefIdeal [hMlpDxIdeal : Cert.MlpDxIdeal.Facts] [hMlpDxRefIdeal : Cert.MlpDxRefIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)
      ∧ m' ((c.tc : Thread Cert.MlpDxRefIdeal.nD Cert.MlpDxRefIdeal.τ).loc Cert.MlpDxRefIdeal.main_arg3) = m ((c.tc : Thread Cert.MlpDxIdeal.nD Cert.MlpDxIdeal.τ).loc Cert.MlpDxIdeal.main_arg3)) →
    ∃ (v0 : (c : Dev Cert.MlpDxIdeal.nD) → Buf (Elt Ideal) ((c.tc : Thread Cert.MlpDxIdeal.nD Cert.MlpDxIdeal.τ).loc Cert.MlpDxIdeal.main_v7_0)) (v1 : (c : Dev Cert.MlpDxIdeal.nD) → Buf (Elt Ideal) ((c.tc : Thread Cert.MlpDxIdeal.nD Cert.MlpDxIdeal.τ).loc Cert.MlpDxIdeal.main_v7_1)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v7_0) = v0 c
          ∧ r.2.mem ((c.tc : Thread Cert.MlpDxIdeal.nD Cert.MlpDxIdeal.τ).loc Cert.MlpDxIdeal.main_v7_1) = v1 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
          ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v18) = v0 c
          ∧ r.2.mem ((c.tc : Thread Cert.MlpDxRefIdeal.nD Cert.MlpDxRefIdeal.τ).loc Cert.MlpDxRefIdeal.main_v19) = v1 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2)
          ∧ r.2.mem ((c.tc : Thread Cert.MlpDxRefIdeal.nD Cert.MlpDxRefIdeal.τ).loc Cert.MlpDxRefIdeal.main_arg3) = m' ((c.tc : Thread Cert.MlpDxRefIdeal.nD Cert.MlpDxRefIdeal.τ).loc Cert.MlpDxRefIdeal.main_arg3))

def preserves_MlpDw_MlpDwIdeal : Prop :=
  True

def algebraic_MlpDwIdeal_MlpDwRefIdeal [hMlpDwIdeal : Cert.MlpDwIdeal.Facts] [hMlpDwRefIdeal : Cert.MlpDwRefIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg)
    (m' : (ℓ : Loc Cert.MlpDwRefIdeal.nD Cert.MlpDwRefIdeal.τ Cert.MlpDwRefIdeal.sig) → Buf (Elt Ideal) ℓ) (g' : Dev Cert.MlpDwRefIdeal.nD → PrngReg), Pre_MlpDwIdeal m →
    (∀ c : Dev Cert.MlpDwIdeal.nD,
      m' ((c.tc : Thread Cert.MlpDwRefIdeal.nD Cert.MlpDwRefIdeal.τ).loc Cert.MlpDwRefIdeal.main_arg0) = m ((c.tc : Thread Cert.MlpDwIdeal.nD Cert.MlpDwIdeal.τ).loc Cert.MlpDwIdeal.main_arg0)
      ∧ m' ((c.tc : Thread Cert.MlpDwRefIdeal.nD Cert.MlpDwRefIdeal.τ).loc Cert.MlpDwRefIdeal.main_arg1) = m ((c.tc : Thread Cert.MlpDwIdeal.nD Cert.MlpDwIdeal.τ).loc Cert.MlpDwIdeal.main_arg1)
      ∧ m' ((c.tc : Thread Cert.MlpDwRefIdeal.nD Cert.MlpDwRefIdeal.τ).loc Cert.MlpDwRefIdeal.main_arg2) = m ((c.tc : Thread Cert.MlpDwIdeal.nD Cert.MlpDwIdeal.τ).loc Cert.MlpDwIdeal.main_arg2)
      ∧ m' ((c.tc : Thread Cert.MlpDwRefIdeal.nD Cert.MlpDwRefIdeal.τ).loc Cert.MlpDwRefIdeal.main_arg3) = m ((c.tc : Thread Cert.MlpDwIdeal.nD Cert.MlpDwIdeal.τ).loc Cert.MlpDwIdeal.main_arg3)) →
    ∃ (v0 : (c : Dev Cert.MlpDwIdeal.nD) → Buf (Elt Ideal) ((c.tc : Thread Cert.MlpDwIdeal.nD Cert.MlpDwIdeal.τ).loc Cert.MlpDwIdeal.main_v11_0)) (v1 : (c : Dev Cert.MlpDwIdeal.nD) → Buf (Elt Ideal) ((c.tc : Thread Cert.MlpDwIdeal.nD Cert.MlpDwIdeal.τ).loc Cert.MlpDwIdeal.main_v11_1)),
      θ_run (Cert.MlpDwIdeal.defs (F := Ideal)) (onTc (τ := Cert.MlpDwIdeal.τ) (Cert.MlpDwIdeal.main (F := Ideal))) ⟨m, fun _ => 0, g⟩ (fun r => ∀ c : Dev Cert.MlpDwIdeal.nD,
          r.2.mem ((c.tc : Thread Cert.MlpDwIdeal.nD Cert.MlpDwIdeal.τ).loc Cert.MlpDwIdeal.main_v11_0) = v0 c
          ∧ r.2.mem ((c.tc : Thread Cert.MlpDwIdeal.nD Cert.MlpDwIdeal.τ).loc Cert.MlpDwIdeal.main_v11_1) = v1 c
          ∧ r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
          ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1)
          ∧ r.2.mem ((c.tc : Thread Cert.MlpDwIdeal.nD Cert.MlpDwIdeal.τ).loc Cert.MlpDwIdeal.main_arg2) = m ((c.tc : Thread Cert.MlpDwIdeal.nD Cert.MlpDwIdeal.τ).loc Cert.MlpDwIdeal.main_arg2)
          ∧ r.2.mem ((c.tc : Thread Cert.MlpDwIdeal.nD Cert.MlpDwIdeal.τ).loc Cert.MlpDwIdeal.main_arg3) = m ((c.tc : Thread Cert.MlpDwIdeal.nD Cert.MlpDwIdeal.τ).loc Cert.MlpDwIdeal.main_arg3))
      ∧ θ_run (Cert.MlpDwRefIdeal.defs (F := Ideal)) (onTc (τ := Cert.MlpDwRefIdeal.τ) (Cert.MlpDwRefIdeal.main (F := Ideal))) ⟨m', fun _ => 0, g'⟩ (fun r => ∀ c : Dev Cert.MlpDwRefIdeal.nD,
          r.2.mem ((c.tc : Thread Cert.MlpDwRefIdeal.nD Cert.MlpDwRefIdeal.τ).loc Cert.MlpDwRefIdeal.main_v8) = v0 c
          ∧ r.2.mem ((c.tc : Thread Cert.MlpDwRefIdeal.nD Cert.MlpDwRefIdeal.τ).loc Cert.MlpDwRefIdeal.main_v18) = v1 c
          ∧ r.2.mem ((c.tc : Thread Cert.MlpDwRefIdeal.nD Cert.MlpDwRefIdeal.τ).loc Cert.MlpDwRefIdeal.main_arg0) = m' ((c.tc : Thread Cert.MlpDwRefIdeal.nD Cert.MlpDwRefIdeal.τ).loc Cert.MlpDwRefIdeal.main_arg0)
          ∧ r.2.mem ((c.tc : Thread Cert.MlpDwRefIdeal.nD Cert.MlpDwRefIdeal.τ).loc Cert.MlpDwRefIdeal.main_arg1) = m' ((c.tc : Thread Cert.MlpDwRefIdeal.nD Cert.MlpDwRefIdeal.τ).loc Cert.MlpDwRefIdeal.main_arg1)
          ∧ r.2.mem ((c.tc : Thread Cert.MlpDwRefIdeal.nD Cert.MlpDwRefIdeal.τ).loc Cert.MlpDwRefIdeal.main_arg2) = m' ((c.tc : Thread Cert.MlpDwRefIdeal.nD Cert.MlpDwRefIdeal.τ).loc Cert.MlpDwRefIdeal.main_arg2)
          ∧ r.2.mem ((c.tc : Thread Cert.MlpDwRefIdeal.nD Cert.MlpDwRefIdeal.τ).loc Cert.MlpDwRefIdeal.main_arg3) = m' ((c.tc : Thread Cert.MlpDwRefIdeal.nD Cert.MlpDwRefIdeal.τ).loc Cert.MlpDwRefIdeal.main_arg3))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)
      ∧ m' ((c.tc : Thread Cert.MixInDwRefIdeal.nD Cert.MixInDwRefIdeal.τ).loc Cert.MixInDwRefIdeal.main_arg2) = m ((c.tc : Thread Cert.MixInDwIdeal.nD Cert.MixInDwIdeal.τ).loc Cert.MixInDwIdeal.main_arg2)) →
    ∃ (v0 : (c : Dev Cert.MixInDwIdeal.nD) → Buf (Elt Ideal) ((c.tc : Thread Cert.MixInDwIdeal.nD Cert.MixInDwIdeal.τ).loc Cert.MixInDwIdeal.main_v2)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v2) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1)
          ∧ r.2.mem ((c.tc : Thread Cert.MixInDwIdeal.nD Cert.MixInDwIdeal.τ).loc Cert.MixInDwIdeal.main_arg2) = m ((c.tc : Thread Cert.MixInDwIdeal.nD Cert.MixInDwIdeal.τ).loc Cert.MixInDwIdeal.main_arg2))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v4) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1)
          ∧ r.2.mem ((c.tc : Thread Cert.MixInDwRefIdeal.nD Cert.MixInDwRefIdeal.τ).loc Cert.MixInDwRefIdeal.main_arg2) = m' ((c.tc : Thread Cert.MixInDwRefIdeal.nD Cert.MixInDwRefIdeal.τ).loc Cert.MixInDwRefIdeal.main_arg2))

def preserves_MixInDx_MixInDxIdeal : Prop :=
  True

def algebraic_MixInDxIdeal_MixInDxRefIdeal_pre_mix_in_finite [hMixInDxIdeal : Cert.MixInDxIdeal.Facts] [hMixInDxRefIdeal : Cert.MixInDxRefIdeal.Facts] [hPre_mix_in_finite : Cert.Pre_mix_in_finite.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal_mix_in_finite m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)
      ∧ m' ((c.tc : Thread Cert.MixInDxRefIdeal.nD Cert.MixInDxRefIdeal.τ).loc Cert.MixInDxRefIdeal.main_arg2) = m ((c.tc : Thread Cert.MixInDxIdeal.nD Cert.MixInDxIdeal.τ).loc Cert.MixInDxIdeal.main_arg2)
      ∧ m' ((c.tc : Thread Cert.MixInDxRefIdeal.nD Cert.MixInDxRefIdeal.τ).loc Cert.MixInDxRefIdeal.main_arg3) = m ((c.tc : Thread Cert.MixInDxIdeal.nD Cert.MixInDxIdeal.τ).loc Cert.MixInDxIdeal.main_arg3)
      ∧ m' ((c.tc : Thread Cert.MixInDxRefIdeal.nD Cert.MixInDxRefIdeal.τ).loc Cert.MixInDxRefIdeal.main_arg4) = m ((c.tc : Thread Cert.MixInDxIdeal.nD Cert.MixInDxIdeal.τ).loc Cert.MixInDxIdeal.main_arg4)
      ∧ m' ((c.tc : Thread Cert.MixInDxRefIdeal.nD Cert.MixInDxRefIdeal.τ).loc Cert.MixInDxRefIdeal.main_arg5) = m ((c.tc : Thread Cert.MixInDxIdeal.nD Cert.MixInDxIdeal.τ).loc Cert.MixInDxIdeal.main_arg5)) →
    ∃ (v0 : (c : Dev Cert.MixInDxIdeal.nD) → Buf (Elt Ideal) ((c.tc : Thread Cert.MixInDxIdeal.nD Cert.MixInDxIdeal.τ).loc Cert.MixInDxIdeal.main_v7_0)) (v1 : (c : Dev Cert.MixInDxIdeal.nD) → Buf (Elt Ideal) ((c.tc : Thread Cert.MixInDxIdeal.nD Cert.MixInDxIdeal.τ).loc Cert.MixInDxIdeal.main_v7_1)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v7_0) = v0 c
          ∧ r.2.mem ((c.tc : Thread Cert.MixInDxIdeal.nD Cert.MixInDxIdeal.τ).loc Cert.MixInDxIdeal.main_v7_1) = v1 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
          ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2)
          ∧ r.2.mem ((c.tc : Thread Cert.MixInDxIdeal.nD Cert.MixInDxIdeal.τ).loc Cert.MixInDxIdeal.main_arg3) = m ((c.tc : Thread Cert.MixInDxIdeal.nD Cert.MixInDxIdeal.τ).loc Cert.MixInDxIdeal.main_arg3)
          ∧ r.2.mem ((c.tc : Thread Cert.MixInDxIdeal.nD Cert.MixInDxIdeal.τ).loc Cert.MixInDxIdeal.main_arg4) = m ((c.tc : Thread Cert.MixInDxIdeal.nD Cert.MixInDxIdeal.τ).loc Cert.MixInDxIdeal.main_arg4)
          ∧ r.2.mem ((c.tc : Thread Cert.MixInDxIdeal.nD Cert.MixInDxIdeal.τ).loc Cert.MixInDxIdeal.main_arg5) = m ((c.tc : Thread Cert.MixInDxIdeal.nD Cert.MixInDxIdeal.τ).loc Cert.MixInDxIdeal.main_arg5))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v53) = v0 c
          ∧ r.2.mem ((c.tc : Thread Cert.MixInDxRefIdeal.nD Cert.MixInDxRefIdeal.τ).loc Cert.MixInDxRefIdeal.main_v55) = v1 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1)
          ∧ r.2.mem ((c.tc : Thread Cert.MixInDxRefIdeal.nD Cert.MixInDxRefIdeal.τ).loc Cert.MixInDxRefIdeal.main_arg2) = m' ((c.tc : Thread Cert.MixInDxRefIdeal.nD Cert.MixInDxRefIdeal.τ).loc Cert.MixInDxRefIdeal.main_arg2)
          ∧ r.2.mem ((c.tc : Thread Cert.MixInDxRefIdeal.nD Cert.MixInDxRefIdeal.τ).loc Cert.MixInDxRefIdeal.main_arg3) = m' ((c.tc : Thread Cert.MixInDxRefIdeal.nD Cert.MixInDxRefIdeal.τ).loc Cert.MixInDxRefIdeal.main_arg3)
          ∧ r.2.mem ((c.tc : Thread Cert.MixInDxRefIdeal.nD Cert.MixInDxRefIdeal.τ).loc Cert.MixInDxRefIdeal.main_arg4) = m' ((c.tc : Thread Cert.MixInDxRefIdeal.nD Cert.MixInDxRefIdeal.τ).loc Cert.MixInDxRefIdeal.main_arg4)
          ∧ r.2.mem ((c.tc : Thread Cert.MixInDxRefIdeal.nD Cert.MixInDxRefIdeal.τ).loc Cert.MixInDxRefIdeal.main_arg5) = m' ((c.tc : Thread Cert.MixInDxRefIdeal.nD Cert.MixInDxRefIdeal.τ).loc Cert.MixInDxRefIdeal.main_arg5))

def preserves_MixOutBwd_MixOutBwdIdeal : Prop :=
  True

def algebraic_MixOutBwdIdeal_MixOutBwdRefIdeal_pre_mix_out_finite [hMixOutBwdIdeal : Cert.MixOutBwdIdeal.Facts] [hMixOutBwdRefIdeal : Cert.MixOutBwdRefIdeal.Facts] [hPre_mix_out_finite : Cert.Pre_mix_out_finite.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal_mix_out_finite m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)
      ∧ m' ((c.tc : Thread Cert.MixOutBwdRefIdeal.nD Cert.MixOutBwdRefIdeal.τ).loc Cert.MixOutBwdRefIdeal.main_arg4) = m ((c.tc : Thread Cert.MixOutBwdIdeal.nD Cert.MixOutBwdIdeal.τ).loc Cert.MixOutBwdIdeal.main_arg4)
      ∧ m' ((c.tc : Thread Cert.MixOutBwdRefIdeal.nD Cert.MixOutBwdRefIdeal.τ).loc Cert.MixOutBwdRefIdeal.main_arg5) = m ((c.tc : Thread Cert.MixOutBwdIdeal.nD Cert.MixOutBwdIdeal.τ).loc Cert.MixOutBwdIdeal.main_arg5)
      ∧ m' ((c.tc : Thread Cert.MixOutBwdRefIdeal.nD Cert.MixOutBwdRefIdeal.τ).loc Cert.MixOutBwdRefIdeal.main_arg6) = m ((c.tc : Thread Cert.MixOutBwdIdeal.nD Cert.MixOutBwdIdeal.τ).loc Cert.MixOutBwdIdeal.main_arg6)) →
    ∃ (v0 : (c : Dev Cert.MixOutBwdIdeal.nD) → Buf (Elt Ideal) ((c.tc : Thread Cert.MixOutBwdIdeal.nD Cert.MixOutBwdIdeal.τ).loc Cert.MixOutBwdIdeal.main_v13_0)) (v1 : (c : Dev Cert.MixOutBwdIdeal.nD) → Buf (Elt Ideal) ((c.tc : Thread Cert.MixOutBwdIdeal.nD Cert.MixOutBwdIdeal.τ).loc Cert.MixOutBwdIdeal.main_v13_1)) (v2 : (c : Dev Cert.MixOutBwdIdeal.nD) → Buf (Elt Ideal) ((c.tc : Thread Cert.MixOutBwdIdeal.nD Cert.MixOutBwdIdeal.τ).loc Cert.MixOutBwdIdeal.main_v13_2)) (v3 : (c : Dev Cert.MixOutBwdIdeal.nD) → Buf (Elt Ideal) ((c.tc : Thread Cert.MixOutBwdIdeal.nD Cert.MixOutBwdIdeal.τ).loc Cert.MixOutBwdIdeal.main_v13_3)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v13_0) = v0 c
          ∧ r.2.mem ((c.tc : Thread Cert.MixOutBwdIdeal.nD Cert.MixOutBwdIdeal.τ).loc Cert.MixOutBwdIdeal.main_v13_1) = v1 c
          ∧ r.2.mem ((c.tc : Thread Cert.MixOutBwdIdeal.nD Cert.MixOutBwdIdeal.τ).loc Cert.MixOutBwdIdeal.main_v13_2) = v2 c
          ∧ r.2.mem ((c.tc : Thread Cert.MixOutBwdIdeal.nD Cert.MixOutBwdIdeal.τ).loc Cert.MixOutBwdIdeal.main_v13_3) = v3 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v65) = v0 c
          ∧ r.2.mem ((c.tc : Thread Cert.MixOutBwdRefIdeal.nD Cert.MixOutBwdRefIdeal.τ).loc Cert.MixOutBwdRefIdeal.main_v66) = v1 c
          ∧ r.2.mem ((c.tc : Thread Cert.MixOutBwdRefIdeal.nD Cert.MixOutBwdRefIdeal.τ).loc Cert.MixOutBwdRefIdeal.main_v63) = v2 c
          ∧ r.2.mem ((c.tc : Thread Cert.MixOutBwdRefIdeal.nD Cert.MixOutBwdRefIdeal.τ).loc Cert.MixOutBwdRefIdeal.main_v68) = v3 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3)
          ∧ r.2.mem ((c.tc : Thread Cert.MixOutBwdRefIdeal.nD Cert.MixOutBwdRefIdeal.τ).loc Cert.MixOutBwdRefIdeal.main_arg4) = m' ((c.tc : Thread Cert.MixOutBwdRefIdeal.nD Cert.MixOutBwdRefIdeal.τ).loc Cert.MixOutBwdRefIdeal.main_arg4)
          ∧ r.2.mem ((c.tc : Thread Cert.MixOutBwdRefIdeal.nD Cert.MixOutBwdRefIdeal.τ).loc Cert.MixOutBwdRefIdeal.main_arg5) = m' ((c.tc : Thread Cert.MixOutBwdRefIdeal.nD Cert.MixOutBwdRefIdeal.τ).loc Cert.MixOutBwdRefIdeal.main_arg5)
          ∧ r.2.mem ((c.tc : Thread Cert.MixOutBwdRefIdeal.nD Cert.MixOutBwdRefIdeal.τ).loc Cert.MixOutBwdRefIdeal.main_arg6) = m' ((c.tc : Thread Cert.MixOutBwdRefIdeal.nD Cert.MixOutBwdRefIdeal.τ).loc Cert.MixOutBwdRefIdeal.main_arg6))

def preserves_MlpLoss_MlpLossIdeal : Prop :=
  True

def algebraic_MlpLossIdeal_MlpLossRefIdeal_pre_mlp_loss_finite [hMlpLossIdeal : Cert.MlpLossIdeal.Facts] [hMlpLossRefIdeal : Cert.MlpLossRefIdeal.Facts] [hPre_mlp_loss_finite : Cert.Pre_mlp_loss_finite.Facts] : Prop :=
  ∀ (m : (ℓ : Loc Cert.MlpLossIdeal.nD Cert.MlpLossIdeal.τ Cert.MlpLossIdeal.sig) → Buf (Elt Ideal) ℓ) (g : Dev Cert.MlpLossIdeal.nD → PrngReg)
    (m' : (ℓ : Loc Cert.MlpLossRefIdeal.nD Cert.MlpLossRefIdeal.τ Cert.MlpLossRefIdeal.sig) → Buf (Elt Ideal) ℓ) (g' : Dev Cert.MlpLossRefIdeal.nD → PrngReg), Pre_MlpLossIdeal_mlp_loss_finite m →
    (∀ c : Dev Cert.MlpLossIdeal.nD,
      m' ((c.tc : Thread Cert.MlpLossRefIdeal.nD Cert.MlpLossRefIdeal.τ).loc Cert.MlpLossRefIdeal.main_arg0) = m ((c.tc : Thread Cert.MlpLossIdeal.nD Cert.MlpLossIdeal.τ).loc Cert.MlpLossIdeal.main_arg0)
      ∧ m' ((c.tc : Thread Cert.MlpLossRefIdeal.nD Cert.MlpLossRefIdeal.τ).loc Cert.MlpLossRefIdeal.main_arg1) = m ((c.tc : Thread Cert.MlpLossIdeal.nD Cert.MlpLossIdeal.τ).loc Cert.MlpLossIdeal.main_arg1)
      ∧ m' ((c.tc : Thread Cert.MlpLossRefIdeal.nD Cert.MlpLossRefIdeal.τ).loc Cert.MlpLossRefIdeal.main_arg2) = m ((c.tc : Thread Cert.MlpLossIdeal.nD Cert.MlpLossIdeal.τ).loc Cert.MlpLossIdeal.main_arg2)
      ∧ m' ((c.tc : Thread Cert.MlpLossRefIdeal.nD Cert.MlpLossRefIdeal.τ).loc Cert.MlpLossRefIdeal.main_arg3) = m ((c.tc : Thread Cert.MlpLossIdeal.nD Cert.MlpLossIdeal.τ).loc Cert.MlpLossIdeal.main_arg3)
      ∧ m' ((c.tc : Thread Cert.MlpLossRefIdeal.nD Cert.MlpLossRefIdeal.τ).loc Cert.MlpLossRefIdeal.main_arg4) = m ((c.tc : Thread Cert.MlpLossIdeal.nD Cert.MlpLossIdeal.τ).loc Cert.MlpLossIdeal.main_arg4)
      ∧ m' ((c.tc : Thread Cert.MlpLossRefIdeal.nD Cert.MlpLossRefIdeal.τ).loc Cert.MlpLossRefIdeal.main_arg5) = m ((c.tc : Thread Cert.MlpLossIdeal.nD Cert.MlpLossIdeal.τ).loc Cert.MlpLossIdeal.main_arg5)
      ∧ m' ((c.tc : Thread Cert.MlpLossRefIdeal.nD Cert.MlpLossRefIdeal.τ).loc Cert.MlpLossRefIdeal.main_arg6) = m ((c.tc : Thread Cert.MlpLossIdeal.nD Cert.MlpLossIdeal.τ).loc Cert.MlpLossIdeal.main_arg6)) →
    ∃ (v0 : (c : Dev Cert.MlpLossIdeal.nD) → Buf (Elt Ideal) ((c.tc : Thread Cert.MlpLossIdeal.nD Cert.MlpLossIdeal.τ).loc Cert.MlpLossIdeal.main_v7_0)) (v1 : (c : Dev Cert.MlpLossIdeal.nD) → Buf (Elt Ideal) ((c.tc : Thread Cert.MlpLossIdeal.nD Cert.MlpLossIdeal.τ).loc Cert.MlpLossIdeal.main_v7_1)) (v2 : (c : Dev Cert.MlpLossIdeal.nD) → Buf (Elt Ideal) ((c.tc : Thread Cert.MlpLossIdeal.nD Cert.MlpLossIdeal.τ).loc Cert.MlpLossIdeal.main_v7_2)) (v3 : (c : Dev Cert.MlpLossIdeal.nD) → Buf (Elt Ideal) ((c.tc : Thread Cert.MlpLossIdeal.nD Cert.MlpLossIdeal.τ).loc Cert.MlpLossIdeal.main_v7_3)),
      θ_run (Cert.MlpLossIdeal.defs (F := Ideal)) (onTc (τ := Cert.MlpLossIdeal.τ) (Cert.MlpLossIdeal.main (F := Ideal))) ⟨m, fun _ => 0, g⟩ (fun r => ∀ c : Dev Cert.MlpLossIdeal.nD,
          r.2.mem ((c.tc : Thread Cert.MlpLossIdeal.nD Cert.MlpLossIdeal.τ).loc Cert.MlpLossIdeal.main_v7_0) = v0 c
          ∧ r.2.mem ((c.tc : Thread Cert.MlpLossIdeal.nD Cert.MlpLossIdeal.τ).loc Cert.MlpLossIdeal.main_v7_1) = v1 c
          ∧ r.2.mem ((c.tc : Thread Cert.MlpLossIdeal.nD Cert.MlpLossIdeal.τ).loc Cert.MlpLossIdeal.main_v7_2) = v2 c
          ∧ r.2.mem ((c.tc : Thread Cert.MlpLossIdeal.nD Cert.MlpLossIdeal.τ).loc Cert.MlpLossIdeal.main_v7_3) = v3 c
          ∧ r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
          ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
          ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
          ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
          ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
          ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
          ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6))
      ∧ θ_run (Cert.MlpLossRefIdeal.defs (F := Ideal)) (onTc (τ := Cert.MlpLossRefIdeal.τ) (Cert.MlpLossRefIdeal.main (F := Ideal))) ⟨m', fun _ => 0, g'⟩ (fun r => ∀ c : Dev Cert.MlpLossRefIdeal.nD,
          r.2.mem ((c.tc : Thread Cert.MlpLossRefIdeal.nD Cert.MlpLossRefIdeal.τ).loc Cert.MlpLossRefIdeal.main_v66) = v0 c
          ∧ r.2.mem ((c.tc : Thread Cert.MlpLossRefIdeal.nD Cert.MlpLossRefIdeal.τ).loc Cert.MlpLossRefIdeal.main_v67) = v1 c
          ∧ r.2.mem ((c.tc : Thread Cert.MlpLossRefIdeal.nD Cert.MlpLossRefIdeal.τ).loc Cert.MlpLossRefIdeal.main_v68) = v2 c
          ∧ r.2.mem ((c.tc : Thread Cert.MlpLossRefIdeal.nD Cert.MlpLossRefIdeal.τ).loc Cert.MlpLossRefIdeal.main_v65) = v3 c
          ∧ r.2.mem ((c.tc : Thread Cert.MlpLossRefIdeal.nD Cert.MlpLossRefIdeal.τ).loc Cert.MlpLossRefIdeal.main_arg0) = m' ((c.tc : Thread Cert.MlpLossRefIdeal.nD Cert.MlpLossRefIdeal.τ).loc Cert.MlpLossRefIdeal.main_arg0)
          ∧ r.2.mem ((c.tc : Thread Cert.MlpLossRefIdeal.nD Cert.MlpLossRefIdeal.τ).loc Cert.MlpLossRefIdeal.main_arg1) = m' ((c.tc : Thread Cert.MlpLossRefIdeal.nD Cert.MlpLossRefIdeal.τ).loc Cert.MlpLossRefIdeal.main_arg1)
          ∧ r.2.mem ((c.tc : Thread Cert.MlpLossRefIdeal.nD Cert.MlpLossRefIdeal.τ).loc Cert.MlpLossRefIdeal.main_arg2) = m' ((c.tc : Thread Cert.MlpLossRefIdeal.nD Cert.MlpLossRefIdeal.τ).loc Cert.MlpLossRefIdeal.main_arg2)
          ∧ r.2.mem ((c.tc : Thread Cert.MlpLossRefIdeal.nD Cert.MlpLossRefIdeal.τ).loc Cert.MlpLossRefIdeal.main_arg3) = m' ((c.tc : Thread Cert.MlpLossRefIdeal.nD Cert.MlpLossRefIdeal.τ).loc Cert.MlpLossRefIdeal.main_arg3)
          ∧ r.2.mem ((c.tc : Thread Cert.MlpLossRefIdeal.nD Cert.MlpLossRefIdeal.τ).loc Cert.MlpLossRefIdeal.main_arg4) = m' ((c.tc : Thread Cert.MlpLossRefIdeal.nD Cert.MlpLossRefIdeal.τ).loc Cert.MlpLossRefIdeal.main_arg4)
          ∧ r.2.mem ((c.tc : Thread Cert.MlpLossRefIdeal.nD Cert.MlpLossRefIdeal.τ).loc Cert.MlpLossRefIdeal.main_arg5) = m' ((c.tc : Thread Cert.MlpLossRefIdeal.nD Cert.MlpLossRefIdeal.τ).loc Cert.MlpLossRefIdeal.main_arg5)
          ∧ r.2.mem ((c.tc : Thread Cert.MlpLossRefIdeal.nD Cert.MlpLossRefIdeal.τ).loc Cert.MlpLossRefIdeal.main_arg6) = m' ((c.tc : Thread Cert.MlpLossRefIdeal.nD Cert.MlpLossRefIdeal.τ).loc Cert.MlpLossRefIdeal.main_arg6))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)
      ∧ m' ((c.tc : Thread Cert.MixOutFwdRefIdeal.nD Cert.MixOutFwdRefIdeal.τ).loc Cert.MixOutFwdRefIdeal.main_arg4) = m ((c.tc : Thread Cert.MixOutFwdIdeal.nD Cert.MixOutFwdIdeal.τ).loc Cert.MixOutFwdIdeal.main_arg4)) →
    ∃ (v0 : (c : Dev Cert.MixOutFwdIdeal.nD) → Buf (Elt Ideal) ((c.tc : Thread Cert.MixOutFwdIdeal.nD Cert.MixOutFwdIdeal.τ).loc Cert.MixOutFwdIdeal.main_v5_0)) (v1 : (c : Dev Cert.MixOutFwdIdeal.nD) → Buf (Elt Ideal) ((c.tc : Thread Cert.MixOutFwdIdeal.nD Cert.MixOutFwdIdeal.τ).loc Cert.MixOutFwdIdeal.main_v5_1)) (v2 : (c : Dev Cert.MixOutFwdIdeal.nD) → Buf (Elt Ideal) ((c.tc : Thread Cert.MixOutFwdIdeal.nD Cert.MixOutFwdIdeal.τ).loc Cert.MixOutFwdIdeal.main_v5_2)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v5_0) = v0 c
          ∧ r.2.mem ((c.tc : Thread Cert.MixOutFwdIdeal.nD Cert.MixOutFwdIdeal.τ).loc Cert.MixOutFwdIdeal.main_v5_1) = v1 c
          ∧ r.2.mem ((c.tc : Thread Cert.MixOutFwdIdeal.nD Cert.MixOutFwdIdeal.τ).loc Cert.MixOutFwdIdeal.main_v5_2) = v2 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
          ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v26) = v0 c
          ∧ r.2.mem ((c.tc : Thread Cert.MixOutFwdRefIdeal.nD Cert.MixOutFwdRefIdeal.τ).loc Cert.MixOutFwdRefIdeal.main_v6) = v1 c
          ∧ r.2.mem ((c.tc : Thread Cert.MixOutFwdRefIdeal.nD Cert.MixOutFwdRefIdeal.τ).loc Cert.MixOutFwdRefIdeal.main_v27) = v2 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v3) = v0 c
          ∧ r.2.mem ((c.tc : Thread Cert.AdamUpRefIdeal.nD Cert.AdamUpRefIdeal.τ).loc Cert.AdamUpRefIdeal.main_v27) = v1 c
          ∧ r.2.mem ((c.tc : Thread Cert.AdamUpRefIdeal.nD Cert.AdamUpRefIdeal.τ).loc Cert.AdamUpRefIdeal.main_v8) = v2 c
          ∧ r.2.mem ((c.tc : Thread Cert.AdamUpRefIdeal.nD Cert.AdamUpRefIdeal.τ).loc Cert.AdamUpRefIdeal.main_v14) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)) (v3 : (c : Dev Cert.AdamInIdeal.nD) → Buf (Elt Ideal) ((c.tc : Thread Cert.AdamInIdeal.nD Cert.AdamInIdeal.τ).loc Cert.AdamInIdeal.main_v4_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_v4_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v28) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v30) = v2 c
          ∧ r.2.mem ((c.tc : Thread Cert.AdamInRefIdeal.nD Cert.AdamInRefIdeal.τ).loc Cert.AdamInRefIdeal.main_v31) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdaAdam_AdaAdamIdeal : Prop :=
  True

def algebraic_AdaAdamIdeal_AdaAdamRefIdeal [hAdaAdamIdeal : Cert.AdaAdamIdeal.Facts] [hAdaAdamRefIdeal : Cert.AdaAdamRefIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg)
    (m' : (ℓ : Loc Cert.AdaAdamRefIdeal.nD Cert.AdaAdamRefIdeal.τ Cert.AdaAdamRefIdeal.sig) → Buf (Elt Ideal) ℓ) (g' : Dev Cert.AdaAdamRefIdeal.nD → PrngReg), Pre_AdaAdamIdeal m →
    (∀ c : Dev Cert.AdaAdamIdeal.nD,
      m' ((c.tc : Thread Cert.AdaAdamRefIdeal.nD Cert.AdaAdamRefIdeal.τ).loc Cert.AdaAdamRefIdeal.main_arg0) = m ((c.tc : Thread Cert.AdaAdamIdeal.nD Cert.AdaAdamIdeal.τ).loc Cert.AdaAdamIdeal.main_arg0)
      ∧ m' ((c.tc : Thread Cert.AdaAdamRefIdeal.nD Cert.AdaAdamRefIdeal.τ).loc Cert.AdaAdamRefIdeal.main_arg1) = m ((c.tc : Thread Cert.AdaAdamIdeal.nD Cert.AdaAdamIdeal.τ).loc Cert.AdaAdamIdeal.main_arg1)
      ∧ m' ((c.tc : Thread Cert.AdaAdamRefIdeal.nD Cert.AdaAdamRefIdeal.τ).loc Cert.AdaAdamRefIdeal.main_arg2) = m ((c.tc : Thread Cert.AdaAdamIdeal.nD Cert.AdaAdamIdeal.τ).loc Cert.AdaAdamIdeal.main_arg2)
      ∧ m' ((c.tc : Thread Cert.AdaAdamRefIdeal.nD Cert.AdaAdamRefIdeal.τ).loc Cert.AdaAdamRefIdeal.main_arg3) = m ((c.tc : Thread Cert.AdaAdamIdeal.nD Cert.AdaAdamIdeal.τ).loc Cert.AdaAdamIdeal.main_arg3)
      ∧ m' ((c.tc : Thread Cert.AdaAdamRefIdeal.nD Cert.AdaAdamRefIdeal.τ).loc Cert.AdaAdamRefIdeal.main_arg4) = m ((c.tc : Thread Cert.AdaAdamIdeal.nD Cert.AdaAdamIdeal.τ).loc Cert.AdaAdamIdeal.main_arg4)
      ∧ m' ((c.tc : Thread Cert.AdaAdamRefIdeal.nD Cert.AdaAdamRefIdeal.τ).loc Cert.AdaAdamRefIdeal.main_arg5) = m ((c.tc : Thread Cert.AdaAdamIdeal.nD Cert.AdaAdamIdeal.τ).loc Cert.AdaAdamIdeal.main_arg5)) →
    ∃ (v0 : (c : Dev Cert.AdaAdamIdeal.nD) → Buf (Elt Ideal) ((c.tc : Thread Cert.AdaAdamIdeal.nD Cert.AdaAdamIdeal.τ).loc Cert.AdaAdamIdeal.main_v1_0)) (v1 : (c : Dev Cert.AdaAdamIdeal.nD) → Buf (Elt Ideal) ((c.tc : Thread Cert.AdaAdamIdeal.nD Cert.AdaAdamIdeal.τ).loc Cert.AdaAdamIdeal.main_v1_1)) (v2 : (c : Dev Cert.AdaAdamIdeal.nD) → Buf (Elt Ideal) ((c.tc : Thread Cert.AdaAdamIdeal.nD Cert.AdaAdamIdeal.τ).loc Cert.AdaAdamIdeal.main_v1_2)) (v3 : (c : Dev Cert.AdaAdamIdeal.nD) → Buf (Elt Ideal) ((c.tc : Thread Cert.AdaAdamIdeal.nD Cert.AdaAdamIdeal.τ).loc Cert.AdaAdamIdeal.main_v1_3)),
      θ_run (Cert.AdaAdamIdeal.defs (F := Ideal)) (onTc (τ := Cert.AdaAdamIdeal.τ) (Cert.AdaAdamIdeal.main (F := Ideal))) ⟨m, fun _ => 0, g⟩ (fun r => ∀ c : Dev Cert.AdaAdamIdeal.nD,
          r.2.mem ((c.tc : Thread Cert.AdaAdamIdeal.nD Cert.AdaAdamIdeal.τ).loc Cert.AdaAdamIdeal.main_v1_0) = v0 c
          ∧ r.2.mem ((c.tc : Thread Cert.AdaAdamIdeal.nD Cert.AdaAdamIdeal.τ).loc Cert.AdaAdamIdeal.main_v1_1) = v1 c
          ∧ r.2.mem ((c.tc : Thread Cert.AdaAdamIdeal.nD Cert.AdaAdamIdeal.τ).loc Cert.AdaAdamIdeal.main_v1_2) = v2 c
          ∧ r.2.mem ((c.tc : Thread Cert.AdaAdamIdeal.nD Cert.AdaAdamIdeal.τ).loc Cert.AdaAdamIdeal.main_v1_3) = v3 c
          ∧ r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
          ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
          ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
          ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
          ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4)
          ∧ r.2.mem ((c.tc : Thread Cert.AdaAdamIdeal.nD Cert.AdaAdamIdeal.τ).loc Cert.AdaAdamIdeal.main_arg5) = m ((c.tc : Thread Cert.AdaAdamIdeal.nD Cert.AdaAdamIdeal.τ).loc Cert.AdaAdamIdeal.main_arg5))
      ∧ θ_run (Cert.AdaAdamRefIdeal.defs (F := Ideal)) (onTc (τ := Cert.AdaAdamRefIdeal.τ) (Cert.AdaAdamRefIdeal.main (F := Ideal))) ⟨m', fun _ => 0, g'⟩ (fun r => ∀ c : Dev Cert.AdaAdamRefIdeal.nD,
          r.2.mem ((c.tc : Thread Cert.AdaAdamRefIdeal.nD Cert.AdaAdamRefIdeal.τ).loc Cert.AdaAdamRefIdeal.main_v5) = v0 c
          ∧ r.2.mem ((c.tc : Thread Cert.AdaAdamRefIdeal.nD Cert.AdaAdamRefIdeal.τ).loc Cert.AdaAdamRefIdeal.main_v29) = v1 c
          ∧ r.2.mem ((c.tc : Thread Cert.AdaAdamRefIdeal.nD Cert.AdaAdamRefIdeal.τ).loc Cert.AdaAdamRefIdeal.main_v10) = v2 c
          ∧ r.2.mem ((c.tc : Thread Cert.AdaAdamRefIdeal.nD Cert.AdaAdamRefIdeal.τ).loc Cert.AdaAdamRefIdeal.main_v16) = v3 c
          ∧ r.2.mem ((c.tc : Thread Cert.AdaAdamRefIdeal.nD Cert.AdaAdamRefIdeal.τ).loc Cert.AdaAdamRefIdeal.main_arg0) = m' ((c.tc : Thread Cert.AdaAdamRefIdeal.nD Cert.AdaAdamRefIdeal.τ).loc Cert.AdaAdamRefIdeal.main_arg0)
          ∧ r.2.mem ((c.tc : Thread Cert.AdaAdamRefIdeal.nD Cert.AdaAdamRefIdeal.τ).loc Cert.AdaAdamRefIdeal.main_arg1) = m' ((c.tc : Thread Cert.AdaAdamRefIdeal.nD Cert.AdaAdamRefIdeal.τ).loc Cert.AdaAdamRefIdeal.main_arg1)
          ∧ r.2.mem ((c.tc : Thread Cert.AdaAdamRefIdeal.nD Cert.AdaAdamRefIdeal.τ).loc Cert.AdaAdamRefIdeal.main_arg2) = m' ((c.tc : Thread Cert.AdaAdamRefIdeal.nD Cert.AdaAdamRefIdeal.τ).loc Cert.AdaAdamRefIdeal.main_arg2)
          ∧ r.2.mem ((c.tc : Thread Cert.AdaAdamRefIdeal.nD Cert.AdaAdamRefIdeal.τ).loc Cert.AdaAdamRefIdeal.main_arg3) = m' ((c.tc : Thread Cert.AdaAdamRefIdeal.nD Cert.AdaAdamRefIdeal.τ).loc Cert.AdaAdamRefIdeal.main_arg3)
          ∧ r.2.mem ((c.tc : Thread Cert.AdaAdamRefIdeal.nD Cert.AdaAdamRefIdeal.τ).loc Cert.AdaAdamRefIdeal.main_arg4) = m' ((c.tc : Thread Cert.AdaAdamRefIdeal.nD Cert.AdaAdamRefIdeal.τ).loc Cert.AdaAdamRefIdeal.main_arg4)
          ∧ r.2.mem ((c.tc : Thread Cert.AdaAdamRefIdeal.nD Cert.AdaAdamRefIdeal.τ).loc Cert.AdaAdamRefIdeal.main_arg5) = m' ((c.tc : Thread Cert.AdaAdamRefIdeal.nD Cert.AdaAdamRefIdeal.τ).loc Cert.AdaAdamRefIdeal.main_arg5))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)) (v1 : (c : Dev Cert.SumSmallIdeal.nD) → Buf (Elt Ideal) ((c.tc : Thread Cert.SumSmallIdeal.nD Cert.SumSmallIdeal.τ).loc Cert.SumSmallIdeal.main_v4)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_v4) = v1 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_v5) = v1 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0_0)) (v1 : (c : Dev Cert.AdaFwdIdeal.nD) → Buf (Elt Ideal) ((c.tc : Thread Cert.AdaFwdIdeal.nD Cert.AdaFwdIdeal.τ).loc Cert.AdaFwdIdeal.main_v0_1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0_0) = v0 c
          ∧ r.2.mem ((c.tc : Thread Cert.AdaFwdIdeal.nD Cert.AdaFwdIdeal.τ).loc Cert.AdaFwdIdeal.main_v0_1) = v1 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_v0) = v1 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_PairOut_PairOutIdeal : Prop :=
  True

def algebraic_PairOutIdeal_PairOutRefIdeal [hPairOutIdeal : Cert.PairOutIdeal.Facts] [hPairOutRefIdeal : Cert.PairOutRefIdeal.Facts] [hPre_core_and_chip : Cert.Pre_core_and_chip.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)
      ∧ m' ((c.tc : Thread Cert.PairOutRefIdeal.nD Cert.PairOutRefIdeal.τ).loc Cert.PairOutRefIdeal.main_arg2) = m ((c.tc : Thread Cert.PairOutIdeal.nD Cert.PairOutIdeal.τ).loc Cert.PairOutIdeal.main_arg2)) →
    ∃ (v0 : (c : Dev Cert.PairOutIdeal.nD) → Buf (Elt Ideal) ((c.tc : Thread Cert.PairOutIdeal.nD Cert.PairOutIdeal.τ).loc Cert.PairOutIdeal.main_v0_0)) (v1 : (c : Dev Cert.PairOutIdeal.nD) → Buf (Elt Ideal) ((c.tc : Thread Cert.PairOutIdeal.nD Cert.PairOutIdeal.τ).loc Cert.PairOutIdeal.main_v0_1)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v0_0) = v0 c
          ∧ r.2.mem ((c.tc : Thread Cert.PairOutIdeal.nD Cert.PairOutIdeal.τ).loc Cert.PairOutIdeal.main_v0_1) = v1 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1)
          ∧ r.2.mem ((c.tc : Thread Cert.PairOutIdeal.nD Cert.PairOutIdeal.τ).loc Cert.PairOutIdeal.main_arg2) = m ((c.tc : Thread Cert.PairOutIdeal.nD Cert.PairOutIdeal.τ).loc Cert.PairOutIdeal.main_arg2))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v11) = v0 c
          ∧ r.2.mem ((c.tc : Thread Cert.PairOutRefIdeal.nD Cert.PairOutRefIdeal.τ).loc Cert.PairOutRefIdeal.main_v25) = v1 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1)
          ∧ r.2.mem ((c.tc : Thread Cert.PairOutRefIdeal.nD Cert.PairOutRefIdeal.τ).loc Cert.PairOutRefIdeal.main_arg2) = m' ((c.tc : Thread Cert.PairOutRefIdeal.nD Cert.PairOutRefIdeal.τ).loc Cert.PairOutRefIdeal.main_arg2))

def Claim : Prop :=
  ∃ (hMlpDx : Cert.MlpDx.Facts) (hMlpDxIdeal : Cert.MlpDxIdeal.Facts) (hMlpDxRefIdeal : Cert.MlpDxRefIdeal.Facts) (hMlpDw : Cert.MlpDw.Facts) (hMlpDwIdeal : Cert.MlpDwIdeal.Facts) (hMlpDwRefIdeal : Cert.MlpDwRefIdeal.Facts) (hMixInDw : Cert.MixInDw.Facts) (hMixInDwIdeal : Cert.MixInDwIdeal.Facts) (hMixInDwRefIdeal : Cert.MixInDwRefIdeal.Facts) (hMixInDx : Cert.MixInDx.Facts) (hMixInDxIdeal : Cert.MixInDxIdeal.Facts) (hMixInDxRefIdeal : Cert.MixInDxRefIdeal.Facts) (hMixOutBwd : Cert.MixOutBwd.Facts) (hMixOutBwdIdeal : Cert.MixOutBwdIdeal.Facts) (hMixOutBwdRefIdeal : Cert.MixOutBwdRefIdeal.Facts) (hMlpLoss : Cert.MlpLoss.Facts) (hMlpLossIdeal : Cert.MlpLossIdeal.Facts) (hMlpLossRefIdeal : Cert.MlpLossRefIdeal.Facts) (hMixOutFwd : Cert.MixOutFwd.Facts) (hMixOutFwdIdeal : Cert.MixOutFwdIdeal.Facts) (hMixOutFwdRefIdeal : Cert.MixOutFwdRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdaAdam : Cert.AdaAdam.Facts) (hAdaAdamIdeal : Cert.AdaAdamIdeal.Facts) (hAdaAdamRefIdeal : Cert.AdaAdamRefIdeal.Facts) (hSumSmall : Cert.SumSmall.Facts) (hSumSmallIdeal : Cert.SumSmallIdeal.Facts) (hSumSmallRefIdeal : Cert.SumSmallRefIdeal.Facts) (hAdaFwd : Cert.AdaFwd.Facts) (hAdaFwdIdeal : Cert.AdaFwdIdeal.Facts) (hAdaFwdRefIdeal : Cert.AdaFwdRefIdeal.Facts) (hPairOut : Cert.PairOut.Facts) (hPairOutIdeal : Cert.PairOutIdeal.Facts) (hPairOutRefIdeal : Cert.PairOutRefIdeal.Facts) (hPre_mix_in_finite : Cert.Pre_mix_in_finite.Facts) (hPre_mix_out_finite : Cert.Pre_mix_out_finite.Facts) (hPre_mlp_loss_finite : Cert.Pre_mlp_loss_finite.Facts) (hPre_core_and_chip : Cert.Pre_core_and_chip.Facts),
    quiescent_MlpDx (hMlpDx := hMlpDx)
    ∧ quiescent_MlpDxIdeal (hMlpDxIdeal := hMlpDxIdeal)
    ∧ quiescent_MlpDxRefIdeal (hMlpDxRefIdeal := hMlpDxRefIdeal)
    ∧ quiescent_MlpDw (hMlpDw := hMlpDw)
    ∧ quiescent_MlpDwIdeal (hMlpDwIdeal := hMlpDwIdeal)
    ∧ quiescent_MlpDwRefIdeal (hMlpDwRefIdeal := hMlpDwRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixInDx (hMixInDx := hMixInDx)
    ∧ quiescent_MixInDxIdeal (hMixInDxIdeal := hMixInDxIdeal)
    ∧ quiescent_MixInDxIdeal_pre_mix_in_finite (hMixInDxIdeal := hMixInDxIdeal) (hPre_mix_in_finite := hPre_mix_in_finite)
    ∧ quiescent_MixInDxRefIdeal (hMixInDxRefIdeal := hMixInDxRefIdeal)
    ∧ quiescent_MixInDxRefIdeal_pre_mix_in_finite (hMixInDxRefIdeal := hMixInDxRefIdeal) (hPre_mix_in_finite := hPre_mix_in_finite)
    ∧ quiescent_MixOutBwd (hMixOutBwd := hMixOutBwd)
    ∧ quiescent_MixOutBwdIdeal (hMixOutBwdIdeal := hMixOutBwdIdeal)
    ∧ quiescent_MixOutBwdIdeal_pre_mix_out_finite (hMixOutBwdIdeal := hMixOutBwdIdeal) (hPre_mix_out_finite := hPre_mix_out_finite)
    ∧ quiescent_MixOutBwdRefIdeal (hMixOutBwdRefIdeal := hMixOutBwdRefIdeal)
    ∧ quiescent_MixOutBwdRefIdeal_pre_mix_out_finite (hMixOutBwdRefIdeal := hMixOutBwdRefIdeal) (hPre_mix_out_finite := hPre_mix_out_finite)
    ∧ quiescent_MlpLoss (hMlpLoss := hMlpLoss)
    ∧ quiescent_MlpLossIdeal (hMlpLossIdeal := hMlpLossIdeal)
    ∧ quiescent_MlpLossIdeal_pre_mlp_loss_finite (hMlpLossIdeal := hMlpLossIdeal) (hPre_mlp_loss_finite := hPre_mlp_loss_finite)
    ∧ quiescent_MlpLossRefIdeal (hMlpLossRefIdeal := hMlpLossRefIdeal)
    ∧ quiescent_MlpLossRefIdeal_pre_mlp_loss_finite (hMlpLossRefIdeal := hMlpLossRefIdeal) (hPre_mlp_loss_finite := hPre_mlp_loss_finite)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdaAdam (hAdaAdam := hAdaAdam)
    ∧ quiescent_AdaAdamIdeal (hAdaAdamIdeal := hAdaAdamIdeal)
    ∧ quiescent_AdaAdamRefIdeal (hAdaAdamRefIdeal := hAdaAdamRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_PairOut (hPairOut := hPairOut) (hPre_core_and_chip := hPre_core_and_chip)
    ∧ quiescent_PairOutIdeal (hPairOutIdeal := hPairOutIdeal) (hPre_core_and_chip := hPre_core_and_chip)
    ∧ quiescent_PairOutRefIdeal (hPairOutRefIdeal := hPairOutRefIdeal)
    ∧ quiescent_PairOutRefIdeal_pre_core_and_chip (hPairOutRefIdeal := hPairOutRefIdeal) (hPre_core_and_chip := hPre_core_and_chip)
    ∧ preserves_MlpDx_MlpDxIdeal
    ∧ algebraic_MlpDxIdeal_MlpDxRefIdeal (hMlpDxIdeal := hMlpDxIdeal) (hMlpDxRefIdeal := hMlpDxRefIdeal)
    ∧ preserves_MlpDw_MlpDwIdeal
    ∧ algebraic_MlpDwIdeal_MlpDwRefIdeal (hMlpDwIdeal := hMlpDwIdeal) (hMlpDwRefIdeal := hMlpDwRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixInDx_MixInDxIdeal
    ∧ algebraic_MixInDxIdeal_MixInDxRefIdeal_pre_mix_in_finite (hMixInDxIdeal := hMixInDxIdeal) (hMixInDxRefIdeal := hMixInDxRefIdeal) (hPre_mix_in_finite := hPre_mix_in_finite)
    ∧ preserves_MixOutBwd_MixOutBwdIdeal
    ∧ algebraic_MixOutBwdIdeal_MixOutBwdRefIdeal_pre_mix_out_finite (hMixOutBwdIdeal := hMixOutBwdIdeal) (hMixOutBwdRefIdeal := hMixOutBwdRefIdeal) (hPre_mix_out_finite := hPre_mix_out_finite)
    ∧ preserves_MlpLoss_MlpLossIdeal
    ∧ algebraic_MlpLossIdeal_MlpLossRefIdeal_pre_mlp_loss_finite (hMlpLossIdeal := hMlpLossIdeal) (hMlpLossRefIdeal := hMlpLossRefIdeal) (hPre_mlp_loss_finite := hPre_mlp_loss_finite)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdaAdam_AdaAdamIdeal
    ∧ algebraic_AdaAdamIdeal_AdaAdamRefIdeal (hAdaAdamIdeal := hAdaAdamIdeal) (hAdaAdamRefIdeal := hAdaAdamRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_PairOut_PairOutIdeal
    ∧ algebraic_PairOutIdeal_PairOutRefIdeal (hPairOutIdeal := hPairOutIdeal) (hPairOutRefIdeal := hPairOutRefIdeal) (hPre_core_and_chip := hPre_core_and_chip)
-- ==== Pre_core_and_chip.lean ====
abbrev S2 : Shape := ⟨1, ![2]⟩
abbrev S4x2x128x1024 : Shape := ⟨4, ![4, 2, 128, 1024]⟩
abbrev S4x128x1024 : Shape := ⟨3, ![4, 128, 1024]⟩
abbrev S_ : Shape := ⟨0, ![]⟩
abbrev S1 : Shape := ⟨1, ![1]⟩

class Facts : Prop where
  bcast_S_S2 : S_.BroadcastsInDim S2 (![] : Fin 0 → Fin S2.rank)
  slices_S2_S1_0 : S2.Slices ![0] S1
  bcast_S_S1 : S_.BroadcastsInDim S1 (![] : Fin 0 → Fin S1.rank)
  slices_S2_S1_1 : S2.Slices ![1] S1

variable [Facts]

def fn {F : FTy → Type} [FloatOps F] (main_arg0 : IVec S2 32) (main_arg1 : FVec F S4x2x128x1024 .f32) (main_arg2 : FVec F S4x128x1024 .f32) : IVec S2 1 × IVec S1 1 × IVec S1 1 :=
  let main_c : IVec S_ 32 := constantI S_ 32 0#32
  let main_v0 : IVec S2 32 := broadcastInDim S2 ![] bcast_S_S2 main_c
  let main_v1 : IVec S2 1 := cmpi .sge main_arg0 main_v0
  let main_v2 : IVec S1 32 := (extractStridedSlice S1 ![0] · slices_S2_S1_0) main_arg0
  let main_c_0 : IVec S_ 32 := constantI S_ 32 2#32
  let main_v3 : IVec S1 32 := broadcastInDim S1 ![] bcast_S_S1 main_c_0
  let main_v4 : IVec S1 1 := cmpi .slt main_v2 main_v3
  let main_v5 : IVec S1 32 := (extractStridedSlice S1 ![1] · slices_S2_S1_1) main_arg0
  let main_c_1 : IVec S_ 32 := constantI S_ 32 4#32
  let main_v6 : IVec S1 32 := broadcastInDim S1 ![] bcast_S_S1 main_c_1
  let main_v7 : IVec S1 1 := cmpi .slt main_v5 main_v6
  (main_v1, main_v4, main_v7)
-- ==== Pre_mix_in_finite.lean ====
abbrev S4096x1024 : Shape := ⟨2, ![4096, 1024]⟩
abbrev S1x1024 : Shape := ⟨2, ![1, 1024]⟩
abbrev S6x1024 : Shape := ⟨2, ![6, 1024]⟩
abbrev S1024x2560 : Shape := ⟨2, ![1024, 2560]⟩
abbrev S4096x2560 : Shape := ⟨2, ![4096, 2560]⟩
abbrev S_ : Shape := ⟨0, ![]⟩

class Facts : Prop where
  slices_S6x1024_S1x1024_1_0 : S6x1024.Slices ![1, 0] S1x1024
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2560 : S_.BroadcastsInDim S1024x2560 (![] : Fin 0 → Fin S1024x2560.rank)
  bcast_S_S4096x2560 : S_.BroadcastsInDim S4096x2560 (![] : Fin 0 → Fin S4096x2560.rank)

variable [Facts]

def fn {F : FTy → Type} [FloatOps F] (main_arg0 : FVec F S4096x1024 .f32) (main_arg1 : FVec F S1x1024 .f32) (main_arg2 : FVec F S6x1024 .f32) (main_arg3 : FVec F S1024x2560 .f32) (main_arg4 : FVec F S4096x2560 .f32) (main_arg5 : FVec F S4096x1024 .f32) : IVec S4096x1024 1 × IVec S1x1024 1 × IVec S1x1024 1 × IVec S1024x2560 1 × IVec S4096x2560 1 :=
  let main_v0 : FVec F S1x1024 .f32 := (extractStridedSlice S1x1024 ![1, 0] · slices_S6x1024_S1x1024_1_0) main_arg2
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_v0
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1024x2560 .f32 := Host.absf main_arg3
  let main_cst_2 : FVec F S_ .f32 := constant S_ .f32 0x7F800000#32
  let main_v11 : FVec F S1024x2560 .f32 := broadcastInDim S1024x2560 ![] bcast_S_S1024x2560 main_cst_2
  let main_v12 : IVec S1024x2560 1 := cmpf .olt main_v10 main_v11
  let main_v13 : FVec F S4096x2560 .f32 := Host.absf main_arg4
  let main_cst_3 : FVec F S_ .f32 := constant S_ .f32 0x7F800000#32
  let main_v14 : FVec F S4096x2560 .f32 := broadcastInDim S4096x2560 ![] bcast_S_S4096x2560 main_cst_3
  let main_v15 : IVec S4096x2560 1 := cmpf .olt main_v13 main_v14
  (main_v3, main_v6, main_v9, main_v12, main_v15)
-- ==== Pre_mix_out_finite.lean ====
abbrev S4096x1024 : Shape := ⟨2, ![4096, 1024]⟩
abbrev S1024x1024 : Shape := ⟨2, ![1024, 1024]⟩
abbrev S1x1024 : Shape := ⟨2, ![1, 1024]⟩
abbrev S6x1024 : Shape := ⟨2, ![6, 1024]⟩
abbrev S_ : Shape := ⟨0, ![]⟩

class Facts : Prop where
  slices_S6x1024_S1x1024_2_0 : S6x1024.Slices ![2, 0] S1x1024
  slices_S6x1024_S1x1024_4_0 : S6x1024.Slices ![4, 0] S1x1024
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S4096x1024 .f32) (main_v4 : IVec S4096x1024 1) (main_v7 : IVec S4096x1024 1) (main_v10 : IVec S1024x1024 1) (main_v13 : IVec S1x1024 1) (main_v16 : IVec S1x1024 1) (main_v17 : FVec F S1x1024 .f32) (main_cst_4 : FVec F S_ .f32) : IVec S4096x1024 1 × IVec S4096x1024 1 × IVec S1024x1024 1 × IVec S1x1024 1 × IVec S1x1024 1 × IVec S1x1024 1 × IVec S4096x1024 1 :=
  let main_v18 : FVec F S1x1024 .f32 := broadcastInDim S1x1024 ![] bcast_S_S1x1024 main_cst_4
  let main_v19 : IVec S1x1024 1 := cmpf .olt main_v17 main_v18
  let main_v20 : FVec F S4096x1024 .f32 := Host.absf main_arg6
  let main_cst_5 : FVec F S_ .f32 := constant S_ .f32 0x7F800000#32
  let main_v21 : FVec F S4096x1024 .f32 := broadcastInDim S4096x1024 ![] bcast_S_S4096x1024 main_cst_5
  let main_v22 : IVec S4096x1024 1 := cmpf .olt main_v20 main_v21
  (main_v4, main_v7, main_v10, main_v13, main_v16, main_v19, main_v22)

def fn {F : FTy → Type} [FloatOps F] (main_arg0 : FVec F S4096x1024 .f32) (main_arg1 : FVec F S4096x1024 .f32) (main_arg2 : FVec F S1024x1024 .f32) (main_arg3 : FVec F S1x1024 .f32) (main_arg4 : FVec F S6x1024 .f32) (main_arg5 : FVec F S4096x1024 .f32) (main_arg6 : FVec F S4096x1024 .f32) : IVec S4096x1024 1 × IVec S4096x1024 1 × IVec S1024x1024 1 × IVec S1x1024 1 × IVec S1x1024 1 × IVec S1x1024 1 × IVec S4096x1024 1 :=
  let main_v0 : FVec F S1x1024 .f32 := (extractStridedSlice S1x1024 ![2, 0] · slices_S6x1024_S1x1024_2_0) main_arg4
  let main_v1 : FVec F S1x1024 .f32 := (extractStridedSlice S1x1024 ![4, 0] · slices_S6x1024_S1x1024_4_0) main_arg4
  let main_v2 : FVec F S4096x1024 .f32 := Host.absf main_arg0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S1024x1024 .f32 := Host.absf main_arg2
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1024 .f32 := Host.absf main_v0
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024 .f32 := Host.absf main_v1
  let main_cst_4 : FVec F S_ .f32 := constant S_ .f32 0x7F800000#32
  fn_part1 (F := F) main_arg6 main_v4 main_v7 main_v10 main_v13 main_v16 main_v17 main_cst_4
-- ==== Pre_mlp_loss_finite.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S_ : Shape := ⟨0, ![]⟩

class Facts : Prop where
  slices_S6x1024_S1x1024_5_0 : S6x1024.Slices ![5, 0] S1x1024
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S1x1024 : S_.BroadcastsInDim S1x1024 (![] : Fin 0 → Fin S1x1024.rank)

variable [Facts]

def fn_part1 {F : FTy → Type} [FloatOps F] (main_arg6 : FVec F S1x1024 .f32) (main_v3 : IVec S4096x1024 1) (main_v6 : IVec S1024x4096 1) (main_v9 : IVec S4096x1024 1) (main_v12 : IVec S4096x1024 1) (main_v15 : IVec S4096x1024 1) (main_v16 : FVec F S1x1024 .f32) (main_v17 : FVec F S1x1024 .f32) : IVec S4096x1024 1 × IVec S1024x4096 1 × IVec S4096x1024 1 × IVec S4096x1024 1 × IVec S4096x1024 1 × IVec S1x1024 1 × IVec S1x1024 1 :=
  let main_v18 : IVec S1x1024 1 := cmpf .olt main_v16 main_v17
  let main_v19 : FVec F S1x1024 .f32 := Host.absf main_arg6
  let main_cst_5 : FVec F S_ .f32 := constant S_ .f32 0x7F800000#32
  let main_v20 : FVec F S1x1024 .f32 := broadcastInDim S1x1024 ![] bcast_S_S1x1024 main_cst_5
  let main_v21 : IVec S1x1024 1 := cmpf .olt main_v19 main_v20
  (main_v3, main_v6, main_v9, main_v12, main_v15, main_v18, main_v21)

def fn {F : FTy → Type} [FloatOps F] (main_arg0 : FVec F S4096x1024 .f32) (main_arg1 : FVec F S1024x4096 .f32) (main_arg2 : FVec F S4096x1024 .f32) (main_arg3 : FVec F S4096x1024 .f32) (main_arg4 : FVec F S4096x1024 .f32) (main_arg5 : FVec F S6x1024 .f32) (main_arg6 : FVec F S1x1024 .f32) : IVec S4096x1024 1 × IVec S1024x4096 1 × IVec S4096x1024 1 × IVec S4096x1024 1 × IVec S4096x1024 1 × IVec S1x1024 1 × IVec S1x1024 1 :=
  let main_v0 : FVec F S1x1024 .f32 := (extractStridedSlice S1x1024 ![5, 0] · slices_S6x1024_S1x1024_5_0) main_arg5
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  let main_v16 : FVec F S1x1024 .f32 := Host.absf main_v0
  let main_cst_4 : FVec F S_ .f32 := constant S_ .f32 0x7F800000#32
  let main_v17 : FVec F S1x1024 .f32 := broadcastInDim S1x1024 ![] bcast_S_S1x1024 main_cst_4
  fn_part1 (F := F) main_arg6 main_v3 main_v6 main_v9 main_v12 main_v15 main_v16 main_v17
-- ==== MlpDx.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x4096, .bf16⟩
  | .hbm, ⟨14, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_16 : BitVec 32 := 0#32
  let v26 : BitVec 1 := Scalar.cmpi .ne v25 c0_i32_16
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpDxRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1024x4096, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S1024x4096, .f32⟩
  | .hbm, ⟨26, _⟩ => ⟨S4096x1024, .f32⟩
  | .hbm, ⟨27, _⟩ => ⟨S4096x4096, .bf16⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== MlpDw.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S4096x4096, .bf16⟩
  | .hbm, ⟨16, _⟩ => ⟨S4096x1024, .bf16⟩
  | .hbm, ⟨17, _⟩ => ⟨S4096x1024, .bf16⟩
  | .hbm, ⟨18, _⟩ => ⟨S4096x1024, .f32⟩
  | .hbm, ⟨19, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpDwRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1024x4096, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S1024x4096, .f32⟩
  | .hbm, ⟨26, _⟩ => ⟨S4096x1024, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== MixInDw.lean ====
abbrev S4096x1024 : Shape := ⟨2, ![4096, 1024]⟩
abbrev S1024x2560 : Shape := ⟨2, ![1024, 2560]⟩
abbrev S4096x2560 : Shape := ⟨2, ![4096, 2560]⟩
abbrev S2560x1024 : Shape := ⟨2, ![2560, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | .hbm, ⟨3, _⟩ => ⟨S4096x2560, .bf16⟩
  | .hbm, ⟨4, _⟩ => ⟨S4096x1024, .bf16⟩
  | .hbm, ⟨5, _⟩ => ⟨S2560x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixInDwRefIdeal.lean ====
abbrev S4096x1024 : Shape := ⟨2, ![4096, 1024]⟩
abbrev S1024x2560 : Shape := ⟨2, ![1024, 2560]⟩
abbrev S4096x2560 : Shape := ⟨2, ![4096, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | .hbm, ⟨3, _⟩ => ⟨S4096x2560, .f32⟩
  | .hbm, ⟨4, _⟩ => ⟨S2560x1024, .f32⟩
  | .hbm, ⟨5, _⟩ => ⟨S1024x2560, .f32⟩
  | .hbm, ⟨6, _⟩ => ⟨S4096x1024, .f32⟩
  | .hbm, ⟨7, _⟩ => ⟨S2560x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixInDx.lean ====
abbrev S4096x1024 : Shape := ⟨2, ![4096, 1024]⟩
abbrev S1x1024 : Shape := ⟨2, ![1, 1024]⟩
abbrev S6x1024 : Shape := ⟨2, ![6, 1024]⟩
abbrev S1024x2560 : Shape := ⟨2, ![1024, 2560]⟩
abbrev S4096x2560 : Shape := ⟨2, ![4096, 2560]⟩
abbrev S2560x1024 : Shape := ⟨2, ![2560, 1024]⟩
abbrev S_ : Shape := ⟨0, ![]⟩
abbrev S8x1024 : Shape := ⟨2, ![8, 1024]⟩
abbrev S1 : Shape := ⟨1, ![1]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S1024x2560, .f32⟩
  | .hbm, ⟨4, _⟩ => ⟨S4096x2560, .f32⟩
  | .hbm, ⟨5, _⟩ => ⟨S4096x1024, .f32⟩
  | .hbm, ⟨6, _⟩ => ⟨S4096x2560, .bf16⟩
  | .hbm, ⟨7, _⟩ => ⟨S4096x1024, .bf16⟩
  | .hbm, ⟨8, _⟩ => ⟨S2560x1024, .f32⟩
  | .hbm, ⟨9, _⟩ => ⟨S2560x1024, .bf16⟩
  | .hbm, ⟨10, _⟩ => ⟨S_, .f32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S4096x1024, .f32⟩
  | .hbm, ⟨16, _⟩ => ⟨S8x1024, .f32⟩
  | .local _ .vmem, ⟨0, _⟩ => ⟨S1024x2560, .bf16⟩
  | .local _ .vmem, ⟨1, _⟩ => ⟨S1024x2560, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S2560x1024, .bf16⟩
  | .local _ .vmem, ⟨7, _⟩ => ⟨S8x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInDxRefIdeal.lean ====
abbrev S4096x1024 : Shape := ⟨2, ![4096, 1024]⟩
abbrev S1x1024 : Shape := ⟨2, ![1, 1024]⟩
abbrev S6x1024 : Shape := ⟨2, ![6, 1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S2560x1024 : Shape := ⟨2, ![2560, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S1024x2560, .f32⟩
  | .hbm, ⟨4, _⟩ => ⟨S4096x2560, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2560, .f32⟩
  | .hbm, ⟨35, _⟩ => ⟨S2560x1024, .f32⟩
  | .hbm, ⟨36, _⟩ => ⟨S1024x2560, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S5x1024, .f32⟩
  | .hbm, ⟨73, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== MixOutBwd.lean ====
abbrev S4096x1024 : Shape := ⟨2, ![4096, 1024]⟩
abbrev S1024x1024 : Shape := ⟨2, ![1024, 1024]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S6x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S1024x1024, .bf16⟩
  | .hbm, ⟨17, _⟩ => ⟨S_, .f32⟩
  | .hbm, ⟨18, _⟩ => ⟨S8x1024, .f32⟩
  | .hbm, ⟨19, _⟩ => ⟨S_, .i32⟩
  | .hbm, ⟨20, _⟩ => ⟨S1, .i32⟩
  | .hbm, ⟨21, _⟩ => ⟨S8x1024, .f32⟩
  | .hbm, ⟨22, _⟩ => ⟨S4096x1024, .bf16⟩
  | .hbm, ⟨23, _⟩ => ⟨S4096x1024, .bf16⟩
  | .hbm, ⟨24, _⟩ => ⟨S1024x1024, .f32⟩
  | .hbm, ⟨25, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S8x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixOutBwdRefIdeal.lean ====
abbrev S4096x1024 : Shape := ⟨2, ![4096, 1024]⟩
abbrev S1024x1024 : Shape := ⟨2, ![1024, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S6x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S1024x1024, .f32⟩
  | .hbm, ⟨82, _⟩ => ⟨S1024x1024, .f32⟩
  | .hbm, ⟨83, _⟩ => ⟨S4096x1024, .f32⟩
  | .hbm, ⟨84, _⟩ => ⟨S4096x1024, .bf16⟩
  | .hbm, ⟨85, _⟩ => ⟨S4096x1024, .bf16⟩
  | .hbm, ⟨86, _⟩ => ⟨S_, .f32⟩
  | .hbm, ⟨87, _⟩ => ⟨S4x1024, .f32⟩
  | .hbm, ⟨88, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== MlpLoss.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S4096x4096 : Shape := ⟨2, ![4096, 4096]⟩
abbrev S1024x1024 : Shape := ⟨2, ![1024, 1024]⟩
abbrev S2 : Shape := ⟨1, ![2]⟩
abbrev S1024 : Shape := ⟨1, ![1024]⟩
abbrev S1024x1 : Shape := ⟨2, ![1024, 1]⟩

abbrev nBuf : Space → Nat
  | .hbm => 20
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S6x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S_, .f32⟩
  | .hbm, ⟨12, _⟩ => ⟨S8x1024, .f32⟩
  | .hbm, ⟨13, _⟩ => ⟨S_, .i32⟩
  | .hbm, ⟨14, _⟩ => ⟨S1, .i32⟩
  | .hbm, ⟨15, _⟩ => ⟨S8x1024, .f32⟩
  | .hbm, ⟨16, _⟩ => ⟨S4096x4096, .bf16⟩
  | .hbm, ⟨17, _⟩ => ⟨S4096x1024, .bf16⟩
  | .hbm, ⟨18, _⟩ => ⟨S4096x1024, .bf16⟩
  | .hbm, ⟨19, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg0 : BitVec 32 := BitVec.ofNat 32 (i 0).val
  let c1024_i32 : BitVec 32 := 1024#32
  let v30 : BitVec 32 := Scalar.muli arg0 c1024_i32
  v30
def k0_off1 (i : grid0.Coords) : Fin 2 → Nat :=
  let arg0 : BitVec 32 := BitVec.ofNat 32 (i 0).val
  let c1024_i32 : BitVec 32 := 1024#32
  let v30 : BitVec 32 := Scalar.muli arg0 c1024_i32
  let v31 : BitVec 32 := v30
  let c0_i32_19 : BitVec 32 := 0#32
  ![v31.toNat, 0]
def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_17 : BitVec 32 := 0#32
  let v29 : BitVec 1 := Scalar.cmpi .ne v28 c0_i32_17
  v29

def k0_mult2 (i : grid0.Coords) : BitVec 32 :=
  let arg0 : BitVec 32 := BitVec.ofNat 32 (i 0).val
  let c1024_i32 : BitVec 32 := 1024#32
  let v30 : BitVec 32 := Scalar.muli arg0 c1024_i32
  v30
def k0_off2 (i : grid0.Coords) : Fin 2 → Nat :=
  let arg0 : BitVec 32 := BitVec.ofNat 32 (i 0).val
  let c1024_i32 : BitVec 32 := 1024#32
  let v30 : BitVec 32 := Scalar.muli arg0 c1024_i32
  let v31 : BitVec 32 := v30
  let c0_i32_19 : BitVec 32 := 0#32
  ![v31.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== MlpLossRefIdeal.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S6x1024, .f32⟩
  | .hbm, ⟨6, _⟩ => ⟨S1x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S_, .f32⟩
  | .hbm, ⟨92, _⟩ => ⟨S5x1024, .f32⟩
  | .hbm, ⟨93, _⟩ => ⟨S8x1024, .f32⟩
  | .hbm, ⟨94, _⟩ => ⟨S4096x4096, .bf16⟩
  | .hbm, ⟨95, _⟩ => ⟨S4096x1024, .bf16⟩
  | .hbm, ⟨96, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== MixOutFwd.lean ====
abbrev S4096x1024 : Shape := ⟨2, ![4096, 1024]⟩
abbrev S1024x1024 : Shape := ⟨2, ![1024, 1024]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S1 : Shape := ⟨1, ![1]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S6x1024, .f32⟩
  | .hbm, ⟨5, _⟩ => ⟨S4096x1024, .bf16⟩
  | .hbm, ⟨6, _⟩ => ⟨S1024x1024, .bf16⟩
  | .hbm, ⟨7, _⟩ => ⟨S_, .f32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S8x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutFwdRefIdeal.lean ====
abbrev S4096x1024 : Shape := ⟨2, ![4096, 1024]⟩
abbrev S1024x1024 : Shape := ⟨2, ![1024, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== AdamUp.lean ====
abbrev S512x1024 : Shape := ⟨2, ![512, 1024]⟩
abbrev S3x512x1024 : Shape := ⟨3, ![3, 512, 1024]⟩
abbrev S1024x512 : Shape := ⟨2, ![1024, 512]⟩
abbrev S512x256 : Shape := ⟨2, ![512, 256]⟩
abbrev S3x512x256 : Shape := ⟨3, ![3, 512, 256]⟩
abbrev S256x512 : Shape := ⟨2, ![256, 512]⟩
abbrev S1x512x256 : Shape := ⟨3, ![1, 512, 256]⟩

abbrev nBuf : Space → Nat
  | .hbm => 10
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S3x512x1024, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S3x512x1024, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .local _ .vmem, ⟨0, _⟩ => ⟨S512x256, .f32⟩
  | .local _ .vmem, ⟨1, _⟩ => ⟨S512x256, .f32⟩
  | .local _ .vmem, ⟨2, _⟩ => ⟨S3x512x256, .bf16⟩
  | .local _ .vmem, ⟨3, _⟩ => ⟨S3x512x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S512x1024 : Shape := ⟨2, ![512, 1024]⟩
abbrev S3x512x1024 : Shape := ⟨3, ![3, 512, 1024]⟩
abbrev S1024x512 : Shape := ⟨2, ![1024, 512]⟩
abbrev S3x1024x512 : Shape := ⟨3, ![3, 1024, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S3x1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamDown.lean ====
abbrev S512x1024 : Shape := ⟨2, ![512, 1024]⟩
abbrev S3x512x1024 : Shape := ⟨3, ![3, 512, 1024]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 10
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S3x512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S3x512x1024, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S512x1024 : Shape := ⟨2, ![512, 1024]⟩
abbrev S3x512x1024 : Shape := ⟨3, ![3, 512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamOut.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 10
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamIn.lean ====
abbrev S320x1024 : Shape := ⟨2, ![320, 1024]⟩
abbrev S3x320x1024 : Shape := ⟨3, ![3, 320, 1024]⟩
abbrev S1024x320 : Shape := ⟨2, ![1024, 320]⟩
abbrev S1x320x1024 : Shape := ⟨3, ![1, 320, 1024]⟩

abbrev nBuf : Space → Nat
  | .hbm => 13
  | .vmem => 9
  | .smem => 0
  | _ => 0

abbrev bufTy : (tb : Table) → Fin (tcTables nBuf tb) → BufTy
  | .hbm, ⟨0, _⟩ => ⟨S320x1024, .f32⟩
  | .hbm, ⟨1, _⟩ => ⟨S3x320x1024, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S3x320x1024, .bf16⟩
  | .hbm, ⟨6, _⟩ => ⟨S320x1024, .f32⟩
  | .hbm, ⟨7, _⟩ => ⟨S320x1024, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S320x1024, .f32⟩
  | .hbm, ⟨12, _⟩ => ⟨S320x1024, .f32⟩
  | .local _ .vmem, ⟨0, _⟩ => ⟨S320x1024, .f32⟩
  | .local _ .vmem, ⟨1, _⟩ => ⟨S3x320x1024, .bf16⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x320x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S320x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S320x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamInRefIdeal.lean ====
abbrev S320x1024 : Shape := ⟨2, ![320, 1024]⟩
abbrev S3x320x1024 : Shape := ⟨3, ![3, 320, 1024]⟩
abbrev S1024x320 : Shape := ⟨2, ![1024, 320]⟩
abbrev S3x1024x320 : Shape := ⟨3, ![3, 1024, 320]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S3x320x1024, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S3x1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S_, .f32⟩
  | .hbm, ⟨11, _⟩ => ⟨S1024x320, .f32⟩
  | .hbm, ⟨12, _⟩ => ⟨S1024x320, .f32⟩
  | .hbm, ⟨13, _⟩ => ⟨S_, .f32⟩
  | .hbm, ⟨14, _⟩ => ⟨S1024x320, .f32⟩
  | .hbm, ⟨15, _⟩ => ⟨S1024x320, .f32⟩
  | .hbm, ⟨16, _⟩ => ⟨S1024x320, .f32⟩
  | .hbm, ⟨17, _⟩ => ⟨S_, .f32⟩
  | .hbm, ⟨18, _⟩ => ⟨S1024x320, .f32⟩
  | .hbm, ⟨19, _⟩ => ⟨S1024x320, .f32⟩
  | .hbm, ⟨20, _⟩ => ⟨S1024x320, .f32⟩
  | .hbm, ⟨21, _⟩ => ⟨S_, .f32⟩
  | .hbm, ⟨22, _⟩ => ⟨S1024x320, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S_, .f32⟩
  | .hbm, ⟨29, _⟩ => ⟨S1024x320, .f32⟩
  | .hbm, ⟨30, _⟩ => ⟨S1024x320, .f32⟩
  | .hbm, ⟨31, _⟩ => ⟨S1024x320, .f32⟩
  | .hbm, ⟨32, _⟩ => ⟨S_, .f32⟩
  | .hbm, ⟨33, _⟩ => ⟨S1024x320, .f32⟩
  | .hbm, ⟨34, _⟩ => ⟨S1024x320, .f32⟩
  | .hbm, ⟨35, _⟩ => ⟨S1024x320, .f32⟩
  | .hbm, ⟨36, _⟩ => ⟨S_, .f32⟩
  | .hbm, ⟨37, _⟩ => ⟨S1024x320, .f32⟩
  | .hbm, ⟨38, _⟩ => ⟨S1024x320, .f32⟩
  | .hbm, ⟨39, _⟩ => ⟨S1024x320, .f32⟩
  | .hbm, ⟨40, _⟩ => ⟨S_, .f32⟩
  | .hbm, ⟨41, _⟩ => ⟨S1024x320, .f32⟩
  | .hbm, ⟨42, _⟩ => ⟨S1024x320, .f32⟩
  | .hbm, ⟨43, _⟩ => ⟨S320x1024, .f32⟩
  | .hbm, ⟨44, _⟩ => ⟨S320x1024, .f32⟩
  | .hbm, ⟨45, _⟩ => ⟨S320x1024, .f32⟩
  | .hbm, ⟨46, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== AdaAdam.lean ====
abbrev S8x1024 : Shape := ⟨2, ![8, 1024]⟩
abbrev S8x768 : Shape := ⟨2, ![8, 768]⟩
abbrev S1024x768 : Shape := ⟨2, ![1024, 768]⟩
abbrev S1x768 : Shape := ⟨2, ![1, 768]⟩
abbrev S_ : Shape := ⟨0, ![]⟩
abbrev S8x256 : Shape := ⟨2, ![8, 256]⟩
abbrev S256x768 : Shape := ⟨2, ![256, 768]⟩
abbrev S16x256 : Shape := ⟨2, ![16, 256]⟩
abbrev S16x768 : Shape := ⟨2, ![16, 768]⟩

abbrev nBuf : Space → Nat
  | .hbm => 19
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1x768, .f32⟩
  | .hbm, ⟨4, _⟩ => ⟨S1024x768, .f32⟩
  | .hbm, ⟨5, _⟩ => ⟨S1024x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaAdamRefIdeal.lean ====
abbrev S8x1024 : Shape := ⟨2, ![8, 1024]⟩
abbrev S8x768 : Shape := ⟨2, ![8, 768]⟩
abbrev S1024x768 : Shape := ⟨2, ![1024, 768]⟩
abbrev S1x768 : Shape := ⟨2, ![1, 768]⟩
abbrev S_ : Shape := ⟨0, ![]⟩
abbrev S768x1024 : Shape := ⟨2, ![768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1x768, .f32⟩
  | .hbm, ⟨4, _⟩ => ⟨S1024x768, .f32⟩
  | .hbm, ⟨5, _⟩ => ⟨S1024x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x768, .f32⟩
  | .hbm, ⟨16, _⟩ => ⟨S8x768, .f32⟩
  | .hbm, ⟨17, _⟩ => ⟨S8x768, .f32⟩
  | .hbm, ⟨18, _⟩ => ⟨S768x1024, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S_, .f32⟩
  | .hbm, ⟨43, _⟩ => ⟨S1024x768, .f32⟩
  | .hbm, ⟨44, _⟩ => ⟨S1024x768, .f32⟩
  | .hbm, ⟨45, _⟩ => ⟨S1024x768, .f32⟩
  | .hbm, ⟨46, _⟩ => ⟨S_, .f32⟩
  | .hbm, ⟨47, _⟩ => ⟨S1024x768, .f32⟩
  | .hbm, ⟨48, _⟩ => ⟨S1024x768, .f32⟩
  | .hbm, ⟨49, _⟩ => ⟨S1024x768, .f32⟩
  | .hbm, ⟨50, _⟩ => ⟨S_, .f32⟩
  | .hbm, ⟨51, _⟩ => ⟨S1024x768, .f32⟩
  | .hbm, ⟨52, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== SumSmall.lean ====
abbrev S8x80x1024 : Shape := ⟨3, ![8, 80, 1024]⟩
abbrev S80x1024 : Shape := ⟨2, ![80, 1024]⟩
abbrev S1x80x1024 : Shape := ⟨3, ![1, 80, 1024]⟩
abbrev S1x1024 : Shape := ⟨2, ![1, 1024]⟩
abbrev S1024 : Shape := ⟨1, ![1024]⟩
abbrev S_ : Shape := ⟨0, ![]⟩

abbrev nBuf : Space → Nat
  | .hbm => 8
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .hbm, ⟨2, _⟩ => ⟨S1x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x80x1024 : Shape := ⟨3, ![8, 80, 1024]⟩
abbrev S_ : Shape := ⟨0, ![]⟩
abbrev S80x1024 : Shape := ⟨2, ![80, 1024]⟩
abbrev S1x1024 : Shape := ⟨2, ![1, 1024]⟩
abbrev S1024 : Shape := ⟨1, ![1024]⟩

abbrev nBuf : Space → Nat
  | .hbm => 11
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | .hbm, ⟨3, _⟩ => ⟨S1x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== AdaFwd.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S8x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AdaFwdRefIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== PairOut.lean ====
abbrev S2 : Shape := ⟨1, ![2]⟩
abbrev S4x2x128x1024 : Shape := ⟨4, ![4, 2, 128, 1024]⟩
abbrev S4x128x1024 : Shape := ⟨3, ![4, 128, 1024]⟩
abbrev S128x1024 : Shape := ⟨2, ![128, 1024]⟩
abbrev S1x1x128x1024 : Shape := ⟨4, ![1, 1, 128, 1024]⟩
abbrev S1 : Shape := ⟨1, ![1]⟩
abbrev S1x128x1024 : Shape := ⟨3, ![1, 128, 1024]⟩

abbrev nBuf : Space → Nat
  | .hbm => 4
  | .vmem => 7
  | .smem => 1
  | _ => 0

abbrev bufTy : (tb : Table) → Fin (tcTables nBuf tb) → BufTy
  | .hbm, ⟨0, _⟩ => ⟨S4x2x128x1024, .f32⟩
  | .hbm, ⟨1, _⟩ => ⟨S4x128x1024, .f32⟩
  | .hbm, ⟨2, _⟩ => ⟨S4x128x1024, .bf16⟩
  | .hbm, ⟨3, _⟩ => ⟨S128x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .vmem, ⟨6, _⟩ => ⟨S128x1024, .f32⟩
  | .local _ .smem, ⟨0, _⟩ => ⟨S2, .i32⟩
  | _, _ => ⟨S4x2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v9 : BitVec 32) : BitVec 1 :=
  let arg1 : BitVec 32 := BitVec.ofNat 32 (i 1).val
  let v10 : BitVec 1 := Scalar.cmpi .eq arg1 v9
  let v11 : BitVec 32 := Scalar.extui v10
  let c0_i32 : BitVec 32 := 0#32
  let v12 : BitVec 1 := Scalar.cmpi .ne v11 c0_i32
  v12

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![arg1.toNat, v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== PairOutRefIdeal.lean ====
abbrev S2 : Shape := ⟨1, ![2]⟩
abbrev S4x2x128x1024 : Shape := ⟨4, ![4, 2, 128, 1024]⟩
abbrev S4x128x1024 : Shape := ⟨3, ![4, 128, 1024]⟩
abbrev S1 : Shape := ⟨1, ![1]⟩
abbrev S_ : Shape := ⟨0, ![]⟩
abbrev S4x1x128x1024 : Shape := ⟨4, ![4, 1, 128, 1024]⟩
abbrev S1x128x1024 : Shape := ⟨3, ![1, 128, 1024]⟩
abbrev S128x1024 : Shape := ⟨2, ![128, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x128x1024, .f32⟩
  | .hbm, ⟨2, _⟩ => ⟨S4x128x1024, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x1x128x1024, .f32⟩
  | .hbm, ⟨10, _⟩ => ⟨S4x128x1024, .f32⟩
  | .hbm, ⟨11, _⟩ => ⟨S4x1x128x1024, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S4x128x1024, .bf16⟩
  | .hbm, ⟨16, _⟩ => ⟨S_, .i32⟩
  | .hbm, ⟨17, _⟩ => ⟨S_, .i1⟩
  | .hbm, ⟨18, _⟩ => ⟨S1x128x1024, .f32⟩
  | .hbm, ⟨19, _⟩ => ⟨S128x1024, .f32⟩
  | .hbm, ⟨20, _⟩ => ⟨S_, .i32⟩
  | .hbm, ⟨21, _⟩ => ⟨S_, .i1⟩
  | .hbm, ⟨22, _⟩ => ⟨S1x128x1024, .f32⟩
  | .hbm, ⟨23, _⟩ => ⟨S128x1024, .f32⟩
  | .hbm, ⟨24, _⟩ => ⟨S_, .i32⟩
  | .hbm, ⟨25, _⟩ => ⟨S_, .i1⟩
  | .hbm, ⟨26, _⟩ => ⟨S1x128x1024, .f32⟩
  | .hbm, ⟨27, _⟩ => ⟨S128x1024, .f32⟩
  | .hbm, ⟨28, _⟩ => ⟨S1x128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.MlpDwValue.lean ====
/- The weight gradients of the squared-relu feed-forward block: the tiled, accumulated products are the plain ones. -/
module

public import proofs.«01_k».proof.Proof.Gen.MlpDwIdeal.Value
public import proofs.«01_k».proof.Proof.Gen.MlpDwRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpDwIdeal.Hand
open Cert.MlpDwIdeal Cert.MlpDwIdeal.Gen Idealize.ShloMosaic.StableHlo
variable (m : (ℓ : Loc nD τ sig) → Buf (Elt Ideal) ℓ)

/-- The pre-activation `hn · w_up`, at an index. -/
abbrev pre (H : FVec Ideal S4096x1024 .f32) (U : FVec Ideal S1024x4096 .f32) (a b : Fin 4096) : EReal :=
  ∑ k : Fin 1024, H (ix2 a k) * U (ix2 k b)

/-- The gradient `dy · w_downᵀ` of the squared activation, at an index. -/
abbrev back (D W : FVec Ideal S4096x1024 .f32) (a b : Fin 4096) : EReal :=
  ∑ k : Fin 1024, D (ix2 a k) * W (ix2 b k)

/-- The reference's gradient of the down projection. -/
abbrev REFD (H : FVec Ideal S4096x1024 .f32) (U : FVec Ideal S1024x4096 .f32) (D : FVec Ideal S4096x1024 .f32) : FVec Ideal S4096x1024 .f32 :=
  transpose S4096x1024 [1, 0] (Host.dotGeneral Cert.MlpDwRefIdeal.dot_S4096x1024_S4096x4096_S1024x4096_0_0_1_1_n_n none D (mulf (maximumf (Host.dotGeneral Cert.MlpDwRefIdeal.dot_S4096x1024_S1024x4096_S4096x4096_1_0_0_1_n_n none H U) (broadcastInDim S4096x4096 ![] Cert.MlpDwRefIdeal.Gen.bcast_S_S4096x4096 (constant S_ .f32 0x00000000#32))) (maximumf (Host.dotGeneral Cert.MlpDwRefIdeal.dot_S4096x1024_S1024x4096_S4096x4096_1_0_0_1_n_n none H U) (broadcastInDim S4096x4096 ![] Cert.MlpDwRefIdeal.Gen.bcast_S_S4096x4096 (constant S_ .f32 0x00000000#32))))) Cert.MlpDwRefIdeal.Gen.transposes_S1024x4096_S4096x1024_1_0

/-- The reference's gradient of the pre-activation. -/
abbrev DPRE (H : FVec Ideal S4096x1024 .f32) (U : FVec Ideal S1024x4096 .f32) (W D : FVec Ideal S4096x1024 .f32) : FVec Ideal S4096x4096 .f32 :=
  select (cmpf .ogt (Host.dotGeneral Cert.MlpDwRefIdeal.dot_S4096x1024_S1024x4096_S4096x4096_1_0_0_1_n_n none H U) (broadcastInDim S4096x4096 ![] Cert.MlpDwRefIdeal.Gen.bcast_S_S4096x4096 (constant S_ .f32 0x00000000#32))) (addf (mulf (maximumf (Host.dotGeneral Cert.MlpDwRefIdeal.dot_S4096x1024_S1024x4096_S4096x4096_1_0_0_1_n_n none H U) (broadcastInDim S4096x4096 ![] Cert.MlpDwRefIdeal.Gen.bcast_S_S4096x4096 (constant S_ .f32 0x00000000#32))) (Host.dotGeneral Cert.MlpDwRefIdeal.dot_S4096x1024_S4096x1024_S4096x4096_1_1_0_0_n_n none D W)) (mulf (Host.dotGeneral Cert.MlpDwRefIdeal.dot_S4096x1024_S4096x1024_S4096x4096_1_1_0_0_n_n none D W) (maximumf (Host.dotGeneral Cert.MlpDwRefIdeal.dot_S4096x1024_S1024x4096_S4096x4096_1_0_0_1_n_n none H U) (broadcastInDim S4096x4096 ![] Cert.MlpDwRefIdeal.Gen.bcast_S_S4096x4096 (constant S_ .f32 0x00000000#32))))) (broadcastInDim S4096x4096 ![] Cert.MlpDwRefIdeal.Gen.bcast_S_S4096x4096 (constant S_ .f32 0x00000000#32))

/-- The reference's gradient of the up projection, turned. -/
abbrev REFU (H : FVec Ideal S4096x1024 .f32) (U : FVec Ideal S1024x4096 .f32) (W D : FVec Ideal S4096x1024 .f32) : FVec Ideal S4096x1024 .f32 :=
  transpose S4096x1024 [1, 0] (transpose S1024x4096 [1, 0] (Host.dotGeneral Cert.MlpDwRefIdeal.dot_S4096x4096_S4096x1024_S4096x1024_0_0_1_1_n_n none (DPRE H U W D) H) Cert.MlpDwRefIdeal.Gen.transposes_S4096x1024_S1024x4096_1_0) Cert.MlpDwRefIdeal.Gen.transposes_S1024x4096_S4096x1024_1_0

/-- Each accumulator starts at zero. -/
theorem hzero1 (j) : k0_pay1 (F := Ideal) j = 0 := by pointwise [k0_pay1]
/-- Each accumulator starts at zero. -/
theorem hzero2 (j) : k0_pay2 (F := Ideal) j = 0 := by pointwise [k0_pay2]

/-- One grid step adds the squared activations' product over its rows. -/
theorem hpay3 (z : Vec Ideal S1024x1024 .bf16) (acc : Vec Ideal S1024x1024 .f32) (y : Vec Ideal S1024x1024 .bf16) (j) :
    k0_pay3 z acc y j = acc j + ∑ k : Fin 1024, (z (ix2 k (j 0)) * z (ix2 k (j 0))) * y (ix2 k (j 1)) := by
  pointwise [k0_pay3]

/-- One grid step adds the product over its rows. -/
theorem hpay4 (acc : Vec Ideal S1024x1024 .f32) (z h : Vec Ideal S1024x1024 .bf16) (j) :
    k0_pay4 acc z h j = acc j + ∑ k : Fin 1024, z (ix2 k (j 0)) * h (ix2 k (j 1)) := by
  pointwise [k0_pay4]

/-- Twice the activation times the incoming gradient is the derivative of the square of the relu. -/
theorem relu_sq (p d : EReal) : (2 * max p 0) * d = if p > 0 then max p 0 * d + d * max p 0 else 0 := by
  split
  · rw [mul_assoc, show (2 : EReal) = ((2 : ℝ) : EReal) from rfl]
    rw [mul_comm d]
    have h : ∀ x : EReal, ((2 : ℝ) : EReal) * x = x + x := fun x => by
      induction x with
      | bot => simp [EReal.coe_mul_bot_of_pos]
      | top => simp [EReal.coe_mul_top_of_pos]
      | coe r => rw [← EReal.coe_mul, ← EReal.coe_add]; congr 1; ring
    exact h _
  · next h => simp [max_eq_right (not_lt.mp h)]

/-- The reference's gradient of the down projection, at an index. -/
theorem hrefd (H : FVec Ideal S4096x1024 .f32) (U : FVec Ideal S1024x4096 .f32) (D : FVec Ideal S4096x1024 .f32) (j : S4096x1024.Idx) :
    REFD H U D j = ∑ l : Fin 4096, (max (pre H U l (j 0)) 0 * max (pre H U l (j 0)) 0) * D (ix2 l (j 1)) := by
  pointwise [REFD]
  exact Finset.sum_congr rfl fun l _ => mul_comm _ _

/-- The reference's gradient of the pre-activation, at an index. -/
theorem hdpre (H : FVec Ideal S4096x1024 .f32) (U : FVec Ideal S1024x4096 .f32) (W D : FVec Ideal S4096x1024 .f32) (j : S4096x4096.Idx) :
    DPRE H U W D j = (2 * max (pre H U (j 0) (j 1)) 0) * back D W (j 0) (j 1) := by
  rw [relu_sq]
  pointwise [DPRE]

/-- The reference's gradient of the up projection, at an index. -/
theorem hrefu (H : FVec Ideal S4096x1024 .f32) (U : FVec Ideal S1024x4096 .f32) (W D : FVec Ideal S4096x1024 .f32) (j : S4096x1024.Idx) :
    REFU H U W D j = ∑ l : Fin 4096, ((2 * max (pre H U l (j 0)) 0) * back D W l (j 0)) * H (ix2 l (j 1)) := by
  unfold REFU
  generalize hG : DPRE H U W D = G
  pointwise
  subst hG
  exact Finset.sum_congr rfl fun l _ => by rw [hdpre]; rfl

/-- The constant two. -/
theorem two_f32 : Ideal.ofBits .f32 0x40000000#32 = 2 := by
  rw [show (2 : EReal) = ((2 : ℝ) : EReal) from rfl]
  simp [Ideal.ofBits, Ideal.ieee, -EReal.coe_mul]; norm_num

/-- The activations that the host computes for the call. -/
abbrev ZK (H : FVec Ideal S4096x1024 .f32) (U : FVec Ideal S1024x4096 .f32) : FVec Ideal S4096x4096 .f32 :=
  maximumf (Host.dotGeneral dot_S4096x1024_S1024x4096_S4096x4096_1_0_0_1_n_n none H U) (broadcastInDim S4096x4096 ![] bcast_S_S4096x4096 (constant S_ .f32 0x00000000#32))

/-- The gradients of the pre-activations that the host computes for the call. -/
abbrev DZK (H : FVec Ideal S4096x1024 .f32) (U : FVec Ideal S1024x4096 .f32) (W D : FVec Ideal S4096x1024 .f32) : FVec Ideal S4096x4096 .f32 :=
  mulf (mulf (broadcastInDim S4096x4096 ![] bcast_S_S4096x4096 (constant S_ .f32 0x40000000#32)) (ZK H U))
    (Host.dotGeneral dot_S4096x1024_S1024x4096_S4096x4096_1_0_0_1_n_n none D (transpose S1024x4096 [1, 0] W transposes_S4096x1024_S1024x4096_1_0))

/-- The activations that the call reads, at an index. -/
theorem entry_z (c : Dev nD) (i) : V m c main_v7 i = max (pre (m ((c : Thread nD τ).loc main_arg0)) (m ((c : Thread nD τ).loc main_arg1)) (i 0) (i 1)) 0 := by
  have e : V m c main_v7 = truncf .bf16 (ZK (m ((c : Thread nD τ).loc main_arg0)) (m ((c : Thread nD τ).loc main_arg1))) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise [ZK]

/-- The gradients of the pre-activations that the call reads, at an index. -/
theorem entry_dz (c : Dev nD) (i) : V m c main_v8 i = (2 * max (pre (m ((c : Thread nD τ).loc main_arg0)) (m ((c : Thread nD τ).loc main_arg1)) (i 0) (i 1)) 0) * back (m ((c : Thread nD τ).loc main_arg3)) (m ((c : Thread nD τ).loc main_arg2)) (i 0) (i 1) := by
  have e : V m c main_v8 = truncf .bf16 (DZK (m ((c : Thread nD τ).loc main_arg0)) (m ((c : Thread nD τ).loc main_arg1)) (m ((c : Thread nD τ).loc main_arg2)) (m ((c : Thread nD τ).loc main_arg3))) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise [ZK, DZK]
  rw [two_f32]

/-- The incoming gradient that the call reads. -/
theorem entry_dy (c : Dev nD) (i) : V m c main_v9 i = m ((c : Thread nD τ).loc main_arg3) i := by
  have e : V m c main_v9 = truncf .bf16 (show FVec Ideal S4096x1024 .f32 from m ((c : Thread nD τ).loc main_arg3)) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise

/-- The normalised input that the call reads. -/
theorem entry_hn (c : Dev nD) (i) : V m c main_v10 i = m ((c : Thread nD τ).loc main_arg0) i := by
  have e : V m c main_v10 = truncf .bf16 (show FVec Ideal S4096x1024 .f32 from m ((c : Thread nD τ).loc main_arg0)) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise

/-- Which blocks a grid point reads and writes. -/
theorem idx : ∀ t : Fin cfg0.N, win0_0.index t = ![t.val % 4, t.val / 4] ∧ win0_1.index t = ![t.val % 4, t.val / 4]
    ∧ win0_2.index t = ![t.val % 4, 0] ∧ win0_3.index t = ![t.val % 4, 0]
    ∧ win0_4.index t = ![t.val / 4, 0] ∧ win0_5.index t = ![t.val / 4, 0] ∧ t.val < 16 :=
  (by decide +kernel : ∀ t : Fin grid0.N, _)

/-- The block of activations that a grid point reads. -/
theorem iblk_z (c : Dev nD) (t : Fin cfg0.N) (a b : Fin 1024) (A B : Fin 4096) (hA : A.val = t.val % 4 * 1024 + a.val) (hB : B.val = t.val / 4 * 1024 + b.val) :
    iblk m c 0 t (ix2 a b) = max (pre (m ((c : Thread nD τ).loc main_arg0)) (m ((c : Thread nD τ).loc main_arg1)) A B) 0 := by
  have hi := idx t
  refine (entry_z m c _).trans ?_
  rw [show (((cfg0.win 0).blk t).view.emb (ix2 a b)) 0 = A from Fin.ext (by blk_simp [hi]; omega), show (((cfg0.win 0).blk t).view.emb (ix2 a b)) 1 = B from Fin.ext (by blk_simp [hi]; omega)]

/-- The block of pre-activation gradients that a grid point reads. -/
theorem iblk_dz (c : Dev nD) (t : Fin cfg0.N) (a b : Fin 1024) (A B : Fin 4096) (hA : A.val = t.val % 4 * 1024 + a.val) (hB : B.val = t.val / 4 * 1024 + b.val) :
    iblk m c 1 t (ix2 a b) = (2 * max (pre (m ((c : Thread nD τ).loc main_arg0)) (m ((c : Thread nD τ).loc main_arg1)) A B) 0) * back (m ((c : Thread nD τ).loc main_arg3)) (m ((c : Thread nD τ).loc main_arg2)) A B := by
  have hi := idx t
  refine (entry_dz m c _).trans ?_
  rw [show (((cfg0.win 1).blk t).view.emb (ix2 a b)) 0 = A from Fin.ext (by blk_simp [hi]; omega), show (((cfg0.win 1).blk t).view.emb (ix2 a b)) 1 = B from Fin.ext (by blk_simp [hi]; omega)]

/-- The block of the incoming gradient that a grid point reads. -/
theorem iblk_dy (c : Dev nD) (t : Fin cfg0.N) (a b : Fin 1024) (A : Fin 4096) (hA : A.val = t.val % 4 * 1024 + a.val) :
    iblk m c 2 t (ix2 a b) = m ((c : Thread nD τ).loc main_arg3) (ix2 A b) := by
  have hi := idx t
  refine (entry_dy m c _).trans ?_
  blk_ext [hi]

/-- The block of the normalised input that a grid point reads. -/
theorem iblk_hn (c : Dev nD) (t : Fin cfg0.N) (a b : Fin 1024) (A : Fin 4096) (hA : A.val = t.val % 4 * 1024 + a.val) :
    iblk m c 3 t (ix2 a b) = m ((c : Thread nD τ).loc main_arg0) (ix2 A b) := by
  have hi := idx t
  refine (entry_hn m c _).trans ?_
  blk_ext [hi]

/-- The down projection's gradient after the run is the reference's. -/
theorem final_down (c : Dev nD) : (dats m 0 c).arrAt 4 (cfgs 0).N
    = REFD (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => (outsAt0 m c n h).1) 4 (fun _ => 0) _
    (fun t h j => by rw [outsAt0_A m c t h]; frame_out; rw [hpay3, hzero1]) (fun t h j => by rw [outsAt0_B m c t h]; frame_out; rw [hpay3])
    t ((flush0_4 t).mp hf) _, zero_add, hrefd]
  refine Fin.sum_mul_add_congr fun s k hl => ?_
  have hi := idx t
  have hs := Pipeline.run_point_lt_of_flush t ((flush0_4 t).mp hf) s
  have h0 : (((cfg0.win 4).blk t).view.emb y) 1 = y 1 := Fin.ext (by blk_simp [hi])
  have hz := iblk_z m c ⟨_, hs⟩ k (y 0) ⟨s.val * 1024 + k.val, hl⟩ ((((cfg0.win 4).blk t).view.emb y) 0) (by simp; omega) (by blk_simp [hi]; show _ = (4 * (t.val / 4) + s.val) / 4 * 1024 + _; omega)
  have hy := iblk_dy m c ⟨_, hs⟩ k (y 1) ⟨s.val * 1024 + k.val, hl⟩ (by simp; omega)
  rw [h0]
  exact congrArg₂ (fun a b : EReal => (a * a) * b) hz hy

/-- The up projection's gradient after the run is the reference's. -/
theorem final_up (c : Dev nD) : (dats m 0 c).arrAt 5 (cfgs 0).N
    = REFU (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0) _
    (fun t h j => by rw [outsAt0_A m c t h]; frame_out; rw [hpay4, hzero2]) (fun t h j => by rw [outsAt0_B m c t h]; frame_out; rw [hpay4])
    t ((flush0_5 t).mp hf) _, zero_add, hrefu]
  refine Fin.sum_mul_add_congr fun s k hl => ?_
  have hi := idx t
  have hs := Pipeline.run_point_lt_of_flush t ((flush0_5 t).mp hf) s
  have h0 : (((cfg0.win 5).blk t).view.emb y) 1 = y 1 := Fin.ext (by blk_simp [hi])
  have hz := iblk_dz m c ⟨_, hs⟩ k (y 0) ⟨s.val * 1024 + k.val, hl⟩ ((((cfg0.win 5).blk t).view.emb y) 0) (by simp; omega) (by blk_simp [hi]; show _ = (4 * (t.val / 4) + s.val) / 4 * 1024 + _; omega)
  have hy := iblk_hn m c ⟨_, hs⟩ k (y 1) ⟨s.val * 1024 + k.val, hl⟩ (by simp; omega)
  rw [h0]
  exact congrArg₂ (fun a b : EReal => a * b) hz hy

end Cert.MlpDwIdeal.Hand

end
-- ==== Proof.MlpDxValue.lean ====
/- The input gradient of the squared-relu feed-forward block: the gradient of the pre-activations and its product back through the up projection. -/
module

public import proofs.«01_k».proof.Proof.Gen.MlpDxIdeal.Value
public import proofs.«01_k».proof.Proof.Gen.MlpDxRefIdeal.Run
public import proofs.«01_k».proof.Proof.MlpDwValue
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpDxIdeal.Hand
open Cert.MlpDxIdeal Cert.MlpDxIdeal.Gen Idealize.ShloMosaic.StableHlo
open Cert.MlpDwIdeal.Hand (pre back relu_sq two_f32)
variable (m : (ℓ : Loc nD τ sig) → Buf (Elt Ideal) ℓ)

/-- The reference's gradient of the pre-activation. -/
abbrev DPRE (H : FVec Ideal S4096x1024 .f32) (U : FVec Ideal S1024x4096 .f32) (W D : FVec Ideal S4096x1024 .f32) : FVec Ideal S4096x4096 .f32 :=
  select (cmpf .ogt (Host.dotGeneral Cert.MlpDxRefIdeal.dot_S4096x1024_S1024x4096_S4096x4096_1_0_0_1_n_n none H U) (broadcastInDim S4096x4096 ![] Cert.MlpDxRefIdeal.Gen.bcast_S_S4096x4096 (constant S_ .f32 0x00000000#32))) (addf (mulf (maximumf (Host.dotGeneral Cert.MlpDxRefIdeal.dot_S4096x1024_S1024x4096_S4096x4096_1_0_0_1_n_n none H U) (broadcastInDim S4096x4096 ![] Cert.MlpDxRefIdeal.Gen.bcast_S_S4096x4096 (constant S_ .f32 0x00000000#32))) (Host.dotGeneral Cert.MlpDxRefIdeal.dot_S4096x1024_S4096x1024_S4096x4096_1_1_0_0_n_n none D W)) (mulf (Host.dotGeneral Cert.MlpDxRefIdeal.dot_S4096x1024_S4096x1024_S4096x4096_1_1_0_0_n_n none D W) (maximumf (Host.dotGeneral Cert.MlpDxRefIdeal.dot_S4096x1024_S1024x4096_S4096x4096_1_0_0_1_n_n none H U) (broadcastInDim S4096x4096 ![] Cert.MlpDxRefIdeal.Gen.bcast_S_S4096x4096 (constant S_ .f32 0x00000000#32))))) (broadcastInDim S4096x4096 ![] Cert.MlpDxRefIdeal.Gen.bcast_S_S4096x4096 (constant S_ .f32 0x00000000#32))

/-- The reference's first result. -/
abbrev REFZ (H : FVec Ideal S4096x1024 .f32) (U : FVec Ideal S1024x4096 .f32) (W D : FVec Ideal S4096x1024 .f32) : FVec Ideal S4096x4096 .bf16 :=
  truncf .bf16 (DPRE H U W D) Cert.MlpDxRefIdeal.Gen.bitsLt_bf16_f32

/-- The reference's second result. -/
abbrev REFH (H : FVec Ideal S4096x1024 .f32) (U : FVec Ideal S1024x4096 .f32) (W D : FVec Ideal S4096x1024 .f32) : FVec Ideal S4096x1024 .bf16 :=
  truncf .bf16 (Host.dotGeneral Cert.MlpDxRefIdeal.dot_S4096x4096_S1024x4096_S4096x1024_1_1_0_0_n_n none (DPRE H U W D) U) Cert.MlpDxRefIdeal.Gen.bitsLt_bf16_f32

/-- The accumulator starts at zero. -/
theorem hzero (j) : k0_pay1 (F := Ideal) j = 0 := by pointwise [k0_pay1]

/-- One grid step's tile of pre-activation gradients. -/
theorem hpay2 (z y w : Vec Ideal S1024x1024 .bf16) (j) :
    k0_pay2 z y w j = (2 * z j) * ∑ k : Fin 1024, y (ix2 (j 0) k) * w (ix2 (j 1) k) := by
  pointwise [k0_pay2]
  rw [two_f32]

/-- One grid step adds the product of its tile with its rows of the transposed up projection. -/
theorem hpay3 (z y w : Vec Ideal S1024x1024 .bf16) (acc : Vec Ideal S1024x1024 .f32) (u : Vec Ideal S1024x1024 .bf16) (j) :
    k0_pay3 z y w acc u j = acc j + ∑ k : Fin 1024, k0_pay2 z y w (ix2 (j 0) k) * u (ix2 k (j 1)) := by
  unfold k0_pay3
  generalize hG : k0_pay2 z y w = G
  pointwise

/-- The reference's gradient of the pre-activation, at an index. -/
theorem hdpre (H : FVec Ideal S4096x1024 .f32) (U : FVec Ideal S1024x4096 .f32) (W D : FVec Ideal S4096x1024 .f32) (j : S4096x4096.Idx) :
    DPRE H U W D j = (2 * max (pre H U (j 0) (j 1)) 0) * back D W (j 0) (j 1) := by
  rw [relu_sq]
  pointwise [DPRE]

/-- The reference's first result, at an index. -/
theorem hrefz (H : FVec Ideal S4096x1024 .f32) (U : FVec Ideal S1024x4096 .f32) (W D : FVec Ideal S4096x1024 .f32) (j : S4096x4096.Idx) :
    REFZ H U W D j = (2 * max (pre H U (j 0) (j 1)) 0) * back D W (j 0) (j 1) := hdpre H U W D j

/-- The reference's second result, at an index. -/
theorem hrefh (H : FVec Ideal S4096x1024 .f32) (U : FVec Ideal S1024x4096 .f32) (W D : FVec Ideal S4096x1024 .f32) (j : S4096x1024.Idx) :
    REFH H U W D j = ∑ l : Fin 4096, ((2 * max (pre H U (j 0) l) 0) * back D W (j 0) l) * U (ix2 (j 1) l) := by
  unfold REFH
  generalize hG : DPRE H U W D = G
  pointwise
  subst hG
  exact Finset.sum_congr rfl fun l _ => by rw [hdpre]; rfl

/-- The activations that the host computes for the call. -/
abbrev ZK (H : FVec Ideal S4096x1024 .f32) (U : FVec Ideal S1024x4096 .f32) : FVec Ideal S4096x4096 .f32 :=
  maximumf (Host.dotGeneral dot_S4096x1024_S1024x4096_S4096x4096_1_0_0_1_n_n none H U) (broadcastInDim S4096x4096 ![] bcast_S_S4096x4096 (constant S_ .f32 0x00000000#32))

/-- The activations that the call reads, at an index. -/
theorem entry_z (c : Dev nD) (i) : V m c main_v2 i = max (pre (m ((c : Thread nD τ).loc main_arg0)) (m ((c : Thread nD τ).loc main_arg1)) (i 0) (i 1)) 0 := by
  have e : V m c main_v2 = truncf .bf16 (ZK (m ((c : Thread nD τ).loc main_arg0)) (m ((c : Thread nD τ).loc main_arg1))) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise [ZK]

/-- The incoming gradient that the call reads. -/
theorem entry_dy (c : Dev nD) (i) : V m c main_v3 i = m ((c : Thread nD τ).loc main_arg3) i := by
  have e : V m c main_v3 = truncf .bf16 (show FVec Ideal S4096x1024 .f32 from m ((c : Thread nD τ).loc main_arg3)) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise

/-- The down projection that the call reads. -/
theorem entry_w (c : Dev nD) (i) : V m c main_v4 i = m ((c : Thread nD τ).loc main_arg2) i := by
  have e : V m c main_v4 = truncf .bf16 (show FVec Ideal S4096x1024 .f32 from m ((c : Thread nD τ).loc main_arg2)) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise

/-- The transposed up projection that the call reads. -/
theorem entry_u (c : Dev nD) (i) : V m c main_v6 i = (show FVec Ideal S1024x4096 .f32 from m ((c : Thread nD τ).loc main_arg1)) (ix2 (i 1) (i 0)) := by
  have e : V m c main_v6 = truncf .bf16 (transpose S4096x1024 [1, 0] (show FVec Ideal S1024x4096 .f32 from m ((c : Thread nD τ).loc main_arg1)) transposes_S1024x4096_S4096x1024_1_0) bitsLt_bf16_f32 := by
    simp only [V, hostOps0, hostOps0_1, hostOps0_2, List.flatten_cons, List.flatten_nil, List.append_nil, List.cons_append, List.nil_append,
      TRef.binary, TRef.nullary, TRef.unary, TRef.toBuf, TRef.ofBuf, cast_eq]
    after_results <;> rfl
  rw [e]
  pointwise

/-- Which blocks a grid point reads and writes. -/
theorem idx : ∀ t : Fin cfg0.N, win0_0.index t = ![t.val / 4, 0] ∧ win0_1.index t = ![t.val / 4, t.val % 4]
    ∧ win0_2.index t = ![t.val % 4, 0] ∧ win0_3.index t = ![t.val % 4, 0]
    ∧ win0_4.index t = ![t.val / 4, t.val % 4] ∧ win0_5.index t = ![t.val / 4, 0] ∧ t.val < 16 :=
  (by decide +kernel : ∀ t : Fin grid0.N, _)

/-- The block of the incoming gradient that a grid point reads. -/
theorem iblk_dy (c : Dev nD) (t : Fin cfg0.N) (a b : Fin 1024) (A : Fin 4096) (hA : A.val = t.val / 4 * 1024 + a.val) :
    iblk m c 0 t (ix2 a b) = m ((c : Thread nD τ).loc main_arg3) (ix2 A b) := by
  have hi := idx t
  refine (entry_dy m c _).trans ?_
  blk_ext [hi]

/-- The block of activations that a grid point reads. -/
theorem iblk_z (c : Dev nD) (t : Fin cfg0.N) (i : S1024x1024.Idx) (A B : Fin 4096) (hA : A.val = t.val / 4 * 1024 + (i 0).val) (hB : B.val = t.val % 4 * 1024 + (i 1).val) :
    iblk m c 1 t i = max (pre (m ((c : Thread nD τ).loc main_arg0)) (m ((c : Thread nD τ).loc main_arg1)) A B) 0 := by
  have hi := idx t
  refine (entry_z m c _).trans ?_
  rw [show (((cfg0.win 1).blk t).view.emb i) 0 = A from Fin.ext (by blk_simp [hi]; omega), show (((cfg0.win 1).blk t).view.emb i) 1 = B from Fin.ext (by blk_simp [hi]; omega)]

/-- The block of the down projection that a grid point reads. -/
theorem iblk_w (c : Dev nD) (t : Fin cfg0.N) (a b : Fin 1024) (A : Fin 4096) (hA : A.val = t.val % 4 * 1024 + a.val) :
    iblk m c 2 t (ix2 a b) = m ((c : Thread nD τ).loc main_arg2) (ix2 A b) := by
  have hi := idx t
  refine (entry_w m c _).trans ?_
  blk_ext [hi]

/-- The block of the transposed up projection that a grid point reads. -/
theorem iblk_u (c : Dev nD) (t : Fin cfg0.N) (a b : Fin 1024) (A : Fin 4096) (hA : A.val = t.val % 4 * 1024 + a.val) :
    iblk m c 3 t (ix2 a b) = m ((c : Thread nD τ).loc main_arg1) (ix2 b A) := by
  have hi := idx t
  refine (entry_u m c _).trans ?_
  blk_ext [hi]

/-- The tile of pre-activation gradients that a grid point computes is the reference's. -/
theorem tile (c : Dev nD) (t : Fin cfg0.N) (i : S1024x1024.Idx) (A B : Fin 4096) (hA : A.val = t.val / 4 * 1024 + (i 0).val) (hB : B.val = t.val % 4 * 1024 + (i 1).val) :
    k0_pay2 (iblk m c 1 t) (iblk m c 0 t) (iblk m c 2 t) i
      = (2 * max (pre (m ((c : Thread nD τ).loc main_arg0)) (m ((c : Thread nD τ).loc main_arg1)) A B) 0) * back (m ((c : Thread nD τ).loc main_arg3)) (m ((c : Thread nD τ).loc main_arg2)) A B := by
  rw [hpay2, iblk_z m c t i A B hA hB]
  congr 1
  exact Finset.sum_congr rfl fun k _ => congrArg₂ (fun a b : EReal => a * b) (iblk_dy m c t (i 0) k A hA) (iblk_w m c t (i 1) k B hB)

/-- The gradient of the pre-activations after the run is the reference's. -/
theorem final_z (c : Dev nD) : (dats m 0 c).arrAt 4 (cfgs 0).N
    = REFZ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hi := idx t
  have hv : (outsAt0 m c t.val t.isLt).1 y = k0_pay2 (iblk m c 1 t) (iblk m c 0 t) (iblk m c 2 t) y := by
    by_cases h0 : t.val % 4 = 0
    · rw [outsAt0_A m c t h0 (by omega)]; frame_out
    · by_cases h1 : t.val % 4 = 3
      · rw [outsAt0_C m c t h0 h1]; frame_out
      · rw [outsAt0_B m c t h0 h1]; frame_out
  blk_simp
  rw [after0_4, hv, hrefz]
  exact tile m c t y _ _ (by blk_simp [hi]) (by blk_simp [hi])

/-- The gradient of the normalised input after the run is the reference's. -/
theorem final_h (c : Dev nD) : (dats m 0 c).arrAt 5 (cfgs 0).N
    = REFH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h3 : t.val % 4 = 3 := (flush0_5 t).mp hf
  have hv : (outsAt0 m c t.val t.isLt).2.1 y = (outsAt0 m c t.val t.isLt).2.2 y := by
    rw [outsAt0_C m c t (by omega) h3]; frame_out; pointwise [k0_pay4]
  blk_simp
  rw [after0_5, hv, Pipeline.eq_sum_fin_of_reset_step_apply_of_flush (fun n h => (outsAt0 m c n h).2.2) 4 (fun _ => 0) _
    (fun t h j => by rw [outsAt0_A m c t h (by omega)]; frame_out; rw [hpay3, hzero])
    (fun t h j => by
      by_cases h1 : t.val % 4 = 3
      · rw [outsAt0_C m c t h h1]; frame_out; rw [hpay3, (Memref.isWhole_whole cc0_scratch0).read_unread]
      · rw [outsAt0_B m c t h h1]; frame_out; rw [hpay3, (Memref.isWhole_whole cc0_scratch0).read_unread])
    t h3 _, zero_add, hrefh]
  refine Fin.sum_mul_add_congr fun s k hl => ?_
  have hi := idx t
  have hs := Pipeline.run_point_lt_of_flush t h3 s
  have h0 : (((cfg0.win 5).blk t).view.emb y) 1 = y 1 := Fin.ext (by blk_simp [hi])
  have hz := tile m c ⟨_, hs⟩ (ix2 (y 0) k) ((((cfg0.win 5).blk t).view.emb y) 0) ⟨s.val * 1024 + k.val, hl⟩
    (by blk_simp [hi]; show _ = (4 * (t.val / 4) + s.val) / 4 * 1024 + _; omega) (by simp; omega)
  have hy := iblk_u m c ⟨_, hs⟩ k (y 1) ⟨s.val * 1024 + k.val, hl⟩ (by simp; omega)
  rw [h0]
  exact congrArg₂ (fun a b : EReal => a * b) hz hy

end Cert.MlpDxIdeal.Hand

end
-- ==== Proof.MixInDwValue.lean ====
/- The gradient of the mixer's input weight: the tiled, accumulated product is the plain one. -/
module

public import proofs.«01_k».proof.Proof.Gen.MixInDwIdeal.Value
public import proofs.«01_k».proof.Proof.Gen.MixInDwRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixInDwIdeal.Hand
open Cert.MixInDwIdeal Cert.MixInDwIdeal.Gen
variable (m : (ℓ : Loc nD τ sig) → Buf (Elt Ideal) ℓ)

/-- The reference's result as a function of the normalised input and the incoming gradient. -/
abbrev REF (X : FVec Ideal S4096x1024 .f32) (D : FVec Ideal S4096x2560 .f32) : FVec Ideal S2560x1024 .f32 :=
  transpose S2560x1024 [1, 0] (transpose Cert.MixInDwRefIdeal.S1024x2560 [1, 0] (Host.dotGeneral Cert.MixInDwRefIdeal.dot_S4096x2560_S4096x1024_S2560x1024_0_0_1_1_n_n none D X) Cert.MixInDwRefIdeal.Gen.transposes_S2560x1024_S1024x2560_1_0) Cert.MixInDwRefIdeal.Gen.transposes_S1024x2560_S2560x1024_1_0

/-- The accumulator starts at zero. -/
theorem hzero (j) : k0_pay1 (F := Ideal) j = 0 := by pointwise [k0_pay1]

/-- One grid step adds the product over its 2048 rows. -/
theorem hpay (acc : Vec Ideal S1280x1024 .f32) (x0 : Vec Ideal S2048x1280 .bf16) (x1 : Vec Ideal S2048x1024 .bf16) (j) :
    k0_pay2 acc x0 x1 j = acc j + ∑ k : Fin 2048, x0 (ix2 k (j 0)) * x1 (ix2 k (j 1)) := by
  pointwise [k0_pay2]

/-- The reference read at an index. -/
theorem href (X : FVec Ideal S4096x1024 .f32) (D : FVec Ideal S4096x2560 .f32) (j : S2560x1024.Idx) :
    REF X D j = ∑ l : Fin 4096, D (ix2 l (j 0)) * X (ix2 l (j 1)) := by
  pointwise [REF]

/-- Which blocks a grid point reads and writes. -/
theorem idx : ∀ t : Fin cfg0.N, win0_0.index t = ![t.val % 2, t.val / 2] ∧ win0_1.index t = ![t.val % 2, 0]
    ∧ win0_2.index t = ![t.val / 2, 0] ∧ t.val < 4 :=
  (by decide +kernel : ∀ t : Fin grid0.N, _)

/-- The result array after the run is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  have hi := idx ⟨_, Pipeline.run_point_lt_of_flush t ((flush0_2 t).mp hf) s⟩
  blk_point [iblk, V, idx t, hi]

end Cert.MixInDwIdeal.Hand

end
-- ==== Proof.Rms.lean ====
/- What the calls around a root-mean-square normalisation share: finite values, the constants, the padded rows of the modulation and the gradient through the normalisation. -/
module

public import Idealize.ShloMosaic.Lib.Claim
public import Idealize.ShloMosaic.Lib.Pointwise
public import Idealize.ShloMosaic.Lib.Routing.OpsOne
public import Idealize.ShloMosaic.Lib.WritesUnit
public import Idealize.ShloMosaic.Lib.Pipeline.ValueKit

@[expose] public section

set_option maxRecDepth 16384

noncomputable section

namespace Cert.Shared
open Idealize.ShloMosaic Idealize.ShloMosaic.Routing Idealize.ShloMosaic.ValueIdx

/-! ## Finite values -/

/-- A value that is neither infinity. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.sub {x y : EReal} (hx : Fin' x) (hy : Fin' y) : Fin' (x - y) := by
  obtain ⟨a, rfl⟩ := hx; obtain ⟨b, rfl⟩ := hy; exact ⟨a - b, (EReal.coe_sub a b).symm⟩

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Fin'.sum {ι : Type} (s : Finset ι) (f : ι → EReal) (h : ∀ i, Fin' (f i)) : Fin' (∑ i ∈ s, f i) := by
  choose g hg using h
  exact ⟨∑ i ∈ s, g i, by rw [coe_sum]; exact Finset.sum_congr rfl fun i _ => hg i⟩

theorem Fin'.one : Fin' 1 := ⟨1, rfl⟩

theorem Fin'.max {x y : EReal} (hx : Fin' x) (hy : Fin' y) : Fin' (max x y) := by
  rcases max_choice x y with h | h <;> rw [h] <;> assumption

/-- A finite value is one whose absolute value is below infinity. -/
theorem Fin'.of_lt {x : EReal} (h : FloatOps.cmpf (F := Ideal) (φ := .f32) .olt (FloatOps.hostAbsf (F := Ideal) (φ := .f32) x) (Ideal.ofBits .f32 0x7F800000#32) = 1#1) : Fin' x := by
  induction x using EReal.rec with
  | bot => simp [Ideal.ofBits, Ideal.ieee, FloatOps.cmpf, FloatOps.absf, Ideal.cmp] at h
  | top => simp [Ideal.ofBits, Ideal.ieee, FloatOps.cmpf, FloatOps.absf, Ideal.cmp] at h
  | coe r => exact ⟨r, rfl⟩

/-! ## The constants -/

theorem one_f32 : Ideal.ofBits .f32 0x3F800000#32 = 1 := by
  simp [Ideal.ofBits, Ideal.ieee, -EReal.coe_mul]; norm_num

theorem n_f32 : Ideal.ofBits .f32 0x44800000#32 = ((1024 : ℝ) : EReal) := by
  simp [Ideal.ofBits, Ideal.ieee, -EReal.coe_mul]; norm_num

theorem half_f32 : Ideal.ofBits .f32 0xBF000000#32 = ((-(1 / 2) : ℝ) : EReal) := by
  simp [Ideal.ofBits, Ideal.ieee, -EReal.coe_mul]; norm_num

theorem eps_f32 : ∃ e : ℝ, 0 < e ∧ Ideal.ofBits .f32 0x358637BD#32 = (e : EReal) :=
  ⟨8796093 / 8796093022208, by norm_num, by simp [Ideal.ofBits, Ideal.ieee, -EReal.coe_mul]; norm_num⟩

/-! ## The rows of the modulation, padded to eight -/

/-- Setting the first six of eight rows. -/
theorem set_rows (d : ScatterDims (shape2 8 1024) (shape1 1) (shape2 6 1024)) (huw : d.updateWindowDims = [0, 1]) (hiw : d.insertedWindowDims = [])
    (hsd : d.scatterDimsToOperandDims = [0]) (x0 : (shape2 8 1024).Idx → EReal) (idx : IVec (shape1 1) 32)
    (hidx : ∀ i, idx i = 0#32) (upd : (shape2 6 1024).Idx → EReal) (i : (shape2 8 1024).Idx) (k : (shape2 6 1024).Idx)
    (h0 : (i 0).val = (k 0).val) (h1 : (i 1).val = (k 1).val) :
    Host.scatter d (fun _ b => b) x0 idx upd i = upd k := by
  have hkept : d.sKept = [0, 1] := by
    show (shape2 8 1024).kept d.insertedWindowDims = _
    rw [hiw]; rfl
  have hget : ∀ (j : (shape2 6 1024).Idx) (L : List (Fin 2)) (n : ℕ) (h : n < L.length) (e : L = [0, 1]) (a : Fin 2) (ha : n = a.val), (j L[n]).val = (j a).val := by
    rintro j L n h rfl a rfl
    match a with
    | 0 => rfl
    | 1 => rfl
  have hwin0 : ∀ j : (shape2 6 1024).Idx, d.window j 0 = (j 0).val := fun j => by
    unfold ScatterDims.window
    rw [dif_pos (by rw [hkept]; simp)]
    have e : d.sKept.idxOf 0 = 0 := by rw [hkept]; rfl
    exact hget j _ _ _ huw 0 e
  have hwin1 : ∀ j : (shape2 6 1024).Idx, d.window j 1 = (j 1).val := fun j => by
    unfold ScatterDims.window
    rw [dif_pos (by rw [hkept]; simp)]
    have e : d.sKept.idxOf 1 = 1 := by rw [hkept]; rfl
    exact hget j _ _ _ huw 1 e
  have hstart : ∀ (j : (shape2 6 1024).Idx) (a : Fin 2), d.start j idx a = 0 := fun j a => by
    unfold ScatterDims.start
    split
    · rw [hidx]; rfl
    · rfl
  have lands : ∀ j : (shape2 6 1024).Idx, d.resultIdx? j idx = some i ↔ (j 0).val = (i 0).val ∧ (j 1).val = (i 1).val := fun j => by
    obtain ⟨a, b, rfl⟩ : ∃ (a : Fin 8) (b : Fin 1024), i = ValueIdx.ix2 a b := ⟨i 0, i 1, ValueIdx.eq_ix2 i⟩
    rw [resultIdx?_ix2, hstart, hwin0, hstart, hwin1]
    show ((0 : ℤ) + ((j 0).val : ℤ) = (a.val : ℤ) ∧ (0 : ℤ) + ((j 1).val : ℤ) = (b.val : ℤ)) ↔ (j 0).val = a.val ∧ (j 1).val = b.val
    omega
  refine scatter_set_hit d x0 idx upd _ _ (fun j hj => ?_) k ((lands k).2 ⟨h0.symm, h1.symm⟩)
  obtain ⟨g0, g1⟩ := (lands j).1 hj
  congr 1
  funext a
  match a with
  | ⟨0, _⟩ => exact Fin.ext (g0.trans h0)
  | ⟨1, _⟩ => exact Fin.ext (g1.trans h1)

/-! ## Rows of an eight-row buffer -/

/-- The value at a row just stored. -/
theorem canon_row_hit {o : ℕ} (inb : ∀ a : Fin 2, (![o, 0] : Fin 2 → ℕ) a + (![1, 1024] : Fin 2 → ℕ) a ≤ (shape2 8 1024).size a)
    (w : (shape2 1 1024).Idx → EReal) (L : List (View.Piece (Elt Ideal) (shape2 8 1024) .f32)) (r : Fin 8) (b : Fin 1024) (h : r.val = o) :
    View.canon (Val := Elt Ideal) (e := .f32) (⟨Rect.unit (s := shape2 8 1024) ![o, 0] ![1, 1024] inb, w⟩ :: L) (ValueIdx.ix2 r b) = w (ValueIdx.ix2 0 b) := by
  have e : (ValueIdx.ix2 r b : (shape2 8 1024).Idx) = (Rect.unit (s := shape2 8 1024) ![o, 0] ![1, 1024] inb).emb (ValueIdx.ix2 0 b : (shape2 1 1024).Idx) := by
    funext a
    match a with
    | 0 => exact Fin.ext (h.trans rfl)
    | 1 => exact Fin.ext (by show b.val = 0 + 1 * b.val; omega)
  rw [e]
  exact View.canon_cons_emb (Val := Elt Ideal) (e := .f32) (Rect.unit (s := shape2 8 1024) ![o, 0] ![1, 1024] inb) w L _

/-- A row that a store of another row leaves. -/
theorem canon_row_miss {o : ℕ} (inb : ∀ a : Fin 2, (![o, 0] : Fin 2 → ℕ) a + (![1, 1024] : Fin 2 → ℕ) a ≤ (shape2 8 1024).size a)
    (w : (shape2 1 1024).Idx → EReal) (L : List (View.Piece (Elt Ideal) (shape2 8 1024) .f32)) (r : Fin 8) (b : Fin 1024) (h : r.val ≠ o) :
    View.canon (Val := Elt Ideal) (e := .f32) (⟨Rect.unit (s := shape2 8 1024) ![o, 0] ![1, 1024] inb, w⟩ :: L) (ValueIdx.ix2 r b) = View.canon L (ValueIdx.ix2 r b) := by
  refine View.canon_cons_of_not_mem _ L fun hm => h ?_
  have h1 : o ≤ r.val ∧ r.val < o + 1 := (Rect.mem_set_unit (inb := inb)).mp hm (0 : Fin 2)
  omega

/-- The value at a row just stored, over earlier contents. -/
theorem read_row_hit {sig : RefSig} {κ : Kind} {sp : Space} (v : View sig κ sp (shape2 8 1024) .f32) (f : v.ty.Contents (Elt Ideal)) {o : ℕ}
    (inb : ∀ a : Fin 2, (![o, 0] : Fin 2 → ℕ) a + (![1, 1024] : Fin 2 → ℕ) a ≤ (shape2 8 1024).size a)
    (w : (shape2 1 1024).Idx → EReal) (L : List (View.Piece (Elt Ideal) (shape2 8 1024) .f32)) (r : Fin 8) (b : Fin 1024) (h : r.val = o) :
    v.read (Elt Ideal) (v.writes (Elt Ideal) f (⟨Rect.unit (s := shape2 8 1024) ![o, 0] ![1, 1024] inb, w⟩ :: L)) (ValueIdx.ix2 r b) = w (ValueIdx.ix2 0 b) :=
  View.read_writes_cons_rows_of_mem v f inb w L _ _ rfl (by simp [h]) rfl

/-- A row that a store of another row leaves, over earlier contents. -/
theorem read_row_miss {sig : RefSig} {κ : Kind} {sp : Space} (v : View sig κ sp (shape2 8 1024) .f32) (f : v.ty.Contents (Elt Ideal)) {o : ℕ}
    (inb : ∀ a : Fin 2, (![o, 0] : Fin 2 → ℕ) a + (![1, 1024] : Fin 2 → ℕ) a ≤ (shape2 8 1024).size a)
    (w : (shape2 1 1024).Idx → EReal) (L : List (View.Piece (Elt Ideal) (shape2 8 1024) .f32)) (r : Fin 8) (b : Fin 1024) (h : r.val ≠ o) :
    v.read (Elt Ideal) (v.writes (Elt Ideal) f (⟨Rect.unit (s := shape2 8 1024) ![o, 0] ![1, 1024] inb, w⟩ :: L)) (ValueIdx.ix2 r b)
      = v.read (Elt Ideal) (v.writes (Elt Ideal) f L) (ValueIdx.ix2 r b) :=
  View.read_writes_cons_rows_of_not_mem v f inb w L _ rfl rfl (by show r.val < o ∨ o + 1 ≤ r.val; omega)

/-- A loaded row. -/
theorem ld_row (X : (shape2 8 1024).Idx → EReal) {o : ℕ} (inb : ∀ a : Fin 2, (![o, 0] : Fin 2 → ℕ) a + (![1, 1024] : Fin 2 → ℕ) a ≤ (shape2 8 1024).size a)
    (r : Fin 8) (b : Fin 1024) (h : r.val = o) :
    View.ld (Val := Elt Ideal) (e' := .f32) X (Rect.unit (s := shape2 8 1024) ![o, 0] ![1, 1024] inb) (ValueIdx.ix2 (0 : Fin 1) b) = X (ValueIdx.ix2 r b) := by
  refine congrArg X ?_
  funext a
  match a with
  | 0 => exact Fin.ext h.symm
  | 1 => exact Fin.ext (by show 0 + 1 * b.val = b.val; omega)

/-! ## The normalisation and its gradient -/

/-- The mean square of a row, with the small constant. -/
abbrev msq (x : Fin 1024 → EReal) : EReal :=
  Ideal.div (∑ k : Fin 1024, x k * x k) (Ideal.ofBits .f32 0x44800000#32) + Ideal.ofBits .f32 0x358637BD#32

/-- The reciprocal root of the mean square. -/
abbrev rms (x : Fin 1024 → EReal) : EReal := Ideal.rsqrt (msq x)

/-- Over finite rows the mean square is a positive real. -/
theorem msq_real (f : Fin 1024 → ℝ) : ∃ v : ℝ, 0 < v ∧ msq (fun k => (f k : EReal)) = (v : EReal) := by
  obtain ⟨e, he, hE⟩ := eps_f32
  refine ⟨(∑ k, f k * f k) / 1024 + e, by have : 0 ≤ ∑ k, f k * f k := Finset.sum_nonneg fun k _ => mul_self_nonneg _; positivity, ?_⟩
  rw [msq, hE, n_f32, Ideal.div_coe (by norm_num)]
  simp only [← EReal.coe_mul, ← EReal.coe_add, ← coe_sum]
  rw [mul_one_div]

theorem rms_fin (x : Fin 1024 → EReal) (hx : ∀ k, Fin' (x k)) : Fin' (rms x) := by
  choose f hf using hx
  obtain rfl : x = fun k => (f k : EReal) := funext hf
  obtain ⟨v, hv, h⟩ := msq_real f
  rw [rms, h, Ideal.rsqrt_coe, if_neg (not_lt.2 hv.le), if_neg hv.ne']
  exact ⟨_, rfl⟩

/-- The gradient through the normalisation, as written with the normalised row, is the sum of the three terms that differentiating the product, the root and the square gives. -/
theorem rms_back (x ct : Fin 1024 → EReal) (hx : ∀ k, Fin' (x k)) (hct : ∀ k, Fin' (ct k)) (d : EReal) (j : Fin 1024) :
    d + rms x * (ct j - (x j * rms x) * Ideal.div (∑ k : Fin 1024, ct k * (x k * rms x)) (Ideal.ofBits .f32 0x44800000#32))
      = ((d + ct j * rms x) + x j * Ideal.div ((∑ k : Fin 1024, x k * ct k) * (Ideal.ofBits .f32 0xBF000000#32 * Ideal.div (rms x) (msq x))) (Ideal.ofBits .f32 0x44800000#32))
          + Ideal.div ((∑ k : Fin 1024, x k * ct k) * (Ideal.ofBits .f32 0xBF000000#32 * Ideal.div (rms x) (msq x))) (Ideal.ofBits .f32 0x44800000#32) * x j := by
  choose f hf using hx
  choose g hg using hct
  obtain rfl : x = fun k => (f k : EReal) := funext hf
  obtain rfl : ct = fun k => (g k : EReal) := funext hg
  obtain ⟨v, hv, h⟩ := msq_real f
  have hr : rms (fun k => (f k : EReal)) = (((Real.sqrt v)⁻¹ : ℝ) : EReal) := by
    rw [rms, h, Ideal.rsqrt_coe, if_neg (not_lt.2 hv.le), if_neg hv.ne']
  rw [hr, h, n_f32, half_f32]
  set r : ℝ := (Real.sqrt v)⁻¹ with hrd
  have hrr : r * r = 1 / v := by
    rw [hrd, ← mul_inv, Real.mul_self_sqrt hv.le, one_div]
  rw [Ideal.div_coe (by norm_num), Ideal.div_coe (by norm_num), Ideal.div_coe hv.ne']
  rw [add_assoc, add_assoc]
  congr 1
  simp only [← EReal.coe_mul, ← EReal.coe_add, ← EReal.coe_sub, ← coe_sum]
  congr 1
  have hs : ∑ k, g k * (f k * r) = (∑ k, f k * g k) * r := by
    rw [Finset.sum_mul]; exact Finset.sum_congr rfl fun k _ => by ring
  rw [hs]
  linear_combination (-(f j) * (∑ k, f k * g k) * r * (1 / 1024)) * hrr

end Cert.Shared

end
-- ==== Proof.MixInDxValue.lean ====
/- The start of the mixer, backward: the gradient of the residual stream and of the modulation and the gain of the first normalisation. -/
module

public import proofs.«01_k».proof.Proof.Gen.MixInDxIdeal.Value
public import proofs.«01_k».proof.Proof.Gen.MixInDxRefIdeal.Run
public import proofs.«01_k».proof.Proof.Rms
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixInDxIdeal.Hand
open Cert.MixInDxIdeal Cert.MixInDxIdeal.Gen Idealize.ShloMosaic.StableHlo Cert.Shared
open Cert.MixInDxRefIdeal (S4096x1 S4096 S5x1024)
open Cert.MixInDxRefIdeal.Gen (bcast_S1x1024_S4096x1024_0_1 slices_S6x1024_S1x1024_1_0 bcast_S4096x1_S4096x1024_0_1 bcast_S4096_S4096x1_0 bcast_S_S4096x1 bcast_S_S1x1024 bcast_S4096_S4096x1024_0 bcast_S_S5x1024 reducesTo_S4096x1024_S4096_d1 reducesTo_S4096x1_S4096_d1 reducesTo_S4096x1024_S1024_d0 shapeCasts_S4096_S4096x1 concatenates_S1x1024_S1x1024_S1x1024_S5x1024_S8x1024_d0 h_S_)
variable (m : (ℓ : Loc nD τ sig) → Buf (Elt Ideal) ℓ)

/-! ## The reference, in parts -/

/-- The mean square of each row, with the small constant. -/
abbrev MSQ (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normalised rows. -/
abbrev XHAT (X : FVec Ideal S4096x1024 .f32) : FVec Ideal S4096x1024 .f32 :=
  mulf X (broadcastInDim S4096x1024 ![0, 1] bcast_S4096x1_S4096x1024_0_1 (Host.rsqrt (MSQ X)))

/-- The gradient of the modulated rows. -/
abbrev DH (P : FVec Ideal S4096x2560 .f32) (W : FVec Ideal S1024x2560 .f32) : FVec Ideal S4096x1024 .f32 :=
  Host.dotGeneral Cert.MixInDxRefIdeal.dot_S4096x2560_S1024x2560_S4096x1024_1_1_0_0_n_n none P W

/-- A row vector spread over the rows. -/
abbrev ROWS (G : FVec Ideal S1x1024 .f32) : FVec Ideal S4096x1024 .f32 :=
  broadcastInDim S4096x1024 ![0, 1] bcast_S1x1024_S4096x1024_0_1 G

/-- One plus a row vector. -/
abbrev ONEP (S : FVec Ideal S1x1024 .f32) : FVec Ideal S1x1024 .f32 :=
  addf (broadcastInDim S1x1024 ![] bcast_S_S1x1024 (constant S_ .f32 0x3F800000#32)) S

/-- The gradient that passes through the root of the mean square, one value for each row. -/
abbrev QROW (X C : FVec Ideal S4096x1024 .f32) : FVec Ideal S4096x1024 .f32 :=
  broadcastInDim S4096x1024 ![0] bcast_S4096_S4096x1024_0 (Host.reduceAdd (Host.divf (mulf (shapeCast _ (Host.reduceAdd (mulf X C) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MSQ X)) (MSQ X)))) (broadcastInDim S4096x1 ![] bcast_S_S4096x1 (constant S_ .f32 0x44800000#32))) (constant S_ .f32 0x00000000#32) reducesTo_S4096x1_S4096_d1 h_S_)

/-- The gradient of the rows: what arrives on the residual, and the three terms through the normalisation. -/
abbrev BACK (X C D : FVec Ideal S4096x1024 .f32) : FVec Ideal S4096x1024 .f32 :=
  addf (addf (addf D (mulf C (broadcastInDim S4096x1024 ![0, 1] bcast_S4096x1_S4096x1024_0_1 (Host.rsqrt (MSQ X))))) (mulf X (QROW X C))) (mulf (QROW X C) X)

/-- The sums of the columns. -/
abbrev COLS (A : FVec Ideal S4096x1024 .f32) : FVec Ideal S1x1024 .f32 :=
  shapeCast _ (Host.reduceAdd A (constant S_ .f32 0x00000000#32) reducesTo_S4096x1024_S1024_d0 h_S_) Cert.MixInDxRefIdeal.Gen.shapeCasts_S1024_S1x1024

/-- The second result: the gradients of the shift, the scale and the gain, and five empty rows. -/
abbrev STATS (X E : FVec Ideal S4096x1024 .f32) (G S : FVec Ideal S1x1024 .f32) : FVec Ideal S8x1024 .f32 :=
  concatenate S8x1024 0 [⟨S1x1024, COLS E⟩, ⟨S1x1024, COLS (mulf (mulf (XHAT X) (ROWS G)) E)⟩, ⟨S1x1024, COLS (mulf (XHAT X) (mulf E (ROWS (ONEP S))))⟩, ⟨S5x1024, broadcastInDim S5x1024 ![] bcast_S_S5x1024 (constant S_ .f32 0x00000000#32)⟩] concatenates_S1x1024_S1x1024_S1x1024_S5x1024_S8x1024_d0

/-- The scale's row of the modulation. -/
abbrev SCALE (M : FVec Ideal S6x1024 .f32) : FVec Ideal S1x1024 .f32 := extractStridedSlice S1x1024 ![1, 0] M slices_S6x1024_S1x1024_1_0

/-- The first result. -/
abbrev GRADX (X : FVec Ideal S4096x1024 .f32) (G : FVec Ideal S1x1024 .f32) (M : FVec Ideal S6x1024 .f32) (W : FVec Ideal S1024x2560 .f32) (P : FVec Ideal S4096x2560 .f32) (D : FVec Ideal S4096x1024 .f32) : FVec Ideal S4096x1024 .f32 :=
  BACK X (mulf (mulf (DH P W) (ROWS (ONEP (SCALE M)))) (ROWS G)) D

/-- The reference's run ends with the first result. -/
theorem ref_x (m' : (ℓ : Loc Cert.MixInDxRefIdeal.nD Cert.MixInDxRefIdeal.τ Cert.MixInDxRefIdeal.sig) → Buf (Elt Ideal) ℓ) (c : Dev Cert.MixInDxRefIdeal.nD) :
    Cert.MixInDxRefIdeal.Value.res_main_v53 m' c = GRADX (m' (c.tc.loc Cert.MixInDxRefIdeal.main_arg0)) (m' (c.tc.loc Cert.MixInDxRefIdeal.main_arg1)) (m' (c.tc.loc Cert.MixInDxRefIdeal.main_arg2)) (m' (c.tc.loc Cert.MixInDxRefIdeal.main_arg3)) (m' (c.tc.loc Cert.MixInDxRefIdeal.main_arg4)) (m' (c.tc.loc Cert.MixInDxRefIdeal.main_arg5)) := by
  unfold Cert.MixInDxRefIdeal.Value.res_main_v53
  rfl

/-- The gradient of the modulated rows at an index. -/
theorem hdh (P : FVec Ideal S4096x2560 .f32) (W : FVec Ideal S1024x2560 .f32) (j : S4096x1024.Idx) :
    DH P W j = ∑ k : Fin 2560, P (ix2 (j 0) k) * W (ix2 (j 1) k) := by pointwise [DH]

/-- The gradient of the rows at an index. -/
theorem hback (X C D : FVec Ideal S4096x1024 .f32) (j : S4096x1024.Idx) :
    BACK X C D j = ((D j + C j * rms (fun k => X (ix2 (j 0) k)))
      + X j * Ideal.div ((∑ k : Fin 1024, X (ix2 (j 0) k) * C (ix2 (j 0) k)) * (Ideal.ofBits .f32 0xBF000000#32 * Ideal.div (rms (fun k => X (ix2 (j 0) k))) (msq (fun k => X (ix2 (j 0) k))))) (Ideal.ofBits .f32 0x44800000#32))
      + Ideal.div ((∑ k : Fin 1024, X (ix2 (j 0) k) * C (ix2 (j 0) k)) * (Ideal.ofBits .f32 0xBF000000#32 * Ideal.div (rms (fun k => X (ix2 (j 0) k))) (msq (fun k => X (ix2 (j 0) k))))) (Ideal.ofBits .f32 0x44800000#32) * X j := by
  pointwise [BACK]
  simp only [Finset.univ_unique, Finset.sum_singleton]

/-- The normalised rows at an index. -/
theorem hxhat (X : FVec Ideal S4096x1024 .f32) (j : S4096x1024.Idx) : XHAT X j = X j * rms (fun k => X (ix2 (j 0) k)) := by pointwise [XHAT]

/-- The gradient of the scaled rows at an index. -/
theorem hct (E : FVec Ideal S4096x1024 .f32) (G : FVec Ideal S1x1024 .f32) (M : FVec Ideal S6x1024 .f32) (j : S4096x1024.Idx) :
    mulf (mulf E (ROWS (ONEP (SCALE M)))) (ROWS G) j = (E j * (1 + M (ix2 (1 : Fin 6) (j 1)))) * G (ix2 (0 : Fin 1) (j 1)) := by pointwise

/-- The second result by rows. -/
theorem hstats (X E : FVec Ideal S4096x1024 .f32) (G : FVec Ideal S1x1024 .f32) (M : FVec Ideal S6x1024 .f32) (r : Fin 8) (b : Fin 1024) :
    STATS X E G (SCALE M) (ix2 r b) = if r.val = 0 then ∑ a : Fin 4096, E (ix2 a b)
      else if r.val = 1 then ∑ a : Fin 4096, (XHAT X (ix2 a b) * G (ix2 (0 : Fin 1) b)) * E (ix2 a b)
      else if r.val = 2 then ∑ a : Fin 4096, XHAT X (ix2 a b) * (E (ix2 a b) * (1 + M (ix2 (1 : Fin 6) b)))
      else 0 := by
  unfold STATS
  generalize XHAT X = Y
  fin_cases r <;> pointwise

/-! ## The kernel's body -/

theorem hpay6 (p : Vec Ideal S1024x2560 .bf16) (w : Vec Ideal S2560x1024 .bf16) (j) :
    k0_pay6 p w j = ∑ k : Fin 2560, p (ix2 (j 0) k) * w (ix2 k (j 1)) := by pointwise [k0_pay6]

theorem hpay8 (x : Vec Ideal S1024x1024 .f32) (j) : k0_pay8 x j = x j * rms (fun k => x (ix2 (j 0) k)) := by pointwise [k0_pay8, k0_pay7]

theorem hpay9 (p : Vec Ideal S1024x2560 .bf16) (w : Vec Ideal S2560x1024 .bf16) (s : Vec Ideal S1x1024 .f32) (j) :
    k0_pay9 p w s j = k0_pay6 p w j * (1 + s (ix2 (0 : Fin 1) (j 1))) := by
  unfold k0_pay9
  generalize k0_pay6 p w = E
  pointwise

theorem hpay11 (p : Vec Ideal S1024x2560 .bf16) (w : Vec Ideal S2560x1024 .bf16) (s g : Vec Ideal S1x1024 .f32) (j) :
    k0_pay11 p w s g j = (k0_pay6 p w j * (1 + s (ix2 (0 : Fin 1) (j 1)))) * g (ix2 (0 : Fin 1) (j 1)) := by
  rw [← hpay9]
  unfold k0_pay11
  generalize k0_pay9 p w s = E
  pointwise

/-- One tile of the gradient of the rows. -/
theorem hpay1 (p : Vec Ideal S1024x2560 .bf16) (w : Vec Ideal S2560x1024 .bf16) (x : Vec Ideal S1024x1024 .f32) (d : Vec Ideal S1024x1024 .bf16) (s g : Vec Ideal S1x1024 .f32) (j) :
    k0_pay1 (k0_pay7 x) (k0_pay8 x) (k0_pay10 d) (k0_pay11 p w s g) (k0_pay12 p w x s g) j
      = d j + rms (fun k => x (ix2 (j 0) k)) * (k0_pay11 p w s g j - (x j * rms (fun k => x (ix2 (j 0) k)))
          * Ideal.div (∑ k : Fin 1024, k0_pay11 p w s g (ix2 (j 0) k) * (x (ix2 (j 0) k) * rms (fun k => x (ix2 (j 0) k)))) (Ideal.ofBits .f32 0x44800000#32)) := by
  unfold k0_pay12
  generalize k0_pay11 p w s g = C
  pointwise [k0_pay1, k0_pay7, k0_pay8, k0_pay10]

theorem hpay2 (e : FVec Ideal S1024x1024 .f32) (v : Vec Ideal S1x1024 .f32) (j) :
    k0_pay2 e v j = v j + ∑ a : Fin 1024, e (ix2 a (j 1)) := by pointwise [k0_pay2]

theorem hpay3 (e y : FVec Ideal S1024x1024 .f32) (v g : Vec Ideal S1x1024 .f32) (j) :
    k0_pay3 e y v g j = v j + ∑ a : Fin 1024, e (ix2 a (j 1)) * (y (ix2 a (j 1)) * g (ix2 (0 : Fin 1) (j 1))) := by pointwise [k0_pay3]

theorem hpay4 (y e : FVec Ideal S1024x1024 .f32) (v : Vec Ideal S1x1024 .f32) (j) :
    k0_pay4 y e v j = v j + ∑ a : Fin 1024, e (ix2 a (j 1)) * y (ix2 a (j 1)) := by pointwise [k0_pay4]

theorem hzero (j) : k0_pay5 (F := Ideal) j = 0 := by pointwise [k0_pay5]

/-! ## What the call reads -/

theorem entry_p (c : Dev nD) (i) : V m c main_v0 i = m ((c : Thread nD τ).loc main_arg4) i := by
  have e : V m c main_v0 = truncf .bf16 (show FVec Ideal S4096x2560 .f32 from m ((c : Thread nD τ).loc main_arg4)) bitsLt_bf16_f32 := by
    entry_read
    rfl
  rw [e]
  pointwise

theorem entry_d (c : Dev nD) (i) : V m c main_v1 i = m ((c : Thread nD τ).loc main_arg5) i := by
  have e : V m c main_v1 = truncf .bf16 (show FVec Ideal S4096x1024 .f32 from m ((c : Thread nD τ).loc main_arg5)) bitsLt_bf16_f32 := by
    entry_read
    rfl
  rw [e]
  pointwise

theorem entry_w (c : Dev nD) (i) : V m c main_v3 i = (show FVec Ideal S1024x2560 .f32 from m ((c : Thread nD τ).loc main_arg3)) (ix2 (i 1) (i 0)) := by
  have e : V m c main_v3 = truncf .bf16 (transpose S2560x1024 [1, 0] (show FVec Ideal S1024x2560 .f32 from m ((c : Thread nD τ).loc main_arg3)) transposes_S1024x2560_S2560x1024_1_0) bitsLt_bf16_f32 := by
    entry_read
    rfl
  rw [e]
  pointwise

theorem entry_m (c : Dev nD) (i : S8x1024.Idx) (a : Fin 6) (h : (i 0).val = a.val) : V m c main_v6 i = m ((c : Thread nD τ).loc main_arg2) (ix2 a (i 1)) := by
  have e : V m c main_v6 = Host.scatter scatter_S8x1024_S1_S6x1024_01_n_0_0 (fun _ b => b) (broadcastInDim S8x1024 ![] bcast_S_S8x1024 (constant S_ .f32 0x00000000#32)) (broadcastInDim S1 ![] bcast_S_S1 (constantI S_ 32 0#32)) (show FVec Ideal S6x1024 .f32 from m ((c : Thread nD τ).loc main_arg2)) := by
    entry_read
    rfl
  rw [e]
  exact set_rows _ rfl rfl rfl _ _ (fun _ => rfl) _ i (ix2 a (i 1)) h rfl

/-- Which blocks a grid point reads and writes. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![0, 0] ∧ t.val < 4 :=
  (by decide +kernel : ∀ t : Fin grid0.N, _)

theorem iblk_p (c : Dev nD) (t : Fin cfg0.N) (a : Fin 1024) (b : Fin 2560) (A : Fin 4096) (hA : A.val = t.val * 1024 + a.val) :
    iblk m c 0 t (ix2 a b) = m ((c : Thread nD τ).loc main_arg4) (ix2 A b) := by
  have hi := idx t
  refine (entry_p m c _).trans ?_
  blk_ext [hi]

theorem iblk_x (c : Dev nD) (t : Fin cfg0.N) (a b : Fin 1024) (A : Fin 4096) (hA : A.val = t.val * 1024 + a.val) :
    iblk m c 1 t (ix2 a b) = m ((c : Thread nD τ).loc main_arg0) (ix2 A b) := by
  have hi := idx t
  refine (congrFun (V_main_arg0 m c) _).trans ?_
  blk_ext [hi]

theorem iblk_d (c : Dev nD) (t : Fin cfg0.N) (a b : Fin 1024) (A : Fin 4096) (hA : A.val = t.val * 1024 + a.val) :
    iblk m c 2 t (ix2 a b) = m ((c : Thread nD τ).loc main_arg5) (ix2 A b) := by
  have hi := idx t
  refine (entry_d m c _).trans ?_
  blk_ext [hi]

theorem iblk_w (c : Dev nD) (t : Fin cfg0.N) (a : Fin 2560) (b : Fin 1024) :
    iblk m c 3 t (ix2 a b) = m ((c : Thread nD τ).loc main_arg3) (ix2 b a) := by
  have hi := idx t
  refine (entry_w m c _).trans ?_
  blk_ext [hi]

theorem iblk_g (c : Dev nD) (t : Fin cfg0.N) (b : Fin 1024) :
    iblk m c 5 t (ix2 0 b) = m ((c : Thread nD τ).loc main_arg1) (ix2 0 b) := by
  have hi := idx t
  refine (congrFun (V_main_arg1 m c) _).trans ?_
  blk_ext [hi]

theorem iblk_m (c : Dev nD) (t : Fin cfg0.N) (r : Fin 8) (a : Fin 6) (h : r.val = a.val) (b : Fin 1024) :
    iblk m c 4 t (ix2 r b) = m ((c : Thread nD τ).loc main_arg2) (ix2 a b) := by
  have hi := idx t
  refine (entry_m m c _ a (by blk_simp [hi]; exact h)).trans ?_
  blk_ext [hi]

/-- The scale's row, as the body loads it. -/
theorem ld_scale (c : Dev nD) (t : Fin cfg0.N) (b : Fin 1024) :
    View.ld (iblk m c 4 t) (Rect.unit (s := S8x1024) ![1, 0] S1x1024.size inb_S8x1024_S1x1024_1_0) (ix2 (0 : Fin 1) b) = m ((c : Thread nD τ).loc main_arg2) (ix2 1 b) :=
  (ld_row (iblk m c 4 t) inb_S8x1024_S1x1024_1_0 1 b rfl).trans (iblk_m m c t 1 1 rfl b)

/-- The scale's row of the modulation, as the body loads it. -/
abbrev sc (c : Dev nD) (t : Fin cfg0.N) : FVec Ideal S1x1024 .f32 :=
  View.ld (iblk m c 4 t) (Rect.unit (s := S8x1024) ![1, 0] S1x1024.size inb_S8x1024_S1x1024_1_0)

/-- The gradient of the modulated rows, from the inputs. -/
abbrev dh (c : Dev nD) : FVec Ideal S4096x1024 .f32 := DH (m ((c : Thread nD τ).loc main_arg4)) (m ((c : Thread nD τ).loc main_arg3))

/-- The gradient of the scaled rows, from the inputs. -/
abbrev ct (c : Dev nD) : FVec Ideal S4096x1024 .f32 := mulf (mulf (dh m c) (ROWS (ONEP (SCALE (m ((c : Thread nD τ).loc main_arg2)))))) (ROWS (m ((c : Thread nD τ).loc main_arg1)))

/-! ## The tiles -/

theorem tile_dh (c : Dev nD) (t : Fin cfg0.N) (a b : Fin 1024) (A : Fin 4096) (hA : A.val = t.val * 1024 + a.val) :
    k0_pay6 (iblk m c 0 t) (iblk m c 3 t) (ix2 a b) = dh m c (ix2 A b) := by
  refine (hpay6 _ _ _).trans (Eq.trans ?_ (hdh _ _ _).symm)
  exact Finset.sum_congr rfl fun k _ => congrArg₂ (fun a b : EReal => a * b) (iblk_p m c t a k A hA) (iblk_w m c t k b)

theorem tile_ct (c : Dev nD) (t : Fin cfg0.N) (a b : Fin 1024) (A : Fin 4096) (hA : A.val = t.val * 1024 + a.val) :
    k0_pay11 (iblk m c 0 t) (iblk m c 3 t) (sc m c t) (iblk m c 5 t) (ix2 a b) = ct m c (ix2 A b) := by
  refine (hpay11 _ _ _ _ _).trans (Eq.trans ?_ (hct _ _ _ _).symm)
  exact congrArg₂ (fun a b : EReal => a * b) (congrArg₂ (fun a b : EReal => a * b) (tile_dh m c t a b A hA) (congrArg (fun a : EReal => 1 + a) (ld_scale m c t b))) (iblk_g m c t b)

theorem row_x (c : Dev nD) (t : Fin cfg0.N) (a : Fin 1024) (A : Fin 4096) (hA : A.val = t.val * 1024 + a.val) :
    (fun k : Fin 1024 => (show EReal from iblk m c 1 t (ix2 a k))) = fun k => (show FVec Ideal S4096x1024 .f32 from m ((c : Thread nD τ).loc main_arg0)) (ix2 A k) :=
  funext fun k => iblk_x m c t a k A hA

theorem tile_xhat (c : Dev nD) (t : Fin cfg0.N) (a b : Fin 1024) (A : Fin 4096) (hA : A.val = t.val * 1024 + a.val) :
    k0_pay8 (iblk m c 1 t) (ix2 a b) = XHAT (m ((c : Thread nD τ).loc main_arg0)) (ix2 A b) := by
  refine (hpay8 _ _).trans (Eq.trans ?_ (hxhat _ _).symm)
  exact congrArg₂ (fun a b : EReal => a * b) (iblk_x m c t a b A hA) (congrArg rms (row_x m c t a A hA))

/-- One tile of the gradient of the rows, when the inputs are finite. -/
theorem tile_back (c : Dev nD) (hx : ∀ j, Fin' ((show FVec Ideal S4096x1024 .f32 from m ((c : Thread nD τ).loc main_arg0)) j)) (hc : ∀ j, Fin' (ct m c j))
    (t : Fin cfg0.N) (a b : Fin 1024) (A : Fin 4096) (hA : A.val = t.val * 1024 + a.val) :
    k0_pay1 (k0_pay7 (iblk m c 1 t)) (k0_pay8 (iblk m c 1 t)) (k0_pay10 (iblk m c 2 t)) (k0_pay11 (iblk m c 0 t) (iblk m c 3 t) (sc m c t) (iblk m c 5 t)) (k0_pay12 (iblk m c 0 t) (iblk m c 3 t) (iblk m c 1 t) (sc m c t) (iblk m c 5 t)) (ix2 a b)
      = BACK (m ((c : Thread nD τ).loc main_arg0)) (ct m c) (m ((c : Thread nD τ).loc main_arg5)) (ix2 A b) := by
  refine (hpay1 _ _ _ _ _ _ _).trans (Eq.trans ?_ (hback _ _ _ _).symm)
  refine Eq.trans ?_ (rms_back (fun k => (show FVec Ideal S4096x1024 .f32 from m ((c : Thread nD τ).loc main_arg0)) (ix2 A k)) (fun k => ct m c (ix2 A k)) (fun k => hx _) (fun k => hc _) _ b)
  have hr := congrArg rms (row_x m c t a A hA)
  refine congrArg₂ (fun a b : EReal => a + b) (iblk_d m c t a b A hA) (congrArg₂ (fun a b : EReal => a * b) hr (congrArg₂ (fun a b : EReal => a - b) (tile_ct m c t a b A hA) (congrArg₂ (fun a b : EReal => a * b) (congrArg₂ (fun a b : EReal => a * b) (iblk_x m c t a b A hA) hr) (congrArg (fun a : EReal => Ideal.div a _) (Finset.sum_congr rfl fun k _ => ?_)))))
  exact congrArg₂ (fun a b : EReal => a * b) (tile_ct m c t a k A hA) (congrArg₂ (fun a b : EReal => a * b) (iblk_x m c t a k A hA) hr)

/-- The gradient of the rows after the run is the reference's, when the inputs are finite. -/
theorem final_gx (c : Dev nD) (hx : ∀ j, Fin' ((show FVec Ideal S4096x1024 .f32 from m ((c : Thread nD τ).loc main_arg0)) j)) (hc : ∀ j, Fin' (ct m c j)) :
    (dats m 0 c).arrAt 6 (cfgs 0).N = BACK (m ((c : Thread nD τ).loc main_arg0)) (ct m c) (m ((c : Thread nD τ).loc main_arg5)) := by
  refine (dats m 0 c).arrAt_eq_of_covers 6 _ (by decide +kernel) fun t hf y => ?_
  have hi := idx t
  have hv : (outsAt0 m c t.val t.isLt).1 y = k0_pay1 (k0_pay7 (iblk m c 1 t)) (k0_pay8 (iblk m c 1 t)) (k0_pay10 (iblk m c 2 t)) (k0_pay11 (iblk m c 0 t) (iblk m c 3 t) (sc m c t) (iblk m c 5 t)) (k0_pay12 (iblk m c 0 t) (iblk m c 3 t) (iblk m c 1 t) (sc m c t) (iblk m c 5 t)) y := by
    by_cases h : t.val % 4 = 0
    · rw [outsAt0_A m c t h]; frame_out; rfl
    · rw [outsAt0_B m c t h]; frame_out; rfl
  blk_simp
  rw [after0_6, hv]
  obtain ⟨a, b, rfl⟩ : ∃ a b, y = ix2 a b := ⟨y 0, y 1, eq_ix2 y⟩
  refine (tile_back m c hx hc t a b ⟨t.val * 1024 + a.val, by have := a.isLt; omega⟩ rfl).trans (congrArg _ ?_)
  blk_ext [hi]

/-- What a grid point adds to a row of the second result. -/
def part (c : Dev nD) (t : Fin cfg0.N) (r : Fin 8) (b : Fin 1024) : EReal :=
  if r.val = 0 then ∑ a : Fin 1024, k0_pay6 (iblk m c 0 t) (iblk m c 3 t) (ix2 a b)
  else if r.val = 1 then ∑ a : Fin 1024, k0_pay6 (iblk m c 0 t) (iblk m c 3 t) (ix2 a b) * (k0_pay8 (iblk m c 1 t) (ix2 a b) * (show EReal from iblk m c 5 t (ix2 0 b)))
  else if r.val = 2 then ∑ a : Fin 1024, k0_pay9 (iblk m c 0 t) (iblk m c 3 t) (sc m c t) (ix2 a b) * k0_pay8 (iblk m c 1 t) (ix2 a b)
  else 0

/-- The first grid point starts the second result from zero. -/
theorem stats_reset (c : Dev nD) (t : Fin cfg0.N) (h : t.val % 4 = 0) (r : Fin 8) (b : Fin 1024) :
    (outsAt0 m c t.val t.isLt).2 (ix2 r b) = 0 + part m c t r b := by
  rw [outsAt0_A m c t h]
  frame_open
  simp (disch := decide) only [↓ View.readCov_skip, ↓ View.readCov_cons_toLoadRect, ↓ View.readCov_fill]
  frame_out
  unfold part
  by_cases h2 : r.val = 2
  · rw [if_neg (by omega), if_neg (by omega), if_pos h2]
    refine (canon_row_hit _ _ _ r b h2).trans ((hpay4 _ _ _ _).trans ?_)
    exact congrArg₂ (fun a b : EReal => a + b) ((ld_row _ _ 2 b rfl).trans (hzero _)) rfl
  refine (canon_row_miss _ _ _ r b h2).trans ?_
  by_cases h1 : r.val = 1
  · rw [if_neg (by omega), if_pos h1]
    refine (canon_row_hit _ _ _ r b h1).trans ((hpay3 _ _ _ _ _).trans ?_)
    exact congrArg₂ (fun a b : EReal => a + b) ((ld_row _ _ 1 b rfl).trans (hzero _)) rfl
  refine (canon_row_miss _ _ _ r b h1).trans ?_
  by_cases h0 : r.val = 0
  · rw [if_pos h0]
    refine (canon_row_hit _ _ _ r b h0).trans ((hpay2 _ _ _).trans ?_)
    exact congrArg₂ (fun a b : EReal => a + b) ((ld_row _ _ 0 b rfl).trans (hzero _)) rfl
  refine (canon_row_miss _ _ _ r b h0).trans ?_
  rw [if_neg h0, if_neg h1, if_neg h2, add_zero]
  exact (congrFun (View.canon_cons_unit_lit _ _ _ (by decide)) _).trans (hzero _)

/-- Every other grid point adds to it. -/
theorem stats_step (c : Dev nD) (t : Fin cfg0.N) (h : ¬ t.val % 4 = 0) (r : Fin 8) (b : Fin 1024) :
    (outsAt0 m c t.val t.isLt).2 (ix2 r b) = (outsAt0 m c (t.val - 1) (by omega)).2 (ix2 r b) + part m c t r b := by
  rw [outsAt0_B m c t h]
  frame_open
  simp (disch := decide) only [↓ View.readCov_skip, ↓ View.readCov_cons_toLoadRect, ↓ View.readCov_fill]
  frame_out
  unfold part
  by_cases h2 : r.val = 2
  · rw [if_neg (by omega), if_neg (by omega), if_pos h2]
    refine (read_row_hit _ _ _ _ _ r b h2).trans ((hpay4 _ _ _ _).trans ?_)
    exact congrArg₂ (fun a b : EReal => a + b) (ld_row _ _ r b h2) rfl
  refine (read_row_miss _ _ _ _ _ r b h2).trans ?_
  by_cases h1 : r.val = 1
  · rw [if_neg (by omega), if_pos h1]
    refine (read_row_hit _ _ _ _ _ r b h1).trans ((hpay3 _ _ _ _ _).trans ?_)
    exact congrArg₂ (fun a b : EReal => a + b) (ld_row _ _ r b h1) rfl
  refine (read_row_miss _ _ _ _ _ r b h1).trans ?_
  by_cases h0 : r.val = 0
  · rw [if_pos h0]
    refine (read_row_hit _ _ _ _ _ r b h0).trans ((hpay2 _ _ _).trans ?_)
    exact congrArg₂ (fun a b : EReal => a + b) (ld_row _ _ r b h0) rfl
  refine (read_row_miss _ _ _ _ _ r b h0).trans ?_
  rw [if_neg h0, if_neg h1, if_neg h2, add_zero]
  exact congrFun ((hs0_7 t).read_unread _) _

/-- The gradients of the shift, the scale and the gain after the run are the reference's. -/
theorem final_st (c : Dev nD) : (dats m 0 c).arrAt 7 (cfgs 0).N
    = STATS (m ((c : Thread nD τ).loc main_arg0)) (dh m c) (m ((c : Thread nD τ).loc main_arg1)) (SCALE (m ((c : Thread nD τ).loc main_arg2))) := by
  refine (dats m 0 c).arrAt_eq_of_covers 7 _ (by decide +kernel) fun t hf y => ?_
  have h3 : t.val % 4 = 3 := (flush0_7 t).mp hf
  have hi := idx t
  blk_simp
  rw [after0_7]
  obtain ⟨r, b, rfl⟩ : ∃ r b, y = ix2 r b := ⟨y 0, y 1, eq_ix2 y⟩
  have hs := Pipeline.eq_sum_fin_of_reset_step_apply_of_flush (fun n h (i : Fin 8 × Fin 1024) => (outsAt0 m c n h).2 (ix2 i.1 i.2)) 4 (fun _ => 0) (fun t i => part m c t i.1 i.2)
    (fun t h i => stats_reset m c t h i.1 i.2) (fun t h i => stats_step m c t h i.1 i.2) t h3 (r, b)
  refine hs.trans ((zero_add _).trans (Eq.trans ?_ (congrArg (STATS (m ((c : Thread nD τ).loc main_arg0)) (dh m c) (m ((c : Thread nD τ).loc main_arg1)) (SCALE (m ((c : Thread nD τ).loc main_arg2)))) (show ix2 r b = _ by blk_ext [hi]))))
  refine Eq.trans ?_ (hstats _ _ _ _ r b).symm
  have hp : ∀ s : Fin 4, 4 * (t.val / 4) + s.val = s.val := fun s => by omega
  unfold part
  by_cases h0 : r.val = 0
  · simp only [if_pos h0]
    exact Fin.sum_mul_add_congr fun s k hl => tile_dh m c _ k b ⟨s.val * 1024 + k.val, hl⟩ (by simp [hp])
  by_cases h1 : r.val = 1
  · simp only [if_neg h0, if_pos h1]
    refine Fin.sum_mul_add_congr fun s k hl => ?_
    refine (congrArg₂ (fun a b : EReal => a * b) (tile_dh m c _ k b ⟨s.val * 1024 + k.val, hl⟩ (by simp [hp])) (congrArg₂ (fun a b : EReal => a * b) (tile_xhat m c _ k b ⟨s.val * 1024 + k.val, hl⟩ (by simp [hp])) (iblk_g m c _ b))).trans ?_
    exact mul_comm _ _
  by_cases h2 : r.val = 2
  · simp only [if_neg h0, if_neg h1, if_pos h2]
    refine Fin.sum_mul_add_congr fun s k hl => ?_
    refine (congrArg₂ (fun a b : EReal => a * b) ((hpay9 _ _ _ _).trans (congrArg₂ (fun a b : EReal => a * b) (tile_dh m c _ k b ⟨s.val * 1024 + k.val, hl⟩ (by simp [hp])) (congrArg (fun a : EReal => 1 + a) (ld_scale m c _ b)))) (tile_xhat m c _ k b ⟨s.val * 1024 + k.val, hl⟩ (by simp [hp]))).trans ?_
    exact mul_comm _ _
  simp only [if_neg h0, if_neg h1, if_neg h2, Finset.sum_const_zero]

end Cert.MixInDxIdeal.Hand

end
-- ==== Proof.MixOutBwdValue.lean ====
/- The end of the mixer and the second normalisation, backward: the gradients of the residual stream, of the mixer's rows, of the output weights, and of the modulation and the gain. -/
module

public import proofs.«01_k».proof.Proof.Gen.MixOutBwdIdeal.Value
public import proofs.«01_k».proof.Proof.Gen.MixOutBwdRefIdeal.Run
public import proofs.«01_k».proof.Proof.MixInDxValue
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixOutBwdIdeal.Hand
open Cert.MixOutBwdIdeal Cert.MixOutBwdIdeal.Gen Idealize.ShloMosaic.StableHlo Cert.Shared
open Cert.MixInDxIdeal.Hand (XHAT ROWS ONEP QROW BACK COLS hback hxhat)
open Cert.MixOutBwdRefIdeal (S4x1024)
variable (m : (ℓ : Loc nD τ sig) → Buf (Elt Ideal) ℓ)

/-! ## The reference, in parts -/

/-- The rows times the output weights. -/
abbrev MIX (Y : FVec Ideal S4096x1024 .f32) (W : FVec Ideal S1024x1024 .f32) : FVec Ideal S4096x1024 .f32 :=
  Host.dotGeneral Cert.MixOutBwdRefIdeal.dot_S4096x1024_S1024x1024_S4096x1024_1_0_0_1_n_n none Y W

/-- The gate's row of the modulation. -/
abbrev GATE (M : FVec Ideal S6x1024 .f32) : FVec Ideal S1x1024 .f32 := extractStridedSlice S1x1024 ![2, 0] M Cert.MixOutBwdRefIdeal.Gen.slices_S6x1024_S1x1024_2_0

/-- The scale's row of the modulation. -/
abbrev SCALE (M : FVec Ideal S6x1024 .f32) : FVec Ideal S1x1024 .f32 := extractStridedSlice S1x1024 ![4, 0] M Cert.MixOutBwdRefIdeal.Gen.slices_S6x1024_S1x1024_4_0

/-- The residual stream after the mixer. -/
abbrev RES (X Y : FVec Ideal S4096x1024 .f32) (W : FVec Ideal S1024x1024 .f32) (M : FVec Ideal S6x1024 .f32) : FVec Ideal S4096x1024 .f32 :=
  addf X (mulf (ROWS (GATE M)) (MIX Y W))

/-- The gradient of the scaled rows. -/
abbrev CT (E : FVec Ideal S4096x1024 .f32) (G : FVec Ideal S1x1024 .f32) (M : FVec Ideal S6x1024 .f32) : FVec Ideal S4096x1024 .f32 :=
  mulf (mulf E (ROWS (ONEP (SCALE M)))) (ROWS G)

/-- The gradient of the mixer's rows. -/
abbrev DYM (B : FVec Ideal S4096x1024 .f32) (W : FVec Ideal S1024x1024 .f32) (M : FVec Ideal S6x1024 .f32) : FVec Ideal S4096x1024 .f32 :=
  Host.dotGeneral Cert.MixOutBwdRefIdeal.dot_S4096x1024_S1024x1024_S4096x1024_1_1_0_0_n_n none (mulf (ROWS (GATE M)) B) W

/-- The gradient of the output weights. -/
abbrev GW (B Y : FVec Ideal S4096x1024 .f32) (M : FVec Ideal S6x1024 .f32) : FVec Ideal S1024x1024 .f32 :=
  transpose S1024x1024 [1, 0] (Host.dotGeneral Cert.MixOutBwdRefIdeal.dot_S4096x1024_S4096x1024_S1024x1024_0_0_1_1_n_n none (mulf (ROWS (GATE M)) B) Y) Cert.MixOutBwdRefIdeal.Gen.transposes_S1024x1024_S1024x1024_1_0

/-- The fourth result: the gradients of the shift, the scale, the gain and the gate, and four empty rows. -/
abbrev STATS (X E B MX : FVec Ideal S4096x1024 .f32) (G S : FVec Ideal S1x1024 .f32) : FVec Ideal S8x1024 .f32 :=
  concatenate S8x1024 0 [⟨S1x1024, COLS E⟩, ⟨S1x1024, COLS (mulf (mulf (XHAT X) (ROWS G)) E)⟩, ⟨S1x1024, COLS (mulf (XHAT X) (mulf E (ROWS (ONEP S))))⟩, ⟨S1x1024, COLS (mulf B MX)⟩, ⟨S4x1024, broadcastInDim S4x1024 ![] Cert.MixOutBwdRefIdeal.Gen.bcast_S_S4x1024 (constant S_ .f32 0x00000000#32)⟩] Cert.MixOutBwdRefIdeal.Gen.concatenates_S1x1024_S1x1024_S1x1024_S1x1024_S4x1024_S8x1024_d0

theorem cast_self (X : FVec Ideal S4096x1024 .f32) : shapeCast S4096x1024 X Cert.MixOutBwdRefIdeal.Gen.shapeCasts_S4096x1024_S4096x1024 = X :=
  funext fun j => by pointwise

section
variable (m' : (ℓ : Loc Cert.MixOutBwdRefIdeal.nD Cert.MixOutBwdRefIdeal.τ Cert.MixOutBwdRefIdeal.sig) → Buf (Elt Ideal) ℓ) (c : Dev Cert.MixOutBwdRefIdeal.nD)

/-- The residual stream, from the reference's inputs. -/
abbrev rx : FVec Ideal S4096x1024 .f32 := RES (m' (c.tc.loc Cert.MixOutBwdRefIdeal.main_arg0)) (m' (c.tc.loc Cert.MixOutBwdRefIdeal.main_arg1)) (m' (c.tc.loc Cert.MixOutBwdRefIdeal.main_arg2)) (m' (c.tc.loc Cert.MixOutBwdRefIdeal.main_arg4))

/-- The gradient of the residual stream, from the reference's inputs. -/
abbrev rb : FVec Ideal S4096x1024 .f32 := BACK (rx m' c) (CT (m' (c.tc.loc Cert.MixOutBwdRefIdeal.main_arg6)) (m' (c.tc.loc Cert.MixOutBwdRefIdeal.main_arg3)) (m' (c.tc.loc Cert.MixOutBwdRefIdeal.main_arg4))) (m' (c.tc.loc Cert.MixOutBwdRefIdeal.main_arg5))

theorem ref_dx : Cert.MixOutBwdRefIdeal.Value.res_main_v65 m' c = truncf .bf16 (rb m' c) Cert.MixOutBwdRefIdeal.Gen.bitsLt_bf16_f32 := by
  unfold rb
  rw [← cast_self (m' (c.tc.loc Cert.MixOutBwdRefIdeal.main_arg6))]
  unfold Cert.MixOutBwdRefIdeal.Value.res_main_v65
  rfl

theorem ref_dym : Cert.MixOutBwdRefIdeal.Value.res_main_v66 m' c = truncf .bf16 (DYM (rb m' c) (m' (c.tc.loc Cert.MixOutBwdRefIdeal.main_arg2)) (m' (c.tc.loc Cert.MixOutBwdRefIdeal.main_arg4))) Cert.MixOutBwdRefIdeal.Gen.bitsLt_bf16_f32 := by
  rw [← cast_self (rb m' c)]
  unfold rb
  rw [← cast_self (m' (c.tc.loc Cert.MixOutBwdRefIdeal.main_arg6))]
  unfold Cert.MixOutBwdRefIdeal.Value.res_main_v66
  rfl

theorem ref_gw : Cert.MixOutBwdRefIdeal.Value.res_main_v63 m' c = GW (rb m' c) (m' (c.tc.loc Cert.MixOutBwdRefIdeal.main_arg1)) (m' (c.tc.loc Cert.MixOutBwdRefIdeal.main_arg4)) := by
  rw [← cast_self (rb m' c)]
  unfold rb
  rw [← cast_self (m' (c.tc.loc Cert.MixOutBwdRefIdeal.main_arg6))]
  unfold Cert.MixOutBwdRefIdeal.Value.res_main_v63
  rfl

theorem ref_st : Cert.MixOutBwdRefIdeal.Value.res_main_v68 m' c = STATS (rx m' c) (m' (c.tc.loc Cert.MixOutBwdRefIdeal.main_arg6)) (rb m' c) (MIX (m' (c.tc.loc Cert.MixOutBwdRefIdeal.main_arg1)) (m' (c.tc.loc Cert.MixOutBwdRefIdeal.main_arg2))) (m' (c.tc.loc Cert.MixOutBwdRefIdeal.main_arg3)) (SCALE (m' (c.tc.loc Cert.MixOutBwdRefIdeal.main_arg4))) := by
  have e : STATS (rx m' c) (m' (c.tc.loc Cert.MixOutBwdRefIdeal.main_arg6)) (rb m' c) (MIX (m' (c.tc.loc Cert.MixOutBwdRefIdeal.main_arg1)) (m' (c.tc.loc Cert.MixOutBwdRefIdeal.main_arg2))) (m' (c.tc.loc Cert.MixOutBwdRefIdeal.main_arg3)) (SCALE (m' (c.tc.loc Cert.MixOutBwdRefIdeal.main_arg4))) = concatenate S8x1024 0 [⟨S1x1024, COLS (m' (c.tc.loc Cert.MixOutBwdRefIdeal.main_arg6))⟩, ⟨S1x1024, COLS (mulf (mulf (XHAT (rx m' c)) (ROWS (m' (c.tc.loc Cert.MixOutBwdRefIdeal.main_arg3)))) (shapeCast S4096x1024 (show FVec Ideal S4096x1024 .f32 from m' (c.tc.loc Cert.MixOutBwdRefIdeal.main_arg6)) Cert.MixOutBwdRefIdeal.Gen.shapeCasts_S4096x1024_S4096x1024))⟩, ⟨S1x1024, COLS (mulf (XHAT (rx m' c)) (mulf (shapeCast S4096x1024 (show FVec Ideal S4096x1024 .f32 from m' (c.tc.loc Cert.MixOutBwdRefIdeal.main_arg6)) Cert.MixOutBwdRefIdeal.Gen.shapeCasts_S4096x1024_S4096x1024) (ROWS (ONEP (SCALE (m' (c.tc.loc Cert.MixOutBwdRefIdeal.main_arg4)))))))⟩, ⟨S1x1024, COLS (mulf (shapeCast S4096x1024 (BACK (rx m' c) (CT (shapeCast S4096x1024 (show FVec Ideal S4096x1024 .f32 from m' (c.tc.loc Cert.MixOutBwdRefIdeal.main_arg6)) Cert.MixOutBwdRefIdeal.Gen.shapeCasts_S4096x1024_S4096x1024) (m' (c.tc.loc Cert.MixOutBwdRefIdeal.main_arg3)) (m' (c.tc.loc Cert.MixOutBwdRefIdeal.main_arg4))) (m' (c.tc.loc Cert.MixOutBwdRefIdeal.main_arg5))) Cert.MixOutBwdRefIdeal.Gen.shapeCasts_S4096x1024_S4096x1024) (MIX (m' (c.tc.loc Cert.MixOutBwdRefIdeal.main_arg1)) (m' (c.tc.loc Cert.MixOutBwdRefIdeal.main_arg2))))⟩, ⟨S4x1024, broadcastInDim S4x1024 ![] Cert.MixOutBwdRefIdeal.Gen.bcast_S_S4x1024 (constant S_ .f32 0x00000000#32)⟩] Cert.MixOutBwdRefIdeal.Gen.concatenates_S1x1024_S1x1024_S1x1024_S1x1024_S4x1024_S8x1024_d0 := by
    rw [cast_self, cast_self]
  rw [e]
  unfold Cert.MixOutBwdRefIdeal.Value.res_main_v68
  rfl

end

theorem hmix (Y : FVec Ideal S4096x1024 .f32) (W : FVec Ideal S1024x1024 .f32) (j : S4096x1024.Idx) :
    MIX Y W j = ∑ k : Fin 1024, Y (ix2 (j 0) k) * W (ix2 k (j 1)) := by pointwise [MIX]

theorem hct (E : FVec Ideal S4096x1024 .f32) (G : FVec Ideal S1x1024 .f32) (M : FVec Ideal S6x1024 .f32) (j : S4096x1024.Idx) :
    CT E G M j = (E j * (1 + M (ix2 (4 : Fin 6) (j 1)))) * G (ix2 (0 : Fin 1) (j 1)) := by pointwise [CT]

theorem hdym (B : FVec Ideal S4096x1024 .f32) (W : FVec Ideal S1024x1024 .f32) (M : FVec Ideal S6x1024 .f32) (j : S4096x1024.Idx) :
    DYM B W M j = ∑ k : Fin 1024, (M (ix2 (2 : Fin 6) k) * B (ix2 (j 0) k)) * W (ix2 (j 1) k) := by pointwise [DYM]

theorem hgw (B Y : FVec Ideal S4096x1024 .f32) (M : FVec Ideal S6x1024 .f32) (j : S1024x1024.Idx) :
    GW B Y M j = ∑ k : Fin 4096, (M (ix2 (2 : Fin 6) (j 1)) * B (ix2 k (j 1))) * Y (ix2 k (j 0)) := by pointwise [GW]

/-- The fourth result by rows. -/
theorem hstats (X E B MX : FVec Ideal S4096x1024 .f32) (G : FVec Ideal S1x1024 .f32) (M : FVec Ideal S6x1024 .f32) (r : Fin 8) (b : Fin 1024) :
    STATS X E B MX G (SCALE M) (ix2 r b) = if r.val = 0 then ∑ a : Fin 4096, E (ix2 a b)
      else if r.val = 1 then ∑ a : Fin 4096, (XHAT X (ix2 a b) * G (ix2 (0 : Fin 1) b)) * E (ix2 a b)
      else if r.val = 2 then ∑ a : Fin 4096, XHAT X (ix2 a b) * (E (ix2 a b) * (1 + M (ix2 (4 : Fin 6) b)))
      else if r.val = 3 then ∑ a : Fin 4096, B (ix2 a b) * MX (ix2 a b)
      else 0 := by
  unfold STATS
  generalize XHAT X = Y
  fin_cases r <;> pointwise

/-! ## The kernel's body -/

theorem hpay7 (e : Vec Ideal S512x1024 .bf16) (j) : k0_pay7 e j = e j := by pointwise [k0_pay7]

theorem hpay10 (x : Vec Ideal S512x1024 .f32) (j) : k0_pay10 x j = x j * rms (fun k => x (ix2 (j 0) k)) := by pointwise [k0_pay10, k0_pay9, k0_pay8]

theorem hpay11 (e : Vec Ideal S512x1024 .bf16) (s : Vec Ideal S1x1024 .f32) (j) :
    k0_pay11 e s j = e j * (1 + s (ix2 (0 : Fin 1) (j 1))) := by pointwise [k0_pay11, k0_pay7]

/-- One tile of the gradient of the residual stream. -/
theorem hpay14 (d e : Vec Ideal S512x1024 .bf16) (x : Vec Ideal S512x1024 .f32) (s g : Vec Ideal S1x1024 .f32) (j) :
    k0_pay14 (k0_pay12 d) (k0_pay13 e x s g) j
      = d j + rms (fun k => x (ix2 (j 0) k)) * (k0_pay11 e s j * g (ix2 (0 : Fin 1) (j 1)) - (x j * rms (fun k => x (ix2 (j 0) k)))
          * Ideal.div (∑ k : Fin 1024, (k0_pay11 e s (ix2 (j 0) k) * g (ix2 (0 : Fin 1) k)) * (x (ix2 (j 0) k) * rms (fun k => x (ix2 (j 0) k)))) (Ideal.ofBits .f32 0x44800000#32)) := by
  unfold k0_pay13
  generalize k0_pay11 e s = C
  pointwise [k0_pay14, k0_pay12, k0_pay10, k0_pay9, k0_pay8]

theorem hpay15 (d v : FVec Ideal S512x1024 .f32) (j) : k0_pay15 d v j = k0_pay14 d v j := by
  unfold k0_pay15
  generalize k0_pay14 d v = K
  pointwise

theorem hpay2 (K : FVec Ideal S512x1024 .f32) (s : Vec Ideal S1x1024 .f32) (j) : k0_pay2 K s j = s (ix2 (0 : Fin 1) (j 1)) * K j := by pointwise [k0_pay2]

theorem hpay3 (K : FVec Ideal S512x1024 .f32) (s : Vec Ideal S1x1024 .f32) (w : Vec Ideal S1024x1024 .bf16) (j) :
    k0_pay3 K s w j = ∑ k : Fin 1024, (s (ix2 (0 : Fin 1) k) * K (ix2 (j 0) k)) * w (ix2 (j 1) k) := by pointwise [k0_pay3, k0_pay2]

theorem hpay4 (K : FVec Ideal S512x1024 .f32) (s : Vec Ideal S1x1024 .f32) (acc : Vec Ideal S1024x1024 .f32) (y : Vec Ideal S512x1024 .bf16) (j) :
    k0_pay4 K s acc y j = acc j + ∑ k : Fin 512, y (ix2 k (j 0)) * (s (ix2 (0 : Fin 1) (j 1)) * K (ix2 k (j 1))) := by pointwise [k0_pay4, k0_pay2]

theorem hpay16 (e : FVec Ideal S512x1024 .f32) (v : Vec Ideal S1x1024 .f32) (j) :
    k0_pay16 e v j = v j + ∑ a : Fin 512, e (ix2 a (j 1)) := by pointwise [k0_pay16]

theorem hpay17 (e y : FVec Ideal S512x1024 .f32) (v g : Vec Ideal S1x1024 .f32) (j) :
    k0_pay17 e y v g j = v j + ∑ a : Fin 512, e (ix2 a (j 1)) * (y (ix2 a (j 1)) * g (ix2 (0 : Fin 1) (j 1))) := by pointwise [k0_pay17]

theorem hpay18 (y e : FVec Ideal S512x1024 .f32) (v : Vec Ideal S1x1024 .f32) (j) :
    k0_pay18 y e v j = v j + ∑ a : Fin 512, e (ix2 a (j 1)) * y (ix2 a (j 1)) := by pointwise [k0_pay18]

theorem hpay1 (d v : FVec Ideal S512x1024 .f32) (p : Vec Ideal S1x1024 .f32) (q : Vec Ideal S512x1024 .bf16) (j) :
    k0_pay1 (k0_pay19 p) (k0_pay20 d v q) j = p j + ∑ a : Fin 512, k0_pay14 d v (ix2 a (j 1)) * q (ix2 a (j 1)) := by
  unfold k0_pay20
  generalize k0_pay14 d v = K
  pointwise [k0_pay1, k0_pay19]

theorem hzero (j) : k0_pay5 (F := Ideal) j = 0 := by pointwise [k0_pay5]

theorem hzero' (j) : k0_pay6 (F := Ideal) j = 0 := by pointwise [k0_pay6]

/-! ## What the call reads -/

/-- The residual stream, from the inputs. -/
abbrev x2 (c : Dev nD) : FVec Ideal S4096x1024 .f32 := RES (m ((c : Thread nD τ).loc main_arg0)) (m ((c : Thread nD τ).loc main_arg1)) (m ((c : Thread nD τ).loc main_arg2)) (m ((c : Thread nD τ).loc main_arg4))

/-- The gradient of the scaled rows, from the inputs. -/
abbrev ct (c : Dev nD) : FVec Ideal S4096x1024 .f32 := CT (m ((c : Thread nD τ).loc main_arg6)) (m ((c : Thread nD τ).loc main_arg3)) (m ((c : Thread nD τ).loc main_arg4))

/-- The gradient of the residual stream, from the inputs. -/
abbrev back (c : Dev nD) : FVec Ideal S4096x1024 .f32 := BACK (x2 m c) (ct m c) (m ((c : Thread nD τ).loc main_arg5))

theorem entry_e (c : Dev nD) (i) : V m c main_v5 i = m ((c : Thread nD τ).loc main_arg6) i := by
  have e : V m c main_v5 = truncf .bf16 (show FVec Ideal S4096x1024 .f32 from m ((c : Thread nD τ).loc main_arg6)) bitsLt_bf16_f32 := by
    entry_read
    rfl
  rw [e]
  pointwise

theorem entry_d (c : Dev nD) (i) : V m c main_v6 i = m ((c : Thread nD τ).loc main_arg5) i := by
  have e : V m c main_v6 = truncf .bf16 (show FVec Ideal S4096x1024 .f32 from m ((c : Thread nD τ).loc main_arg5)) bitsLt_bf16_f32 := by
    entry_read
    rfl
  rw [e]
  pointwise

theorem entry_y (c : Dev nD) (i) : V m c main_v8 i = m ((c : Thread nD τ).loc main_arg1) i := by
  have e : V m c main_v8 = truncf .bf16 (show FVec Ideal S4096x1024 .f32 from m ((c : Thread nD τ).loc main_arg1)) bitsLt_bf16_f32 := by
    entry_read
    rfl
  rw [e]
  pointwise

theorem entry_w (c : Dev nD) (i) : V m c main_v9 i = m ((c : Thread nD τ).loc main_arg2) i := by
  have e : V m c main_v9 = truncf .bf16 (show FVec Ideal S1024x1024 .f32 from m ((c : Thread nD τ).loc main_arg2)) bitsLt_bf16_f32 := by
    entry_read
    rfl
  rw [e]
  pointwise

theorem entry_x (c : Dev nD) : V m c main_v4 = x2 m c := by
  entry_read
  rfl

theorem entry_q (c : Dev nD) (i) : V m c main_v7 i = MIX (m ((c : Thread nD τ).loc main_arg1)) (m ((c : Thread nD τ).loc main_arg2)) i := by
  have e : V m c main_v7 = truncf .bf16 (MIX (m ((c : Thread nD τ).loc main_arg1)) (m ((c : Thread nD τ).loc main_arg2))) bitsLt_bf16_f32 := by
    entry_read
    rfl
  rw [e]
  generalize MIX (m ((c : Thread nD τ).loc main_arg1)) (m ((c : Thread nD τ).loc main_arg2)) = Q
  pointwise

theorem entry_m (c : Dev nD) (i : S8x1024.Idx) (a : Fin 6) (h : (i 0).val = a.val) : V m c main_v12 i = m ((c : Thread nD τ).loc main_arg4) (ix2 a (i 1)) := by
  have e : V m c main_v12 = Host.scatter scatter_S8x1024_S1_S6x1024_01_n_0_0 (fun _ b => b) (broadcastInDim S8x1024 ![] bcast_S_S8x1024 (constant S_ .f32 0x00000000#32)) (broadcastInDim S1 ![] bcast_S_S1 (constantI S_ 32 0#32)) (show FVec Ideal S6x1024 .f32 from m ((c : Thread nD τ).loc main_arg4)) := by
    entry_read
    rfl
  rw [e]
  exact set_rows _ rfl rfl rfl _ _ (fun _ => rfl) _ i (ix2 a (i 1)) h rfl

/-- Which blocks a grid point reads and writes. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![t.val, 0]
    ∧ win0_9.index t = ![t.val, 0] ∧ win0_10.index t = ![0, 0] ∧ win0_11.index t = ![0, 0] ∧ t.val < 8 :=
  (by decide +kernel : ∀ t : Fin grid0.N, _)

theorem iblk_e (c : Dev nD) (t : Fin cfg0.N) (a : Fin 512) (b : Fin 1024) (A : Fin 4096) (hA : A.val = t.val * 512 + a.val) :
    iblk m c 0 t (ix2 a b) = m ((c : Thread nD τ).loc main_arg6) (ix2 A b) := by
  have hi := idx t
  refine (entry_e m c _).trans ?_
  blk_ext [hi]

theorem iblk_x (c : Dev nD) (t : Fin cfg0.N) (a : Fin 512) (b : Fin 1024) (A : Fin 4096) (hA : A.val = t.val * 512 + a.val) :
    iblk m c 1 t (ix2 a b) = x2 m c (ix2 A b) := by
  have hi := idx t
  refine (congrFun (entry_x m c) _).trans ?_
  blk_ext [hi]

theorem iblk_d (c : Dev nD) (t : Fin cfg0.N) (a : Fin 512) (b : Fin 1024) (A : Fin 4096) (hA : A.val = t.val * 512 + a.val) :
    iblk m c 2 t (ix2 a b) = m ((c : Thread nD τ).loc main_arg5) (ix2 A b) := by
  have hi := idx t
  refine (entry_d m c _).trans ?_
  blk_ext [hi]

theorem iblk_q (c : Dev nD) (t : Fin cfg0.N) (a : Fin 512) (b : Fin 1024) (A : Fin 4096) (hA : A.val = t.val * 512 + a.val) :
    iblk m c 3 t (ix2 a b) = MIX (m ((c : Thread nD τ).loc main_arg1)) (m ((c : Thread nD τ).loc main_arg2)) (ix2 A b) := by
  have hi := idx t
  refine (entry_q m c _).trans ?_
  blk_ext [hi]

theorem iblk_y (c : Dev nD) (t : Fin cfg0.N) (a : Fin 512) (b : Fin 1024) (A : Fin 4096) (hA : A.val = t.val * 512 + a.val) :
    iblk m c 4 t (ix2 a b) = m ((c : Thread nD τ).loc main_arg1) (ix2 A b) := by
  have hi := idx t
  refine (entry_y m c _).trans ?_
  blk_ext [hi]

theorem iblk_w (c : Dev nD) (t : Fin cfg0.N) (a b : Fin 1024) :
    iblk m c 5 t (ix2 a b) = m ((c : Thread nD τ).loc main_arg2) (ix2 a b) := by
  have hi := idx t
  refine (entry_w m c _).trans ?_
  blk_ext [hi]

theorem iblk_g (c : Dev nD) (t : Fin cfg0.N) (b : Fin 1024) :
    iblk m c 7 t (ix2 0 b) = m ((c : Thread nD τ).loc main_arg3) (ix2 0 b) := by
  have hi := idx t
  refine (congrFun (V_main_arg3 m c) _).trans ?_
  blk_ext [hi]

theorem iblk_m (c : Dev nD) (t : Fin cfg0.N) (r : Fin 8) (a : Fin 6) (h : r.val = a.val) (b : Fin 1024) :
    iblk m c 6 t (ix2 r b) = m ((c : Thread nD τ).loc main_arg4) (ix2 a b) := by
  have hi := idx t
  refine (entry_m m c _ a (by blk_simp [hi]; exact h)).trans ?_
  blk_ext [hi]

/-- The scale's row of the modulation, as the body loads it. -/
abbrev sc (c : Dev nD) (t : Fin cfg0.N) : FVec Ideal S1x1024 .f32 :=
  View.ld (iblk m c 6 t) (Rect.unit (s := S8x1024) ![4, 0] S1x1024.size inb_S8x1024_S1x1024_4_0)

/-- The gate's row of the modulation, as the body loads it. -/
abbrev ga (c : Dev nD) (t : Fin cfg0.N) : FVec Ideal S1x1024 .f32 :=
  View.ld (iblk m c 6 t) (Rect.unit (s := S8x1024) ![2, 0] S1x1024.size inb_S8x1024_S1x1024_2_0)

theorem ld_scale (c : Dev nD) (t : Fin cfg0.N) (b : Fin 1024) : sc m c t (ix2 (0 : Fin 1) b) = m ((c : Thread nD τ).loc main_arg4) (ix2 4 b) :=
  (ld_row (iblk m c 6 t) inb_S8x1024_S1x1024_4_0 4 b rfl).trans (iblk_m m c t 4 4 rfl b)

theorem ld_gate (c : Dev nD) (t : Fin cfg0.N) (b : Fin 1024) : ga m c t (ix2 (0 : Fin 1) b) = m ((c : Thread nD τ).loc main_arg4) (ix2 2 b) :=
  (ld_row (iblk m c 6 t) inb_S8x1024_S1x1024_2_0 2 b rfl).trans (iblk_m m c t 2 2 rfl b)

/-! ## The tiles -/

/-- The gradient of the residual stream, as the body has it. -/
abbrev tb (c : Dev nD) (t : Fin cfg0.N) : FVec Ideal S512x1024 .f32 :=
  k0_pay14 (k0_pay12 (iblk m c 2 t)) (k0_pay13 (iblk m c 0 t) (iblk m c 1 t) (sc m c t) (iblk m c 7 t))

theorem tile_ct (c : Dev nD) (t : Fin cfg0.N) (a : Fin 512) (b : Fin 1024) (A : Fin 4096) (hA : A.val = t.val * 512 + a.val) :
    k0_pay11 (iblk m c 0 t) (sc m c t) (ix2 a b) * (show EReal from iblk m c 7 t (ix2 0 b)) = ct m c (ix2 A b) :=
  (congrArg₂ (fun a b : EReal => a * b) ((hpay11 _ _ _).trans (congrArg₂ (fun a b : EReal => a * b) (iblk_e m c t a b A hA) (congrArg (fun a : EReal => 1 + a) (ld_scale m c t b)))) (iblk_g m c t b)).trans (hct _ _ _ _).symm

theorem row_x (c : Dev nD) (t : Fin cfg0.N) (a : Fin 512) (A : Fin 4096) (hA : A.val = t.val * 512 + a.val) :
    (fun k : Fin 1024 => (show EReal from iblk m c 1 t (ix2 a k))) = fun k => x2 m c (ix2 A k) :=
  funext fun k => iblk_x m c t a k A hA

theorem tile_xhat (c : Dev nD) (t : Fin cfg0.N) (a : Fin 512) (b : Fin 1024) (A : Fin 4096) (hA : A.val = t.val * 512 + a.val) :
    k0_pay10 (iblk m c 1 t) (ix2 a b) = XHAT (x2 m c) (ix2 A b) :=
  (hpay10 _ _).trans ((congrArg₂ (fun a b : EReal => a * b) (iblk_x m c t a b A hA) (congrArg rms (row_x m c t a A hA))).trans (hxhat _ _).symm)

/-- One tile of the gradient of the residual stream, when the inputs are finite. -/
theorem tile_back (c : Dev nD) (hx : ∀ j, Fin' (x2 m c j)) (hc : ∀ j, Fin' (ct m c j))
    (t : Fin cfg0.N) (a : Fin 512) (b : Fin 1024) (A : Fin 4096) (hA : A.val = t.val * 512 + a.val) :
    tb m c t (ix2 a b) = back m c (ix2 A b) := by
  refine (hpay14 _ _ _ _ _ _).trans (Eq.trans ?_ (hback _ _ _ _).symm)
  refine Eq.trans ?_ (rms_back (fun k => x2 m c (ix2 A k)) (fun k => ct m c (ix2 A k)) (fun k => hx _) (fun k => hc _) _ b)
  have hr := congrArg rms (row_x m c t a A hA)
  refine congrArg₂ (fun a b : EReal => a + b) (iblk_d m c t a b A hA) (congrArg₂ (fun a b : EReal => a * b) hr (congrArg₂ (fun a b : EReal => a - b) (tile_ct m c t a b A hA) (congrArg₂ (fun a b : EReal => a * b) (congrArg₂ (fun a b : EReal => a * b) (iblk_x m c t a b A hA) hr) (congrArg (fun a : EReal => Ideal.div a _) (Finset.sum_congr rfl fun k _ => ?_)))))
  exact congrArg₂ (fun a b : EReal => a * b) (tile_ct m c t a k A hA) (congrArg₂ (fun a b : EReal => a * b) (iblk_x m c t a k A hA) hr)

/-- The gradient of the residual stream after the run is the reference's, when the inputs are finite. -/
theorem final_dx (c : Dev nD) (hx : ∀ j, Fin' (x2 m c j)) (hc : ∀ j, Fin' (ct m c j)) :
    (dats m 0 c).arrAt 8 (cfgs 0).N = truncf .bf16 (back m c) Cert.MixOutBwdRefIdeal.Gen.bitsLt_bf16_f32 := by
  refine (dats m 0 c).arrAt_eq_of_covers 8 _ (by decide +kernel) fun t hf y => ?_
  have hi := idx t
  have hv : (outsAt0 m c t.val t.isLt).1 y = tb m c t y := by
    refine Eq.trans ?_ (hpay15 _ _ _)
    by_cases h : t.val % 8 = 0
    · rw [outsAt0_A m c t h]; frame_out; rfl
    · rw [outsAt0_B m c t h]; frame_out; rfl
  blk_simp
  rw [after0_8, hv]
  obtain ⟨a, b, rfl⟩ : ∃ a b, y = ix2 a b := ⟨y 0, y 1, eq_ix2 y⟩
  refine (tile_back m c hx hc t a b ⟨t.val * 512 + a.val, by have := a.isLt; omega⟩ rfl).trans (congrArg (back m c) ?_)
  blk_ext [hi]

/-- The gradient of the mixer's rows after the run is the reference's, when the inputs are finite. -/
theorem final_dym (c : Dev nD) (hx : ∀ j, Fin' (x2 m c j)) (hc : ∀ j, Fin' (ct m c j)) :
    (dats m 0 c).arrAt 9 (cfgs 0).N = truncf .bf16 (DYM (back m c) (m ((c : Thread nD τ).loc main_arg2)) (m ((c : Thread nD τ).loc main_arg4))) Cert.MixOutBwdRefIdeal.Gen.bitsLt_bf16_f32 := by
  refine (dats m 0 c).arrAt_eq_of_covers 9 _ (by decide +kernel) fun t hf y => ?_
  have hi := idx t
  have hv : (outsAt0 m c t.val t.isLt).2.1 y = k0_pay3 (tb m c t) (ga m c t) (iblk m c 5 t) y := by
    by_cases h : t.val % 8 = 0
    · rw [outsAt0_A m c t h]; frame_out; rfl
    · rw [outsAt0_B m c t h]; frame_out; rfl
  blk_simp
  rw [after0_9, hv]
  obtain ⟨a, b, rfl⟩ : ∃ a b, y = ix2 a b := ⟨y 0, y 1, eq_ix2 y⟩
  have hl : t.val * 512 + a.val < 4096 := by have := a.isLt; omega
  refine (hpay3 _ _ _ _).trans (Eq.trans ?_ ((hdym (back m c) (m ((c : Thread nD τ).loc main_arg2)) (m ((c : Thread nD τ).loc main_arg4)) (ix2 ⟨t.val * 512 + a.val, hl⟩ b)).symm.trans (congrArg (DYM (back m c) (m ((c : Thread nD τ).loc main_arg2)) (m ((c : Thread nD τ).loc main_arg4))) (by blk_ext [hi]))))
  exact Finset.sum_congr rfl fun k _ => congrArg₂ (fun a b : EReal => a * b) (congrArg₂ (fun a b : EReal => a * b) (ld_gate m c t k) (tile_back m c hx hc t a k ⟨_, hl⟩ rfl)) (iblk_w m c t b k)

/-- The gradient of the output weights after the run is the reference's, when the inputs are finite. -/
theorem final_gw (c : Dev nD) (hx : ∀ j, Fin' (x2 m c j)) (hc : ∀ j, Fin' (ct m c j)) :
    (dats m 0 c).arrAt 10 (cfgs 0).N = GW (back m c) (m ((c : Thread nD τ).loc main_arg1)) (m ((c : Thread nD τ).loc main_arg4)) := by
  refine (dats m 0 c).arrAt_eq_of_covers 10 _ (by decide +kernel) fun t hf y => ?_
  have h3 : t.val % 8 = 7 := (flush0_10 t).mp hf
  have hi := idx t
  blk_simp
  rw [after0_10]
  obtain ⟨a, b, rfl⟩ : ∃ a b, y = ix2 a b := ⟨y 0, y 1, eq_ix2 y⟩
  have hs := Pipeline.eq_sum_fin_of_reset_step_apply_of_flush (fun n h => (outsAt0 m c n h).2.2.1) 8 (fun _ => 0)
    (fun t j => ∑ k : Fin 512, (show EReal from iblk m c 4 t (ix2 k (j 0))) * (ga m c t (ix2 (0 : Fin 1) (j 1)) * tb m c t (ix2 k (j 1))))
    (fun t h j => by
      rw [outsAt0_A m c t h]; frame_out
      exact (hpay4 _ _ _ _ _).trans (congrArg₂ (fun a b : EReal => a + b) (hzero' _) rfl))
    (fun t h j => by
      rw [outsAt0_B m c t h]; frame_out
      exact hpay4 _ _ _ _ _) t h3 (ix2 a b)
  refine hs.trans ((zero_add _).trans (Eq.trans ?_ ((hgw (back m c) (m ((c : Thread nD τ).loc main_arg1)) (m ((c : Thread nD τ).loc main_arg4)) (ix2 a b)).symm.trans (congrArg (GW (back m c) (m ((c : Thread nD τ).loc main_arg1)) (m ((c : Thread nD τ).loc main_arg4))) (by blk_ext [hi])))))
  have hp : ∀ s : Fin 8, 8 * (t.val / 8) + s.val = s.val := fun s => by omega
  refine Fin.sum_mul_add_congr fun s k hl => ?_
  exact (mul_comm _ _).trans (congrArg₂ (fun a b : EReal => a * b) (congrArg₂ (fun a b : EReal => a * b) (ld_gate m c _ b) (tile_back m c hx hc _ k b ⟨s.val * 512 + k.val, hl⟩ (by simp [hp]))) (iblk_y m c _ k a ⟨s.val * 512 + k.val, hl⟩ (by simp [hp])))

/-- What a grid point adds to a row of the fourth result. -/
def part (c : Dev nD) (t : Fin cfg0.N) (r : Fin 8) (b : Fin 1024) : EReal :=
  if r.val = 0 then ∑ a : Fin 512, k0_pay7 (iblk m c 0 t) (ix2 a b)
  else if r.val = 1 then ∑ a : Fin 512, k0_pay7 (iblk m c 0 t) (ix2 a b) * (k0_pay10 (iblk m c 1 t) (ix2 a b) * (show EReal from iblk m c 7 t (ix2 0 b)))
  else if r.val = 2 then ∑ a : Fin 512, k0_pay11 (iblk m c 0 t) (sc m c t) (ix2 a b) * k0_pay10 (iblk m c 1 t) (ix2 a b)
  else if r.val = 3 then ∑ a : Fin 512, tb m c t (ix2 a b) * (show EReal from iblk m c 3 t (ix2 a b))
  else 0

/-- The first grid point starts the fourth result from zero. -/
theorem stats_reset (c : Dev nD) (t : Fin cfg0.N) (h : t.val % 8 = 0) (r : Fin 8) (b : Fin 1024) :
    (outsAt0 m c t.val t.isLt).2.2.2 (ix2 r b) = 0 + part m c t r b := by
  rw [outsAt0_A m c t h]
  frame_open
  simp (disch := decide) only [↓ View.readCov_skip, ↓ View.readCov_cons_toLoadRect, ↓ View.readCov_fill]
  frame_out
  unfold part
  by_cases h3 : r.val = 3
  · rw [if_neg (by omega), if_neg (by omega), if_neg (by omega), if_pos h3]
    refine (canon_row_hit _ _ _ r b h3).trans ((hpay1 _ _ _ _ _).trans ?_)
    exact congrArg₂ (fun a b : EReal => a + b) ((ld_row _ _ 3 b rfl).trans (hzero _)) rfl
  refine (canon_row_miss _ _ _ r b h3).trans ?_
  by_cases h2 : r.val = 2
  · rw [if_neg (by omega), if_neg (by omega), if_pos h2]
    refine (canon_row_hit _ _ _ r b h2).trans ((hpay18 _ _ _ _).trans ?_)
    exact congrArg₂ (fun a b : EReal => a + b) ((ld_row _ _ 2 b rfl).trans (hzero _)) rfl
  refine (canon_row_miss _ _ _ r b h2).trans ?_
  by_cases h1 : r.val = 1
  · rw [if_neg (by omega), if_pos h1]
    refine (canon_row_hit _ _ _ r b h1).trans ((hpay17 _ _ _ _ _).trans ?_)
    exact congrArg₂ (fun a b : EReal => a + b) ((ld_row _ _ 1 b rfl).trans (hzero _)) rfl
  refine (canon_row_miss _ _ _ r b h1).trans ?_
  by_cases h0 : r.val = 0
  · rw [if_pos h0]
    refine (canon_row_hit _ _ _ r b h0).trans ((hpay16 _ _ _).trans ?_)
    exact congrArg₂ (fun a b : EReal => a + b) ((ld_row _ _ 0 b rfl).trans (hzero _)) rfl
  refine (canon_row_miss _ _ _ r b h0).trans ?_
  rw [if_neg h0, if_neg h1, if_neg h2, if_neg h3, add_zero]
  exact (congrFun (View.canon_cons_unit_lit _ _ _ (by decide)) _).trans (hzero _)

/-- Every other grid point adds to it. -/
theorem stats_step (c : Dev nD) (t : Fin cfg0.N) (h : ¬ t.val % 8 = 0) (r : Fin 8) (b : Fin 1024) :
    (outsAt0 m c t.val t.isLt).2.2.2 (ix2 r b) = (outsAt0 m c (t.val - 1) (by omega)).2.2.2 (ix2 r b) + part m c t r b := by
  rw [outsAt0_B m c t h]
  frame_open
  simp (disch := decide) only [↓ View.readCov_skip, ↓ View.readCov_cons_toLoadRect, ↓ View.readCov_fill]
  frame_out
  unfold part
  by_cases h3 : r.val = 3
  · rw [if_neg (by omega), if_neg (by omega), if_neg (by omega), if_pos h3]
    refine (read_row_hit _ _ _ _ _ r b h3).trans ((hpay1 _ _ _ _ _).trans ?_)
    exact congrArg₂ (fun a b : EReal => a + b) (ld_row _ _ r b h3) rfl
  refine (read_row_miss _ _ _ _ _ r b h3).trans ?_
  by_cases h2 : r.val = 2
  · rw [if_neg (by omega), if_neg (by omega), if_pos h2]
    refine (read_row_hit _ _ _ _ _ r b h2).trans ((hpay18 _ _ _ _).trans ?_)
    exact congrArg₂ (fun a b : EReal => a + b) (ld_row _ _ r b h2) rfl
  refine (read_row_miss _ _ _ _ _ r b h2).trans ?_
  by_cases h1 : r.val = 1
  · rw [if_neg (by omega), if_pos h1]
    refine (read_row_hit _ _ _ _ _ r b h1).trans ((hpay17 _ _ _ _ _).trans ?_)
    exact congrArg₂ (fun a b : EReal => a + b) (ld_row _ _ r b h1) rfl
  refine (read_row_miss _ _ _ _ _ r b h1).trans ?_
  by_cases h0 : r.val = 0
  · rw [if_pos h0]
    refine (read_row_hit _ _ _ _ _ r b h0).trans ((hpay16 _ _ _).trans ?_)
    exact congrArg₂ (fun a b : EReal => a + b) (ld_row _ _ r b h0) rfl
  refine (read_row_miss _ _ _ _ _ r b h0).trans ?_
  rw [if_neg h0, if_neg h1, if_neg h2, if_neg h3, add_zero]
  exact congrFun ((hs0_11 t).read_unread _) _

/-- The gradients of the shift, the scale, the gain and the gate after the run are the reference's, when the inputs are finite. -/
theorem final_st (c : Dev nD) (hx : ∀ j, Fin' (x2 m c j)) (hc : ∀ j, Fin' (ct m c j)) : (dats m 0 c).arrAt 11 (cfgs 0).N
    = STATS (x2 m c) (m ((c : Thread nD τ).loc main_arg6)) (back m c) (MIX (m ((c : Thread nD τ).loc main_arg1)) (m ((c : Thread nD τ).loc main_arg2))) (m ((c : Thread nD τ).loc main_arg3)) (SCALE (m ((c : Thread nD τ).loc main_arg4))) := by
  refine (dats m 0 c).arrAt_eq_of_covers 11 _ (by decide +kernel) fun t hf y => ?_
  have h7 : t.val % 8 = 7 := (flush0_11 t).mp hf
  have hi := idx t
  blk_simp
  rw [after0_11]
  obtain ⟨r, b, rfl⟩ : ∃ r b, y = ix2 r b := ⟨y 0, y 1, eq_ix2 y⟩
  have hs := Pipeline.eq_sum_fin_of_reset_step_apply_of_flush (fun n h (i : Fin 8 × Fin 1024) => (outsAt0 m c n h).2.2.2 (ix2 i.1 i.2)) 8 (fun _ => 0) (fun t i => part m c t i.1 i.2)
    (fun t h i => stats_reset m c t h i.1 i.2) (fun t h i => stats_step m c t h i.1 i.2) t h7 (r, b)
  refine hs.trans ((zero_add _).trans (Eq.trans ?_ (congrArg (STATS (x2 m c) (m ((c : Thread nD τ).loc main_arg6)) (back m c) (MIX (m ((c : Thread nD τ).loc main_arg1)) (m ((c : Thread nD τ).loc main_arg2))) (m ((c : Thread nD τ).loc main_arg3)) (SCALE (m ((c : Thread nD τ).loc main_arg4)))) (show ix2 r b = _ by blk_ext [hi]))))
  refine Eq.trans ?_ (hstats _ _ _ _ _ _ r b).symm
  have hp : ∀ s : Fin 8, 8 * (t.val / 8) + s.val = s.val := fun s => by omega
  unfold part
  by_cases h0 : r.val = 0
  · simp only [if_pos h0]
    exact Fin.sum_mul_add_congr fun s k hl => (hpay7 _ _).trans (iblk_e m c _ k b ⟨s.val * 512 + k.val, hl⟩ (by simp [hp]))
  by_cases h1 : r.val = 1
  · simp only [if_neg h0, if_pos h1]
    refine Fin.sum_mul_add_congr fun s k hl => ?_
    refine (congrArg₂ (fun a b : EReal => a * b) ((hpay7 _ _).trans (iblk_e m c _ k b ⟨s.val * 512 + k.val, hl⟩ (by simp [hp]))) (congrArg₂ (fun a b : EReal => a * b) (tile_xhat m c _ k b ⟨s.val * 512 + k.val, hl⟩ (by simp [hp])) (iblk_g m c _ b))).trans ?_
    exact mul_comm _ _
  by_cases h2 : r.val = 2
  · simp only [if_neg h0, if_neg h1, if_pos h2]
    refine Fin.sum_mul_add_congr fun s k hl => ?_
    refine (congrArg₂ (fun a b : EReal => a * b) ((hpay11 _ _ _).trans (congrArg₂ (fun a b : EReal => a * b) (iblk_e m c _ k b ⟨s.val * 512 + k.val, hl⟩ (by simp [hp])) (congrArg (fun a : EReal => 1 + a) (ld_scale m c _ b)))) (tile_xhat m c _ k b ⟨s.val * 512 + k.val, hl⟩ (by simp [hp]))).trans ?_
    exact mul_comm _ _
  by_cases h3 : r.val = 3
  · simp only [if_neg h0, if_neg h1, if_neg h2, if_pos h3]
    exact Fin.sum_mul_add_congr fun s k hl => congrArg₂ (fun a b : EReal => a * b) (tile_back m c hx hc _ k b ⟨s.val * 512 + k.val, hl⟩ (by simp [hp])) (iblk_q m c _ k b ⟨s.val * 512 + k.val, hl⟩ (by simp [hp]))
  simp only [if_neg h0, if_neg h1, if_neg h2, if_neg h3, Finset.sum_const_zero]

end Cert.MixOutBwdIdeal.Hand

end
-- ==== Proof.MixOutFwdValue.lean ====
/- The end of the mixer, forward: the output projection, the residual and the normalised, modulated input of the feed-forward block. -/
module

public import proofs.«01_k».proof.Proof.Gen.MixOutFwdIdeal.Value
public import proofs.«01_k».proof.Proof.Gen.MixOutFwdRefIdeal.Run
public import proofs.«01_k».proof.Proof.Rms
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOutFwdIdeal.Hand
open Cert.MixOutFwdIdeal Cert.MixOutFwdIdeal.Gen Idealize.ShloMosaic.StableHlo Cert.Shared
open Cert.MixOutFwdRefIdeal.Gen (bcast_S1x1024_S4096x1024_0_1 slices_S6x1024_S1x1024_2_0 slices_S6x1024_S1x1024_3_0 slices_S6x1024_S1x1024_4_0 bcast_S4096x1_S4096x1024_0_1 bcast_S4096_S4096x1_0 bcast_S_S4096x1 bcast_S_S1x1024 reducesTo_S4096x1024_S4096_d1 h_S_)
variable (m : (ℓ : Loc nD τ sig) → Buf (Elt Ideal) ℓ)

/-- The reference's projected mixer output. -/
abbrev MIX (Y : FVec Ideal S4096x1024 .f32) (W : FVec Ideal S1024x1024 .f32) : FVec Ideal S4096x1024 .f32 :=
  Host.dotGeneral Cert.MixOutFwdRefIdeal.dot_S4096x1024_S1024x1024_S4096x1024_1_0_0_1_n_n none Y W

/-- The reference's residual stream after the mixer. -/
abbrev RES (X Y : FVec Ideal S4096x1024 .f32) (W : FVec Ideal S1024x1024 .f32) (M : FVec Ideal S6x1024 .f32) : FVec Ideal S4096x1024 .f32 :=
  addf X (mulf (broadcastInDim S4096x1024 ![0, 1] bcast_S1x1024_S4096x1024_0_1 (extractStridedSlice S1x1024 ![2, 0] M slices_S6x1024_S1x1024_2_0)) (MIX Y W))

/-- The reference's normalised, modulated rows. -/
abbrev NRM (Z : FVec Ideal S4096x1024 .f32) (G : FVec Ideal S1x1024 .f32) (M : FVec Ideal S6x1024 .f32) : FVec Ideal S4096x1024 .f32 :=
  addf (mulf (mulf (mulf Z (broadcastInDim S4096x1024 ![0, 1] bcast_S4096x1_S4096x1024_0_1 (Host.rsqrt (addf (Host.divf (broadcastInDim Cert.MixOutFwdRefIdeal.S4096x1 ![0] bcast_S4096_S4096x1_0 (Host.reduceAdd (mulf Z Z) (constant S_ .f32 0x00000000#32) reducesTo_S4096x1024_S4096_d1 h_S_)) (broadcastInDim Cert.MixOutFwdRefIdeal.S4096x1 ![] bcast_S_S4096x1 (constant S_ .f32 0x44800000#32))) (broadcastInDim Cert.MixOutFwdRefIdeal.S4096x1 ![] bcast_S_S4096x1 (constant S_ .f32 0x358637BD#32)))))) (broadcastInDim S4096x1024 ![0, 1] bcast_S1x1024_S4096x1024_0_1 G)) (broadcastInDim S4096x1024 ![0, 1] bcast_S1x1024_S4096x1024_0_1 (addf (broadcastInDim S1x1024 ![] bcast_S_S1x1024 (constant S_ .f32 0x3F800000#32)) (extractStridedSlice S1x1024 ![4, 0] M slices_S6x1024_S1x1024_4_0)))) (broadcastInDim S4096x1024 ![0, 1] bcast_S1x1024_S4096x1024_0_1 (extractStridedSlice S1x1024 ![3, 0] M slices_S6x1024_S1x1024_3_0))

/-- The projected mixer output at an index. -/
theorem hmix (Y : FVec Ideal S4096x1024 .f32) (W : FVec Ideal S1024x1024 .f32) (j : S4096x1024.Idx) :
    MIX Y W j = ∑ k : Fin 1024, Y (ix2 (j 0) k) * W (ix2 k (j 1)) := by pointwise [MIX]

/-- The residual stream at an index. -/
theorem hres (X Y : FVec Ideal S4096x1024 .f32) (W : FVec Ideal S1024x1024 .f32) (M : FVec Ideal S6x1024 .f32) (j : S4096x1024.Idx) :
    RES X Y W M j = X j + M (ix2 (2 : Fin 6) (j 1)) * MIX Y W j := by
  generalize hG : MIX Y W = G
  unfold RES
  rw [hG]
  pointwise

/-- The normalised rows at an index. -/
theorem hnrm (Z : FVec Ideal S4096x1024 .f32) (G : FVec Ideal S1x1024 .f32) (M : FVec Ideal S6x1024 .f32) (j : S4096x1024.Idx) :
    NRM Z G M j = ((Z j * rms (fun k => Z (ix2 (j 0) k))) * G (ix2 (0 : Fin 1) (j 1))) * (1 + M (ix2 (4 : Fin 6) (j 1))) + M (ix2 (3 : Fin 6) (j 1)) := by
  pointwise [NRM]

/-- One tile of the projection. -/
theorem hpay3 (x : Vec Ideal S1024x1024 .bf16) (w : Vec Ideal S1024x1024 .bf16) (j) :
    k0_pay3 x w j = ∑ k : Fin 1024, x (ix2 (j 0) k) * w (ix2 k (j 1)) := by
  pointwise [k0_pay3, k0_pay2]

/-- One tile of the residual stream. -/
theorem hpay4 (y : Vec Ideal S1024x1024 .bf16) (w : Vec Ideal S1024x1024 .bf16) (x : Vec Ideal S1024x1024 .f32) (s : Vec Ideal S1x1024 .f32) (j) :
    k0_pay4 y w x s j = x j + s (ix2 0 (j 1)) * ∑ k : Fin 1024, y (ix2 (j 0) k) * w (ix2 k (j 1)) := by
  pointwise [k0_pay4, k0_pay2]

/-- One tile of the normalised rows. -/
theorem hpay1 (y : Vec Ideal S1024x1024 .bf16) (w : Vec Ideal S1024x1024 .bf16) (x : Vec Ideal S1024x1024 .f32) (s g c b : Vec Ideal S1x1024 .f32) (j) :
    k0_pay1 (k0_pay5 y w x s g c) b j = ((k0_pay4 y w x s j * rms (fun k => k0_pay4 y w x s (ix2 (j 0) k))) * g (ix2 0 (j 1))) * (1 + c (ix2 0 (j 1))) + b (ix2 0 (j 1)) := by
  unfold k0_pay1 k0_pay5
  generalize k0_pay4 y w x s = Z
  pointwise

/-- The rows of the modulation that the call reads. -/
theorem entry_m (c : Dev nD) (i : S8x1024.Idx) (a : Fin 6) (h : (i 0).val = a.val) : V m c main_v4 i = m ((c : Thread nD τ).loc main_arg4) (ix2 a (i 1)) := by
  have e : V m c main_v4 = Host.scatter scatter_S8x1024_S1_S6x1024_01_n_0_0 (fun _ b => b) (broadcastInDim S8x1024 ![] bcast_S_S8x1024 (constant S_ .f32 0x00000000#32)) (broadcastInDim S1 ![] bcast_S_S1 (constantI S_ 32 0#32)) (show FVec Ideal S6x1024 .f32 from m ((c : Thread nD τ).loc main_arg4)) := by
    entry_read
    rfl
  rw [e]
  exact set_rows _ rfl rfl rfl _ _ (fun _ => rfl) _ i (ix2 a (i 1)) h rfl

/-- The mixer output that the call reads. -/
theorem entry_y (c : Dev nD) (i) : V m c main_v0 i = m ((c : Thread nD τ).loc main_arg1) i := by
  have e : V m c main_v0 = truncf .bf16 (show FVec Ideal S4096x1024 .f32 from m ((c : Thread nD τ).loc main_arg1)) bitsLt_bf16_f32 := by
    entry_read
    rfl
  rw [e]
  pointwise

/-- The projection that the call reads. -/
theorem entry_w (c : Dev nD) (i) : V m c main_v1 i = m ((c : Thread nD τ).loc main_arg2) i := by
  have e : V m c main_v1 = truncf .bf16 (show FVec Ideal S1024x1024 .f32 from m ((c : Thread nD τ).loc main_arg2)) bitsLt_bf16_f32 := by
    entry_read
    rfl
  rw [e]
  pointwise

/-- Which blocks a grid point reads and writes. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ t.val < 4 :=
  (by decide +kernel : ∀ t : Fin grid0.N, _)

/-- The rows of the mixer output at a grid point. -/
theorem iblk_y (c : Dev nD) (t : Fin cfg0.N) (a b : Fin 1024) (A : Fin 4096) (hA : A.val = t.val * 1024 + a.val) :
    iblk m c 0 t (ix2 a b) = m ((c : Thread nD τ).loc main_arg1) (ix2 A b) := by
  have hi := idx t
  refine (entry_y m c _).trans ?_
  blk_ext [hi]

/-- The rows of the residual stream at a grid point. -/
theorem iblk_x (c : Dev nD) (t : Fin cfg0.N) (a b : Fin 1024) (A : Fin 4096) (hA : A.val = t.val * 1024 + a.val) :
    iblk m c 1 t (ix2 a b) = m ((c : Thread nD τ).loc main_arg0) (ix2 A b) := by
  have hi := idx t
  refine (congrFun (V_main_arg0 m c) _).trans ?_
  blk_ext [hi]

/-- The projection, whole. -/
theorem iblk_w (c : Dev nD) (t : Fin cfg0.N) (a b : Fin 1024) :
    iblk m c 2 t (ix2 a b) = m ((c : Thread nD τ).loc main_arg2) (ix2 a b) := by
  have hi := idx t
  refine (entry_w m c _).trans ?_
  blk_ext [hi]

/-- The gain, whole. -/
theorem iblk_g (c : Dev nD) (t : Fin cfg0.N) (b : Fin 1024) :
    iblk m c 4 t (ix2 0 b) = m ((c : Thread nD τ).loc main_arg3) (ix2 0 b) := by
  have hi := idx t
  refine (congrFun (V_main_arg3 m c) _).trans ?_
  blk_ext [hi]

/-- A row of the modulation. -/
theorem iblk_m (c : Dev nD) (t : Fin cfg0.N) (r : Fin 8) (a : Fin 6) (h : r.val = a.val) (b : Fin 1024) :
    iblk m c 3 t (ix2 r b) = m ((c : Thread nD τ).loc main_arg4) (ix2 a b) := by
  have hi := idx t
  refine (entry_m m c _ a (by blk_simp [hi]; exact h)).trans ?_
  blk_ext [hi]

/-- A loaded row of the modulation is that row. -/
theorem row2 (x : Vec Ideal S8x1024 .f32) (b : Fin 1024) : View.ld x r0_1 (ix2 0 b) = x (ix2 2 b) := by
  refine congrArg x ?_
  funext d
  apply Fin.ext
  fin_cases d <;> first | rfl | simp

theorem row4 (x : Vec Ideal S8x1024 .f32) (b : Fin 1024) : View.ld x r0_3 (ix2 0 b) = x (ix2 4 b) := by
  refine congrArg x ?_
  funext d
  apply Fin.ext
  fin_cases d <;> first | rfl | simp

theorem row3 (x : Vec Ideal S8x1024 .f32) (b : Fin 1024) : View.ld x r0_4 (ix2 0 b) = x (ix2 3 b) := by
  refine congrArg x ?_
  funext d
  apply Fin.ext
  fin_cases d <;> first | rfl | simp

/-- The projection's tile at a grid point. -/
theorem tile_mix (c : Dev nD) (t : Fin cfg0.N) (y : S1024x1024.Idx) (z : S4096x1024.Idx) (h0 : (z 0).val = t.val * 1024 + (y 0).val) (h1 : (z 1).val = (y 1).val) :
    (∑ k : Fin 1024, (show EReal from iblk m c 0 t (ix2 (y 0) k)) * (show EReal from iblk m c 2 t (ix2 k (y 1))))
      = MIX (m ((c : Thread nD τ).loc main_arg1)) (m ((c : Thread nD τ).loc main_arg2)) z := by
  rw [hmix, show z 1 = y 1 from Fin.ext h1]
  exact Finset.sum_congr rfl fun k _ => congrArg₂ (fun a b : EReal => a * b) (iblk_y m c t (y 0) k _ h0) (iblk_w m c t k (y 1))

/-- The residual stream's tile at a grid point. -/
theorem tile_res (c : Dev nD) (t : Fin cfg0.N) (y : S1024x1024.Idx) (z : S4096x1024.Idx) (h0 : (z 0).val = t.val * 1024 + (y 0).val) (h1 : (z 1).val = (y 1).val) :
    k0_pay4 (iblk m c 0 t) (iblk m c 2 t) (iblk m c 1 t) (View.ld (iblk m c 3 t) r0_1) y
      = RES (m ((c : Thread nD τ).loc main_arg0)) (m ((c : Thread nD τ).loc main_arg1)) (m ((c : Thread nD τ).loc main_arg2)) (m ((c : Thread nD τ).loc main_arg4)) z := by
  rw [hpay4, hres, ← tile_mix m c t y z h0 h1]
  obtain ⟨a, b, rfl⟩ : ∃ a b, y = ix2 a b := ⟨y 0, y 1, eq_ix2 y⟩
  obtain ⟨A, B, rfl⟩ : ∃ A B, z = ix2 A B := ⟨z 0, z 1, eq_ix2 z⟩
  obtain rfl : B = b := Fin.ext h1
  exact congrArg₂ (fun a b : EReal => a + b) (iblk_x m c t a B A h0) (congrArg₂ (fun a b : EReal => a * b) ((row2 _ B).trans (iblk_m m c t 2 2 rfl B)) rfl)

/-- The normalised rows' tile at a grid point. -/
theorem tile_nrm (c : Dev nD) (t : Fin cfg0.N) (y : S1024x1024.Idx) (z : S4096x1024.Idx) (h0 : (z 0).val = t.val * 1024 + (y 0).val) (h1 : (z 1).val = (y 1).val) :
    k0_pay1 (k0_pay5 (iblk m c 0 t) (iblk m c 2 t) (iblk m c 1 t) (View.ld (iblk m c 3 t) r0_1) (iblk m c 4 t) (View.ld (iblk m c 3 t) r0_3)) (View.ld (iblk m c 3 t) r0_4) y
      = NRM (RES (m ((c : Thread nD τ).loc main_arg0)) (m ((c : Thread nD τ).loc main_arg1)) (m ((c : Thread nD τ).loc main_arg2)) (m ((c : Thread nD τ).loc main_arg4))) (m ((c : Thread nD τ).loc main_arg3)) (m ((c : Thread nD τ).loc main_arg4)) z := by
  rw [hpay1, hnrm, tile_res m c t y z h0 h1]
  simp only [fun k => tile_res m c t (ix2 (y 0) k) (ix2 (z 0) k) h0 rfl]
  obtain ⟨a, b, rfl⟩ : ∃ a b, y = ix2 a b := ⟨y 0, y 1, eq_ix2 y⟩
  obtain ⟨A, B, rfl⟩ : ∃ A B, z = ix2 A B := ⟨z 0, z 1, eq_ix2 z⟩
  obtain rfl : B = b := Fin.ext h1
  exact congrArg₂ (fun a b : EReal => a + b) (congrArg₂ (fun a b : EReal => a * b) (congrArg₂ (fun a b : EReal => a * b) rfl (iblk_g m c t B)) (congrArg (fun a : EReal => 1 + a) ((row4 _ B).trans (iblk_m m c t 4 4 rfl B)))) ((row3 _ B).trans (iblk_m m c t 3 3 rfl B))

/-- The projection after the run is the reference's. -/
theorem final_mix (c : Dev nD) : (dats m 0 c).arrAt 5 (cfgs 0).N
    = truncf .bf16 (MIX (m ((c : Thread nD τ).loc main_arg1)) (m ((c : Thread nD τ).loc main_arg2))) Cert.MixOutFwdRefIdeal.Gen.bitsLt_bf16_f32 := by
  refine (dats m 0 c).arrAt_eq_of_covers 5 _ (by decide +kernel) fun t hf y => ?_
  have hi := idx t
  have hv : out0_5 (iblk m c 0 t) (iblk m c 1 t) (iblk m c 2 t) (iblk m c 3 t) (iblk m c 4 t) y = k0_pay3 (iblk m c 0 t) (iblk m c 2 t) y := by
    unfold out0_5; frame_out
  blk_simp
  rw [after0_5, hv, hpay3]
  exact tile_mix m c t y _ (by blk_simp [hi]) (by blk_simp [hi])

/-- The residual stream after the run is the reference's. -/
theorem final_res (c : Dev nD) : (dats m 0 c).arrAt 6 (cfgs 0).N
    = RES (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  have hi := idx t
  have hv : out0_6 (iblk m c 0 t) (iblk m c 1 t) (iblk m c 2 t) (iblk m c 3 t) (iblk m c 4 t) y
      = k0_pay4 (iblk m c 0 t) (iblk m c 2 t) (iblk m c 1 t) (View.ld (iblk m c 3 t) r0_1) y := by
    unfold out0_6; frame_out; rfl
  blk_simp
  rw [after0_6, hv]
  exact tile_res m c t y _ (by blk_simp [hi]) (by blk_simp [hi])

/-- The normalised rows after the run are the reference's. -/
theorem final_nrm (c : Dev nD) : (dats m 0 c).arrAt 7 (cfgs 0).N
    = truncf .bf16 (NRM (RES (m ((c : Thread nD τ).loc main_arg0)) (m ((c : Thread nD τ).loc main_arg1)) (m ((c : Thread nD τ).loc main_arg2)) (m ((c : Thread nD τ).loc main_arg4))) (m ((c : Thread nD τ).loc main_arg3)) (m ((c : Thread nD τ).loc main_arg4))) Cert.MixOutFwdRefIdeal.Gen.bitsLt_bf16_f32 := by
  refine (dats m 0 c).arrAt_eq_of_covers 7 _ (by decide +kernel) fun t hf y => ?_
  have hi := idx t
  have hv : out0_7 (iblk m c 0 t) (iblk m c 1 t) (iblk m c 2 t) (iblk m c 3 t) (iblk m c 4 t) y
      = k0_pay1 (k0_pay5 (iblk m c 0 t) (iblk m c 2 t) (iblk m c 1 t) (View.ld (iblk m c 3 t) r0_1) (iblk m c 4 t) (View.ld (iblk m c 3 t) r0_3)) (View.ld (iblk m c 3 t) r0_4) y := by
    unfold out0_7; frame_out; rfl
  blk_simp
  rw [after0_7, hv]
  exact tile_nrm m c t y _ (by blk_simp [hi]) (by blk_simp [hi])

end Cert.MixOutFwdIdeal.Hand

end
-- ==== Proof.MlpLossIdealRuns.lean ====
/- The feed-forward block with the loss: one run of the body at each kind of grid point. -/
module

public import proofs.«01_k».proof.Proof.Gen.MlpLossIdeal.Frame
public import proofs.«01_k».proof.Proof.Gen.MlpLossIdeal.Skeleton
public import Idealize.ShloMosaic.Lib.Pipeline.TableIdle

@[expose] public section

set_option maxRecDepth 16384

noncomputable section

namespace Cert.MlpLossIdeal.Hand

open Cert.MlpLossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's proof kit at the algebra of transfers -/

set_option maxHeartbeats 800000 in
/-- The program up to its kernel region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The input windows hold their blocks before the body, at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The argument arrays after a run whose post is known array by array. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 4).trans (((dats 0 c).arrAt_in 4 rfl _).trans ((hA c 4).trans (V_main_arg6 m c)))⟩) h

/-! ## The body's branch conditions -/

abbrev cond0_0 (i : grid0.Coords) : Prop := k0_cond1 i = 1#1
/-- This condition holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 16 = 0)

abbrev cond0_1 (i : grid0.Coords) : Prop := k0_cond2 i = 1#1
/-- This condition holds at the points ≡ 0 (mod 4). -/
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

abbrev cond0_2 (i : grid0.Coords) : Prop := k0_cond3 i = 1#1
/-- This condition holds at the points ≡ 3 (mod 4). -/
theorem hcond0_2 : ∀ t : Fin cfg0.N, cond0_2 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the last three outputs are left alone -/

abbrev idleP (w : Fin cfg0.W) (t : Fin cfg0.N) : Prop := cfg0.idle w (grid0.coords t) = true ∧ (cfg0.win w).flush t = false
/-- Off the last column the two large outputs are left alone. -/
theorem idle6 : ∀ t : Fin cfg0.N, ¬cond0_2 (grid0.coords t) → idleP 6 t ∧ idleP 7 t := by decide +kernel
/-- On the last column they are written. -/
theorem live6 : ∀ t : Fin cfg0.N, cond0_2 (grid0.coords t) →
    cfg0.idle 6 (grid0.coords t) = false ∧ cfg0.idle 7 (grid0.coords t) = false ∧ cfg0.idle 8 (grid0.coords t) = false := by decide +kernel
/-- The statistics are left alone away from the first point and the last column. -/
theorem idle8 : ∀ t : Fin cfg0.N, ¬cond0_0 (grid0.coords t) → ¬cond0_2 (grid0.coords t) → idleP 8 t := by decide +kernel
/-- The statistics are written at the first point. -/
theorem live8 : ∀ t : Fin cfg0.N, cond0_0 (grid0.coords t) → cfg0.idle 8 (grid0.coords t) = false := by decide +kernel
/-- The positions at which the statistics' buffer holds nothing yet. -/
def freshTab : ℕ → Bool
  | 0 => true
  | n + 1 => (0x8000 : ℕ).testBit n
theorem freshTab_step : ∀ t : Fin cfg0.N,
    freshTab (t.val + 1) = ((cfg0.win 8).flush t || (cfg0.idle 8 (cfg0.grid.coords t) && freshTab t.val)) := by decide +kernel
theorem fresh_eq (t : Fin cfg0.N) : cfg0.fresh 8 t.val = freshTab t.val :=
  Pipeline.Cfg.fresh_tab cfg0 8 freshTab rfl freshTab_step t.val (Nat.le_of_lt t.isLt)
/-- On the last column the statistics already hold something. -/
theorem notFresh8 : ∀ t : Fin cfg0.N, cond0_2 (grid0.coords t) → cfg0.fresh 8 t.val = false := by
  intro t; rw [fresh_eq t]; revert t; decide +kernel

/-! ## The buffers the body runs on -/

abbrev VO0_5 : View sig .tc .vmem S1024x1024 .bf16 := (Memref.whole cc0_stg5_0 : Memref sig .tc .vmem S1024x1024 .bf16).view
abbrev VO0_6 : View sig .tc .vmem S1024x1024 .bf16 := (Memref.whole cc0_stg6_0 : Memref sig .tc .vmem S1024x1024 .bf16).view
abbrev VO0_7 : View sig .tc .vmem S1024x1024 .bf16 := (Memref.whole cc0_stg7_0 : Memref sig .tc .vmem S1024x1024 .bf16).view
abbrev VO0_8 : View sig .tc .vmem S8x1024 .f32 := (Memref.whole cc0_stg8_0 : Memref sig .tc .vmem S8x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
abbrev scM0_0 : Memref sig .tc .vmem S1024x1024 .f32 := Memref.whole cc0_scratch0
abbrev scM0_1 : Memref sig .tc .vmem S1024x1024 .f32 := Memref.whole cc0_scratch1
abbrev scM0_2 : Memref sig .tc .vmem S1024x1024 .f32 := Memref.whole cc0_scratch2
abbrev VS0_0 : View sig .tc .vmem S1024x1024 .f32 := scM0_0.view
abbrev hbM0_0 : Memref sig .tc .hbm S4096x1024 .f32 := Memref.whole main_arg3
abbrev hbM0_1 : Memref sig .tc .hbm S4096x1024 .f32 := Memref.whole main_arg4
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 2 → SemLoc sig := fun j => (![SemLoc.dma 15, SemLoc.dma 16] : Fin 2 → SemLoc sig) j
/-- The kernel's own semaphores and arrays, listed. -/
theorem ownSemFacts0 : Pipeline.OwnSemFacts spec0 osem0 := by decide
/-- The kernel's own semaphores and arrays, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
def H0 : Finset (Ref sig .tc) := {main_arg3, main_arg4}
/-- The kernel's own semaphores and arrays, listed. -/
theorem H0_sub : H0 ⊆ Pipeline.restRefs sig spec0 := by decide
/-- The kernel's own semaphores and arrays, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- The kernel's own semaphores and arrays, listed. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg3) ∗ hbPt0 c hbM0_1 (V m c main_arg4))) := by
  rw [Pipeline.ΦD_eq, scopedRest0_eq, ownSems00_eq, hbmPts0_eq]; simp only [scM0_0, scM0_1, scM0_2, owns_whole]; try rfl

end Cert.MlpLossIdeal.Hand

end
-- ==== Proof.MlpLossIdealBody.lean ====
/- The feed-forward block with the loss: the contents of the buffers at each grid point, and that the body keeps them. -/
module

public import proofs.«01_k».proof.Proof.MlpLossIdealRuns
public import Idealize.ShloMosaic.Lib.VecWindow

@[expose] public section

set_option maxRecDepth 16384

noncomputable section

namespace Cert.MlpLossIdeal.Hand

open Cert.MlpLossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What one point leaves, from what it finds -/

/-- The first product's block, rectified and rounded. -/
abbrev zV (x0 x1 : Vec F S1024x1024 .bf16) : Vec F S1024x1024 .bf16 := k0_pay4 x0 x1
/-- The second product's running sum. -/
abbrev aV (x0 x1 x2 : Vec F S1024x1024 .bf16) (a : Vec F S1024x1024 .f32) : Vec F S1024x1024 .f32 := k0_pay5 x0 x1 a x2
/-- Row `r` of an eight-row array. -/
abbrev row (x : Vec F S8x1024 .f32) (r : ℕ) (h : ∀ a, (![r, 0] : Fin 2 → ℕ) a + S1x1024.size a ≤ S8x1024.size a) : Vec F S1x1024 .f32 :=
  VecWindow.window (s := S8x1024) x ![r, 0] S1x1024.size h
/-- The gate. -/
abbrev gV (x3 : Vec F S8x1024 .f32) : Vec F S1x1024 .f32 := row x3 5 inb_S8x1024_S1x1024_5_0
/-- The gradient of the residual stream, from the finished sum `y`, the residual `x5` and the target `x6`. -/
abbrev dxV (x3 : Vec F S8x1024 .f32) (x4 : Vec F S1x1024 .f32) (y x5 x6 : Vec F S1024x1024 .f32) : Vec F S1024x1024 .bf16 :=
  k0_pay15 (k0_pay8 (gV x3) y x5) (k0_pay9 (gV x3) y x5) (k0_pay12 (gV x3) y x5 x4 x6 x4) (k0_pay13 (gV x3) y x5 x4 x6 x4)
/-- The gated gradient. -/
abbrev dyV (x3 : Vec F S8x1024 .f32) (x4 : Vec F S1x1024 .f32) (y x5 x6 : Vec F S1024x1024 .f32) : Vec F S1024x1024 .bf16 :=
  k0_pay16 (k0_pay6 (gV x3)) (k0_pay8 (gV x3) y x5) (k0_pay9 (gV x3) y x5) (k0_pay12 (gV x3) y x5 x4 x6 x4) (k0_pay13 (gV x3) y x5 x4 x6 x4)
/-- The statistics with their three rows added to. -/
abbrev sV (x3 : Vec F S8x1024 .f32) (x4 : Vec F S1x1024 .f32) (y x5 x6 : Vec F S1024x1024 .f32) (s : Vec F S8x1024 .f32) : Vec F S8x1024 .f32 :=
  VecWindow.put (s := S8x1024) (VecWindow.put (s := S8x1024) (VecWindow.put (s := S8x1024) s ![0, 0] S1x1024.size
      (k0_pay17 (k0_pay9 (gV x3) y x5) (k0_pay11 (gV x3) y x5 x4 x6) (row s 0 inb_S8x1024_S1x1024_0_0)))
    ![1, 0] S1x1024.size (k0_pay18 y (k0_pay8 (gV x3) y x5) (k0_pay9 (gV x3) y x5) (k0_pay12 (gV x3) y x5 x4 x6 x4) (k0_pay13 (gV x3) y x5 x4 x6 x4)
      (row s 1 inb_S8x1024_S1x1024_1_0)))
    ![2, 0] S1x1024.size (k0_pay19 (k0_pay10 (gV x3) y x5 x4 x6) (row s 2 inb_S8x1024_S1x1024_2_0))

/-- Row block `b` of an array of four row blocks. -/
def tile (f : S4096x1024.Idx → Elt F .f32) (b : ℕ) : Vec F S1024x1024 .f32 :=
  fun y => f (fun a => ⟨((if a = 0 then b * 1024 else 0) + (y a).val) % S4096x1024.size a,
    Nat.mod_lt _ (by fin_cases a <;> decide)⟩)

/-- What the copy at a point brings is the row block of the point's first coordinate. -/
theorem tile_eq (M : Memref sig .tc .hbm S4096x1024 .f32) (i : grid0.Coords) (h : k0_cond2 i = 1#1)
    (f : M.view.ty.Contents (Elt F)) :
    (M.slice (Rect.unit (s := S4096x1024) (k0_off1 i) S1024x1024.size (k0_off1_inb i h)) (fun _ => rfl)).view.read (Elt F) f
      = tile (M.view.read (Elt F) f) (i 0).val := by
  funext y
  refine congrArg (M.view.read (Elt F) f) (funext fun a => Fin.ext ?_)
  have h0 : (i 0).val < 4 := (i 0).isLt
  show k0_off1 i a + 1 * (y a).val = _
  fin_cases a
  · have h1 : (y 0).val < 1024 := (y 0).isLt
    show k0_off1 i 0 + 1 * (y 0).val = ((if (0 : Fin 2) = 0 then (i 0).val * 1024 else 0) + (y 0).val) % 4096
    have e : k0_off1 i 0 = (i 0).val * 1024 := by
      show (Scalar.muli (BitVec.ofNat 32 (i 0).val) 1024#32).toNat = _
      simp only [Scalar.muli, IntOp.muli, BitVec.toNat_mul, BitVec.toNat_ofNat]; omega
    rw [e]; simp only [if_true]; omega
  · have h1 : (y 1).val < 1024 := (y 1).isLt
    show k0_off1 i 1 + 1 * (y 1).val = ((if (1 : Fin 2) = 0 then (i 0).val * 1024 else 0) + (y 1).val) % 1024
    have e : k0_off1 i 1 = 0 := rfl
    rw [e]; simp; omega

/-! ## The two copies in flight -/

/-- The copies started at the first column of a row block, until their wait: each will leave its block
    in its buffer and give back the part of the array it reads. -/
def flying (c : Dev nD) (arg14 : Memref sig .tc .vmem S1024x1024 .f32) (harg14 : arg14.IsWhole)
    (arg15 : Memref sig .tc .vmem S1024x1024 .f32) (harg15 : arg15.IsWhole) (x5 x6 : Vec F S1024x1024 .f32)
    (fh0 : HbBuf0 (F := F) c hbM0_0) (fh1 : HbBuf0 (F := F) c hbM0_1) : sProp 𝕄 :=
  iprop(∃ I0, ∃ I1,
    Transfers.Flight countersEmb (c : Thread nD τ) (SemLoc.dma 15) default 131072
      iprop((arg14.view.loc (c : Thread nD τ) ↦[arg14.view.set]{fullShare} harg14.unread x5)
        ∗ (hbM0_0.view.loc (c : Thread nD τ) ↦[I0]{fullShare} fh0))
    ∗ (hbM0_0.view.loc (c : Thread nD τ) ↦[Finset.univ \ I0]{fullShare} fh0)
    ∗ Transfers.Flight countersEmb (c : Thread nD τ) (SemLoc.dma 16) default 131072
      iprop((arg15.view.loc (c : Thread nD τ) ↦[arg15.view.set]{fullShare} harg15.unread x6)
        ∗ (hbM0_1.view.loc (c : Thread nD τ) ↦[I1]{fullShare} fh1))
    ∗ (hbM0_1.view.loc (c : Thread nD τ) ↦[Finset.univ \ I1]{fullShare} fh1))

/-- A copy into a whole buffer, restated by what the buffer will hold. -/
theorem lands {c : Dev nD} (M : Memref sig .tc .vmem S1024x1024 .f32) (hM : M.IsWhole) (f : M.view.ty.Contents (Elt F))
    (sm : SemLoc sig) (N : ℕ) (D : sProp 𝕄) (v x : Vec F S1024x1024 .f32) (h : v = x) :
    (Transfers.Flight countersEmb (c : Thread nD τ) sm default N
      iprop((M.view.loc (c : Thread nD τ) ↦[M.view.set]{fullShare} M.view.writes (Elt F) f [⟨Rect.whole S1024x1024, v⟩]) ∗ D) : sProp 𝕄)
      ⊢ Transfers.Flight countersEmb (c : Thread nD τ) sm default N
        iprop((M.view.loc (c : Thread nD τ) ↦[M.view.set]{fullShare} hM.unread x) ∗ D) := by
  subst h; rw [hM.eq_unread (View.read_writes_whole M.view f v)]

/-- A full load of a whole buffer. -/
theorem rd {s : Shape} {e : EltTy} {M : Memref sig .tc .vmem s e} (hM : M.IsWhole) (x : Vec F s e)
    {off : Fin s.rank → ℕ} (inb : ∀ a, off a + s.size a ≤ s.size a) :
    View.readAt (Elt F) M.view (Rect.unit off s.size inb).toLoadRect (hM.unread x) = x :=
  (View.readAt_full _ _ _).trans (hM.read_unread x)

theorem pay5_congr {a a' b b' d d' : Vec F S1024x1024 .bf16} {s s' : Vec F S1024x1024 .f32}
    (ha : a = a') (hb : b = b') (hs : s = s') (hd : d = d') : k0_pay5 a b s d = k0_pay5 a' b' s' d' := by
  subst ha hb hs hd; rfl

theorem cg3 {α β γ δ : Type} (f : α → β → γ → δ) {a a' b b' c c'} (ha : a = a') (hb : b = b') (hc : c = c') :
    f a b c = f a' b' c' := by subst ha hb hc; rfl
theorem cg4 {α β γ δ ε : Type} (f : α → β → γ → δ → ε) {a a' b b' c c' d d'} (ha : a = a') (hb : b = b') (hc : c = c')
    (hd : d = d') : f a b c d = f a' b' c' d' := by subst ha hb hc hd; rfl
theorem cg5 {α β γ δ ε ζ : Type} (f : α → β → γ → δ → ε → ζ) {a a' b b' c c' d d' e e'} (ha : a = a') (hb : b = b')
    (hc : c = c') (hd : d = d') (he : e = e') : f a b c d e = f a' b' c' d' e' := by subst ha hb hc hd he; rfl
theorem cg6 {α β γ δ ε ζ η : Type} (f : α → β → γ → δ → ε → ζ → η) {a a' b b' c c' d d' e e' g g'} (ha : a = a')
    (hb : b = b') (hc : c = c') (hd : d = d') (he : e = e') (hg : g = g') : f a b c d e g = f a' b' c' d' e' g' := by
  subst ha hb hc hd he hg; rfl

/-- A load of one row of a whole eight-row buffer. -/
theorem rdRow {M : Memref sig .tc .vmem S8x1024 .f32} (hM : M.IsWhole) (x : Vec F S8x1024 .f32) (r : ℕ)
    (h : ∀ a, (![r, 0] : Fin 2 → ℕ) a + S1x1024.size a ≤ S8x1024.size a) :
    View.readAt (Elt F) M.view (Rect.unit (s := S8x1024) ![r, 0] S1x1024.size h).toLoadRect (hM.unread x) = row x r h :=
  (View.readAt_unit _ _ _ rfl h).trans (congrArg (fun v => VecWindow.window (s := S8x1024) v ![r, 0] S1x1024.size h) (hM.read_unread x))

/-- Three stores of rows into a whole eight-row buffer. -/
theorem threeRows {M : Memref sig .tc .vmem S8x1024 .f32} (hM : M.IsWhole) (x : Vec F S8x1024 .f32)
    {p0 p1 p2 q0 q1 q2 : Vec F S1x1024 .f32} (h0 : p0 = q0) (h1 : p1 = q1) (h2 : p2 = q2) :
    View.read (Elt F) M.view (M.view.writes (Elt F) (hM.unread x)
      [⟨Rect.unit (s := S8x1024) ![2, 0] S1x1024.size inb_S8x1024_S1x1024_2_0, p2⟩,
       ⟨Rect.unit (s := S8x1024) ![1, 0] S1x1024.size inb_S8x1024_S1x1024_1_0, p1⟩,
       ⟨Rect.unit (s := S8x1024) ![0, 0] S1x1024.size inb_S8x1024_S1x1024_0_0, p0⟩])
    = VecWindow.put (s := S8x1024) (VecWindow.put (s := S8x1024) (VecWindow.put (s := S8x1024) x
        ![0, 0] S1x1024.size q0) ![1, 0] S1x1024.size q1) ![2, 0] S1x1024.size q2 := by
  subst h0 h1 h2
  rw [View.read_writes_cons_put M.view _ _ _ _ rfl, View.read_writes_cons_put M.view _ _ _ _ rfl, View.read_writes_cons_put M.view _ _ _ _ rfl]
  exact congrArg (fun v => VecWindow.put (s := S8x1024) (VecWindow.put (s := S8x1024) (VecWindow.put (s := S8x1024) v
        ![0, 0] S1x1024.size p0) ![1, 0] S1x1024.size p1) ![2, 0] S1x1024.size p2) (hM.read_unread x)

/-! ## The body, case by case -/
variable (c : Dev nD) (i : grid0.Coords)
  (arg2 : Memref sig .tc .vmem S1024x1024 .bf16) (harg2 : arg2.IsWhole)
  (arg3 : Memref sig .tc .vmem S1024x1024 .bf16) (harg3 : arg3.IsWhole)
  (arg4 : Memref sig .tc .vmem S1024x1024 .bf16) (harg4 : arg4.IsWhole)
  (arg7 : Memref sig .tc .vmem S8x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S8x1024 .f32) (harg12 : arg12.IsWhole)
  (arg13 : Memref sig .tc .vmem S1024x1024 .f32) (harg13 : arg13.IsWhole)
  (arg14 : Memref sig .tc .vmem S1024x1024 .f32) (harg14 : arg14.IsWhole)
  (arg15 : Memref sig .tc .vmem S1024x1024 .f32) (harg15 : arg15.IsWhole)

set_option maxHeartbeats 1000000 in
/-- At the first point. -/
theorem bodyA (hc0 : cond0_0 i) (hc1 : cond0_1 i) (hc2 : ¬cond0_2 i)
    (x0 x1 x2 : Vec F S1024x1024 .bf16) (fh0 : HbBuf0 (F := F) c hbM0_0) (fh1 : HbBuf0 (F := F) c hbM0_1) (W : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg9 fullShare (zV x0 x1) ∗ owns (c : Thread nD τ) arg12 fullShare k0_pay1 ∗ owns (c : Thread nD τ) arg13 fullShare (aV x0 x1 x2 k0_pay2) ∗ flying c arg14 harg14 arg15 harg15 (tile fh0 (i 0).val) (tile fh1 (i 0).val) fh0 fh1 ∗ (∃ W', owes (c : Thread nD τ) 0 W')) -∗ K ⟨⟩))
      ⊢ wp frame (wpE (defs₀ (F := F)) Variants.none c none) Set.univ
        (cc0_mlp_fwd_loss i arg2 harg2 arg3 harg3 arg4 harg4 (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 cc0_scratch3) K := by
  simp only [cc0_mlp_fwd_loss_eq_skeleton]; unfold cc0_mlp_fwd_loss_skel
  unfold owns
  iintro ⟨⟨%f0, %hf0, H0⟩, ⟨%f1, %hf1, H1⟩, ⟨%f2, %hf2, H2⟩, ⟨%d5, %f5, -, H5⟩, ⟨%d8, %f8, -, H8⟩, ⟨%ds0, %fs0, -, HS0⟩, ⟨%ds1, %fs1, -, HS1⟩, ⟨%ds2, %fs2, -, HS2⟩, Hq0, Hq1, Hh0, Hh1, HW, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    exact (View.read_writes_full _ _ _ _ _).trans (congrArg₂ k0_pay4 (rd harg2 x0 _) (rd harg3 x1 _))
  isplitl [H8]
  · iexists _; isplitr; swap; · iexact H8
    ipureintro
    exact (View.read_writes_full _ _ _ _ _).trans rfl
  isplitl [HS0]
  · iexists _; isplitr; swap; · iexact HS0
    ipureintro
    exact (View.read_writes_full _ _ _ _ _).trans (pay5_congr (rd harg2 x0 _) (rd harg3 x1 _) (View.readCov_full _ _ _ _ _) (rd harg4 x2 _))
  isplitl [Hq0 Hh0 Hq1 Hh1]
  · unfold flying
    iexists _, _
    isplitl [Hq0]
    · iapply (lands arg14 harg14 _ _ _ _ _ _ ?_) $$ Hq0
      exact tile_eq hbM0_0 i hc1 fh0
    isplitl [Hh0]; · iexact Hh0
    isplitl [Hq1]
    · iapply (lands arg15 harg15 _ _ _ _ _ _ ?_) $$ Hq1
      exact tile_eq hbM0_1 i hc1 fh1
    iexact Hh1
  iexists _; iexact HW

set_option maxHeartbeats 1000000 in
/-- In the middle of a row block. -/
theorem bodyB (hc0 : ¬cond0_0 i) (hc1 : ¬cond0_1 i) (hc2 : ¬cond0_2 i)
    (x0 x1 x2 : Vec F S1024x1024 .bf16) (a : Vec F S1024x1024 .f32) (W : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d) ∗ owns (c : Thread nD τ) arg13 fullShare a ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg9 fullShare (zV x0 x1) ∗ owns (c : Thread nD τ) arg13 fullShare (aV x0 x1 x2 a) ∗ (∃ W', owes (c : Thread nD τ) 0 W')) -∗ K ⟨⟩))
      ⊢ wp frame (wpE (defs₀ (F := F)) Variants.none c none) Set.univ
        (cc0_mlp_fwd_loss i arg2 harg2 arg3 harg3 arg4 harg4 (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 cc0_scratch3) K := by
  simp only [cc0_mlp_fwd_loss_eq_skeleton]; unfold cc0_mlp_fwd_loss_skel
  unfold owns
  iintro ⟨⟨%f0, %hf0, H0⟩, ⟨%f1, %hf1, H1⟩, ⟨%f2, %hf2, H2⟩, ⟨%d5, %f5, -, H5⟩, ⟨%fs0, %hfs0, HS0⟩, HW, Hk⟩
  obtain rfl := harg2.eq_unread hf0; obtain rfl := harg3.eq_unread hf1; obtain rfl := harg4.eq_unread hf2; obtain rfl := harg13.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    exact (View.read_writes_full _ _ _ _ _).trans (congrArg₂ k0_pay4 (rd harg2 x0 _) (rd harg3 x1 _))
  isplitl [HS0]
  · iexists _; isplitr; swap; · iexact HS0
    ipureintro
    exact (View.read_writes_full _ _ _ _ _).trans (pay5_congr (rd harg2 x0 _) (rd harg3 x1 _) (rd harg13 a _) (rd harg4 x2 _))
  iexists _; iexact HW

set_option maxHeartbeats 1000000 in
/-- At the last column. -/
theorem bodyC (hc0 : ¬cond0_0 i) (hc1 : ¬cond0_1 i) (hc2 : cond0_2 i)
    (x0 x1 x2 : Vec F S1024x1024 .bf16) (x3 : Vec F S8x1024 .f32) (x4 : Vec F S1x1024 .f32) (s : Vec F S8x1024 .f32) (a x5 x6 : Vec F S1024x1024 .f32) (fh0 : HbBuf0 (F := F) c hbM0_0) (fh1 : HbBuf0 (F := F) c hbM0_1) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s ∗ owns (c : Thread nD τ) arg13 fullShare a ∗ flying c arg14 harg14 arg15 harg15 x5 x6 fh0 fh1 ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg7 fullShare x3 ∗ owns (c : Thread nD τ) arg8 fullShare x4 ∗ owns (c : Thread nD τ) arg9 fullShare (zV x0 x1) ∗ owns (c : Thread nD τ) arg10 fullShare (dxV x3 x4 (aV x0 x1 x2 a) x5 x6) ∗ owns (c : Thread nD τ) arg11 fullShare (dyV x3 x4 (aV x0 x1 x2 a) x5 x6) ∗ owns (c : Thread nD τ) arg12 fullShare (sV x3 x4 (aV x0 x1 x2 a) x5 x6 s) ∗ owns (c : Thread nD τ) arg13 fullShare (aV x0 x1 x2 a) ∗ (∃ d, owns (c : Thread nD τ) arg14 fullShare d) ∗ (∃ d, owns (c : Thread nD τ) arg15 fullShare d) ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ
        (cc0_mlp_fwd_loss i arg2 harg2 arg3 harg3 arg4 harg4 (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 cc0_scratch3) K := by
  simp only [cc0_mlp_fwd_loss_eq_skeleton]; unfold cc0_mlp_fwd_loss_skel
  simp only [k0_part1_eq_skeleton, k0_part2_eq_skeleton]
  unfold owns flying
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, ⟨%I0, %I1, Hq0, Hh0, Hq1, Hh1⟩, HW, Hk⟩
  obtain rfl := harg2.eq_unread hf0; obtain rfl := harg3.eq_unread hf1; obtain rfl := harg4.eq_unread hf2; obtain rfl := harg7.eq_unread hf3; obtain rfl := harg8.eq_unread hf4; obtain rfl := harg12.eq_unread hf8; obtain rfl := harg13.eq_unread hfs0
  sl_exec (disch := first | sl_exact hc0 | sl_exact hc1 | sl_exact hc2)
  sl_step
  iapply Hk
  have hg := rdRow harg7 x3 5 inb_S8x1024_S1x1024_5_0
  have hS : bodyC.sl.HS0_1 c arg2 harg2 arg3 harg3 arg4 harg4 arg13 harg13 x0 x1 x2 a
      = [⟨Rect.unit (s := S1024x1024) ![0, 0] S1024x1024.size inb_S1024x1024_S1024x1024_0_0, aV x0 x1 x2 a⟩] :=
    congrArg (fun v => [(⟨Rect.unit (s := S1024x1024) ![0, 0] S1024x1024.size inb_S1024x1024_S1024x1024_0_0, v⟩ : View.Piece (Elt F) S1024x1024 .f32)])
      (pay5_congr (rd harg2 x0 _) (rd harg3 x1 _) (rd harg13 a _) (rd harg4 x2 _))
  have hy : bodyC.sl.v40 c arg2 harg2 arg3 harg3 arg4 harg4 arg13 harg13 x0 x1 x2 a = aV x0 x1 x2 a := by
    unfold bodyC.sl.v40; rw [hS]; exact View.readCov_full _ _ _ _ _
  have q1 : bodyC.sl.r_1 c arg2 harg2 arg3 harg3 arg4 harg4 arg7 harg7 arg13 harg13 arg14 harg14 x0 x1 x2 x3 a x5
      = k0_pay8 (gV x3) (aV x0 x1 x2 a) x5 := cg3 k0_pay8 hg hy (rd harg14 x5 _)
  have q2 : bodyC.sl.r_2 c arg2 harg2 arg3 harg3 arg4 harg4 arg7 harg7 arg13 harg13 arg14 harg14 x0 x1 x2 x3 a x5
      = k0_pay9 (gV x3) (aV x0 x1 x2 a) x5 := cg3 k0_pay9 hg hy (rd harg14 x5 _)
  have q3 : bodyC.sl.r_3 c arg2 harg2 arg3 harg3 arg4 harg4 arg7 harg7 arg8 harg8 arg13 harg13 arg14 harg14 arg15 harg15 x0 x1 x2 x3 x4 a x5 x6
      = k0_pay10 (gV x3) (aV x0 x1 x2 a) x5 x4 x6 := cg5 k0_pay10 hg hy (rd harg14 x5 _) (rd harg8 x4 _) (rd harg15 x6 _)
  have q4 : bodyC.sl.r_4 c arg2 harg2 arg3 harg3 arg4 harg4 arg7 harg7 arg8 harg8 arg13 harg13 arg14 harg14 arg15 harg15 x0 x1 x2 x3 x4 a x5 x6
      = k0_pay11 (gV x3) (aV x0 x1 x2 a) x5 x4 x6 := cg5 k0_pay11 hg hy (rd harg14 x5 _) (rd harg8 x4 _) (rd harg15 x6 _)
  have q5 : bodyC.sl.r_5 c arg2 harg2 arg3 harg3 arg4 harg4 arg7 harg7 arg8 harg8 arg13 harg13 arg14 harg14 arg15 harg15 x0 x1 x2 x3 x4 a x5 x6
      = k0_pay12 (gV x3) (aV x0 x1 x2 a) x5 x4 x6 x4 := cg6 k0_pay12 hg hy (rd harg14 x5 _) (rd harg8 x4 _) (rd harg15 x6 _) (rd harg8 x4 _)
  have q6 : bodyC.sl.r_6 c arg2 harg2 arg3 harg3 arg4 harg4 arg7 harg7 arg8 harg8 arg13 harg13 arg14 harg14 arg15 harg15 x0 x1 x2 x3 x4 a x5 x6
      = k0_pay13 (gV x3) (aV x0 x1 x2 a) x5 x4 x6 x4 := cg6 k0_pay13 hg hy (rd harg14 x5 _) (rd harg8 x4 _) (rd harg15 x6 _) (rd harg8 x4 _)
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    exact (View.read_writes_full _ _ _ _ _).trans (congrArg₂ k0_pay4 (rd harg2 x0 _) (rd harg3 x1 _))
  isplitl [H6]
  · iexists _; isplitr; swap; · iexact H6
    ipureintro
    exact (View.read_writes_full _ _ _ _ _).trans (cg4 k0_pay15 q1 q2 q5 q6)
  isplitl [H7]
  · iexists _; isplitr; swap; · iexact H7
    ipureintro
    exact (View.read_writes_full _ _ _ _ _).trans (cg5 k0_pay16 (congrArg k0_pay6 hg) q1 q2 q5 q6)
  isplitl [H8]
  · iexists _; isplitr; swap; · iexact H8
    ipureintro
    exact threeRows harg12 s (cg3 k0_pay17 q2 q4 (rdRow harg12 s 0 inb_S8x1024_S1x1024_0_0))
      (cg6 k0_pay18 hy q1 q2 q5 q6 (rdRow harg12 s 1 inb_S8x1024_S1x1024_1_0))
      (congrArg₂ k0_pay19 q3 (rdRow harg12 s 2 inb_S8x1024_S1x1024_2_0))
  isplitl [HS0]
  · iexists _; isplitr; swap; · iexact HS0
    ipureintro
    rw [hS]; exact View.read_writes_full _ _ _ _ _
  isplitl [Hq0_dst]
  · iexists x5, _; isplitr; swap; · iexact Hq0_dst
    ipureintro; exact harg14.read_unread x5
  isplitl [Hq1_dst]
  · iexists x6, _; isplitr; swap; · iexact Hq1_dst
    ipureintro; exact harg15.read_unread x6
  isplitl [Hq0]; · iexact Hq0
  isplitl [Hq1]; · iexact Hq1
  isplitl [Hh0]; · iexact Hh0
  isplitl [Hh1]; · iexact Hh1
  iexists _; iexact HW

set_option maxHeartbeats 1000000 in
/-- At the first column of a later row block. -/
theorem bodyD (hc0 : ¬cond0_0 i) (hc1 : cond0_1 i) (hc2 : ¬cond0_2 i)
    (x0 x1 x2 : Vec F S1024x1024 .bf16) (fh0 : HbBuf0 (F := F) c hbM0_0) (fh1 : HbBuf0 (F := F) c hbM0_1) (W : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg9 fullShare (zV x0 x1) ∗ owns (c : Thread nD τ) arg13 fullShare (aV x0 x1 x2 k0_pay2) ∗ flying c arg14 harg14 arg15 harg15 (tile fh0 (i 0).val) (tile fh1 (i 0).val) fh0 fh1 ∗ (∃ W', owes (c : Thread nD τ) 0 W')) -∗ K ⟨⟩))
      ⊢ wp frame (wpE (defs₀ (F := F)) Variants.none c none) Set.univ
        (cc0_mlp_fwd_loss i arg2 harg2 arg3 harg3 arg4 harg4 (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 cc0_scratch3) K := by
  simp only [cc0_mlp_fwd_loss_eq_skeleton]; unfold cc0_mlp_fwd_loss_skel
  unfold owns
  iintro ⟨⟨%f0, %hf0, H0⟩, ⟨%f1, %hf1, H1⟩, ⟨%f2, %hf2, H2⟩, ⟨%d5, %f5, -, H5⟩, ⟨%ds0, %fs0, -, HS0⟩, ⟨%ds1, %fs1, -, HS1⟩, ⟨%ds2, %fs2, -, HS2⟩, Hq0, Hq1, Hh0, Hh1, HW, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    exact (View.read_writes_full _ _ _ _ _).trans (congrArg₂ k0_pay4 (rd harg2 x0 _) (rd harg3 x1 _))
  isplitl [HS0]
  · iexists _; isplitr; swap; · iexact HS0
    ipureintro
    exact (View.read_writes_full _ _ _ _ _).trans (pay5_congr (rd harg2 x0 _) (rd harg3 x1 _) (View.readCov_full _ _ _ _ _) (rd harg4 x2 _))
  isplitl [Hq0 Hh0 Hq1 Hh1]
  · unfold flying
    iexists _, _
    isplitl [Hq0]
    · iapply (lands arg14 harg14 _ _ _ _ _ _ ?_) $$ Hq0
      exact tile_eq hbM0_0 i hc1 fh0
    isplitl [Hh0]; · iexact Hh0
    isplitl [Hq1]
    · iapply (lands arg15 harg15 _ _ _ _ _ _ ?_) $$ Hq1
      exact tile_eq hbM0_1 i hc1 fh1
    iexact Hh1
  iexists _; iexact HW

end Cert.MlpLossIdeal.Hand

end
-- ==== Proof.MlpLossIdealFrame.lean ====
/- The feed-forward block with the loss: the whole run, from the runs of the body. -/
module

public import proofs.«01_k».proof.Proof.MlpLossIdealBody
public import Idealize.ShloMosaic.Lib.Claim

@[expose] public section

set_option maxRecDepth 16384

noncomputable section

namespace Cert.MlpLossIdeal.Hand

open Cert.MlpLossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold, point by point -/

/-- The blocks of the five inputs at a point, at their shapes. -/
abbrev b0 (c : Dev nD) (t : Fin cfg0.N) : Vec F S1024x1024 .bf16 := iblk m c 0 t
abbrev b1 (c : Dev nD) (t : Fin cfg0.N) : Vec F S1024x1024 .bf16 := iblk m c 1 t
abbrev b2 (c : Dev nD) (t : Fin cfg0.N) : Vec F S1024x1024 .bf16 := iblk m c 2 t
abbrev b3 (c : Dev nD) (t : Fin cfg0.N) : Vec F S8x1024 .f32 := iblk m c 3 t
abbrev b4 (c : Dev nD) (t : Fin cfg0.N) : Vec F S1x1024 .f32 := iblk m c 4 t
/-- The residual's and the target's row block at a point. -/
abbrev t5 (c : Dev nD) (n : ℕ) : Vec F S1024x1024 .f32 := tile (V m c main_arg3) (n / 4)
abbrev t6 (c : Dev nD) (n : ℕ) : Vec F S1024x1024 .f32 := tile (V m c main_arg4) (n / 4)

/-- The statistics and the running sum after a point: the sum starts at zero on each first column, and
    the statistics are added to on each last one. -/
def stateAt (c : Dev nD) : (n : ℕ) → n < cfg0.N → Vec F S8x1024 .f32 × Vec F S1024x1024 .f32
  | 0, h => (k0_pay1, aV (b0 m c ⟨0, h⟩) (b1 m c ⟨0, h⟩) (b2 m c ⟨0, h⟩) k0_pay2)
  | n + 1, h =>
    let p := stateAt c n (Nat.lt_of_succ_lt h)
    let a := aV (b0 m c ⟨n + 1, h⟩) (b1 m c ⟨n + 1, h⟩) (b2 m c ⟨n + 1, h⟩) (if (n + 1) % 4 = 0 then k0_pay2 else p.2)
    (if (n + 1) % 4 = 3 then sV (b3 m c ⟨n + 1, h⟩) (b4 m c ⟨n + 1, h⟩) a (t5 m c (n + 1)) (t6 m c (n + 1)) p.1 else p.1, a)

abbrev stAt (c : Dev nD) (t : Fin cfg0.N) : Vec F S8x1024 .f32 := (stateAt m c t.val t.isLt).1
abbrev accAt (c : Dev nD) (t : Fin cfg0.N) : Vec F S1024x1024 .f32 := (stateAt m c t.val t.isLt).2
/-- The point before. -/
abbrev prev (t : Fin cfg0.N) : Fin cfg0.N := ⟨t.val - 1, Nat.lt_of_le_of_lt (Nat.sub_le _ _) t.isLt⟩

theorem stAt_zero (c : Dev nD) (t : Fin cfg0.N) (h : t.val = 0) : stAt m c t = k0_pay1 := by
  obtain ⟨n, hn⟩ := t; cases n with | zero => rfl | succ n => exact absurd h (Nat.succ_ne_zero n)
theorem stAt_last (c : Dev nD) (t : Fin cfg0.N) (h : t.val % 4 = 3) :
    stAt m c t = sV (b3 m c t) (b4 m c t) (accAt m c t) (t5 m c t.val) (t6 m c t.val) (stAt m c (prev t)) := by
  obtain ⟨n, hn⟩ := t; cases n with
  | zero => exact absurd h (by show ¬ 0 % 4 = 3; decide)
  | succ n => unfold stAt; rw [stateAt]; dsimp only; rw [if_pos h]; unfold accAt; rw [stateAt]; rfl
theorem stAt_keep (c : Dev nD) (t : Fin cfg0.N) (hz : t.val ≠ 0) (h : ¬t.val % 4 = 3) : stAt m c t = stAt m c (prev t) := by
  obtain ⟨n, hn⟩ := t; cases n with
  | zero => exact absurd rfl hz
  | succ n => unfold stAt; rw [stateAt]; dsimp only; rw [if_neg h]; rfl
theorem accAt_first (c : Dev nD) (t : Fin cfg0.N) (h : t.val % 4 = 0) :
    accAt m c t = aV (b0 m c t) (b1 m c t) (b2 m c t) k0_pay2 := by
  obtain ⟨n, hn⟩ := t; cases n with
  | zero => rfl
  | succ n => unfold accAt; rw [stateAt]; dsimp only; rw [if_pos h]
theorem accAt_next (c : Dev nD) (t : Fin cfg0.N) (h : ¬t.val % 4 = 0) :
    accAt m c t = aV (b0 m c t) (b1 m c t) (b2 m c t) (accAt m c (prev t)) := by
  obtain ⟨n, hn⟩ := t; cases n with
  | zero => exact absurd rfl h
  | succ n => unfold accAt; rw [stateAt]; dsimp only; rw [if_neg h]; rfl

/-- What a point leaves in the two gradients' buffers when it writes them. -/
abbrev dxAt (c : Dev nD) (t : Fin cfg0.N) : Vec F S1024x1024 .bf16 :=
  dxV (b3 m c t) (b4 m c t) (accAt m c t) (t5 m c t.val) (t6 m c t.val)
abbrev dyAt (c : Dev nD) (t : Fin cfg0.N) : Vec F S1024x1024 .bf16 :=
  dyV (b3 m c t) (b4 m c t) (accAt m c t) (t5 m c t.val) (t6 m c t.val)

/-! ## The invariant between points -/

/-- No copy in flight. -/
def quiet (c : Dev nD) : sProp 𝕄 :=
  iprop((∃ d, owns (c : Thread nD τ) scM0_1 fullShare d) ∗ (∃ d, owns (c : Thread nD τ) scM0_2 fullShare d)
    ∗ semVal ((c : Thread nD τ), SemLoc.dma 15) 0 ∗ semVal ((c : Thread nD τ), SemLoc.dma 16) 0
    ∗ hbPt0 c hbM0_0 (V m c main_arg3) ∗ hbPt0 c hbM0_1 (V m c main_arg4))

/-- The two copies of the row block of point `n` in flight. -/
def inFlight (c : Dev nD) (n : ℕ) : sProp 𝕄 :=
  flying c scM0_1 (Memref.isWhole_whole _) scM0_2 (Memref.isWhole_whole _) (t5 m c n) (t6 m c n) (V m c main_arg3) (V m c main_arg4)

def PhiS (c : Dev nD) : (n : ℕ) → n ≤ cfg0.N → sProp 𝕄
  | 0, _ => Pipeline.ΦD osem0 spec0 H0 (V m) c
  | n + 1, hn => iprop(owns (c : Thread nD τ) scM0_0 fullShare (accAt m c ⟨n, hn⟩) ∗ (∃ r, prngReg c r)
      ∗ (if n % 4 = 3 then quiet m c else inFlight m c n))

theorem PhiS_zero (c : Dev nD) (n : ℕ) (h : n ≤ cfg0.N) (hz : n = 0) : PhiS m c n h = Pipeline.ΦD osem0 spec0 H0 (V m) c := by
  subst hz; rfl
theorem PhiS_quiet (c : Dev nD) (t : Fin cfg0.N) (h : t.val % 4 = 3) : PhiS m c (t.val + 1) t.isLt
    = iprop(owns (c : Thread nD τ) scM0_0 fullShare (accAt m c t) ∗ (∃ r, prngReg c r) ∗ quiet m c) := by
  rw [PhiS, if_pos h]
theorem PhiS_flying (c : Dev nD) (t : Fin cfg0.N) (h : ¬t.val % 4 = 3) : PhiS m c (t.val + 1) t.isLt
    = iprop(owns (c : Thread nD τ) scM0_0 fullShare (accAt m c t) ∗ (∃ r, prngReg c r) ∗ inFlight m c t.val) := by
  rw [PhiS, if_neg h]
theorem PhiS_before (c : Dev nD) (t : Fin cfg0.N) (hz : t.val ≠ 0) (h : t.val % 4 = 0) : PhiS m c t.val (Nat.le_of_lt t.isLt)
    = iprop(owns (c : Thread nD τ) scM0_0 fullShare (accAt m c (prev t)) ∗ (∃ r, prngReg c r) ∗ quiet m c) := by
  have e : t.val = (prev t).val + 1 := by show t.val = t.val - 1 + 1; omega
  have h' : (prev t).val % 4 = 3 := by show (t.val - 1) % 4 = 3; omega
  obtain ⟨n, hn⟩ := t; cases n with
  | zero => exact absurd rfl hz
  | succ n => exact PhiS_quiet m c ⟨n, Nat.lt_of_succ_lt hn⟩ h'
theorem PhiS_mid (c : Dev nD) (t : Fin cfg0.N) (h : ¬t.val % 4 = 0) : PhiS m c t.val (Nat.le_of_lt t.isLt)
    = iprop(owns (c : Thread nD τ) scM0_0 fullShare (accAt m c (prev t)) ∗ (∃ r, prngReg c r) ∗ inFlight m c t.val) := by
  obtain ⟨n, hn⟩ := t; cases n with
  | zero => exact absurd rfl h
  | succ n =>
    have h' : ¬ n % 4 = 3 := by have : ¬(n + 1) % 4 = 0 := h; omega
    refine (PhiS_flying m c ⟨n, Nat.lt_of_succ_lt hn⟩ h').trans ?_
    have e : n / 4 = (n + 1) / 4 := by have : ¬(n + 1) % 4 = 0 := h; omega
    unfold inFlight t5 t6; rw [e]; rfl

/-! ## The pipeline's data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zV (b0 m c t) (b1 m c t)
    | ⟨6, _⟩ => dxAt m c t
    | ⟨7, _⟩ => dyAt m c t
    | ⟨8, _⟩ => stAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zV (b0 m c t) (b1 m c t) := by dsimp only [dats]
theorem after0_6 (c : Dev nD) (t : Fin cfg0.N) : (dats m 0 c).after 6 t = dxAt m c t := by dsimp only [dats]
theorem after0_7 (c : Dev nD) (t : Fin cfg0.N) : (dats m 0 c).after 7 t = dyAt m c t := by dsimp only [dats]
theorem after0_8 (c : Dev nD) (t : Fin cfg0.N) : (dats m 0 c).after 8 t = stAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (zV (b0 m c t) (b1 m c t)) := by
  unfold Dat.leavesExact; rw [show cfg0.idle 5 (cfg0.grid.coords t) = false from rfl, after0_5]
theorem leaves0_6 (c : Dev nD) (t : Fin cfg0.N) (h : cfg0.idle 6 (grid0.coords t) = false) :
    (dats m 0 c).leavesExact 6 t = owns (c : Thread nD τ) (ms0_6 t) fullShare (dxAt m c t) := by
  unfold Dat.leavesExact; rw [h, after0_6]
theorem leaves0_7 (c : Dev nD) (t : Fin cfg0.N) (h : cfg0.idle 7 (grid0.coords t) = false) :
    (dats m 0 c).leavesExact 7 t = owns (c : Thread nD τ) (ms0_7 t) fullShare (dyAt m c t) := by
  unfold Dat.leavesExact; rw [h, after0_7]
theorem leaves0_8 (c : Dev nD) (t : Fin cfg0.N) (h : cfg0.idle 8 (grid0.coords t) = false) :
    (dats m 0 c).leavesExact 8 t = owns (c : Thread nD τ) (ms0_8 t) fullShare (stAt m c t) := by
  unfold Dat.leavesExact; rw [h, after0_8]

/-- The statistics' buffer keeps its contents through the points that leave it alone. -/
theorem hcarry (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  rw [after0_8, after0_8]
  refine stAt_keep m c t hz fun h => ?_
  rw [(live6 t ((hcond0_2 t).mpr h)).2.2] at hi
  exact Bool.false_ne_true hi
/-- On the last column the statistics' buffer holds what the point before left. -/
theorem before0_8 (c : Dev nD) (t : Fin cfg0.N) (h : cond0_2 (grid0.coords t)) (d) : (dats m 0 c).before 8 t d = stAt m c (prev t) := by
  rw [Dat.before_out_traj _ 8 rfl (fun _ _ => rfl) (hcarry m c) t.val t rfl d,
    if_neg (by rw [notFresh8 t h]; exact Bool.false_ne_true)]
  dsimp only [dats]
theorem coord0 (t : Fin cfg0.N) : ((grid0.coords t) 0).val = t.val / 4 := by
  have ht : t.val < 16 := Nat.lt_of_lt_of_eq t.isLt N_0
  have e0 : (grid0.coords t 0).val = t.val / 4 % 4 := Pipeline.Grid.coords_val t 0 (by decide) rfl
  rw [e0]; omega

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- At the first point. -/
theorem sound_A (c : Dev nD) (t : Fin cfg0.N) (h0 : t.val % 16 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  have hz : t.val = 0 := by have : t.val < 16 := lt_of_lt_of_eq t.isLt (show cfg0.N = 16 from N_0); omega
  have hc0 : cond0_0 (grid0.coords t) := (hcond0_0 t).mpr h0
  have hc1 : cond0_1 (grid0.coords t) := (hcond0_1 t).mpr h1
  have hc2 : ¬cond0_2 (grid0.coords t) := fun h => h2 ((hcond0_2 t).mp h)
  have hfl : flying c scM0_1 (Memref.isWhole_whole _) scM0_2 (Memref.isWhole_whole _) (tile (V m c main_arg3) ((grid0.coords t) 0).val)
      (tile (V m c main_arg4) ((grid0.coords t) 0).val) (V m c main_arg3) (V m c main_arg4) = inFlight m c t.val := by rw [coord0]; rfl
  simp only [before0_0, before0_1, before0_2, before0_3, before0_4, leaves0_0, leaves0_1, leaves0_2, leaves0_3, leaves0_4, leaves0_5]
  rw [show (dats m 0 c).Φ t.succ = PhiS m c (t.val + 1) t.isLt from rfl, PhiS_flying m c t h2, Phi_castSucc, PhiS_zero m c _ _ hz, PhiD0_eq,
    Dat.leavesExact_idle (dats m 0 c) 6 t (idle6 t hc2).1.1 (idle6 t hc2).1.2, Dat.leavesExact_idle (dats m 0 c) 7 t (idle6 t hc2).2.1 (idle6 t hc2).2.2, leaves0_8 m c t (live8 t hc0)]
  unfold Dat.owesAt Pipeline.owesWithin
  rw [show (dats m 0 c).owed t.castSucc = 0 from rfl, show (dats m 0 c).owed t.succ = 0 from rfl]
  rw [stAt_zero m c t hz, accAt_first m c t h1]
  iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) hc0 hc1 hc2 (b0 m c t) (b1 m c t) (b2 m c t) (V m c main_arg3) (V m c main_arg4) W _)
  isplitl [H0]; · iexact H0
  isplitl [H1]; · iexact H1
  isplitl [H2]; · iexact H2
  isplitl [H5]; · iexists _; iexact H5
  isplitl [H8]; · iexists _; iexact H8
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H5, H8, HS0, Hf, ⟨%W', HW'⟩⟩
  isplitl [HS0 Hg Hf]
  · isplitl [HS0]; · iexact HS0
    isplitl [Hg]; · iexact Hg
    rw [← hfl]; iexact Hf
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexact H8

set_option maxHeartbeats 4000000 in
/-- At the first column of a later row block. -/
theorem sound_D (c : Dev nD) (t : Fin cfg0.N) (h0 : ¬t.val % 16 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  have hz : t.val ≠ 0 := by omega
  have hc0 : ¬cond0_0 (grid0.coords t) := fun h => h0 ((hcond0_0 t).mp h)
  have hc1 : cond0_1 (grid0.coords t) := (hcond0_1 t).mpr h1
  have hc2 : ¬cond0_2 (grid0.coords t) := fun h => h2 ((hcond0_2 t).mp h)
  have hfl : flying c scM0_1 (Memref.isWhole_whole _) scM0_2 (Memref.isWhole_whole _) (tile (V m c main_arg3) ((grid0.coords t) 0).val)
      (tile (V m c main_arg4) ((grid0.coords t) 0).val) (V m c main_arg3) (V m c main_arg4) = inFlight m c t.val := by rw [coord0]; rfl
  simp only [before0_0, before0_1, before0_2, before0_3, before0_4, leaves0_0, leaves0_1, leaves0_2, leaves0_3, leaves0_4, leaves0_5]
  rw [show (dats m 0 c).Φ t.succ = PhiS m c (t.val + 1) t.isLt from rfl, PhiS_flying m c t h2, Phi_castSucc, PhiS_before m c t hz h1, quiet,
    Dat.leavesExact_idle (dats m 0 c) 6 t (idle6 t hc2).1.1 (idle6 t hc2).1.2, Dat.leavesExact_idle (dats m 0 c) 7 t (idle6 t hc2).2.1 (idle6 t hc2).2.2, Dat.leavesExact_idle (dats m 0 c) 8 t (idle8 t hc0 hc2).1 (idle8 t hc0 hc2).2]
  unfold Dat.owesAt Pipeline.owesWithin
  rw [show (dats m 0 c).owed t.castSucc = 0 from rfl, show (dats m 0 c).owed t.succ = 0 from rfl]
  rw [accAt_first m c t h1]
  iintro ⟨⟨HS0, Hg, HS1, HS2, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) hc0 hc1 hc2 (b0 m c t) (b1 m c t) (b2 m c t) (V m c main_arg3) (V m c main_arg4) W _)
  isplitl [H0]; · iexact H0
  isplitl [H1]; · iexact H1
  isplitl [H2]; · iexact H2
  isplitl [H5]; · iexists _; iexact H5
  isplitl [HS0]; · iexists _; iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H5, HS0, Hf, ⟨%W', HW'⟩⟩
  isplitl [HS0 Hg Hf]
  · isplitl [HS0]; · iexact HS0
    isplitl [Hg]; · iexact Hg
    rw [← hfl]; iexact Hf
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
/-- In the middle of a row block. -/
theorem sound_B (c : Dev nD) (t : Fin cfg0.N) (h0 : ¬t.val % 16 = 0) (h1 : ¬t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  have hc0 : ¬cond0_0 (grid0.coords t) := fun h => h0 ((hcond0_0 t).mp h)
  have hc1 : ¬cond0_1 (grid0.coords t) := fun h => h1 ((hcond0_1 t).mp h)
  have hc2 : ¬cond0_2 (grid0.coords t) := fun h => h2 ((hcond0_2 t).mp h)
  simp only [before0_0, before0_1, before0_2, before0_3, before0_4, leaves0_0, leaves0_1, leaves0_2, leaves0_3, leaves0_4, leaves0_5]
  rw [show (dats m 0 c).Φ t.succ = PhiS m c (t.val + 1) t.isLt from rfl, PhiS_flying m c t h2, Phi_castSucc, PhiS_mid m c t h1,
    Dat.leavesExact_idle (dats m 0 c) 6 t (idle6 t hc2).1.1 (idle6 t hc2).1.2, Dat.leavesExact_idle (dats m 0 c) 7 t (idle6 t hc2).2.1 (idle6 t hc2).2.2, Dat.leavesExact_idle (dats m 0 c) 8 t (idle8 t hc0 hc2).1 (idle8 t hc0 hc2).2]
  unfold Dat.owesAt Pipeline.owesWithin
  rw [show (dats m 0 c).owed t.castSucc = 0 from rfl, show (dats m 0 c).owed t.succ = 0 from rfl]
  rw [accAt_next m c t h1]
  iintro ⟨⟨HS0, Hg, Hf⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) hc0 hc1 hc2 (b0 m c t) (b1 m c t) (b2 m c t) (accAt m c (prev t)) W _)
  isplitl [H0]; · iexact H0
  isplitl [H1]; · iexact H1
  isplitl [H2]; · iexact H2
  isplitl [H5]; · iexists _; iexact H5
  isplitl [HS0]; · iexact HS0
  isplitl [HW]; · iexact HW
  iintro ⟨H0, H1, H2, H5, HS0, ⟨%W', HW'⟩⟩
  isplitl [HS0 Hg Hf]
  · isplitl [HS0]; · iexact HS0
    isplitl [Hg]; · iexact Hg
    iexact Hf
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
/-- At the last column. -/
theorem sound_C (c : Dev nD) (t : Fin cfg0.N) (h0 : ¬t.val % 16 = 0) (h1 : ¬t.val % 4 = 0) (h2 : t.val % 4 = 3) :
    bodyPre m c t ⊢ wp frame (wpE (defs₀ (F := F)) Variants.none c none) Set.univ (bodyAt0 t) (fun _ => bodyPost m c t) := by
  unfold bodyPre bodyPost bodyAt0
  have hc0 : ¬cond0_0 (grid0.coords t) := fun h => h0 ((hcond0_0 t).mp h)
  have hc1 : ¬cond0_1 (grid0.coords t) := fun h => h1 ((hcond0_1 t).mp h)
  have hc2 : cond0_2 (grid0.coords t) := (hcond0_2 t).mpr h2
  simp only [before0_0, before0_1, before0_2, before0_3, before0_4, before0_8 m c t hc2, leaves0_0, leaves0_1, leaves0_2, leaves0_3, leaves0_4, leaves0_5]
  rw [show (dats m 0 c).Φ t.succ = PhiS m c (t.val + 1) t.isLt from rfl, PhiS_quiet m c t h2, Phi_castSucc, PhiS_mid m c t h1, quiet, inFlight,
    leaves0_6 m c t (live6 t ((hcond0_2 t).mpr h2)).1, leaves0_7 m c t (live6 t ((hcond0_2 t).mpr h2)).2.1, leaves0_8 m c t (live6 t hc2).2.2]
  unfold Dat.owesAt Pipeline.owesWithin
  rw [show (dats m 0 c).owed t.castSucc = 0 from rfl, show (dats m 0 c).owed t.succ = 0 from rfl]
  rw [stAt_last m c t h2]; unfold dxAt dyAt; rw [accAt_next m c t h1]
  iintro ⟨⟨HS0, Hg, Hf⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) hc0 hc1 hc2 (b0 m c t) (b1 m c t) (b2 m c t) (b3 m c t) (b4 m c t) (stAt m c (prev t)) (accAt m c (prev t)) (t5 m c t.val) (t6 m c t.val) (V m c main_arg3) (V m c main_arg4) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [HS0]; · iexact HS0
  isplitl [Hf]; · iexact Hf
  isplitl [HW]; · iexact HW
  iintro ⟨H0, H1, H2, H3, H4, H5, H6, H7, H8, HS0, HS1, HS2, Hq0, Hq1, Hh0, Hh1, ⟨%W', HW'⟩⟩
  isplitl [HS0 Hg HS1 HS2 Hq0 Hq1 Hh0 Hh1]
  · isplitl [HS0]; · iexact HS0
    isplitl [Hg]; · iexact Hg
    isplitl [HS1]; · iexact HS1
    isplitl [HS2]; · iexact HS2
    isplitl [Hq0]; · iexact Hq0
    isplitl [Hq1]; · iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_A m c t h0 (by omega) (by omega)
  by_cases h1 : t.val % 4 = 0
  · exact sound_D m c t h0 h1 (by omega)
  by_cases h2 : t.val % 4 = 3
  · exact sound_C m c t h0 h1 h2
  · exact sound_B m c t h0 h1 h2

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦD osem0 spec0 H0 (V m) c := by
  have h15 : 15 < cfg0.N := by rw [show cfg0.N = 16 from N_0]; decide
  rw [show (dats m 0 c).Φ (Fin.last cfg0.N) = PhiS m c ((⟨15, h15⟩ : Fin cfg0.N).val + 1) h15 from rfl, PhiS_quiet m c _ (by show 15 % 4 = 3; rfl), PhiD0_eq, quiet]
  iintro ⟨HS0, Hg, HS1, HS2, Hq0, Hq1, Hh0, Hh1⟩
  isplitl [HS0 HS1 HS2]
  · isplitl [HS0]; · iexists _; iexact HS0
    isplitl [HS1]; · iexact HS1
    iexact HS2
  isplitl [Hg]; · iexact Hg
  isplitl [Hq0 Hq1]
  · isplitl [Hq0]; · iexact Hq0
    iexact Hq1
  isplitl [Hh0]; · iexact Hh0
  iexact Hh1

set_option backward.isDefEq.respectTransparency.types false in
/-- Every run terminates, with the arrays at what the pipeline computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)
/-- The program terminates, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.MlpLossIdeal.Hand

end
-- ==== Proof.MlpLossFrame.lean ====
/- The feed-forward block with the loss: the kernel has the same text over any float values, so its run is the one already proved. -/
module

public import proofs.«01_k».proof.Proof.MlpLossIdealFrame
public import proofs.«01_k».proof.Proof.Gen.MlpLoss.Frame

@[expose] public section

noncomputable section

open Idealize.ShloMosaic Idealize.ShloMosaic.TcCoe Idealize.SL.Sem

namespace Cert.MlpLoss.Hand
open Cert.MlpLoss Cert.MlpLoss.Gen

variable {F : FTy → Type} [FloatOps F]

/-- The body is the same in the two programs. -/
theorem body_eq : @Cert.MlpLoss.cc0_mlp_fwd_loss F _ _ = @Cert.MlpLossIdeal.cc0_mlp_fwd_loss F _ _ := by
  unfold Cert.MlpLoss.cc0_mlp_fwd_loss Cert.MlpLossIdeal.cc0_mlp_fwd_loss
  rfl

/-- The table of the kernels' bodies is the same in the two programs. -/
theorem defs0_eq : @Cert.MlpLoss.defs₀ F _ _ = @Cert.MlpLossIdeal.defs₀ F _ _ := by
  unfold Cert.MlpLoss.defs₀ Cert.MlpLossIdeal.defs₀
  refine congrArg Defs.onTc (funext fun l => funext fun p => ?_)
  match l, p with
  | 0, (t, s) =>
    have h := @body_eq F _
    dsimp only
    rw [h]
    rfl

/-- The whole table of bodies is the same in the two programs. -/
theorem defs_eq : @Cert.MlpLoss.defs F _ _ = @Cert.MlpLossIdeal.defs F _ _ := by
  unfold Cert.MlpLoss.defs Cert.MlpLossIdeal.defs
  exact congrArg (Pipeline.defs Cert.MlpLossIdeal.pcfgs) defs0_eq

/-- The program terminates, leaves its arguments unchanged and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Cert.MlpLossIdeal.Hand.frame (F := F) m ρ

end Cert.MlpLoss.Hand

end
-- ==== Proof.MlpLossValue.lean ====
/- The feed-forward block with the loss, forward, and the loss's gradient: the tiled, accumulated computation is the plain one. -/
module

public import proofs.«01_k».proof.Proof.MlpLossIdealFrame
public import proofs.«01_k».proof.Proof.Gen.MlpLossRefIdeal.Run
public import proofs.«01_k».proof.Proof.MixInDxValue
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpLossIdeal.Hand
open Cert.MlpLossIdeal Cert.MlpLossIdeal.Gen Idealize.ShloMosaic.StableHlo Cert.Shared
open Cert.MixInDxIdeal.Hand (MSQ XHAT ROWS QROW COLS hxhat)
variable (m : (ℓ : Loc nD τ sig) → Buf (Elt Ideal) ℓ)

/-! ## The reference, in parts -/

/-- The rectified first product. -/
abbrev ACT (H : FVec Ideal S4096x1024 .f32) (U : FVec Ideal S1024x4096 .f32) : FVec Ideal S4096x4096 .f32 :=
  maximumf (Host.dotGeneral Cert.MlpLossRefIdeal.dot_S4096x1024_S1024x4096_S4096x4096_1_0_0_1_n_n none H U) (broadcastInDim S4096x4096 ![] Cert.MlpLossRefIdeal.Gen.bcast_S_S4096x4096 (constant Cert.MlpLossRefIdeal.S_ .f32 0x00000000#32))

/-- The second product, of the squared activations. -/
abbrev OUT (H : FVec Ideal S4096x1024 .f32) (U : FVec Ideal S1024x4096 .f32) (W : FVec Ideal S4096x1024 .f32) : FVec Ideal S4096x1024 .f32 :=
  Host.dotGeneral Cert.MlpLossRefIdeal.dot_S4096x4096_S4096x1024_S4096x1024_1_0_0_1_n_n none (mulf (ACT H U) (ACT H U)) W

/-- The gate's row of the modulation. -/
abbrev GATE (M : FVec Ideal S6x1024 .f32) : FVec Ideal S1x1024 .f32 := extractStridedSlice S1x1024 ![5, 0] M Cert.MlpLossRefIdeal.Gen.slices_S6x1024_S1x1024_5_0

/-- The residual stream after the block. -/
abbrev RES (X Y : FVec Ideal S4096x1024 .f32) (M : FVec Ideal S6x1024 .f32) : FVec Ideal S4096x1024 .f32 :=
  addf X (mulf (ROWS (GATE M)) Y)

/-- What the normalised, scaled stream misses the target by. -/
abbrev DIFF (X T : FVec Ideal S4096x1024 .f32) (G : FVec Ideal S1x1024 .f32) : FVec Ideal S4096x1024 .f32 :=
  subf (mulf (XHAT X) (ROWS G)) T

/-- The loss's gradient at the normalised, scaled stream. -/
abbrev CERR (D : FVec Ideal S4096x1024 .f32) : FVec Ideal S4096x1024 .f32 :=
  mulf (broadcastInDim S4096x1024 ![0] Cert.MlpLossRefIdeal.Gen.bcast_S4096_S4096x1024_0 (Host.divf (broadcastInDim Cert.MlpLossRefIdeal.S4096 ![] Cert.MlpLossRefIdeal.Gen.bcast_S_S4096 (mulf (constant Cert.MlpLossRefIdeal.S_ .f32 0x3F000000#32) (constant Cert.MlpLossRefIdeal.S_ .f32 0x3F800000#32))) (broadcastInDim Cert.MlpLossRefIdeal.S4096 ![] Cert.MlpLossRefIdeal.Gen.bcast_S_S4096 (constant Cert.MlpLossRefIdeal.S_ .f32 0x44800000#32))))
    (mulf (broadcastInDim S4096x1024 ![] Cert.MlpLossRefIdeal.Gen.bcast_S_S4096x1024 (constant Cert.MlpLossRefIdeal.S_ .f32 0x40000000#32)) D)

/-- The gradient of the stream: three terms through the normalisation. -/
abbrev GRAD (X C : FVec Ideal S4096x1024 .f32) : FVec Ideal S4096x1024 .f32 :=
  addf (addf (mulf C (broadcastInDim S4096x1024 ![0, 1] Cert.MlpLossRefIdeal.Gen.bcast_S4096x1_S4096x1024_0_1 (Host.rsqrt (MSQ X)))) (mulf X (QROW X C))) (mulf (QROW X C) X)

/-- The fourth result: the gradients of the gain and the gate, the squared errors' sums, and five empty rows. -/
abbrev STATS (X Y D C B : FVec Ideal S4096x1024 .f32) : FVec Ideal S8x1024 .f32 :=
  concatenate S8x1024 0 [⟨S1x1024, COLS (mulf (XHAT X) C)⟩, ⟨S1x1024, COLS (mulf B Y)⟩, ⟨S1x1024, broadcastInDim S1x1024 ![1] Cert.MlpLossRefIdeal.Gen.bcast_S1024_S1x1024_1 (Host.reduceAdd (mulf D D) (constant Cert.MlpLossRefIdeal.S_ .f32 0x00000000#32) Cert.MlpLossRefIdeal.Gen.reducesTo_S4096x1024_S1024_d0 Cert.MlpLossRefIdeal.Gen.h_S_)⟩, ⟨Cert.MlpLossRefIdeal.S5x1024, broadcastInDim Cert.MlpLossRefIdeal.S5x1024 ![] Cert.MlpLossRefIdeal.Gen.bcast_S_S5x1024 (constant Cert.MlpLossRefIdeal.S_ .f32 0x00000000#32)⟩] Cert.MlpLossRefIdeal.Gen.concatenates_S1x1024_S1x1024_S1x1024_S5x1024_S8x1024_d0

section
variable (m' : (ℓ : Loc Cert.MlpLossRefIdeal.nD Cert.MlpLossRefIdeal.τ Cert.MlpLossRefIdeal.sig) → Buf (Elt Ideal) ℓ) (c : Dev Cert.MlpLossRefIdeal.nD)

/-- The second product, from the reference's inputs. -/
abbrev ry : FVec Ideal S4096x1024 .f32 := OUT (m' (c.tc.loc Cert.MlpLossRefIdeal.main_arg0)) (m' (c.tc.loc Cert.MlpLossRefIdeal.main_arg1)) (m' (c.tc.loc Cert.MlpLossRefIdeal.main_arg2))

/-- The residual stream, from the reference's inputs. -/
abbrev rx : FVec Ideal S4096x1024 .f32 := RES (m' (c.tc.loc Cert.MlpLossRefIdeal.main_arg3)) (ry m' c) (m' (c.tc.loc Cert.MlpLossRefIdeal.main_arg5))

/-- The error, from the reference's inputs. -/
abbrev rerr : FVec Ideal S4096x1024 .f32 := DIFF (rx m' c) (m' (c.tc.loc Cert.MlpLossRefIdeal.main_arg4)) (m' (c.tc.loc Cert.MlpLossRefIdeal.main_arg6))

/-- The gradient of the stream, from the reference's inputs. -/
abbrev rb : FVec Ideal S4096x1024 .f32 := GRAD (rx m' c) (mulf (CERR (rerr m' c)) (ROWS (m' (c.tc.loc Cert.MlpLossRefIdeal.main_arg6))))

theorem ref_dx : Cert.MlpLossRefIdeal.Value.res_main_v67 m' c = truncf .bf16 (rb m' c) Cert.MlpLossRefIdeal.Gen.bitsLt_bf16_f32 := by
  unfold Cert.MlpLossRefIdeal.Value.res_main_v67
  rfl

theorem ref_dy : Cert.MlpLossRefIdeal.Value.res_main_v68 m' c = truncf .bf16 (mulf (ROWS (GATE (m' (c.tc.loc Cert.MlpLossRefIdeal.main_arg5)))) (rb m' c)) Cert.MlpLossRefIdeal.Gen.bitsLt_bf16_f32 := by
  unfold Cert.MlpLossRefIdeal.Value.res_main_v68
  rfl

theorem ref_st : Cert.MlpLossRefIdeal.Value.res_main_v65 m' c = STATS (rx m' c) (ry m' c) (rerr m' c) (CERR (rerr m' c)) (rb m' c) := by
  unfold Cert.MlpLossRefIdeal.Value.res_main_v65
  rfl

end

/-- The first product at an index, before it is rectified. -/
abbrev pre (H : FVec Ideal S4096x1024 .f32) (U : FVec Ideal S1024x4096 .f32) (a b : Fin 4096) : EReal :=
  ∑ k : Fin 1024, H (ix2 a k) * U (ix2 k b)

theorem hact (H : FVec Ideal S4096x1024 .f32) (U : FVec Ideal S1024x4096 .f32) (j : S4096x4096.Idx) :
    ACT H U j = max (pre H U (j 0) (j 1)) 0 := by pointwise [ACT]

theorem hout2 (H : FVec Ideal S4096x1024 .f32) (U : FVec Ideal S1024x4096 .f32) (W : FVec Ideal S4096x1024 .f32) (j : S4096x1024.Idx) :
    OUT H U W j = ∑ l : Fin 4096, (max (pre H U (j 0) l) 0 * max (pre H U (j 0) l) 0) * W (ix2 l (j 1)) := by
  unfold OUT
  generalize hA : ACT H U = A
  pointwise
  subst hA
  exact Finset.sum_congr rfl fun l _ => by rw [hact]; rfl

theorem hres (X Y : FVec Ideal S4096x1024 .f32) (M : FVec Ideal S6x1024 .f32) (j : S4096x1024.Idx) :
    RES X Y M j = X j + M (ix2 (5 : Fin 6) (j 1)) * Y j := by pointwise [RES]

theorem hdiff (X T : FVec Ideal S4096x1024 .f32) (G : FVec Ideal S1x1024 .f32) (j : S4096x1024.Idx) :
    DIFF X T G j = XHAT X j * G (ix2 (0 : Fin 1) (j 1)) - T j := by
  unfold DIFF
  generalize XHAT X = Y
  pointwise

/-- The constants of the loss: half, divided by the width, times two, is one over the width. -/
theorem loss_const (d : EReal) : Ideal.div (Ideal.ofBits .f32 0x3F000000#32) (Ideal.ofBits .f32 0x44800000#32) * (Ideal.ofBits .f32 0x40000000#32 * d)
    = d * Ideal.ofBits .f32 0x3A800000#32 := by
  have h : Ideal.ofBits .f32 0x3F000000#32 = ((1 / 2 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [h, h2, h3, n_f32, Ideal.div_coe (by norm_num), ← mul_assoc, ← EReal.coe_mul, ← EReal.coe_mul, mul_comm]
  norm_num

theorem hcerr (D : FVec Ideal S4096x1024 .f32) (j : S4096x1024.Idx) : CERR D j = D j * Ideal.ofBits .f32 0x3A800000#32 := by
  rw [← loss_const]
  pointwise [CERR]

theorem hgrad (X C : FVec Ideal S4096x1024 .f32) (j : S4096x1024.Idx) :
    GRAD X C j = (C j * rms (fun k => X (ix2 (j 0) k))
      + X j * Ideal.div ((∑ k : Fin 1024, X (ix2 (j 0) k) * C (ix2 (j 0) k)) * (Ideal.ofBits .f32 0xBF000000#32 * Ideal.div (rms (fun k => X (ix2 (j 0) k))) (msq (fun k => X (ix2 (j 0) k))))) (Ideal.ofBits .f32 0x44800000#32))
      + Ideal.div ((∑ k : Fin 1024, X (ix2 (j 0) k) * C (ix2 (j 0) k)) * (Ideal.ofBits .f32 0xBF000000#32 * Ideal.div (rms (fun k => X (ix2 (j 0) k))) (msq (fun k => X (ix2 (j 0) k))))) (Ideal.ofBits .f32 0x44800000#32) * X j := by
  pointwise [GRAD]
  simp only [Finset.univ_unique, Finset.sum_singleton]

/-- The fourth result by rows. -/
theorem hstats (X Y D C B : FVec Ideal S4096x1024 .f32) (r : Fin 8) (b : Fin 1024) :
    STATS X Y D C B (ix2 r b) = if r.val = 0 then ∑ a : Fin 4096, XHAT X (ix2 a b) * C (ix2 a b)
      else if r.val = 1 then ∑ a : Fin 4096, B (ix2 a b) * Y (ix2 a b)
      else if r.val = 2 then ∑ a : Fin 4096, D (ix2 a b) * D (ix2 a b)
      else 0 := by
  unfold STATS
  generalize XHAT X = Z
  fin_cases r <;> pointwise

/-! ## The kernel's body -/

theorem hzero (j) : k0_pay1 (F := Ideal) j = 0 := by pointwise [k0_pay1]

theorem hzero' (j) : k0_pay2 (F := Ideal) j = 0 := by pointwise [k0_pay2]

theorem hpay3 (p q : Vec Ideal S1024x1024 .bf16) (j) :
    k0_pay3 p q j = max (∑ k : Fin 1024, p (ix2 (j 0) k) * q (ix2 (j 1) k)) 0 := by pointwise [k0_pay3]

theorem hpay4 (p q : Vec Ideal S1024x1024 .bf16) (j) :
    k0_pay4 p q j = max (∑ k : Fin 1024, p (ix2 (j 0) k) * q (ix2 (j 1) k)) 0 := by
  rw [← hpay3]
  unfold k0_pay4
  generalize k0_pay3 p q = K
  pointwise

theorem hpay5 (p q : Vec Ideal S1024x1024 .bf16) (acc : Vec Ideal S1024x1024 .f32) (w : Vec Ideal S1024x1024 .bf16) (j) :
    k0_pay5 p q acc w j = acc j + ∑ k : Fin 1024, (k0_pay3 p q (ix2 (j 0) k) * k0_pay3 p q (ix2 (j 0) k)) * w (ix2 k (j 1)) := by
  unfold k0_pay5
  generalize k0_pay3 p q = K
  pointwise

theorem hpay7 (g : Vec Ideal S1x1024 .f32) (y x : Vec Ideal S1024x1024 .f32) (j) :
    k0_pay7 g y x j = x j + g (ix2 (0 : Fin 1) (j 1)) * y j := by pointwise [k0_pay7, k0_pay6]

theorem hpay9 (g : Vec Ideal S1x1024 .f32) (y x : Vec Ideal S1024x1024 .f32) (j) :
    k0_pay9 g y x j = k0_pay7 g y x j * rms (fun k => k0_pay7 g y x (ix2 (j 0) k)) := by
  unfold k0_pay9 k0_pay8
  generalize k0_pay7 g y x = X
  pointwise

theorem hpay10 (g : Vec Ideal S1x1024 .f32) (y x : Vec Ideal S1024x1024 .f32) (v : Vec Ideal S1x1024 .f32) (t : Vec Ideal S1024x1024 .f32) (j) :
    k0_pay10 g y x v t j = k0_pay9 g y x j * v (ix2 (0 : Fin 1) (j 1)) - t j := by
  unfold k0_pay10
  generalize k0_pay9 g y x = K
  pointwise

theorem hpay11 (g : Vec Ideal S1x1024 .f32) (y x : Vec Ideal S1024x1024 .f32) (v : Vec Ideal S1x1024 .f32) (t : Vec Ideal S1024x1024 .f32) (j) :
    k0_pay11 g y x v t j = k0_pay10 g y x v t j * Ideal.ofBits .f32 0x3A800000#32 := by
  unfold k0_pay11
  generalize k0_pay10 g y x v t = K
  pointwise

theorem hpay12 (g : Vec Ideal S1x1024 .f32) (y x : Vec Ideal S1024x1024 .f32) (v : Vec Ideal S1x1024 .f32) (t : Vec Ideal S1024x1024 .f32) (w : Vec Ideal S1x1024 .f32) (j) :
    k0_pay12 g y x v t w j = k0_pay11 g y x v t j * w (ix2 (0 : Fin 1) (j 1)) := by
  unfold k0_pay12
  generalize k0_pay11 g y x v t = K
  pointwise

/-- One tile of the gradient of the stream. -/
theorem hpay14 (g : Vec Ideal S1x1024 .f32) (y x : Vec Ideal S1024x1024 .f32) (v : Vec Ideal S1x1024 .f32) (t : Vec Ideal S1024x1024 .f32) (w : Vec Ideal S1x1024 .f32) (j) :
    k0_pay14 (k0_pay8 g y x) (k0_pay9 g y x) (k0_pay12 g y x v t w) (k0_pay13 g y x v t w) j
      = rms (fun k => k0_pay7 g y x (ix2 (j 0) k)) * (k0_pay12 g y x v t w j - (k0_pay7 g y x j * rms (fun k => k0_pay7 g y x (ix2 (j 0) k)))
          * Ideal.div (∑ k : Fin 1024, k0_pay12 g y x v t w (ix2 (j 0) k) * (k0_pay7 g y x (ix2 (j 0) k) * rms (fun k => k0_pay7 g y x (ix2 (j 0) k)))) (Ideal.ofBits .f32 0x44800000#32)) := by
  unfold k0_pay13
  generalize k0_pay12 g y x v t w = C
  unfold k0_pay9 k0_pay8
  generalize k0_pay7 g y x = X
  pointwise [k0_pay14]

theorem hpay15 (a : FVec Ideal S1024x1 .f32) (b d e : FVec Ideal S1024x1024 .f32) (j) : k0_pay15 a b d e j = k0_pay14 a b d e j := by
  unfold k0_pay15
  generalize k0_pay14 a b d e = K
  pointwise

theorem hpay16 (g : Vec Ideal S1x1024 .f32) (a : FVec Ideal S1024x1 .f32) (b d e : FVec Ideal S1024x1024 .f32) (j) :
    k0_pay16 (k0_pay6 g) a b d e j = g (ix2 (0 : Fin 1) (j 1)) * k0_pay14 a b d e j := by
  unfold k0_pay16
  generalize k0_pay14 a b d e = K
  pointwise [k0_pay6]

theorem hpay17 (p q : FVec Ideal S1024x1024 .f32) (v : Vec Ideal S1x1024 .f32) (j) :
    k0_pay17 p q v j = v j + ∑ a : Fin 1024, q (ix2 a (j 1)) * p (ix2 a (j 1)) := by pointwise [k0_pay17]

theorem hpay18 (y : Vec Ideal S1024x1024 .f32) (a : FVec Ideal S1024x1 .f32) (b d e : FVec Ideal S1024x1024 .f32) (v : Vec Ideal S1x1024 .f32) (j) :
    k0_pay18 y a b d e v j = v j + ∑ k : Fin 1024, k0_pay14 a b d e (ix2 k (j 1)) * y (ix2 k (j 1)) := by
  unfold k0_pay18
  generalize k0_pay14 a b d e = K
  pointwise

theorem hpay19 (p : FVec Ideal S1024x1024 .f32) (v : Vec Ideal S1x1024 .f32) (j) :
    k0_pay19 p v j = v j + ∑ a : Fin 1024, p (ix2 a (j 1)) * p (ix2 a (j 1)) := by pointwise [k0_pay19]

/-- A row of an eight-row array. -/
theorem row_apply (x : Vec Ideal S8x1024 .f32) (o : ℕ) (inb) (r : Fin 8) (b : Fin 1024) (h : r.val = o) :
    row x o inb (ix2 (0 : Fin 1) b) = x (ix2 r b) := by
  refine congrArg x ?_
  funext a
  match a with
  | 0 => exact Fin.ext h.symm
  | 1 => exact Fin.ext (by show 0 + 1 * b.val = b.val; omega)

/-- A row just put. -/
theorem put_hit (x : Vec Ideal S8x1024 .f32) (o : ℕ) (w : Vec Ideal S1x1024 .f32) (r : Fin 8) (b : Fin 1024) (h : r.val = o) :
    VecWindow.put (s := S8x1024) x ![o, 0] S1x1024.size w (ix2 r b) = w (ix2 (0 : Fin 1) b) := by
  unfold VecWindow.put
  rw [dif_pos (fun a => by
    match a with
    | 0 => exact ⟨h.symm.le, by show r.val < o + 1; omega⟩
    | 1 => exact ⟨Nat.zero_le _, by show b.val < 0 + 1024; omega⟩)]
  refine congrArg w ?_
  funext a
  match a with
  | 0 => exact Fin.ext (by show r.val - o = 0; omega)
  | 1 => rfl

/-- A row that a put of another row leaves. -/
theorem put_miss (x : Vec Ideal S8x1024 .f32) (o : ℕ) (w : Vec Ideal S1x1024 .f32) (r : Fin 8) (b : Fin 1024) (h : r.val ≠ o) :
    VecWindow.put (s := S8x1024) x ![o, 0] S1x1024.size w (ix2 r b) = x (ix2 r b) := by
  unfold VecWindow.put
  refine dif_neg fun hall => h ?_
  have h0 : o ≤ r.val ∧ r.val < o + 1 := hall 0
  omega

/-! ## What the call reads -/

/-- The second product, from the inputs. -/
abbrev out (c : Dev nD) : FVec Ideal S4096x1024 .f32 := OUT (m ((c : Thread nD τ).loc main_arg0)) (m ((c : Thread nD τ).loc main_arg1)) (m ((c : Thread nD τ).loc main_arg2))

/-- The residual stream, from the inputs. -/
abbrev x3 (c : Dev nD) : FVec Ideal S4096x1024 .f32 := RES (m ((c : Thread nD τ).loc main_arg3)) (out m c) (m ((c : Thread nD τ).loc main_arg5))

/-- The error, from the inputs. -/
abbrev diff (c : Dev nD) : FVec Ideal S4096x1024 .f32 := DIFF (x3 m c) (m ((c : Thread nD τ).loc main_arg4)) (m ((c : Thread nD τ).loc main_arg6))

/-- The gradient of the normalised stream, from the inputs. -/
abbrev ct (c : Dev nD) : FVec Ideal S4096x1024 .f32 := mulf (CERR (diff m c)) (ROWS (m ((c : Thread nD τ).loc main_arg6)))

/-- The gradient of the stream, from the inputs. -/
abbrev grad (c : Dev nD) : FVec Ideal S4096x1024 .f32 := GRAD (x3 m c) (ct m c)

theorem hct (c : Dev nD) (j : S4096x1024.Idx) : ct m c j = CERR (diff m c) j * m ((c : Thread nD τ).loc main_arg6) (ix2 (0 : Fin 1) (j 1)) := by
  unfold ct
  generalize CERR (diff m c) = K
  pointwise

theorem entry_h (c : Dev nD) (i) : V m c main_v0 i = m ((c : Thread nD τ).loc main_arg0) i := by
  have e : V m c main_v0 = truncf .bf16 (show FVec Ideal S4096x1024 .f32 from m ((c : Thread nD τ).loc main_arg0)) bitsLt_bf16_f32 := by
    entry_read
    rfl
  rw [e]
  pointwise

theorem entry_u (c : Dev nD) (i) : V m c main_v2 i = m ((c : Thread nD τ).loc main_arg1) (ix2 (i 1) (i 0)) := by
  have e : V m c main_v2 = truncf .bf16 (transpose S4096x1024 [1, 0] (show FVec Ideal S1024x4096 .f32 from m ((c : Thread nD τ).loc main_arg1)) transposes_S1024x4096_S4096x1024_1_0) bitsLt_bf16_f32 := by
    entry_read
    rfl
  rw [e]
  pointwise

theorem entry_w (c : Dev nD) (i) : V m c main_v3 i = m ((c : Thread nD τ).loc main_arg2) i := by
  have e : V m c main_v3 = truncf .bf16 (show FVec Ideal S4096x1024 .f32 from m ((c : Thread nD τ).loc main_arg2)) bitsLt_bf16_f32 := by
    entry_read
    rfl
  rw [e]
  pointwise

theorem entry_m (c : Dev nD) (i : S8x1024.Idx) (a : Fin 6) (h : (i 0).val = a.val) : V m c main_v6 i = m ((c : Thread nD τ).loc main_arg5) (ix2 a (i 1)) := by
  have e : V m c main_v6 = Host.scatter scatter_S8x1024_S1_S6x1024_01_n_0_0 (fun _ b => b) (broadcastInDim S8x1024 ![] bcast_S_S8x1024 (constant S_ .f32 0x00000000#32)) (broadcastInDim S1 ![] bcast_S_S1 (constantI S_ 32 0#32)) (show FVec Ideal S6x1024 .f32 from m ((c : Thread nD τ).loc main_arg5)) := by
    entry_read
    rfl
  rw [e]
  exact set_rows _ rfl rfl rfl _ _ (fun _ => rfl) _ i (ix2 a (i 1)) h rfl

/-- Which blocks a grid point reads and writes. -/
theorem idx : ∀ t : Fin cfg0.N, win0_0.index t = ![t.val / 4, 0] ∧ win0_1.index t = ![t.val % 4, 0] ∧ win0_2.index t = ![t.val % 4, 0]
    ∧ win0_3.index t = ![0, 0] ∧ win0_4.index t = ![0, 0] ∧ win0_5.index t = ![t.val / 4, t.val % 4] ∧ win0_6.index t = ![t.val / 4, 0]
    ∧ win0_7.index t = ![t.val / 4, 0] ∧ win0_8.index t = ![0, 0] ∧ t.val < 16 :=
  (by decide +kernel : ∀ t : Fin grid0.N, _)

theorem iblk_h (c : Dev nD) (t : Fin cfg0.N) (a b : Fin 1024) (A : Fin 4096) (hA : A.val = t.val / 4 * 1024 + a.val) :
    b0 m c t (ix2 a b) = m ((c : Thread nD τ).loc main_arg0) (ix2 A b) := by
  have hi := idx t
  refine (entry_h m c _).trans ?_
  blk_ext [hi]

theorem iblk_u (c : Dev nD) (t : Fin cfg0.N) (a b : Fin 1024) (A : Fin 4096) (hA : A.val = t.val % 4 * 1024 + a.val) :
    b1 m c t (ix2 a b) = m ((c : Thread nD τ).loc main_arg1) (ix2 b A) := by
  have hi := idx t
  refine (entry_u m c _).trans ?_
  blk_ext [hi]

theorem iblk_w (c : Dev nD) (t : Fin cfg0.N) (a b : Fin 1024) (A : Fin 4096) (hA : A.val = t.val % 4 * 1024 + a.val) :
    b2 m c t (ix2 a b) = m ((c : Thread nD τ).loc main_arg2) (ix2 A b) := by
  have hi := idx t
  refine (entry_w m c _).trans ?_
  blk_ext [hi]

theorem iblk_m (c : Dev nD) (t : Fin cfg0.N) (a : Fin 8) (b : Fin 1024) (A : Fin 6) (hA : a.val = A.val) :
    b3 m c t (ix2 a b) = m ((c : Thread nD τ).loc main_arg5) (ix2 A b) := by
  have hi := idx t
  refine (entry_m m c _ A (by blk_simp [hi]; exact hA)).trans ?_
  blk_ext [hi]

theorem iblk_g (c : Dev nD) (t : Fin cfg0.N) (a : Fin 1) (b : Fin 1024) :
    b4 m c t (ix2 a b) = m ((c : Thread nD τ).loc main_arg6) (ix2 a b) := by
  have hi := idx t
  refine (congrFun (V_main_arg6 m c) _).trans ?_
  blk_ext [hi]

theorem gate (c : Dev nD) (t : Fin cfg0.N) (b : Fin 1024) :
    gV (b3 m c t) (ix2 (0 : Fin 1) b) = m ((c : Thread nD τ).loc main_arg5) (ix2 (5 : Fin 6) b) :=
  (row_apply _ 5 _ (5 : Fin 8) b rfl).trans (iblk_m m c t 5 b 5 rfl)

theorem tile_apply (f : S4096x1024.Idx → EReal) (n : ℕ) (a b : Fin 1024) (A : Fin 4096) (hA : A.val = n * 1024 + a.val) :
    tile (F := Ideal) f n (ix2 a b) = f (ix2 A b) := by
  refine congrArg f ?_
  funext x
  have := A.isLt
  match x with
  | 0 => exact Fin.ext (by show (n * 1024 + a.val) % 4096 = A.val; omega)
  | 1 => exact Fin.ext (by show (0 + b.val) % 1024 = b.val; omega)

theorem tile_res (c : Dev nD) (t : Fin cfg0.N) (a b : Fin 1024) (A : Fin 4096) (hA : A.val = t.val / 4 * 1024 + a.val) :
    t5 m c t.val (ix2 a b) = m ((c : Thread nD τ).loc main_arg3) (ix2 A b) :=
  (tile_apply _ _ a b A hA).trans (congrFun (V_main_arg3 m c) _)

theorem tile_target (c : Dev nD) (t : Fin cfg0.N) (a b : Fin 1024) (A : Fin 4096) (hA : A.val = t.val / 4 * 1024 + a.val) :
    t6 m c t.val (ix2 a b) = m ((c : Thread nD τ).loc main_arg4) (ix2 A b) :=
  (tile_apply _ _ a b A hA).trans (congrFun (V_main_arg4 m c) _)

/-! ## The activations and the second product -/

theorem tile_act (c : Dev nD) (t : Fin cfg0.N) (a b : Fin 1024) (A B : Fin 4096) (hA : A.val = t.val / 4 * 1024 + a.val) (hB : B.val = t.val % 4 * 1024 + b.val) :
    k0_pay3 (b0 m c t) (b1 m c t) (ix2 a b) = max (pre (m ((c : Thread nD τ).loc main_arg0)) (m ((c : Thread nD τ).loc main_arg1)) A B) 0 :=
  (hpay3 _ _ _).trans (congrArg (fun s : EReal => max s 0) (Finset.sum_congr rfl fun k _ =>
    congrArg₂ (fun x y : EReal => x * y) (iblk_h m c t a k A hA) (iblk_u m c t b k B hB)))

/-- The activations after the run are the reference's. -/
theorem final_z (c : Dev nD) : (dats m 0 c).arrAt 5 (cfgs 0).N
    = truncf .bf16 (ACT (m ((c : Thread nD τ).loc main_arg0)) (m ((c : Thread nD τ).loc main_arg1))) Cert.MlpLossRefIdeal.Gen.bitsLt_bf16_f32 := by
  refine (dats m 0 c).arrAt_eq_of_covers 5 _ (by decide +kernel) fun t hf y => ?_
  have hi := idx t
  blk_simp
  rw [after0_5]
  obtain ⟨a, b, rfl⟩ : ∃ a b, y = ix2 a b := ⟨y 0, y 1, eq_ix2 y⟩
  refine (hpay4 _ _ _).trans ((hpay3 _ _ _).symm.trans ((tile_act m c t a b ((((cfg0.win 5).blk t).view.emb (ix2 a b)) 0) ((((cfg0.win 5).blk t).view.emb (ix2 a b)) 1)
    (by blk_simp [hi]) (by blk_simp [hi])).trans ?_))
  exact (hact _ _ _).symm

/-- The running sum on the last column is the second product. -/
theorem tile_out (c : Dev nD) (t : Fin cfg0.N) (h3 : t.val % 4 = 3) (a b : Fin 1024) (A : Fin 4096) (hA : A.val = t.val / 4 * 1024 + a.val) :
    accAt m c t (ix2 a b) = out m c (ix2 A b) := by
  refine (Pipeline.eq_sum_fin_of_reset_step_apply_of_flush (fun n h => (stateAt m c n h).2) 4 (fun _ => 0)
    (fun t j => ∑ k : Fin 1024, (k0_pay3 (b0 m c t) (b1 m c t) (ix2 (j 0) k) * k0_pay3 (b0 m c t) (b1 m c t) (ix2 (j 0) k)) * b2 m c t (ix2 k (j 1)))
    (fun t h j => (congrFun (accAt_first m c t h) j).trans ((hpay5 _ _ _ _ _).trans (congrArg (· + _) (hzero' j))))
    (fun t h j => (congrFun (accAt_next m c t h) j).trans (hpay5 _ _ _ _ _)) t h3 (ix2 a b)).trans ((zero_add _).trans ?_)
  refine Eq.trans ?_ (hout2 _ _ _ _).symm
  refine Fin.sum_mul_add_congr fun s k hl => ?_
  have hs := Pipeline.run_point_lt_of_flush t h3 s
  have hz := tile_act m c ⟨_, hs⟩ a k A ⟨s.val * 1024 + k.val, hl⟩ (by simp; omega) (by simp; omega)
  have hw := iblk_w m c ⟨_, hs⟩ k b ⟨s.val * 1024 + k.val, hl⟩ (by simp; omega)
  exact congrArg₂ (fun a b : EReal => (a * a) * b) hz hw

/-! ## The last column: the loss and its gradient -/

section
variable (c : Dev nD) (t : Fin cfg0.N) (h3 : t.val % 4 = 3) (a b : Fin 1024) (A : Fin 4096) (hA : A.val = t.val / 4 * 1024 + a.val)
include h3 hA

theorem tile_x3 : k0_pay7 (gV (b3 m c t)) (accAt m c t) (t5 m c t.val) (ix2 a b) = x3 m c (ix2 A b) :=
  (hpay7 _ _ _ _).trans ((congrArg₂ (fun x y : EReal => x + y) (tile_res m c t a b A hA)
    (congrArg₂ (fun x y : EReal => x * y) (gate m c t b) (tile_out m c t h3 a b A hA))).trans (hres _ _ _ (ix2 A b)).symm)

theorem tile_rms : rms (fun k => k0_pay7 (gV (b3 m c t)) (accAt m c t) (t5 m c t.val) (ix2 a k)) = rms (fun k => x3 m c (ix2 A k)) :=
  congrArg rms (funext fun k => tile_x3 m c t h3 a k A hA)

theorem tile_xhat : k0_pay9 (gV (b3 m c t)) (accAt m c t) (t5 m c t.val) (ix2 a b) = XHAT (x3 m c) (ix2 A b) :=
  (hpay9 _ _ _ _).trans ((congrArg₂ (fun x y : EReal => x * y) (tile_x3 m c t h3 a b A hA) (tile_rms m c t h3 a A hA)).trans
    (hxhat (x3 m c) (ix2 A b)).symm)

theorem tile_diff : k0_pay10 (gV (b3 m c t)) (accAt m c t) (t5 m c t.val) (b4 m c t) (t6 m c t.val) (ix2 a b) = diff m c (ix2 A b) :=
  (hpay10 _ _ _ _ _ _).trans ((congrArg₂ (fun x y : EReal => x - y)
    (congrArg₂ (fun x y : EReal => x * y) (tile_xhat m c t h3 a b A hA) (iblk_g m c t 0 b)) (tile_target m c t a b A hA)).trans
      (hdiff _ _ _ (ix2 A b)).symm)

theorem tile_cerr : k0_pay11 (gV (b3 m c t)) (accAt m c t) (t5 m c t.val) (b4 m c t) (t6 m c t.val) (ix2 a b) = CERR (diff m c) (ix2 A b) :=
  (hpay11 _ _ _ _ _ _).trans ((congrArg (fun x : EReal => x * Ideal.ofBits .f32 0x3A800000#32) (tile_diff m c t h3 a b A hA)).trans
    (hcerr _ (ix2 A b)).symm)

theorem tile_ct : k0_pay12 (gV (b3 m c t)) (accAt m c t) (t5 m c t.val) (b4 m c t) (t6 m c t.val) (b4 m c t) (ix2 a b) = ct m c (ix2 A b) :=
  (hpay12 _ _ _ _ _ _ _).trans ((congrArg₂ (fun x y : EReal => x * y) (tile_cerr m c t h3 a b A hA) (iblk_g m c t 0 b)).trans
    (hct m c (ix2 A b)).symm)

/-- A tile of the gradient of the stream is the reference's, when the inputs are finite. -/
theorem tile_grad (hx : ∀ j, Fin' (x3 m c j)) (hc : ∀ j, Fin' (ct m c j)) :
    k0_pay14 (k0_pay8 (gV (b3 m c t)) (accAt m c t) (t5 m c t.val)) (k0_pay9 (gV (b3 m c t)) (accAt m c t) (t5 m c t.val))
      (k0_pay12 (gV (b3 m c t)) (accAt m c t) (t5 m c t.val) (b4 m c t) (t6 m c t.val) (b4 m c t))
      (k0_pay13 (gV (b3 m c t)) (accAt m c t) (t5 m c t.val) (b4 m c t) (t6 m c t.val) (b4 m c t)) (ix2 a b) = grad m c (ix2 A b) := by
  refine (hpay14 _ _ _ _ _ _ _).trans ?_
  refine Eq.trans ?_ (hgrad (x3 m c) (ct m c) (ix2 A b)).symm
  have hk := rms_back (fun k => x3 m c (ix2 A k)) (fun k => ct m c (ix2 A k)) (fun k => hx _) (fun k => hc _) 0 b
  rw [zero_add, zero_add] at hk
  refine Eq.trans ?_ hk
  have hr := tile_rms m c t h3 a A hA
  refine congrArg₂ (fun x y : EReal => x * y) hr ?_
  refine congrArg₂ (fun x y : EReal => x - y) (tile_ct m c t h3 a b A hA) ?_
  refine congrArg₂ (fun x y : EReal => x * y) (congrArg₂ (fun x y : EReal => x * y) (tile_x3 m c t h3 a b A hA) hr) ?_
  refine congrArg (fun s : EReal => Ideal.div s (Ideal.ofBits .f32 0x44800000#32)) ?_
  exact Finset.sum_congr rfl fun k _ => congrArg₂ (fun x y : EReal => x * y) (tile_ct m c t h3 a k A hA)
    (congrArg₂ (fun x y : EReal => x * y) (tile_x3 m c t h3 a k A hA) hr)

end

/-- The gradient of the stream after the run is the reference's, when the inputs are finite. -/
theorem final_dx (c : Dev nD) (hx : ∀ j, Fin' (x3 m c j)) (hc : ∀ j, Fin' (ct m c j)) : (dats m 0 c).arrAt 6 (cfgs 0).N
    = truncf .bf16 (grad m c) Cert.MlpLossRefIdeal.Gen.bitsLt_bf16_f32 := by
  refine (dats m 0 c).arrAt_eq_of_covers 6 _ (by decide +kernel) fun t hf y => ?_
  have h3 : t.val % 4 = 3 := (flush0_6 t).mp hf
  have hi := idx t
  blk_simp
  rw [after0_6]
  obtain ⟨a, b, rfl⟩ : ∃ a b, y = ix2 a b := ⟨y 0, y 1, eq_ix2 y⟩
  refine (hpay15 _ _ _ _ _).trans ((tile_grad m c t h3 a b ((((cfg0.win 6).blk t).view.emb (ix2 a b)) 0) (by blk_simp [hi]) hx hc).trans ?_)
  exact congrArg (grad m c) (show ix2 _ b = _ by blk_ext [hi])

/-- The gradient of the block's output after the run is the reference's, when the inputs are finite. -/
theorem final_dy (c : Dev nD) (hx : ∀ j, Fin' (x3 m c j)) (hc : ∀ j, Fin' (ct m c j)) : (dats m 0 c).arrAt 7 (cfgs 0).N
    = truncf .bf16 (mulf (ROWS (GATE (m ((c : Thread nD τ).loc main_arg5)))) (grad m c)) Cert.MlpLossRefIdeal.Gen.bitsLt_bf16_f32 := by
  refine (dats m 0 c).arrAt_eq_of_covers 7 _ (by decide +kernel) fun t hf y => ?_
  have h3 : t.val % 4 = 3 := (flush0_7 t).mp hf
  have hi := idx t
  blk_simp
  rw [after0_7]
  obtain ⟨a, b, rfl⟩ : ∃ a b, y = ix2 a b := ⟨y 0, y 1, eq_ix2 y⟩
  have e : ∀ (B : FVec Ideal S4096x1024 .f32) (M : FVec Ideal S6x1024 .f32) (A : Fin 4096),
      M (ix2 (5 : Fin 6) b) * B (ix2 A b) = truncf .bf16 (mulf (ROWS (GATE M)) B) Cert.MlpLossRefIdeal.Gen.bitsLt_bf16_f32 (ix2 A b) := fun B M A => by pointwise
  refine (hpay16 _ _ _ _ _ _).trans ((congrArg₂ (fun x y : EReal => x * y) (gate m c t b)
    (tile_grad m c t h3 a b ((((cfg0.win 7).blk t).view.emb (ix2 a b)) 0) (by blk_simp [hi]) hx hc)).trans ((e _ _ _).trans ?_))
  exact congrArg (truncf .bf16 (mulf (ROWS (GATE (m ((c : Thread nD τ).loc main_arg5)))) (grad m c)) Cert.MlpLossRefIdeal.Gen.bitsLt_bf16_f32) (show ix2 _ b = _ by blk_ext [hi])

/-! ## The statistics -/

/-- The last point of a row block. -/
abbrev last (s : ℕ) (h : s < 4) : Fin cfg0.N := ⟨s * 4 + 3, by show s * 4 + 3 < 16; omega⟩

/-- What a row block adds to the statistics. -/
def part (c : Dev nD) (s : ℕ) (r : Fin 8) (b : Fin 1024) : EReal :=
  if h : s < 4 then
    if r.val = 0 then ∑ k : Fin 1024, XHAT (x3 m c) (ix2 (⟨s * 1024 + k.val, by omega⟩ : Fin 4096) b) * CERR (diff m c) (ix2 (⟨s * 1024 + k.val, by omega⟩ : Fin 4096) b)
    else if r.val = 1 then ∑ k : Fin 1024, grad m c (ix2 (⟨s * 1024 + k.val, by omega⟩ : Fin 4096) b) * out m c (ix2 (⟨s * 1024 + k.val, by omega⟩ : Fin 4096) b)
    else if r.val = 2 then ∑ k : Fin 1024, diff m c (ix2 (⟨s * 1024 + k.val, by omega⟩ : Fin 4096) b) * diff m c (ix2 (⟨s * 1024 + k.val, by omega⟩ : Fin 4096) b)
    else 0
  else 0

/-- The last column adds a row block's part. -/
theorem stats_step (c : Dev nD) (hx : ∀ j, Fin' (x3 m c j)) (hc : ∀ j, Fin' (ct m c j)) (s : ℕ) (hs : s < 4) (r : Fin 8) (b : Fin 1024) :
    stAt m c (last s hs) (ix2 r b) = stAt m c (prev (last s hs)) (ix2 r b) + part m c s r b := by
  have h3 : (last s hs).val % 4 = 3 := by show (s * 4 + 3) % 4 = 3; omega
  have hA : ∀ k : Fin 1024, s * 1024 + k.val = (last s hs).val / 4 * 1024 + k.val := fun k => by show _ = (s * 4 + 3) / 4 * 1024 + k.val; omega
  rw [stAt_last m c _ h3]
  generalize stAt m c (prev (last s hs)) = S
  unfold part
  rw [dif_pos hs]
  by_cases h2 : r.val = 2
  · rw [if_neg (by omega), if_neg (by omega), if_pos h2]
    refine (put_hit _ 2 _ r b h2).trans ((hpay19 _ _ _).trans ?_)
    refine congrArg₂ (fun x y : EReal => x + y) (row_apply S 2 _ r b h2) (Finset.sum_congr rfl fun k _ => ?_)
    have hd := tile_diff m c _ h3 k b ⟨s * 1024 + k.val, by omega⟩ (hA k)
    exact congrArg₂ (fun x y : EReal => x * y) hd hd
  refine (put_miss _ 2 _ r b h2).trans ?_
  by_cases h1 : r.val = 1
  · rw [if_neg (by omega), if_pos h1]
    refine (put_hit _ 1 _ r b h1).trans ((hpay18 _ _ _ _ _ _ _).trans ?_)
    refine congrArg₂ (fun x y : EReal => x + y) (row_apply S 1 _ r b h1) (Finset.sum_congr rfl fun k _ => ?_)
    exact congrArg₂ (fun x y : EReal => x * y) (tile_grad m c _ h3 k b ⟨s * 1024 + k.val, by omega⟩ (hA k) hx hc) (tile_out m c _ h3 k b ⟨s * 1024 + k.val, by omega⟩ (hA k))
  refine (put_miss _ 1 _ r b h1).trans ?_
  by_cases h0 : r.val = 0
  · rw [if_pos h0]
    refine (put_hit _ 0 _ r b h0).trans ((hpay17 _ _ _ _).trans ?_)
    refine congrArg₂ (fun x y : EReal => x + y) (row_apply S 0 _ r b h0) (Finset.sum_congr rfl fun k _ => ?_)
    exact (mul_comm _ _).trans (congrArg₂ (fun x y : EReal => x * y) (tile_xhat m c _ h3 k b ⟨s * 1024 + k.val, by omega⟩ (hA k)) (tile_cerr m c _ h3 k b ⟨s * 1024 + k.val, by omega⟩ (hA k)))
  refine (put_miss _ 0 _ r b h0).trans ?_
  rw [if_neg h0, if_neg h1, if_neg h2, add_zero]

/-- The other columns leave the statistics. -/
theorem stats_keep (c : Dev nD) (n : ℕ) (h : n + 1 < cfg0.N) (hk : ¬(n + 1) % 4 = 3) :
    stAt m c ⟨n + 1, h⟩ = stAt m c ⟨n, Nat.lt_of_succ_lt h⟩ := stAt_keep m c ⟨n + 1, h⟩ (Nat.succ_ne_zero n) hk

/-- After a row block the statistics are the sum of the parts so far. -/
theorem stats_sum (c : Dev nD) (hx : ∀ j, Fin' (x3 m c j)) (hc : ∀ j, Fin' (ct m c j)) (r : Fin 8) (b : Fin 1024) :
    ∀ (s : ℕ) (hs : s < 4), stAt m c (last s hs) (ix2 r b) = ∑ i : Fin (s + 1), part m c i.val r b
  | 0, hs => by
    rw [stats_step m c hx hc 0 hs, Fin.sum_univ_castSucc, Finset.univ_eq_empty, Finset.sum_empty]
    refine congrArg (fun x : EReal => x + part m c 0 r b) ?_
    have e1 := stats_keep m c 1 (by show 2 < 16; omega) (by omega)
    have e0 := stats_keep m c 0 (by show 1 < 16; omega) (by omega)
    have ez := stAt_zero m c ⟨0, by show 0 < 16; omega⟩ rfl
    exact (congrFun (e1.trans (e0.trans ez)) _).trans (hzero _)
  | s + 1, hs => by
    rw [stats_step m c hx hc (s + 1) hs, Fin.sum_univ_castSucc]
    refine congrArg (fun x : EReal => x + part m c (s + 1) r b) ?_
    have e2 := stats_keep m c (s * 4 + 5) (by show s * 4 + 6 < 16; omega) (by omega)
    have e1 := stats_keep m c (s * 4 + 4) (by show s * 4 + 5 < 16; omega) (by omega)
    have e0 := stats_keep m c (s * 4 + 3) (by show s * 4 + 4 < 16; omega) (by omega)
    have ep : prev (last (s + 1) hs) = ⟨s * 4 + 6, by show s * 4 + 6 < 16; omega⟩ := Fin.ext (by show (s + 1) * 4 + 3 - 1 = s * 4 + 6; omega)
    rw [ep]
    exact (congrFun (e2.trans (e1.trans e0)) _).trans (stats_sum c hx hc r b s (by omega))

/-- The statistics after the run are the reference's, when the inputs are finite. -/
theorem final_st (c : Dev nD) (hx : ∀ j, Fin' (x3 m c j)) (hc : ∀ j, Fin' (ct m c j)) : (dats m 0 c).arrAt 8 (cfgs 0).N
    = STATS (x3 m c) (out m c) (diff m c) (CERR (diff m c)) (grad m c) := by
  refine (dats m 0 c).arrAt_eq_of_covers 8 _ (by decide +kernel) fun t hf y => ?_
  have h15 : t.val % 16 = 15 := (flush0_8 t).mp hf
  have hi := idx t
  obtain rfl : t = last 3 (by decide) := Fin.ext (by show t.val = 3 * 4 + 3; omega)
  blk_simp
  rw [after0_8]
  obtain ⟨r, b, rfl⟩ : ∃ r b, y = ix2 r b := ⟨y 0, y 1, eq_ix2 y⟩
  refine (stats_sum m c hx hc r b 3 (by decide)).trans (Eq.trans ?_ (congrArg (STATS (x3 m c) (out m c) (diff m c) (CERR (diff m c)) (grad m c)) (show ix2 r b = _ by blk_ext [hi])))
  refine Eq.trans ?_ (hstats _ _ _ _ _ r b).symm
  have hp : ∀ s : Fin 4, s.val < 4 := fun s => s.isLt
  unfold part
  simp only [dif_pos (hp _)]
  by_cases h0 : r.val = 0
  · simp only [if_pos h0]
    exact Fin.sum_mul_add_congr fun s k hl => rfl
  by_cases h1 : r.val = 1
  · simp only [if_neg h0, if_pos h1]
    exact Fin.sum_mul_add_congr fun s k hl => rfl
  by_cases h2 : r.val = 2
  · simp only [if_neg h0, if_neg h1, if_pos h2]
    exact Fin.sum_mul_add_congr fun s k hl => rfl
  simp only [if_neg h0, if_neg h1, if_neg h2, Finset.sum_const_zero]

end Cert.MlpLossIdeal.Hand

end
-- ==== Proof.AdamW.lean ====
/- One step of the optimiser on one entry of a weight. -/
module

public import Idealize.ShloMosaic.Lib.Pointwise
public import Idealize.ShloMosaic.Lib.Pipeline.ValueKit

@[expose] public section

noncomputable section

namespace Cert.Shared
open Idealize.ShloMosaic

/-- The new first moment: `0.9 m + 0.1 g`. -/
def mom (m g : EReal) : EReal := Ideal.ofBits .f32 0x3F666666#32 * m + Ideal.ofBits .f32 0x3DCCCCCD#32 * g

/-- The new second moment: `0.999 v + 0.001 g²`. -/
def mom2 (v g : EReal) : EReal := Ideal.ofBits .f32 0x3F7FBE77#32 * v + Ideal.ofBits .f32 0x3A83126F#32 * (g * g)

/-- The change of the weight: the corrected first moment over the root of the corrected second, with the decay of the weight, times the negative rate. -/
def step (w m v g : EReal) : EReal :=
  Ideal.ofBits .f32 0xBA83126F#32 * (Ideal.div (Ideal.div (mom m g) (Ideal.ofBits .f32 0x3F26BD02#32))
    (Ideal.sqrt (Ideal.div (mom2 v g) (Ideal.ofBits .f32 0x3C231ACC#32)) + Ideal.ofBits .f32 0x322BCC77#32) + Ideal.ofBits .f32 0x3C23D70A#32 * w)

/-- The change of the weight depends on the four values alone. -/
theorem step_congr {w m v g w' m' v' g' : EReal} (hw : w = w') (hm : m = m') (hv : v = v') (hg : g = g') : step w m v g = step w' m' v' g' := by
  rw [hw, hm, hv, hg]

/-- The new first moments of a whole weight. -/
abbrev moms {s : Shape} (m g : FVec Ideal s .f32) : FVec Ideal s .f32 := fun j => mom (m j) (g j)

/-- The new second moments of a whole weight. -/
abbrev moms2 {s : Shape} (v g : FVec Ideal s .f32) : FVec Ideal s .f32 := fun j => mom2 (v j) (g j)

/-- The change of a whole weight. -/
abbrev steps {s : Shape} (w m v g : FVec Ideal s .f32) : FVec Ideal s .f32 := fun j => step (w j) (m j) (v j) (g j)

/-- One of the three received parts, loaded. -/
theorem ld_part {e : EltTy} {r n : ℕ} (X : (⟨3, ![3, r, n]⟩ : Shape).Idx → Elt Ideal e) {o : ℕ} (inb : ∀ a : Fin 3, (![o, 0, 0] : Fin 3 → ℕ) a + (![1, r, n] : Fin 3 → ℕ) a ≤ (⟨3, ![3, r, n]⟩ : Shape).size a)
    (k : Fin 3) (a : Fin r) (b : Fin n) (h : k.val = o) :
    View.ld (Val := Elt Ideal) (e' := e) X (Rect.unit (s := (⟨3, ![3, r, n]⟩ : Shape)) ![o, 0, 0] ![1, r, n] inb) (ix3 (0 : Fin 1) a b) = X (ix3 k a b) := by
  refine congrArg X ?_
  funext d
  match d with
  | 0 => exact Fin.ext h.symm
  | 1 => exact Fin.ext (by show 0 + 1 * a.val = a.val; omega)
  | 2 => exact Fin.ext (by show 0 + 1 * b.val = b.val; omega)

end Cert.Shared

end
-- ==== Proof.AdamUpValue.lean ====
/- The step of the optimiser on the up projection, with the sum of the gradient's four parts. -/
module

public import proofs.«01_k».proof.Proof.Gen.AdamUpIdeal.Value
public import proofs.«01_k».proof.Proof.Gen.AdamUpRefIdeal.Run
public import proofs.«01_k».proof.Proof.AdamW
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamUpIdeal.Hand
open Cert.AdamUpIdeal Cert.AdamUpIdeal.Gen Idealize.ShloMosaic.StableHlo Cert.Shared
open Cert.AdamUpRefIdeal (S_ S3x1024x512)
open Cert.AdamUpRefIdeal.Gen (reducesTo_S3x1024x512_S1024x512_d0 h_S_ transposes_S512x1024_S1024x512_1_0 transposes_S3x512x1024_S3x1024x512_0_2_1)
variable (m : (ℓ : Loc nD τ sig) → Buf (Elt Ideal) ℓ)

/-- The gradient: the own part and the sum of the received parts, all turned. -/
abbrev GRAD (O : FVec Ideal S512x1024 .f32) (P : FVec Ideal S3x512x1024 .f32) : FVec Ideal S1024x512 .f32 :=
  addf (transpose S1024x512 [1, 0] O transposes_S512x1024_S1024x512_1_0) (Host.reduceAdd (transpose S3x1024x512 [0, 2, 1] P transposes_S3x512x1024_S3x1024x512_0_2_1) (constant S_ .f32 0x00000000#32) reducesTo_S3x1024x512_S1024x512_d0 h_S_)

/-- The gradient at an index. -/
theorem hgrad (O : FVec Ideal S512x1024 .f32) (P : FVec Ideal S3x512x1024 .f32) (j : S1024x512.Idx) :
    GRAD O P j = ((O (ix2 (j 1) (j 0)) + P (ix3 (0 : Fin 3) (j 1) (j 0))) + P (ix3 (1 : Fin 3) (j 1) (j 0))) + P (ix3 (2 : Fin 3) (j 1) (j 0)) := by
  pointwise [GRAD]
  rw [Fin.sum_univ_three, add_assoc, add_assoc, add_assoc]

/-- One tile of the gradient. -/
theorem hpay2 (o : Vec Ideal S512x256 .f32) (p q r : Vec Ideal S1x512x256 .bf16) (j) :
    k0_pay2 o p q r j = ((o (ix2 (j 1) (j 0)) + p (ix3 (0 : Fin 1) (j 1) (j 0))) + q (ix3 (0 : Fin 1) (j 1) (j 0))) + r (ix3 (0 : Fin 1) (j 1) (j 0)) := by
  pointwise [k0_pay2]

/-- The received parts that the call reads. -/
theorem entry (c : Dev nD) (i) : V m c main_v0 i = m ((c : Thread nD τ).loc main_arg1) i := by
  have e : V m c main_v0 = truncf .bf16 (show FVec Ideal S3x512x1024 .f32 from m ((c : Thread nD τ).loc main_arg1)) bitsLt_bf16_f32 := by
    simp only [V, hostOps0, TRef.binary, TRef.nullary, TRef.unary, TRef.toBuf, TRef.ofBuf, cast_eq]
    after_results <;> rfl
  rw [e]
  pointwise

/-- Which blocks a grid point reads and writes. -/
theorem idx : ∀ t : Fin cfg0.N, win0_0.index t = ![0, t.val] ∧ win0_1.index t = ![0, 0, t.val] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 4 :=
  (by decide +kernel : ∀ t : Fin grid0.N, _)

section
variable (c : Dev nD) (t : Fin cfg0.N) (y : S256x512.Idx) (i : S1024x512.Idx) (h0 : (i 0).val = t.val * 256 + (y 0).val) (h1 : (i 1).val = (y 1).val)
include h0 h1

/-- The gradient's tile at a grid point is the gradient's block there. -/
theorem tile : k0_pay2 (iblk m c 0 t) (View.ld (iblk m c 1 t) r0_1) (View.ld (iblk m c 1 t) r0_2) (View.ld (iblk m c 1 t) r0_3) y
      = GRAD (m ((c : Thread nD τ).loc main_arg0)) (m ((c : Thread nD τ).loc main_arg1)) i := by
  rw [hgrad, hpay2]
  have hi := idx t
  have ho : iblk m c 0 t (ix2 (y 1) (y 0)) = m ((c : Thread nD τ).loc main_arg0) (ix2 (i 1) (i 0)) := by blk_ext [iblk, V, hi]
  have hp (k : Fin 3) : iblk m c 1 t (ix3 k (y 1) (y 0)) = m ((c : Thread nD τ).loc main_arg1) (ix3 k (i 1) (i 0)) := by
    refine (entry m c _).trans ?_
    blk_ext [hi]
  exact congrArg₂ (· + ·) (congrArg₂ (· + ·) (congrArg₂ (· + ·) ho ((ld_part _ _ 0 _ _ rfl).trans (hp 0))) ((ld_part _ _ 1 _ _ rfl).trans (hp 1))) ((ld_part _ _ 2 _ _ rfl).trans (hp 2))

/-- The weight's tile. -/
theorem tile_w : iblk m c 2 t y = m ((c : Thread nD τ).loc main_arg2) i := by
  have hi := idx t
  blk_ext [iblk, V, hi]

/-- The first moment's tile. -/
theorem tile_m : iblk m c 3 t y = m ((c : Thread nD τ).loc main_arg3) i := by
  have hi := idx t
  blk_ext [iblk, V, hi]

/-- The second moment's tile. -/
theorem tile_v : iblk m c 4 t y = m ((c : Thread nD τ).loc main_arg4) i := by
  have hi := idx t
  blk_ext [iblk, V, hi]

end

/-- The gradient after the run is the reference's. -/
theorem final_g (c : Dev nD) : (dats m 0 c).arrAt 5 (cfgs 0).N
    = GRAD (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  have hi := idx t
  exact tile m c t y _ (by blk_simp [hi]) (by blk_simp [hi])

/-- The change of the weight after the run is the reference's. -/
theorem final_d (c : Dev nD) : (dats m 0 c).arrAt 6 (cfgs 0).N
    = steps (m ((c : Thread nD τ).loc main_arg2)) (m ((c : Thread nD τ).loc main_arg3)) (m ((c : Thread nD τ).loc main_arg4)) (GRAD (m ((c : Thread nD τ).loc main_arg0)) (m ((c : Thread nD τ).loc main_arg1))) := by
  refine (dats m 0 c).arrAt_eq_of_covers 6 _ (by decide +kernel) fun t hf y => ?_
  blk_simp
  rw [after0_6]
  unfold out0_6
  frame_out
  have hi := idx t
  have h0 : (((cfg0.win 6).blk t).view.emb y 0).val = t.val * 256 + (y 0).val := by blk_simp [hi]
  have h1 : (((cfg0.win 6).blk t).view.emb y 1).val = (y 1).val := by blk_simp [hi]
  exact step_congr (tile_w m c t y _ h0 h1) (tile_m m c t y _ h0 h1) (tile_v m c t y _ h0 h1) (tile m c t y _ h0 h1)

/-- The new first moment after the run is the reference's. -/
theorem final_m (c : Dev nD) : (dats m 0 c).arrAt 7 (cfgs 0).N
    = moms (m ((c : Thread nD τ).loc main_arg3)) (GRAD (m ((c : Thread nD τ).loc main_arg0)) (m ((c : Thread nD τ).loc main_arg1))) := by
  refine (dats m 0 c).arrAt_eq_of_covers 7 _ (by decide +kernel) fun t hf y => ?_
  blk_simp
  rw [after0_7]
  unfold out0_7
  frame_out
  have hi := idx t
  have h0 : (((cfg0.win 7).blk t).view.emb y 0).val = t.val * 256 + (y 0).val := by blk_simp [hi]
  have h1 : (((cfg0.win 7).blk t).view.emb y 1).val = (y 1).val := by blk_simp [hi]
  exact congrArg₂ mom (tile_m m c t y _ h0 h1) (tile m c t y _ h0 h1)

/-- The new second moment after the run is the reference's. -/
theorem final_v (c : Dev nD) : (dats m 0 c).arrAt 8 (cfgs 0).N
    = moms2 (m ((c : Thread nD τ).loc main_arg4)) (GRAD (m ((c : Thread nD τ).loc main_arg0)) (m ((c : Thread nD τ).loc main_arg1))) := by
  refine (dats m 0 c).arrAt_eq_of_covers 8 _ (by decide +kernel) fun t hf y => ?_
  blk_simp
  rw [after0_8]
  unfold out0_8
  frame_out
  have hi := idx t
  have h0 : (((cfg0.win 8).blk t).view.emb y 0).val = t.val * 256 + (y 0).val := by blk_simp [hi]
  have h1 : (((cfg0.win 8).blk t).view.emb y 1).val = (y 1).val := by blk_simp [hi]
  exact congrArg₂ mom2 (tile_v m c t y _ h0 h1) (tile m c t y _ h0 h1)

end Cert.AdamUpIdeal.Hand

end
-- ==== Proof.AdamDownValue.lean ====
/- The step of the optimiser on the down projection, with the sum of the gradient's four parts. -/
module

public import proofs.«01_k».proof.Proof.Gen.AdamDownIdeal.Value
public import proofs.«01_k».proof.Proof.Gen.AdamDownRefIdeal.Run
public import proofs.«01_k».proof.Proof.AdamW
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamDownIdeal.Hand
open Cert.AdamDownIdeal Cert.AdamDownIdeal.Gen Idealize.ShloMosaic.StableHlo Cert.Shared
open Cert.AdamDownRefIdeal (S_)
open Cert.AdamDownRefIdeal.Gen (reducesTo_S3x512x1024_S512x1024_d0 h_S_)
variable (m : (ℓ : Loc nD τ sig) → Buf (Elt Ideal) ℓ)

/-- The gradient: the own part and the sum of the received parts. -/
abbrev GRAD (O : FVec Ideal S512x1024 .f32) (P : FVec Ideal S3x512x1024 .f32) : FVec Ideal S512x1024 .f32 :=
  addf O (Host.reduceAdd P (constant S_ .f32 0x00000000#32) reducesTo_S3x512x1024_S512x1024_d0 h_S_)

/-- The gradient at an index. -/
theorem hgrad (O : FVec Ideal S512x1024 .f32) (P : FVec Ideal S3x512x1024 .f32) (j : S512x1024.Idx) :
    GRAD O P j = ((O j + P (ix3 (0 : Fin 3) (j 0) (j 1))) + P (ix3 (1 : Fin 3) (j 0) (j 1))) + P (ix3 (2 : Fin 3) (j 0) (j 1)) := by
  pointwise [GRAD]
  rw [Fin.sum_univ_three, add_assoc, add_assoc, add_assoc]

/-- One tile of the gradient. -/
theorem hpay2 (o : Vec Ideal S256x1024 .f32) (p q r : Vec Ideal S1x256x1024 .bf16) (j) :
    k0_pay2 o p q r j = ((o j + p (ix3 (0 : Fin 1) (j 0) (j 1))) + q (ix3 (0 : Fin 1) (j 0) (j 1))) + r (ix3 (0 : Fin 1) (j 0) (j 1)) := by
  pointwise [k0_pay2]

/-- The received parts that the call reads. -/
theorem entry (c : Dev nD) (i) : V m c main_v0 i = m ((c : Thread nD τ).loc main_arg1) i := by
  have e : V m c main_v0 = truncf .bf16 (show FVec Ideal S3x512x1024 .f32 from m ((c : Thread nD τ).loc main_arg1)) bitsLt_bf16_f32 := by
    simp only [V, hostOps0, TRef.binary, TRef.nullary, TRef.unary, TRef.toBuf, TRef.ofBuf, cast_eq]
    after_results <;> rfl
  rw [e]
  pointwise

/-- Which blocks a grid point reads and writes. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 2 :=
  (by decide +kernel : ∀ t : Fin grid0.N, _)

section
variable (c : Dev nD) (t : Fin cfg0.N) (y : S256x1024.Idx) (i : S512x1024.Idx) (h0 : (i 0).val = t.val * 256 + (y 0).val) (h1 : (i 1).val = (y 1).val)
include h0 h1

/-- The gradient's tile at a grid point is the gradient's block there. -/
theorem tile : k0_pay2 (iblk m c 0 t) (View.ld (iblk m c 1 t) r0_1) (View.ld (iblk m c 1 t) r0_2) (View.ld (iblk m c 1 t) r0_3) y
      = GRAD (m ((c : Thread nD τ).loc main_arg0)) (m ((c : Thread nD τ).loc main_arg1)) i := by
  rw [hgrad, hpay2]
  have hi := idx t
  have ho : iblk m c 0 t y = m ((c : Thread nD τ).loc main_arg0) i := by blk_ext [iblk, V, hi]
  have hp (k : Fin 3) : iblk m c 1 t (ix3 k (y 0) (y 1)) = m ((c : Thread nD τ).loc main_arg1) (ix3 k (i 0) (i 1)) := by
    refine (entry m c _).trans ?_
    blk_ext [hi]
  exact congrArg₂ (· + ·) (congrArg₂ (· + ·) (congrArg₂ (· + ·) ho ((ld_part _ _ 0 _ _ rfl).trans (hp 0))) ((ld_part _ _ 1 _ _ rfl).trans (hp 1))) ((ld_part _ _ 2 _ _ rfl).trans (hp 2))

/-- The weight's tile. -/
theorem tile_w : iblk m c 2 t y = m ((c : Thread nD τ).loc main_arg2) i := by
  have hi := idx t
  blk_ext [iblk, V, hi]

/-- The first moment's tile. -/
theorem tile_m : iblk m c 3 t y = m ((c : Thread nD τ).loc main_arg3) i := by
  have hi := idx t
  blk_ext [iblk, V, hi]

/-- The second moment's tile. -/
theorem tile_v : iblk m c 4 t y = m ((c : Thread nD τ).loc main_arg4) i := by
  have hi := idx t
  blk_ext [iblk, V, hi]

end

/-- The gradient after the run is the reference's. -/
theorem final_g (c : Dev nD) : (dats m 0 c).arrAt 5 (cfgs 0).N
    = GRAD (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  have hi := idx t
  exact tile m c t y _ (by blk_simp [hi]) (by blk_simp [hi])

/-- The change of the weight after the run is the reference's. -/
theorem final_d (c : Dev nD) : (dats m 0 c).arrAt 6 (cfgs 0).N
    = steps (m ((c : Thread nD τ).loc main_arg2)) (m ((c : Thread nD τ).loc main_arg3)) (m ((c : Thread nD τ).loc main_arg4)) (GRAD (m ((c : Thread nD τ).loc main_arg0)) (m ((c : Thread nD τ).loc main_arg1))) := by
  refine (dats m 0 c).arrAt_eq_of_covers 6 _ (by decide +kernel) fun t hf y => ?_
  blk_simp
  rw [after0_6]
  unfold out0_6
  frame_out
  have hi := idx t
  have h0 : (((cfg0.win 6).blk t).view.emb y 0).val = t.val * 256 + (y 0).val := by blk_simp [hi]
  have h1 : (((cfg0.win 6).blk t).view.emb y 1).val = (y 1).val := by blk_simp [hi]
  exact step_congr (tile_w m c t y _ h0 h1) (tile_m m c t y _ h0 h1) (tile_v m c t y _ h0 h1) (tile m c t y _ h0 h1)

/-- The new first moment after the run is the reference's. -/
theorem final_m (c : Dev nD) : (dats m 0 c).arrAt 7 (cfgs 0).N
    = moms (m ((c : Thread nD τ).loc main_arg3)) (GRAD (m ((c : Thread nD τ).loc main_arg0)) (m ((c : Thread nD τ).loc main_arg1))) := by
  refine (dats m 0 c).arrAt_eq_of_covers 7 _ (by decide +kernel) fun t hf y => ?_
  blk_simp
  rw [after0_7]
  unfold out0_7
  frame_out
  have hi := idx t
  have h0 : (((cfg0.win 7).blk t).view.emb y 0).val = t.val * 256 + (y 0).val := by blk_simp [hi]
  have h1 : (((cfg0.win 7).blk t).view.emb y 1).val = (y 1).val := by blk_simp [hi]
  exact congrArg₂ mom (tile_m m c t y _ h0 h1) (tile m c t y _ h0 h1)

/-- The new second moment after the run is the reference's. -/
theorem final_v (c : Dev nD) : (dats m 0 c).arrAt 8 (cfgs 0).N
    = moms2 (m ((c : Thread nD τ).loc main_arg4)) (GRAD (m ((c : Thread nD τ).loc main_arg0)) (m ((c : Thread nD τ).loc main_arg1))) := by
  refine (dats m 0 c).arrAt_eq_of_covers 8 _ (by decide +kernel) fun t hf y => ?_
  blk_simp
  rw [after0_8]
  unfold out0_8
  frame_out
  have hi := idx t
  have h0 : (((cfg0.win 8).blk t).view.emb y 0).val = t.val * 256 + (y 0).val := by blk_simp [hi]
  have h1 : (((cfg0.win 8).blk t).view.emb y 1).val = (y 1).val := by blk_simp [hi]
  exact congrArg₂ mom2 (tile_v m c t y _ h0 h1) (tile m c t y _ h0 h1)

end Cert.AdamDownIdeal.Hand

end
-- ==== Proof.AdamOutValue.lean ====
/- The step of the optimiser on the mixer's output weight, with the sum of the gradient's four parts. -/
module

public import proofs.«01_k».proof.Proof.Gen.AdamOutIdeal.Value
public import proofs.«01_k».proof.Proof.Gen.AdamOutRefIdeal.Run
public import proofs.«01_k».proof.Proof.AdamW
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamOutIdeal.Hand
open Cert.AdamOutIdeal Cert.AdamOutIdeal.Gen Idealize.ShloMosaic.StableHlo Cert.Shared
open Cert.AdamOutRefIdeal (S_)
open Cert.AdamOutRefIdeal.Gen (reducesTo_S3x128x1024_S128x1024_d0 h_S_)
variable (m : (ℓ : Loc nD τ sig) → Buf (Elt Ideal) ℓ)

/-- The gradient: the own part and the sum of the received parts. -/
abbrev GRAD (O : FVec Ideal S128x1024 .f32) (P : FVec Ideal S3x128x1024 .f32) : FVec Ideal S128x1024 .f32 :=
  addf O (Host.reduceAdd P (constant S_ .f32 0x00000000#32) reducesTo_S3x128x1024_S128x1024_d0 h_S_)

/-- The gradient at an index. -/
theorem hgrad (O : FVec Ideal S128x1024 .f32) (P : FVec Ideal S3x128x1024 .f32) (j : S128x1024.Idx) :
    GRAD O P j = ((O j + P (ix3 (0 : Fin 3) (j 0) (j 1))) + P (ix3 (1 : Fin 3) (j 0) (j 1))) + P (ix3 (2 : Fin 3) (j 0) (j 1)) := by
  pointwise [GRAD]
  rw [Fin.sum_univ_three, add_assoc, add_assoc, add_assoc]

/-- One tile of the gradient. -/
theorem hpay2 (o : Vec Ideal S128x1024 .f32) (p q r : Vec Ideal S1x128x1024 .bf16) (j) :
    k0_pay2 o p q r j = ((o j + p (ix3 (0 : Fin 1) (j 0) (j 1))) + q (ix3 (0 : Fin 1) (j 0) (j 1))) + r (ix3 (0 : Fin 1) (j 0) (j 1)) := by
  pointwise [k0_pay2]

/-- The received parts that the call reads. -/
theorem entry (c : Dev nD) (i) : V m c main_v0 i = m ((c : Thread nD τ).loc main_arg1) i := by
  have e : V m c main_v0 = truncf .bf16 (show FVec Ideal S3x128x1024 .f32 from m ((c : Thread nD τ).loc main_arg1)) bitsLt_bf16_f32 := by
    simp only [V, hostOps0, TRef.binary, TRef.nullary, TRef.unary, TRef.toBuf, TRef.ofBuf, cast_eq]
    after_results <;> rfl
  rw [e]
  pointwise

/-- Which blocks a grid point reads and writes. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 1 :=
  (by decide +kernel : ∀ t : Fin grid0.N, _)

section
variable (c : Dev nD) (t : Fin cfg0.N) (y : S128x1024.Idx) (i : S128x1024.Idx) (h0 : (i 0).val = t.val * 128 + (y 0).val) (h1 : (i 1).val = (y 1).val)
include h0 h1

/-- The gradient's tile at a grid point is the gradient's block there. -/
theorem tile : k0_pay2 (iblk m c 0 t) (View.ld (iblk m c 1 t) r0_1) (View.ld (iblk m c 1 t) r0_2) (View.ld (iblk m c 1 t) r0_3) y
      = GRAD (m ((c : Thread nD τ).loc main_arg0)) (m ((c : Thread nD τ).loc main_arg1)) i := by
  rw [hgrad, hpay2]
  have hi := idx t
  have ho : iblk m c 0 t y = m ((c : Thread nD τ).loc main_arg0) i := by blk_ext [iblk, V, hi]
  have hp (k : Fin 3) : iblk m c 1 t (ix3 k (y 0) (y 1)) = m ((c : Thread nD τ).loc main_arg1) (ix3 k (i 0) (i 1)) := by
    refine (entry m c _).trans ?_
    blk_ext [hi]
  exact congrArg₂ (· + ·) (congrArg₂ (· + ·) (congrArg₂ (· + ·) ho ((ld_part _ _ 0 _ _ rfl).trans (hp 0))) ((ld_part _ _ 1 _ _ rfl).trans (hp 1))) ((ld_part _ _ 2 _ _ rfl).trans (hp 2))

/-- The weight's tile. -/
theorem tile_w : iblk m c 2 t y = m ((c : Thread nD τ).loc main_arg2) i := by
  have hi := idx t
  blk_ext [iblk, V, hi]

/-- The first moment's tile. -/
theorem tile_m : iblk m c 3 t y = m ((c : Thread nD τ).loc main_arg3) i := by
  have hi := idx t
  blk_ext [iblk, V, hi]

/-- The second moment's tile. -/
theorem tile_v : iblk m c 4 t y = m ((c : Thread nD τ).loc main_arg4) i := by
  have hi := idx t
  blk_ext [iblk, V, hi]

end

/-- The gradient after the run is the reference's. -/
theorem final_g (c : Dev nD) : (dats m 0 c).arrAt 5 (cfgs 0).N
    = GRAD (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  have hi := idx t
  exact tile m c t y _ (by blk_simp [hi]) (by blk_simp [hi])

/-- The change of the weight after the run is the reference's. -/
theorem final_d (c : Dev nD) : (dats m 0 c).arrAt 6 (cfgs 0).N
    = steps (m ((c : Thread nD τ).loc main_arg2)) (m ((c : Thread nD τ).loc main_arg3)) (m ((c : Thread nD τ).loc main_arg4)) (GRAD (m ((c : Thread nD τ).loc main_arg0)) (m ((c : Thread nD τ).loc main_arg1))) := by
  refine (dats m 0 c).arrAt_eq_of_covers 6 _ (by decide +kernel) fun t hf y => ?_
  blk_simp
  rw [after0_6]
  unfold out0_6
  frame_out
  have hi := idx t
  have h0 : (((cfg0.win 6).blk t).view.emb y 0).val = t.val * 128 + (y 0).val := by blk_simp [hi]
  have h1 : (((cfg0.win 6).blk t).view.emb y 1).val = (y 1).val := by blk_simp [hi]
  exact step_congr (tile_w m c t y _ h0 h1) (tile_m m c t y _ h0 h1) (tile_v m c t y _ h0 h1) (tile m c t y _ h0 h1)

/-- The new first moment after the run is the reference's. -/
theorem final_m (c : Dev nD) : (dats m 0 c).arrAt 7 (cfgs 0).N
    = moms (m ((c : Thread nD τ).loc main_arg3)) (GRAD (m ((c : Thread nD τ).loc main_arg0)) (m ((c : Thread nD τ).loc main_arg1))) := by
  refine (dats m 0 c).arrAt_eq_of_covers 7 _ (by decide +kernel) fun t hf y => ?_
  blk_simp
  rw [after0_7]
  unfold out0_7
  frame_out
  have hi := idx t
  have h0 : (((cfg0.win 7).blk t).view.emb y 0).val = t.val * 128 + (y 0).val := by blk_simp [hi]
  have h1 : (((cfg0.win 7).blk t).view.emb y 1).val = (y 1).val := by blk_simp [hi]
  exact congrArg₂ mom (tile_m m c t y _ h0 h1) (tile m c t y _ h0 h1)

/-- The new second moment after the run is the reference's. -/
theorem final_v (c : Dev nD) : (dats m 0 c).arrAt 8 (cfgs 0).N
    = moms2 (m ((c : Thread nD τ).loc main_arg4)) (GRAD (m ((c : Thread nD τ).loc main_arg0)) (m ((c : Thread nD τ).loc main_arg1))) := by
  refine (dats m 0 c).arrAt_eq_of_covers 8 _ (by decide +kernel) fun t hf y => ?_
  blk_simp
  rw [after0_8]
  unfold out0_8
  frame_out
  have hi := idx t
  have h0 : (((cfg0.win 8).blk t).view.emb y 0).val = t.val * 128 + (y 0).val := by blk_simp [hi]
  have h1 : (((cfg0.win 8).blk t).view.emb y 1).val = (y 1).val := by blk_simp [hi]
  exact congrArg₂ mom2 (tile_v m c t y _ h0 h1) (tile m c t y _ h0 h1)

end Cert.AdamOutIdeal.Hand

end
-- ==== Proof.AdamInValue.lean ====
/- The step of the optimiser on the mixer's input weight, with the sum of the gradient's four parts. -/
module

public import proofs.«01_k».proof.Proof.Gen.AdamInIdeal.Value
public import proofs.«01_k».proof.Proof.Gen.AdamInRefIdeal.Run
public import proofs.«01_k».proof.Proof.AdamW
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamInIdeal.Hand
open Cert.AdamInIdeal Cert.AdamInIdeal.Gen Idealize.ShloMosaic.StableHlo Cert.Shared
open Cert.AdamInRefIdeal (S_ S1024x320 S3x1024x320)
open Cert.AdamInRefIdeal.Gen (reducesTo_S3x1024x320_S1024x320_d0 h_S_ transposes_S320x1024_S1024x320_1_0 transposes_S3x320x1024_S3x1024x320_0_2_1)
variable (m : (ℓ : Loc nD τ sig) → Buf (Elt Ideal) ℓ)

/-- The gradient: the own part and the sum of the received parts, all turned. -/
abbrev GRAD (O : FVec Ideal S320x1024 .f32) (P : FVec Ideal S3x320x1024 .f32) : FVec Ideal S1024x320 .f32 :=
  addf (transpose S1024x320 [1, 0] O transposes_S320x1024_S1024x320_1_0) (Host.reduceAdd (transpose S3x1024x320 [0, 2, 1] P transposes_S3x320x1024_S3x1024x320_0_2_1) (constant S_ .f32 0x00000000#32) reducesTo_S3x1024x320_S1024x320_d0 h_S_)

/-- A result of the reference, turned back. -/
abbrev TURN (A : FVec Ideal S1024x320 .f32) : FVec Ideal S320x1024 .f32 := transpose S320x1024 [1, 0] A transposes_S1024x320_S320x1024_1_0

/-- The gradient at an index. -/
theorem hgrad (O : FVec Ideal S320x1024 .f32) (P : FVec Ideal S3x320x1024 .f32) (j : S1024x320.Idx) :
    GRAD O P j = ((O (ix2 (j 1) (j 0)) + P (ix3 (0 : Fin 3) (j 1) (j 0))) + P (ix3 (1 : Fin 3) (j 1) (j 0))) + P (ix3 (2 : Fin 3) (j 1) (j 0)) := by
  pointwise [GRAD]
  rw [Fin.sum_univ_three, add_assoc, add_assoc, add_assoc]

/-- A result turned back, at an index. -/
theorem hturn (A : FVec Ideal S1024x320 .f32) (j) : TURN A j = A (ix2 (j 1) (j 0)) := by pointwise [TURN]

/-- One tile of the gradient. -/
theorem hpay2 (o : Vec Ideal S320x1024 .f32) (p q r : Vec Ideal S1x320x1024 .bf16) (j) :
    k0_pay2 o p q r j = ((o j + p (ix3 (0 : Fin 1) (j 0) (j 1))) + q (ix3 (0 : Fin 1) (j 0) (j 1))) + r (ix3 (0 : Fin 1) (j 0) (j 1)) := by
  pointwise [k0_pay2]

/-- The tile of the new first moment. -/
theorem hpay4 (o : Vec Ideal S320x1024 .f32) (p q r : Vec Ideal S1x320x1024 .bf16) (x : Vec Ideal S320x1024 .f32) (j) :
    k0_pay4 o p q r x j = mom (x j) (k0_pay2 o p q r j) := by
  unfold k0_pay4
  generalize k0_pay2 o p q r = g
  pointwise [mom]

/-- The tile of the new second moment. -/
theorem hpay5 (o : Vec Ideal S320x1024 .f32) (p q r : Vec Ideal S1x320x1024 .bf16) (x : Vec Ideal S320x1024 .f32) (j) :
    k0_pay5 o p q r x j = mom2 (x j) (k0_pay2 o p q r j) := by
  unfold k0_pay5
  generalize k0_pay2 o p q r = g
  pointwise [mom2]

/-- The tile of the change of the weight. -/
theorem hpay1 (o : Vec Ideal S320x1024 .f32) (p q r : Vec Ideal S1x320x1024 .bf16) (w x y : Vec Ideal S320x1024 .f32) (j) :
    k0_pay1 (k0_pay3 w) (k0_pay5 o p q r y) (k0_pay6 o p q r x) (Scalar.ofBits .f32 0x3C231ACC#32) j = step (w j) (x j) (y j) (k0_pay2 o p q r j) := by
  unfold step
  rw [← hpay4, ← hpay5]
  unfold k0_pay6
  generalize k0_pay4 o p q r x = a
  generalize k0_pay5 o p q r y = b
  pointwise [k0_pay1, k0_pay3]

/-- The received parts that the call reads. -/
theorem entry (c : Dev nD) (i) : V m c main_v0 i = m ((c : Thread nD τ).loc main_arg1) i := by
  have e : V m c main_v0 = truncf .bf16 (show FVec Ideal S3x320x1024 .f32 from m ((c : Thread nD τ).loc main_arg1)) bitsLt_bf16_f32 := by
    simp only [V, hostOps0, TRef.binary, TRef.nullary, TRef.unary, TRef.toBuf, TRef.ofBuf, cast_eq]
    after_results <;> rfl
  rw [e]
  pointwise

/-- The weight that the call reads, turned. -/
theorem entry_w (c : Dev nD) (i) : V m c main_v1 i = m ((c : Thread nD τ).loc main_arg2) (ix2 (i 1) (i 0)) := by
  have e : V m c main_v1 = TURN (m ((c : Thread nD τ).loc main_arg2)) := by
    simp only [V, hostOps0, TRef.binary, TRef.nullary, TRef.unary, TRef.toBuf, TRef.ofBuf, cast_eq]
    after_results <;> rfl
  rw [e, hturn]

/-- The first moment that the call reads, turned. -/
theorem entry_m (c : Dev nD) (i) : V m c main_v2 i = m ((c : Thread nD τ).loc main_arg3) (ix2 (i 1) (i 0)) := by
  have e : V m c main_v2 = TURN (m ((c : Thread nD τ).loc main_arg3)) := by
    simp only [V, hostOps0, TRef.binary, TRef.nullary, TRef.unary, TRef.toBuf, TRef.ofBuf, cast_eq]
    after_results <;> rfl
  rw [e, hturn]

/-- The second moment that the call reads, turned. -/
theorem entry_v (c : Dev nD) (i) : V m c main_v3 i = m ((c : Thread nD τ).loc main_arg4) (ix2 (i 1) (i 0)) := by
  have e : V m c main_v3 = TURN (m ((c : Thread nD τ).loc main_arg4)) := by
    simp only [V, hostOps0, TRef.binary, TRef.nullary, TRef.unary, TRef.toBuf, TRef.ofBuf, cast_eq]
    after_results <;> rfl
  rw [e, hturn]

/-- Which blocks a grid point reads and writes. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 1 :=
  (by decide +kernel : ∀ t : Fin grid0.N, _)

section
variable (c : Dev nD) (t : Fin cfg0.N) (y : S320x1024.Idx) (i : S320x1024.Idx) (h0 : (i 0).val = t.val * 320 + (y 0).val) (h1 : (i 1).val = (y 1).val)
include h0 h1

/-- The gradient's tile at a grid point is the gradient's block there. -/
theorem tile : k0_pay2 (iblk m c 0 t) (View.ld (iblk m c 1 t) r0_1) (View.ld (iblk m c 1 t) r0_2) (View.ld (iblk m c 1 t) r0_3) y
      = GRAD (m ((c : Thread nD τ).loc main_arg0)) (m ((c : Thread nD τ).loc main_arg1)) (ix2 (i 1) (i 0)) := by
  rw [hgrad, hpay2]
  have hi := idx t
  have ho : iblk m c 0 t y = m ((c : Thread nD τ).loc main_arg0) (ix2 (i 0) (i 1)) := by blk_ext [iblk, V, hi]
  have hp (k : Fin 3) : iblk m c 1 t (ix3 k (y 0) (y 1)) = m ((c : Thread nD τ).loc main_arg1) (ix3 k (i 0) (i 1)) := by
    refine (entry m c _).trans ?_
    blk_ext [hi]
  exact congrArg₂ (· + ·) (congrArg₂ (· + ·) (congrArg₂ (· + ·) ho ((ld_part _ _ 0 _ _ rfl).trans (hp 0))) ((ld_part _ _ 1 _ _ rfl).trans (hp 1))) ((ld_part _ _ 2 _ _ rfl).trans (hp 2))

/-- The weight's tile. -/
theorem tile_w : iblk m c 2 t y = m ((c : Thread nD τ).loc main_arg2) (ix2 (i 1) (i 0)) := by
  have hi := idx t
  refine (entry_w m c _).trans ?_
  blk_ext [hi]

/-- The first moment's tile. -/
theorem tile_m : iblk m c 3 t y = m ((c : Thread nD τ).loc main_arg3) (ix2 (i 1) (i 0)) := by
  have hi := idx t
  refine (entry_m m c _).trans ?_
  blk_ext [hi]

/-- The second moment's tile. -/
theorem tile_v : iblk m c 4 t y = m ((c : Thread nD τ).loc main_arg4) (ix2 (i 1) (i 0)) := by
  have hi := idx t
  refine (entry_v m c _).trans ?_
  blk_ext [hi]

end

/-- The gradient after the run is the reference's. -/
theorem final_g (c : Dev nD) : (dats m 0 c).arrAt 5 (cfgs 0).N
    = TURN (GRAD (m ((c : Thread nD τ).loc main_arg0)) (m ((c : Thread nD τ).loc main_arg1))) := by
  refine (dats m 0 c).arrAt_eq_of_covers 5 _ (by decide +kernel) fun t hf y => ?_
  blk_simp
  rw [after0_5]
  unfold out0_5
  frame_out
  have hi := idx t
  have h0 : (((cfg0.win 5).blk t).view.emb y 0).val = t.val * 320 + (y 0).val := by blk_simp [hi]
  have h1 : (((cfg0.win 5).blk t).view.emb y 1).val = (y 1).val := by blk_simp [hi]
  exact (tile m c t y _ h0 h1).trans (hturn ..).symm

/-- The change of the weight after the run is the reference's. -/
theorem final_d (c : Dev nD) : (dats m 0 c).arrAt 6 (cfgs 0).N
    = TURN (steps (m ((c : Thread nD τ).loc main_arg2)) (m ((c : Thread nD τ).loc main_arg3)) (m ((c : Thread nD τ).loc main_arg4)) (GRAD (m ((c : Thread nD τ).loc main_arg0)) (m ((c : Thread nD τ).loc main_arg1)))) := by
  refine (dats m 0 c).arrAt_eq_of_covers 6 _ (by decide +kernel) fun t hf y => ?_
  blk_simp
  rw [after0_6]
  unfold_out out0_6
  frame_out
  refine (hpay1 ..).trans ?_
  have hi := idx t
  have h0 : (((cfg0.win 6).blk t).view.emb y 0).val = t.val * 320 + (y 0).val := by blk_simp [hi]
  have h1 : (((cfg0.win 6).blk t).view.emb y 1).val = (y 1).val := by blk_simp [hi]
  refine Eq.trans ?_ (hturn ..).symm
  exact step_congr (tile_w m c t y _ h0 h1) (tile_m m c t y _ h0 h1) (tile_v m c t y _ h0 h1) (tile m c t y _ h0 h1)

/-- The new first moment after the run is the reference's. -/
theorem final_m (c : Dev nD) : (dats m 0 c).arrAt 7 (cfgs 0).N
    = TURN (moms (m ((c : Thread nD τ).loc main_arg3)) (GRAD (m ((c : Thread nD τ).loc main_arg0)) (m ((c : Thread nD τ).loc main_arg1)))) := by
  refine (dats m 0 c).arrAt_eq_of_covers 7 _ (by decide +kernel) fun t hf y => ?_
  blk_simp
  rw [after0_7]
  unfold_out out0_7
  frame_out
  refine (hpay4 ..).trans ?_
  have hi := idx t
  have h0 : (((cfg0.win 7).blk t).view.emb y 0).val = t.val * 320 + (y 0).val := by blk_simp [hi]
  have h1 : (((cfg0.win 7).blk t).view.emb y 1).val = (y 1).val := by blk_simp [hi]
  refine Eq.trans ?_ (hturn ..).symm
  exact congrArg₂ mom (tile_m m c t y _ h0 h1) (tile m c t y _ h0 h1)

/-- The new second moment after the run is the reference's. -/
theorem final_v (c : Dev nD) : (dats m 0 c).arrAt 8 (cfgs 0).N
    = TURN (moms2 (m ((c : Thread nD τ).loc main_arg4)) (GRAD (m ((c : Thread nD τ).loc main_arg0)) (m ((c : Thread nD τ).loc main_arg1)))) := by
  refine (dats m 0 c).arrAt_eq_of_covers 8 _ (by decide +kernel) fun t hf y => ?_
  blk_simp
  rw [after0_8]
  unfold_out out0_8
  frame_out
  refine (hpay5 ..).trans ?_
  have hi := idx t
  have h0 : (((cfg0.win 8).blk t).view.emb y 0).val = t.val * 320 + (y 0).val := by blk_simp [hi]
  have h1 : (((cfg0.win 8).blk t).view.emb y 1).val = (y 1).val := by blk_simp [hi]
  refine Eq.trans ?_ (hturn ..).symm
  exact congrArg₂ mom2 (tile_v m c t y _ h0 h1) (tile m c t y _ h0 h1)

end Cert.AdamInIdeal.Hand

end
-- ==== Proof.AdaAdamValue.lean ====
/- The gradient of the weight that makes the modulation, and the step of the optimiser on it. -/
module

public import proofs.«01_k».proof.Proof.Gen.AdaAdamIdeal.Value
public import proofs.«01_k».proof.Proof.Gen.AdaAdamRefIdeal.Run
public import proofs.«01_k».proof.Proof.AdamW
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaAdamIdeal.Hand
open Cert.AdaAdamIdeal Cert.AdaAdamIdeal.Gen Idealize.ShloMosaic.StableHlo Cert.Shared
variable (m : (ℓ : Loc nD τ sig) → Buf (Elt Ideal) ℓ)

/-- The conditioning vectors after `c ↦ c / (1 + exp (-c))`. -/
abbrev ACT (C : FVec Ideal S8x1024 .f32) : FVec Ideal S8x1024 .f32 :=
  mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))

/-- The reference's gradient: the product over the eight conditioning vectors. -/
abbrev GRAD (C : FVec Ideal S8x1024 .f32) (D : FVec Ideal S8x768 .f32) : FVec Ideal S1024x768 .f32 :=
  transpose S1024x768 [1, 0] (Host.dotGeneral Cert.AdaAdamRefIdeal.dot_S8x768_S8x1024_S768x1024_0_0_1_1_n_n none D (ACT C)) Cert.AdaAdamRefIdeal.Gen.transposes_S768x1024_S1024x768_1_0

/-- The gradient at an index. -/
theorem hgrad (C : FVec Ideal S8x1024 .f32) (D : FVec Ideal S8x768 .f32) (j : S1024x768.Idx) :
    GRAD C D j = ∑ k : Fin 8, ACT C (ix2 k (j 0)) * D (ix2 k (j 1)) := by
  unfold GRAD
  generalize ACT C = A
  pointwise
  exact Finset.sum_congr rfl fun k _ => mul_comm _ _

/-- One tile of the gradient: the eight rows of zeros that both factors are padded with add nothing. -/
theorem hpay2 (x : Vec Ideal S8x256 .f32) (d : Vec Ideal S8x768 .f32) (j) :
    k0_pay2 x d j = ∑ k : Fin 8, x (ix2 k (j 0)) * d (ix2 k (j 1)) := by
  pointwise [k0_pay2]
  simp

/-- The conditioning vectors that the call reads. -/
theorem entry (c : Dev nD) : V m c main_v0 = ACT (m ((c : Thread nD τ).loc main_arg0)) := by
  simp only [V, hostOps0, List.flatten_cons, List.flatten_nil, List.append_nil, List.cons_append, List.nil_append,
    TRef.binary, TRef.nullary, TRef.unary, TRef.toBuf, TRef.ofBuf, cast_eq]
  after_results <;> rfl

/-- Which blocks a grid point reads and writes. -/
theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ t.val < 4 :=
  (by decide +kernel : ∀ t : Fin grid0.N, _)

section
variable (c : Dev nD) (t : Fin cfg0.N) (y : S256x768.Idx) (i : S1024x768.Idx) (h0 : (i 0).val = t.val * 256 + (y 0).val) (h1 : (i 1).val = (y 1).val)
include h0 h1

/-- The gradient's tile at a grid point is the gradient's block there. -/
theorem tile : k0_pay2 (iblk m c 0 t) (iblk m c 1 t) y
      = GRAD (m ((c : Thread nD τ).loc main_arg0)) (m ((c : Thread nD τ).loc main_arg1)) i := by
  rw [hgrad, hpay2]
  have hi := idx t
  refine Finset.sum_congr rfl fun k _ => congrArg₂ (· * ·) ?_ ?_
  · refine (congrFun (entry m c) _).trans ?_
    blk_ext [hi]
  · blk_ext [iblk, V, hi]

/-- The weight's tile. -/
theorem tile_w : iblk m c 2 t y = m ((c : Thread nD τ).loc main_arg2) i := by
  have hi := idx t
  blk_ext [iblk, V, hi]

/-- The first moment's tile. -/
theorem tile_m : iblk m c 3 t y = m ((c : Thread nD τ).loc main_arg4) i := by
  have hi := idx t
  blk_ext [iblk, V, hi]

/-- The second moment's tile. -/
theorem tile_v : iblk m c 4 t y = m ((c : Thread nD τ).loc main_arg5) i := by
  have hi := idx t
  blk_ext [iblk, V, hi]

end

/-- The gradient after the run is the reference's. -/
theorem final_g (c : Dev nD) : (dats m 0 c).arrAt 5 (cfgs 0).N
    = GRAD (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  have hi := idx t
  exact tile m c t y _ (by blk_simp [hi]) (by blk_simp [hi])

/-- The change of the weight after the run is the reference's. -/
theorem final_d (c : Dev nD) : (dats m 0 c).arrAt 6 (cfgs 0).N
    = steps (m ((c : Thread nD τ).loc main_arg2)) (m ((c : Thread nD τ).loc main_arg4)) (m ((c : Thread nD τ).loc main_arg5)) (GRAD (m ((c : Thread nD τ).loc main_arg0)) (m ((c : Thread nD τ).loc main_arg1))) := by
  refine (dats m 0 c).arrAt_eq_of_covers 6 _ (by decide +kernel) fun t hf y => ?_
  blk_simp
  rw [after0_6]
  unfold out0_6
  frame_out
  have hi := idx t
  have h0 : (((cfg0.win 6).blk t).view.emb y 0).val = t.val * 256 + (y 0).val := by blk_simp [hi]
  have h1 : (((cfg0.win 6).blk t).view.emb y 1).val = (y 1).val := by blk_simp [hi]
  exact step_congr (tile_w m c t y _ h0 h1) (tile_m m c t y _ h0 h1) (tile_v m c t y _ h0 h1) (tile m c t y _ h0 h1)

/-- The new first moment after the run is the reference's. -/
theorem final_m (c : Dev nD) : (dats m 0 c).arrAt 7 (cfgs 0).N
    = moms (m ((c : Thread nD τ).loc main_arg4)) (GRAD (m ((c : Thread nD τ).loc main_arg0)) (m ((c : Thread nD τ).loc main_arg1))) := by
  refine (dats m 0 c).arrAt_eq_of_covers 7 _ (by decide +kernel) fun t hf y => ?_
  blk_simp
  rw [after0_7]
  unfold out0_7
  frame_out
  have hi := idx t
  have h0 : (((cfg0.win 7).blk t).view.emb y 0).val = t.val * 256 + (y 0).val := by blk_simp [hi]
  have h1 : (((cfg0.win 7).blk t).view.emb y 1).val = (y 1).val := by blk_simp [hi]
  exact congrArg₂ mom (tile_m m c t y _ h0 h1) (tile m c t y _ h0 h1)

/-- The new second moment after the run is the reference's. -/
theorem final_v (c : Dev nD) : (dats m 0 c).arrAt 8 (cfgs 0).N
    = moms2 (m ((c : Thread nD τ).loc main_arg5)) (GRAD (m ((c : Thread nD τ).loc main_arg0)) (m ((c : Thread nD τ).loc main_arg1))) := by
  refine (dats m 0 c).arrAt_eq_of_covers 8 _ (by decide +kernel) fun t hf y => ?_
  blk_simp
  rw [after0_8]
  unfold out0_8
  frame_out
  have hi := idx t
  have h0 : (((cfg0.win 8).blk t).view.emb y 0).val = t.val * 256 + (y 0).val := by blk_simp [hi]
  have h1 : (((cfg0.win 8).blk t).view.emb y 1).val = (y 1).val := by blk_simp [hi]
  exact congrArg₂ mom2 (tile_v m c t y _ h0 h1) (tile m c t y _ h0 h1)

end Cert.AdaAdamIdeal.Hand

end
-- ==== Proof.SumSmallValue.lean ====
/- The sum over the eight devices of the rows that each sends to all the others, and the loss from it. -/
module

public import proofs.«01_k».proof.Proof.Gen.SumSmallIdeal.Frame
public import proofs.«01_k».proof.Proof.Gen.SumSmallRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SumSmallIdeal.Hand
open Cert.SumSmallIdeal Cert.SumSmallIdeal.Gen Idealize.ShloMosaic.StableHlo
variable (m : (ℓ : Loc nD τ sig) → Buf (Elt Ideal) ℓ)

/-- The reference's sum over the devices. -/
abbrev SUM (P : FVec Ideal S8x80x1024 .f32) : FVec Ideal S80x1024 .f32 :=
  Host.reduceAdd P (constant Cert.SumSmallRefIdeal.S_ .f32 0x00000000#32) Cert.SumSmallRefIdeal.Gen.reducesTo_S8x80x1024_S80x1024_d0 Cert.SumSmallRefIdeal.Gen.h_S_

/-- The reference's sum at an index. -/
theorem hsum (P : FVec Ideal S8x80x1024 .f32) (j : S80x1024.Idx) : SUM P j = ∑ k : Fin 8, P (ix3 k (j 0) (j 1)) := by
  unfold SUM
  pointwise

/-- One device's rows, loaded. -/
theorem ld_row (P : Vec Ideal S8x80x1024 .f32) {o : ℕ} (inb : ∀ a : Fin 3, (![o, 0, 0] : Fin 3 → ℕ) a + (![1, 80, 1024] : Fin 3 → ℕ) a ≤ S8x80x1024.size a)
    (k : Fin 8) (a : Fin 80) (b : Fin 1024) (h : k.val = o) :
    View.ld (Val := Elt Ideal) (e' := .f32) P (Rect.unit (s := S8x80x1024) ![o, 0, 0] ![1, 80, 1024] inb) (ix3 (0 : Fin 1) a b) = P (ix3 k a b) := by
  refine congrArg P ?_
  funext d
  match d with
  | 0 => exact Fin.ext h.symm
  | 1 => exact Fin.ext (by show 0 + 1 * a.val = a.val; omega)
  | 2 => exact Fin.ext (by show 0 + 1 * b.val = b.val; omega)

/-- The kernel's sum of eight loaded parts, at an index. -/
theorem hpay (x0 x1 x2 x3 x4 x5 x6 x7 : Vec Ideal S1x80x1024 .f32) (j : S80x1024.Idx) :
    k0_pay1 x0 x1 x2 x3 x4 x5 x6 x7 j = x0 (ix3 0 (j 0) (j 1)) + x1 (ix3 0 (j 0) (j 1)) + x2 (ix3 0 (j 0) (j 1)) + x3 (ix3 0 (j 0) (j 1))
      + x4 (ix3 0 (j 0) (j 1)) + x5 (ix3 0 (j 0) (j 1)) + x6 (ix3 0 (j 0) (j 1)) + x7 (ix3 0 (j 0) (j 1)) := by
  pointwise [k0_pay1]

/-- Which blocks a grid point reads and writes. -/
theorem idx : ∀ t : Fin cfg0.N, win0_0.index t = ![0, t.val, 0] ∧ win0_1.index t = ![t.val, 0] ∧ t.val < 1 :=
  (by decide +kernel : ∀ t : Fin grid0.N, _)

/-- The block that the call reads is the whole array. -/
theorem block (c : Dev nD) (t : Fin cfg0.N) : iblk m c 0 t = m ((c : Thread nD τ).loc main_arg0) := by
  have hi := idx t
  funext j
  blk_ext [iblk, V, hi]

/-- The sum after the run is the reference's. -/
theorem final (c : Dev nD) : (dats m 0 c).arrAt 1 (cfgs 0).N = SUM (m ((c : Thread nD τ).loc main_arg0)) := by
  refine (dats m 0 c).arrAt_eq_of_covers 1 _ (by decide +kernel) fun t hf y => ?_
  blk_simp
  rw [after0_1]
  unfold out0_1
  frame_out
  have hi := idx t
  rw [hpay, hsum, Fin.sum_univ_eight, block]
  have h0 : (((cfg0.win 1).blk t).view.emb y 0).val = (y 0).val := by blk_simp [hi]
  have h1 : (((cfg0.win 1).blk t).view.emb y 1).val = (y 1).val := by blk_simp [hi]
  rw [show ((cfg0.win 1).blk t).view.emb y 0 = y 0 from Fin.ext h0, show ((cfg0.win 1).blk t).view.emb y 1 = y 1 from Fin.ext h1]
  exact congrArg₂ (· + ·) (congrArg₂ (· + ·) (congrArg₂ (· + ·) (congrArg₂ (· + ·) (congrArg₂ (· + ·) (congrArg₂ (· + ·) (congrArg₂ (· + ·) (ld_row _ _ 0 _ _ rfl) (ld_row _ _ 1 _ _ rfl)) (ld_row _ _ 2 _ _ rfl)) (ld_row _ _ 3 _ _ rfl)) (ld_row _ _ 4 _ _ rfl)) (ld_row _ _ 5 _ _ rfl)) (ld_row _ _ 6 _ _ rfl)) (ld_row _ _ 7 _ _ rfl)

/-- The kernel's loss: the row of the squared errors added over the features, times 0.5/1024. -/
abbrev LOSSK (P : FVec Ideal S80x1024 .f32) : FVec Ideal S_ .f32 :=
  mulf (constant S_ .f32 0x3A000000#32) (Host.reduceAdd (shapeCast _ (extractStridedSlice S1x1024 ![15, 0] P slices_S80x1024_S1x1024_15_0) shapeCasts_S1x1024_S1024) (constant S_ .f32 0x00000000#32) reducesTo_S1024_S_d0 h_S_)

/-- The loss after the run, from the sums after the run. -/
theorem loss_run (c : Dev nD) : Pipeline.afterTail₀ cfgs (dats m) 0 (V0 m) [hostOps1] c main_v4 = LOSSK ((dats m 0 c).arrAt 1 (cfgs 0).N) := by
  unfold Pipeline.afterTail₀
  rw [show ([hostOps1] : List (List (HloOp τ sig (Elt Ideal)))).flatten = hostOps1 from List.append_nil _]
  unfold hostOps1
  have h : Pipeline.withArrays (cfgs 0).spec c (V0 m c) (fun w => (dats m 0 c).arrAt w (cfgs 0).N) (Proc.devRef .tc main_v0) = (dats m 0 c).arrAt 1 (cfgs 0).N :=
    Pipeline.withArrays_arr spec0 launch0.win.arr_inj c (V0 m c) (fun w => (dats m 0 c).arrAt w (cfgs 0).N) 1
  after_results
  rw [h]
  rfl

/-- The reference's loss: half the mean of the same row. -/
abbrev LOSSR (P : FVec Ideal S80x1024 .f32) : FVec Ideal S_ .f32 :=
  mulf (constant S_ .f32 0x3F000000#32) (Host.divf (Host.reduceAdd (shapeCast _ (extractStridedSlice S1x1024 ![15, 0] P slices_S80x1024_S1x1024_15_0) shapeCasts_S1x1024_S1024) (constant S_ .f32 0x00000000#32) reducesTo_S1024_S_d0 h_S_) (constant S_ .f32 0x44800000#32))

/-- The constants of the loss: 1/2048 of a number is half of the number divided by the width. -/
theorem loss_const (s : EReal) : Ideal.ofBits .f32 0x3A000000#32 * s = Ideal.ofBits .f32 0x3F000000#32 * Ideal.div s (Ideal.ofBits .f32 0x44800000#32) := by
  have h : Ideal.ofBits .f32 0x3F000000#32 = ((1 / 2 : ℝ) : EReal) := by
    simp [Ideal.ofBits, Ideal.ieee, -EReal.coe_mul]; norm_num
  have h2 : Ideal.ofBits .f32 0x3A000000#32 = ((1 / 2048 : ℝ) : EReal) := by
    simp [Ideal.ofBits, Ideal.ieee, -EReal.coe_mul]; norm_num
  have h3 : Ideal.ofBits .f32 0x44800000#32 = ((1024 : ℝ) : EReal) := by
    simp [Ideal.ofBits, Ideal.ieee, -EReal.coe_mul]; norm_num
  rw [h, h2, h3, Ideal.div_coe (by norm_num), mul_comm s, ← mul_assoc, ← EReal.coe_mul]
  norm_num

/-- The two losses are equal, infinities included. -/
theorem loss_eq (P : FVec Ideal S80x1024 .f32) : LOSSK P = LOSSR P := by
  unfold LOSSK LOSSR
  generalize Host.reduceAdd (shapeCast _ (extractStridedSlice S1x1024 ![15, 0] P slices_S80x1024_S1x1024_15_0) shapeCasts_S1x1024_S1024) (constant S_ .f32 0x00000000#32) reducesTo_S1024_S_d0 h_S_ = s
  funext j
  pointwise
  exact loss_const _

/-- What the call and the loss after it leave: the reference's sums and loss, and the argument as it was. -/
theorem run (ρ : Dev nD → PrngReg) : θ_run defs (onTc (τ := τ) (main (F := Ideal))) ⟨m, fun _ => 0, ρ⟩ (fun r => ∀ c : Dev nD,
    r.2.mem ((c.tc : Thread nD τ).loc main_v0) = SUM (m ((c.tc : Thread nD τ).loc main_arg0))
      ∧ r.2.mem ((c.tc : Thread nD τ).loc main_v4) = LOSSR (SUM (m ((c.tc : Thread nD τ).loc main_arg0)))
      ∧ r.2.mem ((c.tc : Thread nD τ).loc main_arg0) = m ((c.tc : Thread nD τ).loc main_arg0)) :=
  (θ_run defs _ _).mono (fun _ h c =>
    ⟨((h.1 c).1 1).trans (final m c),
     ((h.1 c).2 main_v4 (by decide)).trans ((loss_run m c).trans ((congrArg LOSSK (final m c)).trans (loss_eq _))),
     h.2 c⟩) (θ_run_and (run_main m ρ) (unchanged m ρ))

end Cert.SumSmallIdeal.Hand

end
-- ==== Proof.AdaFwdValue.lean ====
/- The modulation: the conditioning vectors through the silu, times the projection, plus the bias. -/
module

public import proofs.«01_k».proof.Proof.Gen.AdaFwdIdeal.Value
public import proofs.«01_k».proof.Proof.Gen.AdaFwdRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaFwdIdeal.Hand
open Cert.AdaFwdIdeal Cert.AdaFwdIdeal.Gen Idealize.ShloMosaic.StableHlo
variable (m : (ℓ : Loc nD τ sig) → Buf (Elt Ideal) ℓ)

/-- The reference's silu of the conditioning vectors. -/
abbrev ACT (C : FVec Ideal S8x1024 .f32) : FVec Ideal S8x1024 .f32 :=
  mulf C (Host.divf (broadcastInDim S8x1024 ![] Cert.AdaFwdRefIdeal.Gen.bcast_S_S8x1024 (constant Cert.AdaFwdRefIdeal.S_ .f32 0x3F800000#32)) (addf (broadcastInDim S8x1024 ![] Cert.AdaFwdRefIdeal.Gen.bcast_S_S8x1024 (constant Cert.AdaFwdRefIdeal.S_ .f32 0x3F800000#32)) (Host.exp (Host.negf C))))

/-- The reference's modulation. -/
abbrev MOD (C : FVec Ideal S8x1024 .f32) (W : FVec Ideal S1024x768 .f32) (B : FVec Ideal S1x768 .f32) : FVec Ideal S8x768 .f32 :=
  addf (Host.dotGeneral Cert.AdaFwdRefIdeal.dot_S8x1024_S1024x768_S8x768_1_0_0_1_n_n none (ACT C) W) (broadcastInDim S8x768 ![0, 1] Cert.AdaFwdRefIdeal.Gen.bcast_S1x768_S8x768_0_1 B)

/-- The kernel's silu is the reference's. -/
theorem hact (C : Vec Ideal S8x1024 .f32) : k0_pay1 C = ACT C := by
  funext j
  unfold ACT
  pointwise [k0_pay1]
  simp [Ideal.logistic]

/-- The kernel's modulation is the reference's. -/
theorem hmod (C : Vec Ideal S8x1024 .f32) (W : Vec Ideal S1024x768 .f32) (B : Vec Ideal S1x768 .f32) : k0_pay2 C W B = MOD C W B := by
  funext j
  unfold MOD k0_pay2
  rw [hact]
  generalize ACT C = A
  pointwise

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The conditioning vectors that the call reads. -/
theorem block_c (c : Dev nD) (t : Fin cfg0.N) : iblk m c 0 t = m ((c : Thread nD τ).loc main_arg0) := by
  have hi := idx t
  funext j
  blk_ext [iblk, V, hi]

/-- The projection that the call reads. -/
theorem block_w (c : Dev nD) (t : Fin cfg0.N) : iblk m c 1 t = m ((c : Thread nD τ).loc main_arg1) := by
  have hi := idx t
  funext j
  blk_ext [iblk, V, hi]

/-- The bias that the call reads. -/
theorem block_b (c : Dev nD) (t : Fin cfg0.N) : iblk m c 2 t = m ((c : Thread nD τ).loc main_arg2) := by
  have hi := idx t
  funext j
  blk_ext [iblk, V, hi]

/-- The modulation after the run is the reference's. -/
theorem final_mod (c : Dev nD) : (dats m 0 c).arrAt 3 (cfgs 0).N
    = MOD (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  have hi := idx t
  rw [hmod, block_c, block_w, block_b]
  refine congrArg _ ?_
  funext d
  match d with
  | 0 => exact Fin.ext (by blk_simp [hi])
  | 1 => exact Fin.ext (by blk_simp [hi])

/-- The silu after the run is the reference's. -/
theorem final_act (c : Dev nD) : (dats m 0 c).arrAt 4 (cfgs 0).N = ACT (m ((c : Thread nD τ).loc main_arg0)) := by
  refine (dats m 0 c).arrAt_eq_of_covers 4 _ (by decide +kernel) fun t hf y => ?_
  blk_simp
  rw [after0_4]
  unfold out0_4
  frame_out
  have hi := idx t
  rw [hact, block_c]
  refine congrArg _ ?_
  funext d
  match d with
  | 0 => exact Fin.ext (by blk_simp [hi])
  | 1 => exact Fin.ext (by blk_simp [hi])

end Cert.AdaFwdIdeal.Hand

end
-- ==== Proof.PairOutIdealBody.lean ====
/- The sum over a pair of devices: what the body stores at a grid point, by whether the point is the chip's own quarter. -/
module

public import proofs.«01_k».proof.Proof.Gen.PairOutIdeal.Skeleton
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Init

@[expose] public section

set_option maxRecDepth 16384
set_option Elab.async false

noncomputable section

namespace Cert.PairOutIdeal.Hand

open Cert.PairOutIdeal Cert.PairOutIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of the two words, core and chip. -/
abbrev tab : Memref sig .tc .smem S2 .i32 := Memref.whole main_arg0

/-- The chip's number, read from the table. -/
abbrev chipWord (T : S2.Idx → Elt F .i32) : Elt F .i32 :=
  View.readAt (Elt F) tab.view (Rect.unit (s := S2) ![1] S1.size inb_S2_S1_1).toLoadRect T (Shape.Idx.first (numel1_S1.symm ▸ Nat.one_pos))

/-- A full load of a whole buffer. -/
theorem rd {s : Shape} {e : EltTy} {M : Memref sig .tc .vmem s e} (hM : M.IsWhole) (x : Vec F s e)
    {off : Fin s.rank → ℕ} (inb : ∀ a, off a + s.size a ≤ s.size a) :
    View.readAt (Elt F) M.view (Rect.unit off s.size inb).toLoadRect (hM.unread x) = x :=
  (View.readAt_full _ _ _).trans (hM.read_unread x)

variable (c : Dev nD) (i : grid0.Coords)
  (arg3 : Memref sig .tc .vmem S1x1x128x1024 .f32) (harg3 : arg3.IsWhole)
  (arg4 : Memref sig .tc .vmem S1x128x1024 .f32) (harg4 : arg4.IsWhole)
  (arg5 : Memref sig .tc .vmem S1x128x1024 .bf16) (harg5 : arg5.IsWhole)
  (arg6 : Memref sig .tc .vmem S128x1024 .f32) (harg6 : arg6.IsWhole)
  (T : S2.Idx → Elt F .i32) (x0 : Vec F S1x1x128x1024 .f32) (x1 : Vec F S1x128x1024 .f32)

set_option maxHeartbeats 1000000 in
/-- At another chip's quarter the body stores the rounded sum, and leaves the second output as it was. -/
theorem bodyOther (h : ¬(k0_cond1 i (chipWord T) = 1#1)) (y : Vec F S128x1024 .f32) (K : PUnit → sProp 𝕄) :
    iprop(owns (c : Thread nD τ) arg3 fullShare x0 ∗ owns (c : Thread nD τ) arg4 fullShare x1
        ∗ (tab.view.loc (c : Thread nD τ) ↦{fullShare.right} T)
        ∗ (∃ d, owns (c : Thread nD τ) arg5 fullShare d) ∗ owns (c : Thread nD τ) arg6 fullShare y
        ∗ (iprop(owns (c : Thread nD τ) arg3 fullShare x0 ∗ owns (c : Thread nD τ) arg4 fullShare x1
            ∗ (tab.view.loc (c : Thread nD τ) ↦{fullShare.right} T)
            ∗ owns (c : Thread nD τ) arg5 fullShare (k0_pay2 x0 x1) ∗ owns (c : Thread nD τ) arg6 fullShare y) -∗ K ⟨⟩))
      ⊢ wp frame (wpE (defs₀ (F := F)) Variants.none c none) Set.univ
        (cc0_pair_sum_w_out i tab (Memref.isWhole_whole _) arg3 harg3 arg4 harg4 arg5 harg5 arg6 harg6) K := by
  rw [cc0_pair_sum_w_out_eq_skeleton]; unfold cc0_pair_sum_w_out_skel
  unfold owns
  iintro ⟨⟨%f0, %hf0, H0⟩, ⟨%f1, %hf1, H1⟩, HT, ⟨%d2, %f2, -, H2⟩, ⟨%f3, %hf3, H3⟩, Hk⟩
  obtain rfl := harg3.eq_unread hf0; obtain rfl := harg4.eq_unread hf1; obtain rfl := harg6.eq_unread hf3
  have hT : tab.IsWhole := Memref.isWhole_whole _
  sl_exec! (disch := first | (guard_target = ¬(k0_cond1 _ _ = _); exact h))
  sl_step
  iapply Hk
  isplitl [H0]
  · iexists _; isplitr; · ipureintro; exact harg3.read_unread _
    iexact H0
  isplitl [H1]
  · iexists _; isplitr; · ipureintro; exact harg4.read_unread _
    iexact H1
  isplitl [HT]; · iexact HT
  isplitl [H2]
  · iexists _; isplitr; swap; · iexact H2
    ipureintro
    exact (View.read_writes_full _ _ _ _ _).trans (congrArg₂ k0_pay2 (rd harg3 x0 _) (rd harg4 x1 _))
  iexists _; isplitr; · ipureintro; exact harg6.read_unread _
  iexact H3

set_option maxHeartbeats 1000000 in
/-- At the chip's own quarter the body stores the rounded sum and the sum. -/
theorem bodyOwn (h : k0_cond1 i (chipWord T) = 1#1) (K : PUnit → sProp 𝕄) :
    iprop(owns (c : Thread nD τ) arg3 fullShare x0 ∗ owns (c : Thread nD τ) arg4 fullShare x1
        ∗ (tab.view.loc (c : Thread nD τ) ↦{fullShare.right} T)
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ (tab.view.loc (c : Thread nD τ) ↦{fullShare.right} T)
            ∗ owns (c : Thread nD τ) arg5 fullShare (k0_pay2 x0 x1) ∗ owns (c : Thread nD τ) arg6 fullShare (k0_pay1 x0 x1)) -∗ K ⟨⟩))
      ⊢ wp frame (wpE (defs₀ (F := F)) Variants.none c none) Set.univ
        (cc0_pair_sum_w_out i tab (Memref.isWhole_whole _) arg3 harg3 arg4 harg4 arg5 harg5 arg6 harg6) K := by
  rw [cc0_pair_sum_w_out_eq_skeleton]; unfold cc0_pair_sum_w_out_skel
  unfold owns
  iintro ⟨⟨%f0, %hf0, H0⟩, ⟨%f1, %hf1, H1⟩, HT, ⟨%d2, %f2, -, H2⟩, ⟨%d3, %f3, -, H3⟩, Hk⟩
  obtain rfl := harg3.eq_unread hf0; obtain rfl := harg4.eq_unread hf1
  have hT : tab.IsWhole := Memref.isWhole_whole _
  sl_exec! (disch := first | (guard_target = k0_cond1 _ _ = _; exact h))
  sl_step
  iapply Hk
  isplitl [H0]
  · iexists _; isplitr; · ipureintro; exact harg3.read_unread _
    iexact H0
  isplitl [H1]
  · iexists _; isplitr; · ipureintro; exact harg4.read_unread _
    iexact H1
  isplitl [HT]; · iexact HT
  isplitl [H2]
  · iexists _; isplitr; swap; · iexact H2
    ipureintro
    exact (View.read_writes_full _ _ _ _ _).trans (congrArg₂ k0_pay2 (rd harg3 x0 _) (rd harg4 x1 _))
  iexists _; isplitr; swap; · iexact H3
  ipureintro
  exact (View.read_writes_full _ _ _ _ _).trans (congrArg₂ k0_pay1 (rd harg3 x0 _) (rd harg4 x1 _))

end Cert.PairOutIdeal.Hand

end
-- ==== Proof.PairOutIdealFrame.lean ====
/- The sum over a pair of devices: what the outputs hold after each point, and that the call terminates and leaves its arguments alone. -/
module

public import proofs.«01_k».proof.Proof.PairOutIdealBody
public import proofs.«01_k».proof.Proof.Gen.PairOutIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Adequacy

@[expose] public section

set_option maxRecDepth 16384
set_option Elab.async false

noncomputable section

namespace Cert.PairOutIdeal.Hand

open Cert.PairOutIdeal Cert.PairOutIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra. -/
abbrev EP : Emb (UR sig nD τ) 𝕄 := emb₁

/-- The two words of device `ch`: its core, and its chip. -/
def words (ch : Fin 8) : S2.Idx → BitVec 32 := fun x => if (x 0).val = 0 then BitVec.ofNat 32 (ch.val % 2) else BitVec.ofNat 32 (ch.val / 2)

set_option backward.proofsInPublic true in
/-- The prefetched table of device `ch`. -/
def pfN (F : FTy → Type) [FloatOps F] (ch : Fin 8) : pre0.Contents (Elt F) := fun | ⟨0, _⟩ => words ch | ⟨_ + 1, h⟩ => absurd h (by simp)

/-- At every device's words each block lies inside its array. -/
theorem ok_pfN (ch : Fin 8) : ok0 (F := F) (pfN F ch) := by
  fin_cases ch <;> exact of_decide_eq_true (by sl_kernel_rfl)

/-- The words that the call may be run at. -/
def adm (F : FTy → Type) [FloatOps F] (ch : Fin 8) : (pcfg0 (F := F)).Adm := ⟨pfN F ch, ok_pfN ch⟩
abbrev cfgA (F : FTy → Type) [FloatOps F] (ch : Fin 8) : Pipeline.Cfg sig Λ₀ := cfg0 (F := F) (adm F ch)
abbrev pcs (F : FTy → Type) [FloatOps F] (ch : Fin 8) : Fin 1 → Pipeline.Cfg sig Λ₀ := Pipeline.pin (pcfgs (F := F)) fun _ => adm F ch

variable (ch : Fin 8) (m : (ℓ : Loc nD τ sig) → Buf (Elt F) ℓ) (ρ : Dev nD → PrngReg)

/-- The memory's table is device `ch`'s. -/
def Pinned : Prop := ∀ c : Dev nD, m ((c : Thread nD τ).loc main_arg0) = words ch

/-- A point's coordinates. -/
abbrev crd (t : Fin (cfgA F ch).N) : (cfgA F ch).grid.Coords := (cfgA F ch).grid.coords t
/-- The staging buffers at a point. -/
abbrev ms0 (t : Fin (cfgA F ch).N) : Memref sig .tc .vmem S1x1x128x1024 .f32 := spec0_0.stage ((cfgA F ch).slots t (0 : Fin 4))
abbrev hs0 (t : Fin (cfgA F ch).N) : (ms0 ch t).IsWhole := hstage0_0 (((cfgA F ch).slots t (0 : Fin 4)).cast nbuf0_0)
abbrev ms1 (t : Fin (cfgA F ch).N) : Memref sig .tc .vmem S1x128x1024 .f32 := spec0_1.stage ((cfgA F ch).slots t (1 : Fin 4))
abbrev hs1 (t : Fin (cfgA F ch).N) : (ms1 ch t).IsWhole := hstage0_1 (((cfgA F ch).slots t (1 : Fin 4)).cast nbuf0_1)
abbrev ms2 (t : Fin (cfgA F ch).N) : Memref sig .tc .vmem S1x128x1024 .bf16 := spec0_2.stage ((cfgA F ch).slots t (2 : Fin 4))
abbrev hs2 (t : Fin (cfgA F ch).N) : (ms2 ch t).IsWhole := hstage0_2 (((cfgA F ch).slots t (2 : Fin 4)).cast nbuf0_2)
abbrev ms3 (t : Fin (cfgA F ch).N) : Memref sig .tc .vmem S128x1024 .f32 := spec0_3.stage ((cfgA F ch).slots t (3 : Fin 4))
abbrev hs3 (t : Fin (cfgA F ch).N) : (ms3 ch t).IsWhole := hstage0_3 (((cfgA F ch).slots t (3 : Fin 4)).cast nbuf0_3)

/-- A window's block at a point, read off its array. -/
def iblk (c : Dev nD) (w : Fin (cfgA F ch).W) (t : Fin (cfgA F ch).N) : (((cfgA F ch).win w).xblock (crd ch t)).Idx → Elt F ((cfgA F ch).win w).elt :=
  (((cfgA F ch).win w).blk t).view.read (Elt F) ((s₀ m ρ).mem (((cfgA F ch).win w).arr.view.loc (c : Thread nD τ)))

/-- The point is the chip's own quarter. -/
abbrev Own (t : Fin (cfgA F ch).N) : Prop := k0_cond1 (crd ch t) (chipWord (F := F) (words ch)) = 1#1

/-- The second output's buffer holds nothing yet before the own quarter, and something after it. -/
def frTab : ℕ → Bool := fun n => decide (n ≤ ch.val / 2) || decide (n = 4)

/-- What is decided at a point: which outputs are stored there and which are written back. -/
abbrev FactsAt (F : FTy → Type) [FloatOps F] (ch : Fin 8) (t : Fin (cfgA F ch).N) : Prop :=
  (frTab ch (t.val + 1) = (((cfgA F ch).win (3 : Fin 4)).flush t || ((cfgA F ch).idle (3 : Fin 4) ((cfgA F ch).grid.coords t) && frTab ch t.val)))
  ∧ (cfgA F ch).idle (2 : Fin 4) ((cfgA F ch).grid.coords t) = false
  ∧ (Own (F := F) ch t ↔ t.val = ch.val / 2)
  ∧ (cfgA F ch).idle (3 : Fin 4) ((cfgA F ch).grid.coords t) = decide (¬ t.val = ch.val / 2)
  ∧ ((cfgA F ch).win (3 : Fin 4)).flush t = decide (t.val = 3)

/-- They hold at every point of every device. -/
theorem facts (ch : Fin 8) (t : Fin (cfgA F ch).N) : FactsAt F ch t := by
  revert t
  fin_cases ch <;> exact of_decide_eq_true (by sl_kernel_rfl)

/-- The grid has four points. -/
theorem gridN : (cfgA F ch).N = 4 := N_0

/-- The chip's own quarter, as a point. -/
def pt (F : FTy → Type) [FloatOps F] (ch : Fin 8) : Fin (cfgA F ch).N := ⟨ch.val / 2, by rw [gridN]; omega⟩

/-- Where the second output's buffer holds nothing yet. -/
theorem fresh3 (t : Fin (cfgA F ch).N) : (cfgA F ch).fresh (3 : Fin 4) t.val = frTab ch t.val :=
  Pipeline.Cfg.fresh_tab (cfgA F ch) (3 : Fin 4) (frTab ch) rfl (fun t => (facts ch t).1) t.val (Nat.le_of_lt t.isLt)

/-- It holds something exactly after the own quarter. -/
theorem fresh3_iff (t : Fin (cfgA F ch).N) : (cfgA F ch).fresh (3 : Fin 4) t.val = false ↔ ch.val / 2 < t.val := by
  have h : t.val < 4 := t.isLt.trans_eq (gridN ch)
  rw [fresh3]
  simp only [frTab, Bool.or_eq_false_iff, decide_eq_false_iff_not]
  omega

/-- The table, held by the body throughout. -/
def Phi (F : FTy → Type) [FloatOps F] (ch : Fin 8) (c : Dev nD) : sProp 𝕄 := iprop((tab.view.loc (c : Thread nD τ) ↦{fullShare.right} (words ch : S2.Idx → Elt F .i32)))

/-- The proof data: each input's block; the rounded sum of the point's blocks; and the sum of the own quarter's. -/
def dats (_ : Fin 1) (c : Dev nD) : Dat τ (Elt F) Unit ℕ (UR sig nD τ) ℕ (cfgA F ch) c where
  A w := (s₀ m ρ).mem (((cfgA F ch).win w).arr.view.loc (c : Thread nD τ))
  after w t := match w with
    | ⟨0, _⟩ => iblk ch m ρ c (0 : Fin 4) t
    | ⟨1, _⟩ => iblk ch m ρ c (1 : Fin 4) t
    | ⟨2, _⟩ => k0_pay2 (iblk ch m ρ c (0 : Fin 4) t) (iblk ch m ρ c (1 : Fin 4) t)
    | ⟨3, _⟩ => k0_pay1 (iblk ch m ρ c (0 : Fin 4) (pt F ch)) (iblk ch m ρ c (1 : Fin 4) (pt F ch))
  Φ _ := Phi F ch c
  q _ := fullShare
  owed _ := 0

theorem after0 (c : Dev nD) (t : Fin (cfgA F ch).N) : (dats ch m ρ 0 c).after (0 : Fin 4) t = iblk ch m ρ c (0 : Fin 4) t := rfl
theorem after1 (c : Dev nD) (t : Fin (cfgA F ch).N) : (dats ch m ρ 0 c).after (1 : Fin 4) t = iblk ch m ρ c (1 : Fin 4) t := rfl
theorem after2 (c : Dev nD) (t : Fin (cfgA F ch).N) : (dats ch m ρ 0 c).after (2 : Fin 4) t = k0_pay2 (iblk ch m ρ c (0 : Fin 4) t) (iblk ch m ρ c (1 : Fin 4) t) := rfl
theorem after3 (c : Dev nD) (t : Fin (cfgA F ch).N) : (dats ch m ρ 0 c).after (3 : Fin 4) t
    = k0_pay1 (iblk ch m ρ c (0 : Fin 4) (pt F ch)) (iblk ch m ρ c (1 : Fin 4) (pt F ch)) := rfl

/-- The first input's buffer holds its block. -/
theorem before0 (c : Dev nD) (t : Fin (cfgA F ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0]; unfold Dat.blockOf iblk; rfl) t d).trans
    (by unfold Dat.fetched Dat.blockOf iblk; rfl)

/-- The second input's buffer holds its block. -/
theorem before1 (c : Dev nD) (t : Fin (cfgA F ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after1]; unfold Dat.blockOf iblk; rfl) t d).trans
    (by unfold Dat.fetched Dat.blockOf iblk; rfl)

/-- The second output's contents stay through the other quarters. -/
theorem hcarry (c : Dev nD) : ∀ (t : Fin (cfgA F ch).N) (ht : t.val ≠ 0), (cfgA F ch).idle (3 : Fin 4) ((cfgA F ch).grid.coords t) = true → (cfgA F ch).fresh (3 : Fin 4) t.val = false →
    (dats ch m ρ 0 c).after (3 : Fin 4) t = (dats ch m ρ 0 c).after (3 : Fin 4) ⟨t.val - 1, by omega⟩ := by
  intro t ht hi hf
  rw [after3, after3]

/-- What the second output's buffer holds when the body runs: anything up to the own quarter, the own quarter's sum after it. -/
theorem before3 (c : Dev nD) (t : Fin (cfgA F ch).N) (d) : (dats ch m ρ 0 c).before (3 : Fin 4) t d
    = if (cfgA F ch).fresh (3 : Fin 4) t.val then d else (dats ch m ρ 0 c).after (3 : Fin 4) t := by
  rw [(dats ch m ρ 0 c).before_out_traj (3 : Fin 4) rfl (fun _ _ => rfl) (hcarry ch m ρ c) t.val t rfl d]
  by_cases hf : (cfgA F ch).fresh (3 : Fin 4) t.val = true
  · simp only [hf, ↓reduceIte]
  · rw [Bool.not_eq_true] at hf
    simp only [hf, Bool.false_eq_true, ↓reduceIte]
    rw [after3, after3]

set_option maxHeartbeats 4000000 in
/-- The body at a point turns what the buffers held into what the proof data say. -/
theorem sound_body (c : Dev nD) (t : Fin (cfgA F ch).N) :
    iprop((dats ch m ρ 0 c).Φ t.castSucc ∗ (dats ch m ρ 0 c).owesAt () t.castSucc
        ∗ (∃ d, owns (c : Thread nD τ) (ms0 ch t) fullShare ((dats ch m ρ 0 c).before (0 : Fin 4) t d))
        ∗ (∃ d, owns (c : Thread nD τ) (ms1 ch t) fullShare ((dats ch m ρ 0 c).before (1 : Fin 4) t d))
        ∗ (∃ d, owns (c : Thread nD τ) (ms2 ch t) fullShare ((dats ch m ρ 0 c).before (2 : Fin 4) t d))
        ∗ (∃ d, owns (c : Thread nD τ) (ms3 ch t) fullShare ((dats ch m ρ 0 c).before (3 : Fin 4) t d)))
      ⊢ wp frame (wpE (defs₀ (F := F)) Variants.none c none) Set.univ
          (cc0_pair_sum_w_out (crd ch t) (Memref.whole main_arg0) (Memref.isWhole_whole _) (ms0 ch t) (hs0 ch t) (ms1 ch t) (hs1 ch t) (ms2 ch t) (hs2 ch t) (ms3 ch t) (hs3 ch t)) fun _ =>
          iprop((dats ch m ρ 0 c).Φ t.succ ∗ (dats ch m ρ 0 c).owesAt () t.succ
            ∗ bigSep Finset.univ fun w : Fin (cfgA F ch).W =>
                match (cfgA F ch).idle w ((cfgA F ch).grid.coords t) with
                | true =>
                  match ((cfgA F ch).win w).flush t with
                  | false => iprop(∃ d, owns (c : Thread nD τ) (((cfgA F ch).win w).stage ((cfgA F ch).slots t w)) fullShare ((dats ch m ρ 0 c).before w t d))
                  | true => owns (c : Thread nD τ) (((cfgA F ch).win w).stage ((cfgA F ch).slots t w)) fullShare ((dats ch m ρ 0 c).after w t)
                | false => owns (c : Thread nD τ) (((cfgA F ch).win w).stage ((cfgA F ch).slots t w)) fullShare ((dats ch m ρ 0 c).after w t)) := by
  rw [bigSep_W0]
  obtain ⟨-, i2, ho, i3, f3⟩ := facts (F := F) ch t
  have hlt : t.val < 4 := t.isLt.trans_eq (gridN ch)
  rewrite [show (dats ch m ρ 0 c).Φ t.succ = Phi F ch c from rfl, show (dats ch m ρ 0 c).Φ t.castSucc = Phi F ch c from rfl,
    show (dats ch m ρ 0 c).owesAt () t.succ = (dats ch m ρ 0 c).owesAt () t.castSucc from rfl]
  by_cases q : t.val = ch.val / 2
  · have i3' : (cfgA F ch).idle (3 : Fin 4) ((cfgA F ch).grid.coords t) = false := by rw [i3, q]; simp
    rewrite [i2, i3']
    simp only [before0, before1, after0, after1, after2]
    unfold Phi
    iintro ⟨HT, Ho, ⟨%d0, H0⟩, ⟨%d1, H1⟩, ⟨%d2, H2⟩, ⟨%d3, H3⟩⟩
    iapply (bodyOwn c (crd ch t) (ms0 ch t) (hs0 ch t) (ms1 ch t) (hs1 ch t) (ms2 ch t) (hs2 ch t) (ms3 ch t) (hs3 ch t) (words ch) (iblk ch m ρ c (0 : Fin 4) t) (iblk ch m ρ c (1 : Fin 4) t) (ho.mpr q) _)
    isplitl [H0]; · iexact H0
    isplitl [H1]; · iexact H1
    isplitl [HT]; · iexact HT
    isplitl [H2]; · iexists _; iexact H2
    isplitl [H3]; · iexists _; iexact H3
    iintro ⟨H0, H1, HT, H2, H3⟩
    isplitl [HT]; · iexact HT
    isplitl [Ho]; · iexact Ho
    isplitl [H0]; · iexact H0
    isplitl [H1]; · iexact H1
    isplitl [H2]; · iexact H2
    rw [after3, show pt F ch = t from Fin.ext q.symm]
    iexact H3
  · have i3' : (cfgA F ch).idle (3 : Fin 4) ((cfgA F ch).grid.coords t) = true := by rw [i3]; simp [q]
    rewrite [i2, i3']
    simp only [before0, before1, after0, after1, after2]
    unfold Phi
    iintro ⟨HT, Ho, ⟨%d0, H0⟩, ⟨%d1, H1⟩, ⟨%d2, H2⟩, ⟨%d3, H3⟩⟩
    iapply (bodyOther c (crd ch t) (ms0 ch t) (hs0 ch t) (ms1 ch t) (hs1 ch t) (ms2 ch t) (hs2 ch t) (ms3 ch t) (hs3 ch t) (words ch) (iblk ch m ρ c (0 : Fin 4) t) (iblk ch m ρ c (1 : Fin 4) t) (fun h => q (ho.mp h)) _ _)
    isplitl [H0]; · iexact H0
    isplitl [H1]; · iexact H1
    isplitl [HT]; · iexact HT
    isplitl [H2]; · iexists _; iexact H2
    isplitl [H3]; · iexact H3
    iintro ⟨H0, H1, HT, H2, H3⟩
    isplitl [HT]; · iexact HT
    isplitl [Ho]; · iexact Ho
    isplitl [H0]; · iexact H0
    isplitl [H1]; · iexact H1
    isplitl [H2]; · iexact H2
    by_cases f : t.val = 3
    · have f3' : ((cfgA F ch).win (3 : Fin 4)).flush t = true := by rw [f3, f]; rfl
      have hf : (cfgA F ch).fresh (3 : Fin 4) t.val = false := (fresh3_iff ch t).mpr (by omega)
      rewrite [f3', before3, hf]
      iexact H3
    · have f3' : ((cfgA F ch).win (3 : Fin 4)).flush t = false := by rw [f3]; simp [f]
      rewrite [f3']
      iexists d3
      iexact H3

/-- The body keeps the proof data at every point. -/
theorem body_obligation (c : Dev nD) : BodyObligation (dats ch m ρ 0 c) (defs₀ (F := F)) Variants.none () Set.univ := fun t => by
  rw [bigSep_W0]
  exact sound_body ch m ρ c t

/-- The launch's resources. -/
def u₀ (F : FTy → Type) [FloatOps F] (ch : Fin 8) : UR sig nD τ :=
  initOf (Pipeline.cells (pcs F ch) ((launch0 (F := F)).cellOf_inj fun _ => adm F ch))
    (Pipeline.launchToks (pcs F ch) ((launch0 (F := F)).cellOf_inj fun _ => adm F ch))

theorem share_eq (c : Dev nD) (w : Fin (cfgA F ch).W) : (dats ch m ρ 0 c).share w = fullShare := by unfold Dat.share; split <;> rfl

/-- The table as the launch hands it over. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The launch gives the body its share of the table. -/
theorem phi_intro (c : Dev nD) :
    iprop(BI.emp ∗ Pipeline.prefHeld pre0 c (fun _ => fullShare.right) (adm F ch).1 ∗ Pipeline.scopedRest spec0 c) ⊢ (dats ch m ρ 0 c).Φ 0 := by
  rw [prefHeld_eq, scopedRest0_eq, show (dats ch m ρ 0 c).Φ 0 = Phi F ch c from rfl]
  unfold Phi
  iintro ⟨-, HT, -⟩
  iexact HT

/-- The body lets the table go at the end. -/
theorem phi_exit (c : Dev nD) : (dats ch m ρ 0 c).Φ (Fin.last (cfgA F ch).N) ⊢ iprop(BI.emp ∗ Pipeline.scopedRest spec0 c) := by
  rw [scopedRest0_eq, show (dats ch m ρ 0 c).Φ (Fin.last (cfgA F ch).N) = Phi F ch c from rfl]
  unfold Phi
  iintro -
  isplitr; · iempintro
  iempintro

/-- What holds at the end: each array at what the data give, and the table unchanged. -/
def QC : PUnit × MemSt nD τ sig (Elt F) → Prop := fun r =>
  ∀ c : Dev nD, (∀ w : Fin (cfgA F ch).W, r.2.mem (((cfgA F ch).win w).arr.view.loc (c : Thread nD τ)) = (dats ch m ρ 0 c).arrAt w (cfgA F ch).N)
    ∧ ∀ j, r.2.mem ((c : Thread nD τ).loc (pre0.ref j)) = (adm F ch).1 j

theorem V_pre (hp : Pinned ch m) (c : Dev nD) (j : Fin 1) : m ((c : Thread nD τ).loc (pre0.ref j)) = (adm F ch).1 j := by
  fin_cases j
  exact hp c

set_option backward.isDefEq.respectTransparency.types false in
set_option maxHeartbeats 4000000 in
/-- The whole call: it terminates with every array as the data give and every counter at zero. -/
theorem run_main_quiescent (hp : Pinned ch m) : θ_run (defs (F := F)) (onTc (τ := τ) (main (F := F))) (s₀ m ρ) (fun r => QC ch m ρ r ∧ r.2.sem = fun _ => 0) :=
  Pipeline.θ_run_region_noSem_pf_quiescent pcfgs (fun _ => adm F ch) (dats ch m ρ) () ((launch0 (F := F)).cellOf_inj fun _ => adm F ch) (0 : Fin 1)
    (launch0 (F := F)).win.to₀ (launch0 (F := F)).pre EP defs₀ Variants.none m ρ main
    (hbody := fun c => (body_obligation ch m ρ c).loose) (hne := (launch0 (F := F)).block_pos)
    (harr := (launch0 (F := F)).arr_whole) (hstage := (launch0 (F := F)).stage_whole) (howed := fun _ _ => rfl)
    (u₀ := u₀ F ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F ch) (dats ch m ρ) 0 (launch0 (F := F)).win.arr_inj c (launch0 (F := F)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi_intro ch m ρ)
    (hout := phi_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program terminates, leaves its arguments unchanged, and ends with its outputs as the data give and every counter at zero. -/
theorem run (hp : Pinned ch m) : θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem (((cfgA F ch).win (2 : Fin 4)).arr.view.loc (c : Thread nD τ)) = (dats ch m ρ 0 c).arrAt (2 : Fin 4) (cfgA F ch).N
      ∧ r.2.mem (((cfgA F ch).win (3 : Fin 4)).arr.view.loc (c : Thread nD τ)) = (dats ch m ρ 0 c).arrAt (3 : Fin 4) (cfgA F ch).N)
      ∧ r.2.sem = fun _ => 0) :=
  (θ_run defs _ _).mono (fun r h => ⟨fun c => ⟨⟨((h.1 c).2 0).trans (hp c).symm,
    ((h.1 c).1 (0 : Fin 4)).trans ((dats ch m ρ 0 c).arrAt_in (0 : Fin 4) rfl _),
    ((h.1 c).1 (1 : Fin 4)).trans ((dats ch m ρ 0 c).arrAt_in (1 : Fin 4) rfl _)⟩, (h.1 c).1 (2 : Fin 4), (h.1 c).1 (3 : Fin 4)⟩, h.2⟩) (run_main_quiescent ch m ρ hp)

/-- The program terminates, leaves its arguments unchanged and every counter at zero. -/
theorem frame (hp : Pinned ch m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).1, h.2⟩) (run ch m ρ hp)

end Cert.PairOutIdeal.Hand

end
-- ==== Proof.PairOutFrame.lean ====
/- The sum over a pair of devices: the kernel has the same text over any float values, so its run is the one already proved. -/
module

public import proofs.«01_k».proof.Proof.PairOutIdealFrame
public import proofs.«01_k».proof.Proof.Gen.PairOut.Launch
public import proofs.«01_k».proof.Proof.Gen.Pre_core_and_chip
public import Idealize.ShloMosaic.Lib.Pointwise

@[expose] public section

noncomputable section

open Idealize.ShloMosaic Idealize.ShloMosaic.TcCoe Idealize.SL.Sem

namespace Cert.PairOut.Hand
open Cert.PairOut Cert.PairOut.Gen

variable {F : FTy → Type} [FloatOps F]

/-- The body is the same in the two programs. -/
theorem body_eq : @Cert.PairOut.cc0_pair_sum_w_out F _ _ = @Cert.PairOutIdeal.cc0_pair_sum_w_out F _ _ := by
  unfold Cert.PairOut.cc0_pair_sum_w_out Cert.PairOutIdeal.cc0_pair_sum_w_out
  rfl

/-- The table of the kernels' bodies is the same in the two programs. -/
theorem defs0_eq : @Cert.PairOut.defs₀ F _ _ = @Cert.PairOutIdeal.defs₀ F _ _ := by
  unfold Cert.PairOut.defs₀ Cert.PairOutIdeal.defs₀
  refine congrArg Defs.onTc (funext fun l => funext fun p => ?_)
  match l, p with
  | 0, (t, s) =>
    have h := @body_eq F _
    dsimp only
    rw [h]
    rfl

/-- The whole table of bodies is the same in the two programs. -/
theorem defs_eq : @Cert.PairOut.defs F _ _ = @Cert.PairOutIdeal.defs F _ _ := by
  unfold Cert.PairOut.defs Cert.PairOutIdeal.defs
  exact congrArg (Pipeline.defs Cert.PairOutIdeal.pcfgs) defs0_eq

/-- The program terminates, leaves its arguments unchanged and every counter at zero. -/
theorem frame (ch : Fin 8) (m : (ℓ : Loc nD τ sig) → Buf (Elt F) ℓ) (ρ : Dev nD → PrngReg) (hp : Cert.PairOutIdeal.Hand.Pinned (F := F) ch m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.PairOutIdeal.Hand.frame (F := F) ch m ρ hp

end Cert.PairOut.Hand

namespace Cert.PairOutIdeal.Hand
open Idealize.ShloMosaic.StableHlo

variable {F : FTy → Type} [FloatOps F]

/-- The words that the precondition admits are some device's: its core is 0 or 1, and its chip 0, 1, 2 or 3. -/
theorem words_of_pre [Cert.Pre_core_and_chip.Facts] (T : S2.Idx → BitVec 32) (g : FVec F S4x2x128x1024 .f32) (h : FVec F S4x128x1024 .f32)
    (hpre : (Cert.Pre_core_and_chip.fn T g h).1 = (fun _ => 1#1)
      ∧ (Cert.Pre_core_and_chip.fn T g h).2.1 = (fun _ => 1#1)
      ∧ (Cert.Pre_core_and_chip.fn T g h).2.2 = (fun _ => 1#1)) : ∃ ch : Fin 8, T = words ch := by
  have one (p : Bool) : (BitVec.ofBool p = 1#1) ↔ p = true := by cases p <;> decide
  obtain ⟨h1, h2, h3⟩ := hpre
  let j0 : S2.Idx := ix1 (0 : Fin 2)
  let j1 : S2.Idx := ix1 (1 : Fin 2)
  have e0 := congrFun h1 j0
  have e1 := congrFun h1 j1
  have e2 := congrFun h2 (ix1 (0 : Fin 1))
  have e3 := congrFun h3 (ix1 (0 : Fin 1))
  simp only [Cert.Pre_core_and_chip.fn, cmpi, broadcastInDim, constantI, IntOp.cmpi, one, extractStridedSlice] at e0 e1 e2 e3
  rw [show (fun a => ⟨![0] a + ((ix1 (0 : Fin 1) : S1.Idx) (Fin.cast rfl a)).val, _⟩ : S2.Idx) = j0 from funext fun a => by fin_cases a; rfl] at e2
  rw [show (fun a => ⟨![1] a + ((ix1 (0 : Fin 1) : S1.Idx) (Fin.cast rfl a)).val, _⟩ : S2.Idx) = j1 from funext fun a => by fin_cases a; rfl] at e3
  have n0 : (T j0).toNat < 2 := by
    simp only [BitVec.sle, BitVec.slt, decide_eq_true_eq, BitVec.toInt, BitVec.toNat_ofNat] at e0 e2; omega
  have n1 : (T j1).toNat < 4 := by
    simp only [BitVec.sle, BitVec.slt, decide_eq_true_eq, BitVec.toInt, BitVec.toNat_ofNat] at e1 e3; omega
  refine ⟨⟨2 * (T j1).toNat + (T j0).toNat, by omega⟩, funext fun x => ?_⟩
  unfold words
  have hx : x = ix1 (x 0) := funext fun a => by fin_cases a; rfl
  have hlt : (x 0).val < 2 := (x 0).isLt
  by_cases q : (x 0).val = 0
  · rw [if_pos q, show x = j0 from hx.trans (congrArg ix1 (Fin.ext q : x 0 = (0 : Fin 2)))]
    exact BitVec.eq_of_toNat_eq (by rw [BitVec.toNat_ofNat]; dsimp only; omega)
  · rw [if_neg q, show x = j1 from hx.trans (congrArg ix1 (Fin.ext (by show (x 0).val = 1; omega) : x 0 = (1 : Fin 2)))]
    exact BitVec.eq_of_toNat_eq (by rw [BitVec.toNat_ofNat]; dsimp only; omega)

end Cert.PairOutIdeal.Hand

end
-- ==== Proof.PairOutValue.lean ====
/- The sum over a pair of devices: the call's outputs are the reference's. -/
module

public import proofs.«01_k».proof.Proof.PairOutIdealFrame
public import proofs.«01_k».proof.Proof.Gen.PairOutRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.ShloMosaic.Pipeline (Dat)

namespace Cert.PairOutIdeal.Hand
open Cert.PairOutIdeal Cert.PairOutIdeal.Gen Idealize.ShloMosaic.StableHlo

/-- The reference's sum: this device's half of the pair's array, plus its own. -/
abbrev PAIR (T : IVec S2 32) (g : FVec Ideal S4x2x128x1024 .f32) (h : FVec Ideal S4x128x1024 .f32) : FVec Ideal S4x128x1024 .f32 :=
  addf (select (broadcastInDim Cert.PairOutRefIdeal.S4x128x1024 ![] Cert.PairOutRefIdeal.Gen.bcast_S_S4x128x1024 (cmpi .eq (shapeCast _ (extractStridedSlice Cert.PairOutRefIdeal.S1 ![0] T Cert.PairOutRefIdeal.Gen.slices_S2_S1_0) Cert.PairOutRefIdeal.Gen.shapeCasts_S1_S_) (constantI Cert.PairOutRefIdeal.S_ 32 0#32))) (shapeCast _ (extractStridedSlice Cert.PairOutRefIdeal.S4x1x128x1024 ![0, 0, 0, 0] g Cert.PairOutRefIdeal.Gen.slices_S4x2x128x1024_S4x1x128x1024_0_0_0_0) Cert.PairOutRefIdeal.Gen.shapeCasts_S4x1x128x1024_S4x128x1024) (shapeCast _ (extractStridedSlice Cert.PairOutRefIdeal.S4x1x128x1024 ![0, 1, 0, 0] g Cert.PairOutRefIdeal.Gen.slices_S4x2x128x1024_S4x1x128x1024_0_1_0_0) Cert.PairOutRefIdeal.Gen.shapeCasts_S4x1x128x1024_S4x128x1024)) h

/-- The reference's choice of one quarter of a sum, by the chip. -/
abbrev QUARTER (T : IVec S2 32) (s : FVec Ideal S4x128x1024 .f32) : FVec Ideal S128x1024 .f32 :=
  select (broadcastInDim Cert.PairOutRefIdeal.S128x1024 ![] Cert.PairOutRefIdeal.Gen.bcast_S_S128x1024 (cmpi .eq (shapeCast _ (extractStridedSlice Cert.PairOutRefIdeal.S1 ![1] T Cert.PairOutRefIdeal.Gen.slices_S2_S1_1) Cert.PairOutRefIdeal.Gen.shapeCasts_S1_S_) (constantI Cert.PairOutRefIdeal.S_ 32 0#32)))
    (shapeCast _ (extractStridedSlice Cert.PairOutRefIdeal.S1x128x1024 ![0, 0, 0] s Cert.PairOutRefIdeal.Gen.slices_S4x128x1024_S1x128x1024_0_0_0) Cert.PairOutRefIdeal.Gen.shapeCasts_S1x128x1024_S128x1024)
    (select (broadcastInDim Cert.PairOutRefIdeal.S128x1024 ![] Cert.PairOutRefIdeal.Gen.bcast_S_S128x1024 (cmpi .eq (shapeCast _ (extractStridedSlice Cert.PairOutRefIdeal.S1 ![1] T Cert.PairOutRefIdeal.Gen.slices_S2_S1_1) Cert.PairOutRefIdeal.Gen.shapeCasts_S1_S_) (constantI Cert.PairOutRefIdeal.S_ 32 1#32)))
      (shapeCast _ (extractStridedSlice Cert.PairOutRefIdeal.S1x128x1024 ![1, 0, 0] s Cert.PairOutRefIdeal.Gen.slices_S4x128x1024_S1x128x1024_1_0_0) Cert.PairOutRefIdeal.Gen.shapeCasts_S1x128x1024_S128x1024)
      (select (broadcastInDim Cert.PairOutRefIdeal.S128x1024 ![] Cert.PairOutRefIdeal.Gen.bcast_S_S128x1024 (cmpi .eq (shapeCast _ (extractStridedSlice Cert.PairOutRefIdeal.S1 ![1] T Cert.PairOutRefIdeal.Gen.slices_S2_S1_1) Cert.PairOutRefIdeal.Gen.shapeCasts_S1_S_) (constantI Cert.PairOutRefIdeal.S_ 32 2#32)))
        (shapeCast _ (extractStridedSlice Cert.PairOutRefIdeal.S1x128x1024 ![2, 0, 0] s Cert.PairOutRefIdeal.Gen.slices_S4x128x1024_S1x128x1024_2_0_0) Cert.PairOutRefIdeal.Gen.shapeCasts_S1x128x1024_S128x1024)
        (shapeCast _ (extractStridedSlice Cert.PairOutRefIdeal.S1x128x1024 ![3, 0, 0] s Cert.PairOutRefIdeal.Gen.slices_S4x128x1024_S1x128x1024_3_0_0) Cert.PairOutRefIdeal.Gen.shapeCasts_S1x128x1024_S128x1024)))

/-- The core of a device. -/
def core (ch : Fin 8) : Fin 2 := ⟨ch.val % 2, by omega⟩
/-- The chip of a device. -/
def chip (ch : Fin 8) : Fin 4 := ⟨ch.val / 2, by omega⟩

/-- The sum at an index. -/
theorem hpair (ch : Fin 8) (g : FVec Ideal S4x2x128x1024 .f32) (h : FVec Ideal S4x128x1024 .f32) (j : S4x128x1024.Idx) :
    PAIR (words ch) g h j = g (ix4 (j 0) (core ch) (j 1) (j 2)) + h j := by
  unfold PAIR
  fin_cases ch <;> pointwise <;> rfl

/-- The quarter at an index. -/
theorem hquarter (ch : Fin 8) (s : FVec Ideal S4x128x1024 .f32) (j : S128x1024.Idx) :
    QUARTER (words ch) s j = s (ix3 (chip ch) (j 0) (j 1)) := by
  unfold QUARTER
  fin_cases ch <;> pointwise <;> rfl

/-- Sums of equal values are equal. -/
theorem add_congr {a b a' b' : Ideal .f32} (h : a = a') (h' : b = b') : a + b = a' + b' := congrArg₂ (fun x y : Ideal .f32 => x + y) h h'

/-- The kernel's sum at an index. -/
theorem hpay1 (x0 : Vec Ideal S1x1x128x1024 .f32) (x1 : Vec Ideal S1x128x1024 .f32) (j : S128x1024.Idx) :
    k0_pay1 x0 x1 j = x0 (ix4 0 0 (j 0) (j 1)) + x1 (ix3 0 (j 0) (j 1)) := by
  pointwise [k0_pay1]

/-- The kernel's rounded sum at an index. -/
theorem hpay2 (x0 : Vec Ideal S1x1x128x1024 .f32) (x1 : Vec Ideal S1x128x1024 .f32) (j : S1x128x1024.Idx) :
    k0_pay2 x0 x1 j = x0 (ix4 0 0 (j 1) (j 2)) + x1 (ix3 0 (j 1) (j 2)) := by
  pointwise [k0_pay2, k0_pay1]
  exact congrArg _ (congrArg x1 (funext fun d => match d with | 0 => Subsingleton.elim (α := Fin 1) _ _ | 1 => rfl | 2 => rfl))

/-- Which blocks a point reads and writes. -/
abbrev IdxAt (ch : Fin 8) (t : Fin (cfgA Ideal ch).N) : Prop :=
  ((cfgA Ideal ch).win (0 : Fin 4)).index t = ![t.val, ch.val % 2, 0, 0] ∧ ((cfgA Ideal ch).win (1 : Fin 4)).index t = ![t.val, 0, 0]
  ∧ ((cfgA Ideal ch).win (2 : Fin 4)).index t = ![t.val, 0, 0] ∧ ((cfgA Ideal ch).win (3 : Fin 4)).index t = ![0, 0]

theorem idx (ch : Fin 8) (t : Fin (cfgA Ideal ch).N) : IdxAt ch t := by
  revert t
  fin_cases ch <;> exact of_decide_eq_true (by sl_kernel_rfl)

variable (ch : Fin 8) (m : (ℓ : Loc nD τ sig) → Buf (Elt Ideal) ℓ) (ρ : Dev nD → PrngReg)

/-- The pair's array at a point: this device's half of the point's quarter. -/
theorem block0 (c : Dev nD) (t : Fin (cfgA Ideal ch).N) (a : Fin 128) (b : Fin 1024) :
    iblk ch m ρ c (0 : Fin 4) t (ix4 (0 : Fin 1) (0 : Fin 1) a b) = m ((c : Thread nD τ).loc main_arg1) (ix4 (⟨t.val, t.isLt.trans_eq (gridN ch)⟩ : Fin 4) (core ch) a b) := by
  obtain ⟨hi, -, -, -⟩ := idx ch t
  refine congrArg (m ((c : Thread nD τ).loc main_arg1)) (?_ : ((((cfgA Ideal ch).win (0 : Fin 4)).blk t).view.emb (ix4 (0 : Fin 1) (0 : Fin 1) a b) : S4x2x128x1024.Idx) = _)
  funext x
  match x with
  | 0 => exact Fin.ext ((Pipeline.Window.rect_emb_val ((cfgA Ideal ch).win (0 : Fin 4)) t _ (0 : Fin 4) rfl).trans (by rw [hi]; show t.val * 1 + 0 = t.val; omega))
  | 1 => exact Fin.ext ((Pipeline.Window.rect_emb_val ((cfgA Ideal ch).win (0 : Fin 4)) t _ (1 : Fin 4) rfl).trans (by rw [hi]; show ch.val % 2 * 1 + 0 = ch.val % 2; omega))
  | 2 => exact Fin.ext ((Pipeline.Window.rect_emb_val ((cfgA Ideal ch).win (0 : Fin 4)) t _ (2 : Fin 4) rfl).trans (by rw [hi]; show 0 * 128 + a.val = a.val; omega))
  | 3 => exact Fin.ext ((Pipeline.Window.rect_emb_val ((cfgA Ideal ch).win (0 : Fin 4)) t _ (3 : Fin 4) rfl).trans (by rw [hi]; show 0 * 1024 + b.val = b.val; omega))

/-- The device's own array at a point: the point's quarter. -/
theorem block1 (c : Dev nD) (t : Fin (cfgA Ideal ch).N) (a : Fin 128) (b : Fin 1024) :
    iblk ch m ρ c (1 : Fin 4) t (ix3 (0 : Fin 1) a b) = m ((c : Thread nD τ).loc main_arg2) (ix3 (⟨t.val, t.isLt.trans_eq (gridN ch)⟩ : Fin 4) a b) := by
  obtain ⟨-, hi, -, -⟩ := idx ch t
  refine congrArg (m ((c : Thread nD τ).loc main_arg2)) (?_ : ((((cfgA Ideal ch).win (1 : Fin 4)).blk t).view.emb (ix3 (0 : Fin 1) a b) : S4x128x1024.Idx) = _)
  funext x
  match x with
  | 0 => exact Fin.ext ((Pipeline.Window.rect_emb_val ((cfgA Ideal ch).win (1 : Fin 4)) t _ (0 : Fin 3) rfl).trans (by rw [hi]; show t.val * 1 + 0 = t.val; omega))
  | 1 => exact Fin.ext ((Pipeline.Window.rect_emb_val ((cfgA Ideal ch).win (1 : Fin 4)) t _ (1 : Fin 3) rfl).trans (by rw [hi]; show 0 * 128 + a.val = a.val; omega))
  | 2 => exact Fin.ext ((Pipeline.Window.rect_emb_val ((cfgA Ideal ch).win (1 : Fin 4)) t _ (2 : Fin 3) rfl).trans (by rw [hi]; show 0 * 1024 + b.val = b.val; omega))

/-- The rounded sum after the run is the reference's. -/
theorem final_sum (hp : Pinned ch m) (c : Dev nD) : (dats ch m ρ 0 c).arrAt (2 : Fin 4) (cfgA Ideal ch).N
    = (truncf .bf16 (PAIR (m ((c : Thread nD τ).loc main_arg0)) (m ((c : Thread nD τ).loc main_arg1)) (m ((c : Thread nD τ).loc main_arg2))) Cert.PairOutRefIdeal.Gen.bitsLt_bf16_f32 : FVec Ideal S4x128x1024 .bf16) := by
  rw [hp c]
  refine (dats ch m ρ 0 c).arrAt_eq_of_covers (2 : Fin 4) _ (by fin_cases ch <;> exact of_decide_eq_true (by sl_kernel_rfl)) fun t hf y => ?_
  obtain ⟨-, -, hi, -⟩ := idx ch t
  have hy : ((((cfgA Ideal ch).win (2 : Fin 4)).blk t).view.emb y : S4x128x1024.Idx) = ix3 (⟨t.val, t.isLt.trans_eq (gridN ch)⟩ : Fin 4) (y 1) (y 2) := by
    have y0 : (y (0 : Fin 3)).val < 1 := (y (0 : Fin 3)).isLt
    funext x
    match x with
    | 0 => exact Fin.ext ((Pipeline.Window.rect_emb_val ((cfgA Ideal ch).win (2 : Fin 4)) t y (0 : Fin 3) rfl).trans (by rw [hi]; show t.val * 1 + (y (0 : Fin 3)).val = t.val; omega))
    | 1 => exact Fin.ext ((Pipeline.Window.rect_emb_val ((cfgA Ideal ch).win (2 : Fin 4)) t y (1 : Fin 3) rfl).trans (by rw [hi]; show 0 * 128 + (y (1 : Fin 3)).val = (y (1 : Fin 3)).val; omega))
    | 2 => exact Fin.ext ((Pipeline.Window.rect_emb_val ((cfgA Ideal ch).win (2 : Fin 4)) t y (2 : Fin 3) rfl).trans (by rw [hi]; show 0 * 1024 + (y (2 : Fin 3)).val = (y (2 : Fin 3)).val; omega))
  show k0_pay2 (iblk ch m ρ c (0 : Fin 4) t) (iblk ch m ρ c (1 : Fin 4) t) y
    = PAIR (words ch) (m ((c : Thread nD τ).loc main_arg1)) (m ((c : Thread nD τ).loc main_arg2)) ((((cfgA Ideal ch).win (2 : Fin 4)).blk t).view.emb y : S4x128x1024.Idx)
  exact (hpay2 _ _ y).trans ((add_congr (block0 ch m ρ c t (y 1) (y 2)) (block1 ch m ρ c t (y 1) (y 2))).trans
    ((hpair ch _ _ (ix3 (⟨t.val, t.isLt.trans_eq (gridN ch)⟩ : Fin 4) (y 1) (y 2))).symm.trans (congrArg (PAIR (words ch) _ _) hy.symm)))

/-- The own quarter's sum after the run is the reference's. -/
theorem final_own (hp : Pinned ch m) (c : Dev nD) : (dats ch m ρ 0 c).arrAt (3 : Fin 4) (cfgA Ideal ch).N
    = (QUARTER (m ((c : Thread nD τ).loc main_arg0)) (PAIR (m ((c : Thread nD τ).loc main_arg0)) (m ((c : Thread nD τ).loc main_arg1)) (m ((c : Thread nD τ).loc main_arg2))) : FVec Ideal S128x1024 .f32) := by
  rw [hp c]
  refine (dats ch m ρ 0 c).arrAt_eq_of_covers (3 : Fin 4) _ (by fin_cases ch <;> exact of_decide_eq_true (by sl_kernel_rfl)) fun t hf y => ?_
  obtain ⟨-, -, -, hi⟩ := idx ch t
  have hy : ((((cfgA Ideal ch).win (3 : Fin 4)).blk t).view.emb y : S128x1024.Idx) = y := by
    funext x
    match x with
    | 0 => exact Fin.ext ((Pipeline.Window.rect_emb_val ((cfgA Ideal ch).win (3 : Fin 4)) t y (0 : Fin 2) rfl).trans (by rw [hi]; show 0 * 128 + (y (0 : Fin 2)).val = (y (0 : Fin 2)).val; omega))
    | 1 => exact Fin.ext ((Pipeline.Window.rect_emb_val ((cfgA Ideal ch).win (3 : Fin 4)) t y (1 : Fin 2) rfl).trans (by rw [hi]; show 0 * 1024 + (y (1 : Fin 2)).val = (y (1 : Fin 2)).val; omega))
  show k0_pay1 (iblk ch m ρ c (0 : Fin 4) (pt Ideal ch)) (iblk ch m ρ c (1 : Fin 4) (pt Ideal ch)) y
    = QUARTER (words ch) (PAIR (words ch) (m ((c : Thread nD τ).loc main_arg1)) (m ((c : Thread nD τ).loc main_arg2))) ((((cfgA Ideal ch).win (3 : Fin 4)).blk t).view.emb y : S128x1024.Idx)
  exact (hpay1 _ _ y).trans ((add_congr (block0 ch m ρ c (pt Ideal ch) (y 0) (y 1)) (block1 ch m ρ c (pt Ideal ch) (y 0) (y 1))).trans
    ((hpair ch _ _ (ix3 (chip ch) (y 0) (y 1))).symm.trans ((hquarter ch (PAIR (words ch) _ _) y).symm.trans (congrArg (QUARTER (words ch) _) hy.symm))))

end Cert.PairOutIdeal.Hand

end
-- ==== Proof.lean ====
/- The proof of everything that this certificate claims: each claim is a theorem of its own, and `claim` puts them together. -/
module

public import proofs.«01_k».proof.Defs
public import proofs.«01_k».proof.Proof.Gen.MlpDx
public import proofs.«01_k».proof.Proof.Gen.MlpDx.Skeleton
public import proofs.«01_k».proof.Proof.Gen.MlpDx.Launch
public import proofs.«01_k».proof.Proof.Gen.MlpDx.Points
public import proofs.«01_k».proof.Proof.Gen.MlpDx.Frame
public import proofs.«01_k».proof.Proof.Gen.MlpDxIdeal
public import proofs.«01_k».proof.Proof.Gen.MlpDxIdeal.Skeleton
public import proofs.«01_k».proof.Proof.Gen.MlpDxIdeal.Launch
public import proofs.«01_k».proof.Proof.Gen.MlpDxIdeal.Points
public import proofs.«01_k».proof.Proof.Gen.MlpDxIdeal.Frame
public import proofs.«01_k».proof.Proof.Gen.MlpDxRefIdeal
public import proofs.«01_k».proof.Proof.Gen.MlpDw
public import proofs.«01_k».proof.Proof.Gen.MlpDw.Skeleton
public import proofs.«01_k».proof.Proof.Gen.MlpDw.Launch
public import proofs.«01_k».proof.Proof.Gen.MlpDw.Points
public import proofs.«01_k».proof.Proof.Gen.MlpDw.Frame
public import proofs.«01_k».proof.Proof.Gen.MlpDwIdeal
public import proofs.«01_k».proof.Proof.Gen.MlpDwIdeal.Skeleton
public import proofs.«01_k».proof.Proof.Gen.MlpDwIdeal.Launch
public import proofs.«01_k».proof.Proof.Gen.MlpDwIdeal.Points
public import proofs.«01_k».proof.Proof.Gen.MlpDwIdeal.Frame
public import proofs.«01_k».proof.Proof.Gen.MlpDwRefIdeal
public import proofs.«01_k».proof.Proof.Gen.MixInDw
public import proofs.«01_k».proof.Proof.Gen.MixInDw.Skeleton
public import proofs.«01_k».proof.Proof.Gen.MixInDw.Launch
public import proofs.«01_k».proof.Proof.Gen.MixInDw.Points
public import proofs.«01_k».proof.Proof.Gen.MixInDw.Frame
public import proofs.«01_k».proof.Proof.Gen.MixInDwIdeal
public import proofs.«01_k».proof.Proof.Gen.MixInDwIdeal.Skeleton
public import proofs.«01_k».proof.Proof.Gen.MixInDwIdeal.Launch
public import proofs.«01_k».proof.Proof.Gen.MixInDwIdeal.Points
public import proofs.«01_k».proof.Proof.Gen.MixInDwIdeal.Frame
public import proofs.«01_k».proof.Proof.Gen.MixInDwRefIdeal
public import proofs.«01_k».proof.Proof.Gen.MlpDxIdeal.Value
public import proofs.«01_k».proof.Proof.Gen.MlpDxRefIdeal.Run
public import proofs.«01_k».proof.Proof.Gen.MlpDwIdeal.Value
public import proofs.«01_k».proof.Proof.Gen.MlpDwRefIdeal.Run
public import proofs.«01_k».proof.Proof.Gen.MixInDwIdeal.Value
public import proofs.«01_k».proof.Proof.Gen.MixInDwRefIdeal.Run
public import proofs.«01_k».proof.Proof.Gen.MixInDx
public import proofs.«01_k».proof.Proof.Gen.MixInDx.Skeleton
public import proofs.«01_k».proof.Proof.Gen.MixInDx.Launch
public import proofs.«01_k».proof.Proof.Gen.MixInDx.Points
public import proofs.«01_k».proof.Proof.Gen.MixInDx.Frame
public import proofs.«01_k».proof.Proof.Gen.MixInDxIdeal
public import proofs.«01_k».proof.Proof.Gen.MixInDxIdeal.Skeleton
public import proofs.«01_k».proof.Proof.Gen.MixInDxIdeal.Launch
public import proofs.«01_k».proof.Proof.Gen.MixInDxIdeal.Points
public import proofs.«01_k».proof.Proof.Gen.MixInDxIdeal.Frame
public import proofs.«01_k».proof.Proof.Gen.MixInDxRefIdeal
public import proofs.«01_k».proof.Proof.Gen.MixInDxIdeal.Value
public import proofs.«01_k».proof.Proof.Gen.MixInDxRefIdeal.Run
public import proofs.«01_k».proof.Proof.Gen.MixOutBwd
public import proofs.«01_k».proof.Proof.Gen.MixOutBwd.Skeleton
public import proofs.«01_k».proof.Proof.Gen.MixOutBwd.Launch
public import proofs.«01_k».proof.Proof.Gen.MixOutBwd.Points
public import proofs.«01_k».proof.Proof.Gen.MixOutBwd.Frame
public import proofs.«01_k».proof.Proof.Gen.MixOutBwdIdeal
public import proofs.«01_k».proof.Proof.Gen.MixOutBwdIdeal.Skeleton
public import proofs.«01_k».proof.Proof.Gen.MixOutBwdIdeal.Launch
public import proofs.«01_k».proof.Proof.Gen.MixOutBwdIdeal.Points
public import proofs.«01_k».proof.Proof.Gen.MixOutBwdIdeal.Frame
public import proofs.«01_k».proof.Proof.Gen.MixOutBwdRefIdeal
public import proofs.«01_k».proof.Proof.Gen.MixOutBwdIdeal.Value
public import proofs.«01_k».proof.Proof.Gen.MixOutBwdRefIdeal.Run
public import proofs.«01_k».proof.Proof.Gen.MlpLoss
public import proofs.«01_k».proof.Proof.Gen.MlpLoss.Skeleton
public import proofs.«01_k».proof.Proof.Gen.MlpLoss.Launch
public import proofs.«01_k».proof.Proof.Gen.MlpLoss.Points
public import proofs.«01_k».proof.Proof.Gen.MlpLoss.Frame
public import proofs.«01_k».proof.Proof.Gen.MlpLossIdeal
public import proofs.«01_k».proof.Proof.Gen.MlpLossIdeal.Skeleton
public import proofs.«01_k».proof.Proof.Gen.MlpLossIdeal.Launch
public import proofs.«01_k».proof.Proof.Gen.MlpLossIdeal.Points
public import proofs.«01_k».proof.Proof.Gen.MlpLossIdeal.Frame
public import proofs.«01_k».proof.Proof.Gen.MlpLossRefIdeal
public import proofs.«01_k».proof.Proof.Gen.MlpLossRefIdeal.Run
public import proofs.«01_k».proof.Proof.Gen.MixOutFwd
public import proofs.«01_k».proof.Proof.Gen.MixOutFwd.Skeleton
public import proofs.«01_k».proof.Proof.Gen.MixOutFwd.Launch
public import proofs.«01_k».proof.Proof.Gen.MixOutFwd.Points
public import proofs.«01_k».proof.Proof.Gen.MixOutFwd.Frame
public import proofs.«01_k».proof.Proof.Gen.MixOutFwdIdeal
public import proofs.«01_k».proof.Proof.Gen.MixOutFwdIdeal.Skeleton
public import proofs.«01_k».proof.Proof.Gen.MixOutFwdIdeal.Launch
public import proofs.«01_k».proof.Proof.Gen.MixOutFwdIdeal.Points
public import proofs.«01_k».proof.Proof.Gen.MixOutFwdIdeal.Frame
public import proofs.«01_k».proof.Proof.Gen.MixOutFwdRefIdeal
public import proofs.«01_k».proof.Proof.Gen.MixOutFwdIdeal.Value
public import proofs.«01_k».proof.Proof.Gen.MixOutFwdRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpIdeal.Value
public import proofs.«01_k».proof.Proof.Gen.AdamUpRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownIdeal.Value
public import proofs.«01_k».proof.Proof.Gen.AdamDownRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdaAdam
public import proofs.«01_k».proof.Proof.Gen.AdaAdam.Skeleton
public import proofs.«01_k».proof.Proof.Gen.AdaAdam.Launch
public import proofs.«01_k».proof.Proof.Gen.AdaAdam.Points
public import proofs.«01_k».proof.Proof.Gen.AdaAdam.Frame
public import proofs.«01_k».proof.Proof.Gen.AdaAdamIdeal
public import proofs.«01_k».proof.Proof.Gen.AdaAdamIdeal.Skeleton
public import proofs.«01_k».proof.Proof.Gen.AdaAdamIdeal.Launch
public import proofs.«01_k».proof.Proof.Gen.AdaAdamIdeal.Points
public import proofs.«01_k».proof.Proof.Gen.AdaAdamIdeal.Frame
public import proofs.«01_k».proof.Proof.Gen.AdaAdamRefIdeal
public import proofs.«01_k».proof.Proof.Gen.AdaAdamIdeal.Value
public import proofs.«01_k».proof.Proof.Gen.AdaAdamRefIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdRefIdeal
public import proofs.«01_k».proof.Proof.Gen.AdaFwdIdeal.Value
public import proofs.«01_k».proof.Proof.Gen.AdaFwdRefIdeal.Run
public import proofs.«01_k».proof.Proof.Gen.Pre_mix_in_finite
public import proofs.«01_k».proof.Proof.Gen.Pre_mix_out_finite
public import proofs.«01_k».proof.Proof.Gen.Pre_mlp_loss_finite
public import proofs.«01_k».proof.Proof.MlpDwValue
public import proofs.«01_k».proof.Proof.MlpDxValue
public import proofs.«01_k».proof.Proof.MixInDwValue
public import proofs.«01_k».proof.Proof.MixInDxValue
public import proofs.«01_k».proof.Proof.MixOutBwdValue
public import proofs.«01_k».proof.Proof.MixOutFwdValue
public import proofs.«01_k».proof.Proof.MlpLossFrame
public import proofs.«01_k».proof.Proof.MlpLossValue
public import proofs.«01_k».proof.Proof.AdamUpValue
public import proofs.«01_k».proof.Proof.AdamDownValue
public import proofs.«01_k».proof.Proof.AdamOutValue
public import proofs.«01_k».proof.Proof.AdamInValue
public import proofs.«01_k».proof.Proof.AdaAdamValue
public import proofs.«01_k».proof.Proof.SumSmallValue
public import proofs.«01_k».proof.Proof.AdaFwdValue
public import Idealize.ShloMosaic.Adequacy
public import Idealize.ShloMosaic.Init
public import Idealize.ShloMosaic.Lib.Claim
public import proofs.«01_k».proof.Proof.Gen.PairOut
public import proofs.«01_k».proof.Proof.Gen.PairOut.Skeleton
public import proofs.«01_k».proof.Proof.Gen.PairOut.Launch
public import proofs.«01_k».proof.Proof.Gen.PairOutIdeal
public import proofs.«01_k».proof.Proof.Gen.PairOutIdeal.Skeleton
public import proofs.«01_k».proof.Proof.Gen.PairOutIdeal.Launch
public import proofs.«01_k».proof.Proof.Gen.PairOutRefIdeal
public import proofs.«01_k».proof.Proof.Gen.PairOutRefIdeal.Run
public import proofs.«01_k».proof.Proof.Gen.Pre_core_and_chip
public import proofs.«01_k».proof.Proof.PairOutFrame
public import proofs.«01_k».proof.Proof.PairOutValue

@[expose] public section

noncomputable section

namespace Cert.Proof

open Idealize.ShloMosaic Idealize.SL.Sem Cert.Shared

/-- The feed-forward block's input gradient call runs to its end and leaves its arguments as they were. -/
theorem frame_MlpDx : Cert.quiescent_MlpDx := fun m ρ _ => Cert.MlpDx.Gen.frame m ρ

/-- The feed-forward block's input gradient call, read over the extended reals, runs to its end and leaves its arguments as they were. -/
theorem frame_MlpDxIdeal : Cert.quiescent_MlpDxIdeal := fun m ρ _ => Cert.MlpDxIdeal.Gen.frame m ρ

/-- Its reference runs to its end and leaves its arguments as they were. -/
theorem frame_MlpDxRefIdeal : Cert.quiescent_MlpDxRefIdeal := by
  intro m ρ _
  exact (θ_run Cert.MlpDxRefIdeal.defs _ _).mono (fun r h => ⟨fun c => (h c).2.2, sem_eq_zero_of_no_sems (by decide) r.2⟩) (Cert.MlpDxRefIdeal.Value.run m ρ)

/-- The feed-forward block's weight gradient call runs to its end and leaves its arguments as they were. -/
theorem frame_MlpDw : Cert.quiescent_MlpDw := fun m ρ _ => Cert.MlpDw.Gen.frame m ρ

/-- The feed-forward block's weight gradient call, read over the extended reals, runs to its end and leaves its arguments as they were. -/
theorem frame_MlpDwIdeal : Cert.quiescent_MlpDwIdeal := fun m ρ _ => Cert.MlpDwIdeal.Gen.frame m ρ

/-- Its reference runs to its end and leaves its arguments as they were. -/
theorem frame_MlpDwRefIdeal : Cert.quiescent_MlpDwRefIdeal := by
  intro m ρ _
  exact (θ_run Cert.MlpDwRefIdeal.defs _ _).mono (fun r h => ⟨fun c => (h c).2.2, sem_eq_zero_of_no_sems (by decide) r.2⟩) (Cert.MlpDwRefIdeal.Value.run m ρ)

/-- The mixer's input weight gradient call runs to its end and leaves its arguments as they were. -/
theorem frame_MixInDw : Cert.quiescent_MixInDw := fun m ρ _ => Cert.MixInDw.Gen.frame m ρ

/-- The mixer's input weight gradient call, read over the extended reals, runs to its end and leaves its arguments as they were. -/
theorem frame_MixInDwIdeal : Cert.quiescent_MixInDwIdeal := fun m ρ _ => Cert.MixInDwIdeal.Gen.frame m ρ

/-- Its reference runs to its end and leaves its arguments as they were. -/
theorem frame_MixInDwRefIdeal : Cert.quiescent_MixInDwRefIdeal := by
  intro m ρ _
  exact (θ_run Cert.MixInDwRefIdeal.defs _ _).mono (fun r h => ⟨fun c => (h c).2, sem_eq_zero_of_no_sems (by decide) r.2⟩) (Cert.MixInDwRefIdeal.Value.run m ρ)

/-- The mixer's input gradient call runs to its end and leaves its arguments as they were. -/
theorem frame_MixInDx : Cert.quiescent_MixInDx := fun m ρ _ => Cert.MixInDx.Gen.frame m ρ

/-- The mixer's input gradient call, read over the extended reals, runs to its end and leaves its arguments as they were. -/
theorem frame_MixInDxIdeal : Cert.quiescent_MixInDxIdeal := fun m ρ _ => Cert.MixInDxIdeal.Gen.frame m ρ

/-- Its reference runs to its end and leaves its arguments as they were. -/
theorem frame_MixInDxRefIdeal : Cert.quiescent_MixInDxRefIdeal := by
  intro m ρ _
  exact (θ_run Cert.MixInDxRefIdeal.defs _ _).mono (fun r h => ⟨fun c => (h c).2.2, sem_eq_zero_of_no_sems (by decide) r.2⟩) (Cert.MixInDxRefIdeal.Value.run m ρ)

/-- The same on the inputs that the precondition allows. -/
theorem frame_MixInDxIdeal_pre : Cert.quiescent_MixInDxIdeal_pre_mix_in_finite := fun m ρ _ => Cert.MixInDxIdeal.Gen.frame m ρ

/-- The same of the reference. -/
theorem frame_MixInDxRefIdeal_pre : Cert.quiescent_MixInDxRefIdeal_pre_mix_in_finite := fun m ρ _ => frame_MixInDxRefIdeal m ρ trivial

/-- The mixer's output backward call runs to its end and leaves its arguments as they were. -/
theorem frame_MixOutBwd : Cert.quiescent_MixOutBwd := fun m ρ _ => Cert.MixOutBwd.Gen.frame m ρ

/-- The mixer's output backward call, read over the extended reals, runs to its end and leaves its arguments as they were. -/
theorem frame_MixOutBwdIdeal : Cert.quiescent_MixOutBwdIdeal := fun m ρ _ => Cert.MixOutBwdIdeal.Gen.frame m ρ

/-- Its reference runs to its end and leaves its arguments as they were. -/
theorem frame_MixOutBwdRefIdeal : Cert.quiescent_MixOutBwdRefIdeal := by
  intro m ρ _
  exact (θ_run Cert.MixOutBwdRefIdeal.defs _ _).mono (fun r h => ⟨fun c => (h c).2.2.2.2, sem_eq_zero_of_no_sems (by decide) r.2⟩) (Cert.MixOutBwdRefIdeal.Value.run m ρ)

/-- The same on the inputs that the precondition allows. -/
theorem frame_MixOutBwdIdeal_pre : Cert.quiescent_MixOutBwdIdeal_pre_mix_out_finite := fun m ρ _ => Cert.MixOutBwdIdeal.Gen.frame m ρ

/-- The same of the reference. -/
theorem frame_MixOutBwdRefIdeal_pre : Cert.quiescent_MixOutBwdRefIdeal_pre_mix_out_finite := fun m ρ _ => frame_MixOutBwdRefIdeal m ρ trivial

/-- The feed-forward block's call with the loss runs to its end and leaves its arguments as they were. -/
theorem frame_MlpLoss : Cert.quiescent_MlpLoss := fun m ρ _ => Cert.MlpLoss.Hand.frame m ρ

/-- The feed-forward block's call with the loss, read over the extended reals, runs to its end and leaves its arguments as they were. -/
theorem frame_MlpLossIdeal : Cert.quiescent_MlpLossIdeal := fun m ρ _ => Cert.MlpLossIdeal.Hand.frame m ρ

/-- Its reference runs to its end and leaves its arguments as they were. -/
theorem frame_MlpLossRefIdeal : Cert.quiescent_MlpLossRefIdeal := by
  intro m ρ _
  exact (θ_run Cert.MlpLossRefIdeal.defs _ _).mono (fun r h => ⟨fun c => (h c).2.2.2.2, sem_eq_zero_of_no_sems (by decide) r.2⟩) (Cert.MlpLossRefIdeal.Value.run m ρ)

/-- The same on the inputs that the precondition allows. -/
theorem frame_MlpLossIdeal_pre : Cert.quiescent_MlpLossIdeal_pre_mlp_loss_finite := fun m ρ _ => Cert.MlpLossIdeal.Hand.frame m ρ

/-- The same of the reference. -/
theorem frame_MlpLossRefIdeal_pre : Cert.quiescent_MlpLossRefIdeal_pre_mlp_loss_finite := fun m ρ _ => frame_MlpLossRefIdeal m ρ trivial

/-- The mixer's output forward call runs to its end and leaves its arguments as they were. -/
theorem frame_MixOutFwd : Cert.quiescent_MixOutFwd := fun m ρ _ => Cert.MixOutFwd.Gen.frame m ρ

/-- The mixer's output forward call, read over the extended reals, runs to its end and leaves its arguments as they were. -/
theorem frame_MixOutFwdIdeal : Cert.quiescent_MixOutFwdIdeal := fun m ρ _ => Cert.MixOutFwdIdeal.Gen.frame m ρ

/-- Its reference runs to its end and leaves its arguments as they were. -/
theorem frame_MixOutFwdRefIdeal : Cert.quiescent_MixOutFwdRefIdeal := by
  intro m ρ _
  exact (θ_run Cert.MixOutFwdRefIdeal.defs _ _).mono (fun r h => ⟨fun c => (h c).2.2.2, sem_eq_zero_of_no_sems (by decide) r.2⟩) (Cert.MixOutFwdRefIdeal.Value.run m ρ)

/-- The feed-forward block's input gradient call computes the reference's gradients. -/
theorem algebraic_MlpDx : Cert.algebraic_MlpDxIdeal_MlpDxRefIdeal := by
  pair_intro
  · run_from Cert.MlpDxIdeal.Gen.run_main m g
    · exact Cert.MlpDxIdeal.Gen.V_main_arg0 m c
    · exact Cert.MlpDxIdeal.Gen.V_main_arg1 m c
    · exact Cert.MlpDxIdeal.Gen.V_main_arg2 m c
    · exact Cert.MlpDxIdeal.Gen.V_main_arg3 m c
  · run_from Cert.MlpDxRefIdeal.Value.run m' g'
    · exact (Cert.MlpDxIdeal.Hand.final_z m c).symm
    · exact (Cert.MlpDxIdeal.Hand.final_h m c).symm

/-- The feed-forward block's weight gradient call computes the reference's gradients. -/
theorem algebraic_MlpDw : Cert.algebraic_MlpDwIdeal_MlpDwRefIdeal := by
  pair_intro
  · run_from Cert.MlpDwIdeal.Gen.run_main m g
    · exact Cert.MlpDwIdeal.Gen.V_main_arg0 m c
    · exact Cert.MlpDwIdeal.Gen.V_main_arg1 m c
    · exact Cert.MlpDwIdeal.Gen.V_main_arg2 m c
    · exact Cert.MlpDwIdeal.Gen.V_main_arg3 m c
  · run_from Cert.MlpDwRefIdeal.Value.run m' g'
    · exact (Cert.MlpDwIdeal.Hand.final_down m c).symm
    · exact (Cert.MlpDwIdeal.Hand.final_up m c).symm

/-- The mixer's input weight gradient call computes the reference's gradient. -/
theorem algebraic_MixInDw : Cert.algebraic_MixInDwIdeal_MixInDwRefIdeal := by
  pair_intro
  · run_from Cert.MixInDwIdeal.Gen.run_main m g
  · run_from Cert.MixInDwRefIdeal.Value.run m' g'
    exact (Cert.MixInDwIdeal.Hand.final m c).symm

/-! ## The mixer's input gradient call -/

section
variable {m : (ℓ : Loc Cert.MixInDxIdeal.nD Cert.MixInDxIdeal.τ Cert.MixInDxIdeal.sig) → Buf (Elt Ideal) ℓ}

open Cert.MixInDxIdeal Cert.MixInDxIdeal.Hand

/-- The precondition makes every entry of the rows finite. -/
theorem mix_in_x (h : Cert.Pre_MixInDxIdeal_mix_in_finite m) (c : Dev nD) (j) : Fin' ((show FVec Ideal S4096x1024 .f32 from m (c.tc.loc main_arg0)) j) :=
  .of_lt (congrFun (h c).1 j)

/-- The precondition makes every entry of the gradient of the scaled rows finite. -/
theorem mix_in_ct (h : Cert.Pre_MixInDxIdeal_mix_in_finite m) (c : Dev nD) (j : S4096x1024.Idx) : Fin' (ct m c j) := by
  have hg : Fin' ((show FVec Ideal S1x1024 .f32 from m (c.tc.loc main_arg1)) (ix2 (0 : Fin 1) (j 1))) := .of_lt (congrFun (h c).2.1 _)
  have hm : Fin' (SCALE (m (c.tc.loc main_arg2)) (ix2 (0 : Fin 1) (j 1))) := .of_lt (congrFun (h c).2.2.1 (ix2 (0 : Fin 1) (j 1)))
  have em : SCALE (m (c.tc.loc main_arg2)) (ix2 (0 : Fin 1) (j 1)) = (show FVec Ideal S6x1024 .f32 from m (c.tc.loc main_arg2)) (ix2 (1 : Fin 6) (j 1)) := by pointwise
  have hw (i) : Fin' ((show FVec Ideal S1024x2560 .f32 from m (c.tc.loc main_arg3)) i) := .of_lt (congrFun (h c).2.2.2.1 i)
  have hp (i) : Fin' ((show FVec Ideal S4096x2560 .f32 from m (c.tc.loc main_arg4)) i) := .of_lt (congrFun (h c).2.2.2.2 i)
  rw [show ct m c j = _ from hct _ _ _ j, show dh m c j = _ from hdh _ _ j]
  exact .mul (.mul (.sum _ _ fun k => .mul (hp _) (hw _)) (.add .one (Eq.mp (congrArg Fin' em) hm))) hg

end

/-- The mixer's input gradient call computes the reference's gradients, on finite inputs. -/
theorem algebraic_MixInDx : Cert.algebraic_MixInDxIdeal_MixInDxRefIdeal_pre_mix_in_finite := by
  pair_intro
  · run_from Cert.MixInDxIdeal.Gen.run_main m g
  · run_from Cert.MixInDxRefIdeal.Value.run m' g'
    · obtain ⟨h0, h1, h2, h3, h4, h5⟩ := hagree c
      refine (Cert.MixInDxIdeal.Hand.ref_x m' c).trans ?_
      rw [h0, h1, h2, h3, h4, h5]
      exact (Cert.MixInDxIdeal.Hand.final_gx m c (mix_in_x hpre c) (mix_in_ct hpre c)).symm
    · rw [(hagree c).2.2.2.2.1]
      exact (Cert.MixInDxIdeal.Hand.final_st m c).symm

/-! ## The mixer's output calls -/

section
variable {m : (ℓ : Loc Cert.MixOutBwdIdeal.nD Cert.MixOutBwdIdeal.τ Cert.MixOutBwdIdeal.sig) → Buf (Elt Ideal) ℓ}

open Cert.MixOutBwdIdeal Cert.MixOutBwdIdeal.Hand

/-- The precondition makes every entry of the residual stream finite. -/
theorem mix_out_x (h : Cert.Pre_MixOutBwdIdeal_mix_out_finite m) (c : Dev nD) (j : S4096x1024.Idx) : Fin' (x2 m c j) := by
  have hx (i) : Fin' ((show FVec Ideal S4096x1024 .f32 from m (c.tc.loc main_arg0)) i) := .of_lt (congrFun (h c).1 i)
  have hy (i) : Fin' ((show FVec Ideal S4096x1024 .f32 from m (c.tc.loc main_arg1)) i) := .of_lt (congrFun (h c).2.1 i)
  have hw (i) : Fin' ((show FVec Ideal S1024x1024 .f32 from m (c.tc.loc main_arg2)) i) := .of_lt (congrFun (h c).2.2.1 i)
  have hm : Fin' (GATE (m (c.tc.loc main_arg4)) (ix2 (0 : Fin 1) (j 1))) := .of_lt (congrFun (h c).2.2.2.2.1 (ix2 (0 : Fin 1) (j 1)))
  have e : x2 m c j = (show FVec Ideal S4096x1024 .f32 from m (c.tc.loc main_arg0)) j + GATE (m (c.tc.loc main_arg4)) (ix2 (0 : Fin 1) (j 1)) * MIX (m (c.tc.loc main_arg1)) (m (c.tc.loc main_arg2)) j := by
    pointwise [RES]
  rw [e, hmix]
  exact .add (hx _) (.mul hm (.sum _ _ fun k => .mul (hy _) (hw _)))

/-- The precondition makes every entry of the gradient of the scaled rows finite. -/
theorem mix_out_ct (h : Cert.Pre_MixOutBwdIdeal_mix_out_finite m) (c : Dev nD) (j : S4096x1024.Idx) : Fin' (ct m c j) := by
  have hg : Fin' ((show FVec Ideal S1x1024 .f32 from m (c.tc.loc main_arg3)) (ix2 (0 : Fin 1) (j 1))) := .of_lt (congrFun (h c).2.2.2.1 _)
  have hm : Fin' (SCALE (m (c.tc.loc main_arg4)) (ix2 (0 : Fin 1) (j 1))) := .of_lt (congrFun (h c).2.2.2.2.2.1 (ix2 (0 : Fin 1) (j 1)))
  have em : SCALE (m (c.tc.loc main_arg4)) (ix2 (0 : Fin 1) (j 1)) = (show FVec Ideal S6x1024 .f32 from m (c.tc.loc main_arg4)) (ix2 (4 : Fin 6) (j 1)) := by pointwise
  have hd (i) : Fin' ((show FVec Ideal S4096x1024 .f32 from m (c.tc.loc main_arg6)) i) := .of_lt (congrFun (h c).2.2.2.2.2.2 i)
  rw [show ct m c j = _ from hct _ _ _ j]
  exact .mul (.mul (hd _) (.add .one (Eq.mp (congrArg Fin' em) hm))) hg

end

/-- Equal arguments give equal values of a function of seven. -/
theorem congr7 {A B C D E F G R : Type} (f : A → B → C → D → E → F → G → R) {a a' : A} {b b' : B} {c c' : C} {d d' : D} {e e' : E} {k k' : F} {l l' : G}
    (h0 : a = a') (h1 : b = b') (h2 : c = c') (h3 : d = d') (h4 : e = e') (h5 : k = k') (h6 : l = l') : f a b c d e k l = f a' b' c' d' e' k' l' := by
  subst h0 h1 h2 h3 h4 h5 h6; rfl

section
variable {m : (ℓ : Loc Cert.MixOutBwdIdeal.nD Cert.MixOutBwdIdeal.τ Cert.MixOutBwdIdeal.sig) → Buf (Elt Ideal) ℓ} {m' : (ℓ : Loc Cert.MixOutBwdRefIdeal.nD Cert.MixOutBwdRefIdeal.τ Cert.MixOutBwdRefIdeal.sig) → Buf (Elt Ideal) ℓ}

open Cert.MixOutBwdIdeal Cert.MixOutBwdIdeal.Hand
open Cert.MixInDxIdeal.Hand (BACK)

/-- The two programs start from the same arguments on a device. -/
def Agree (m : (ℓ : Loc nD τ sig) → Buf (Elt Ideal) ℓ) (m' : (ℓ : Loc Cert.MixOutBwdRefIdeal.nD Cert.MixOutBwdRefIdeal.τ Cert.MixOutBwdRefIdeal.sig) → Buf (Elt Ideal) ℓ) (c : Dev nD) : Prop :=
  m' ((c.tc : Thread Cert.MixOutBwdRefIdeal.nD Cert.MixOutBwdRefIdeal.τ).loc Cert.MixOutBwdRefIdeal.main_arg0) = m ((c.tc : Thread nD τ).loc main_arg0)
    ∧ m' ((c.tc : Thread Cert.MixOutBwdRefIdeal.nD Cert.MixOutBwdRefIdeal.τ).loc Cert.MixOutBwdRefIdeal.main_arg1) = m ((c.tc : Thread nD τ).loc main_arg1)
    ∧ m' ((c.tc : Thread Cert.MixOutBwdRefIdeal.nD Cert.MixOutBwdRefIdeal.τ).loc Cert.MixOutBwdRefIdeal.main_arg2) = m ((c.tc : Thread nD τ).loc main_arg2)
    ∧ m' ((c.tc : Thread Cert.MixOutBwdRefIdeal.nD Cert.MixOutBwdRefIdeal.τ).loc Cert.MixOutBwdRefIdeal.main_arg3) = m ((c.tc : Thread nD τ).loc main_arg3)
    ∧ m' ((c.tc : Thread Cert.MixOutBwdRefIdeal.nD Cert.MixOutBwdRefIdeal.τ).loc Cert.MixOutBwdRefIdeal.main_arg4) = m ((c.tc : Thread nD τ).loc main_arg4)
    ∧ m' ((c.tc : Thread Cert.MixOutBwdRefIdeal.nD Cert.MixOutBwdRefIdeal.τ).loc Cert.MixOutBwdRefIdeal.main_arg5) = m ((c.tc : Thread nD τ).loc main_arg5)
    ∧ m' ((c.tc : Thread Cert.MixOutBwdRefIdeal.nD Cert.MixOutBwdRefIdeal.τ).loc Cert.MixOutBwdRefIdeal.main_arg6) = m ((c.tc : Thread nD τ).loc main_arg6)

/-- The first result is the reference's. -/
theorem mix_out_dx (hpre : Cert.Pre_MixOutBwdIdeal_mix_out_finite m) (c : Dev nD) (h : Agree m m' c) :
    Cert.MixOutBwdRefIdeal.Value.res_main_v65 m' c = (Cert.MixOutBwdIdeal.Gen.dats m 0 c).arrAt 8 (cfgs 0).N := by
  obtain ⟨h0, h1, h2, h3, h4, h5, h6⟩ := h
  refine (ref_dx m' c).trans (Eq.trans ?_ (final_dx m c (mix_out_x hpre c) (mix_out_ct hpre c)).symm)
  exact congr7 (fun (X Y : FVec Ideal S4096x1024 .f32) (W : FVec Ideal S1024x1024 .f32) (G : FVec Ideal S1x1024 .f32) (M : FVec Ideal S6x1024 .f32) (D E : FVec Ideal S4096x1024 .f32) => truncf .bf16 (BACK (RES X Y W M) (CT E G M) D) Cert.MixOutBwdRefIdeal.Gen.bitsLt_bf16_f32) h0 h1 h2 h3 h4 h5 h6

/-- The second result is the reference's. -/
theorem mix_out_dym (hpre : Cert.Pre_MixOutBwdIdeal_mix_out_finite m) (c : Dev nD) (h : Agree m m' c) :
    Cert.MixOutBwdRefIdeal.Value.res_main_v66 m' c = (Cert.MixOutBwdIdeal.Gen.dats m 0 c).arrAt 9 (cfgs 0).N := by
  obtain ⟨h0, h1, h2, h3, h4, h5, h6⟩ := h
  refine (ref_dym m' c).trans (Eq.trans ?_ (final_dym m c (mix_out_x hpre c) (mix_out_ct hpre c)).symm)
  exact congr7 (fun (X Y : FVec Ideal S4096x1024 .f32) (W : FVec Ideal S1024x1024 .f32) (G : FVec Ideal S1x1024 .f32) (M : FVec Ideal S6x1024 .f32) (D E : FVec Ideal S4096x1024 .f32) => truncf .bf16 (DYM (BACK (RES X Y W M) (CT E G M) D) W M) Cert.MixOutBwdRefIdeal.Gen.bitsLt_bf16_f32) h0 h1 h2 h3 h4 h5 h6

/-- The third result is the reference's. -/
theorem mix_out_gw (hpre : Cert.Pre_MixOutBwdIdeal_mix_out_finite m) (c : Dev nD) (h : Agree m m' c) :
    Cert.MixOutBwdRefIdeal.Value.res_main_v63 m' c = (Cert.MixOutBwdIdeal.Gen.dats m 0 c).arrAt 10 (cfgs 0).N := by
  obtain ⟨h0, h1, h2, h3, h4, h5, h6⟩ := h
  refine (ref_gw m' c).trans (Eq.trans ?_ (final_gw m c (mix_out_x hpre c) (mix_out_ct hpre c)).symm)
  exact congr7 (fun (X Y : FVec Ideal S4096x1024 .f32) (W : FVec Ideal S1024x1024 .f32) (G : FVec Ideal S1x1024 .f32) (M : FVec Ideal S6x1024 .f32) (D E : FVec Ideal S4096x1024 .f32) => GW (BACK (RES X Y W M) (CT E G M) D) Y M) h0 h1 h2 h3 h4 h5 h6

/-- The fourth result is the reference's. -/
theorem mix_out_st (hpre : Cert.Pre_MixOutBwdIdeal_mix_out_finite m) (c : Dev nD) (h : Agree m m' c) :
    Cert.MixOutBwdRefIdeal.Value.res_main_v68 m' c = (Cert.MixOutBwdIdeal.Gen.dats m 0 c).arrAt 11 (cfgs 0).N := by
  obtain ⟨h0, h1, h2, h3, h4, h5, h6⟩ := h
  refine (ref_st m' c).trans (Eq.trans ?_ (final_st m c (mix_out_x hpre c) (mix_out_ct hpre c)).symm)
  exact congr7 (fun (X Y : FVec Ideal S4096x1024 .f32) (W : FVec Ideal S1024x1024 .f32) (G : FVec Ideal S1x1024 .f32) (M : FVec Ideal S6x1024 .f32) (D E : FVec Ideal S4096x1024 .f32) => STATS (RES X Y W M) E (BACK (RES X Y W M) (CT E G M) D) (MIX Y W) G (SCALE M)) h0 h1 h2 h3 h4 h5 h6

end

/-- The mixer's output backward call computes the reference's gradients, on finite inputs. -/
theorem algebraic_MixOutBwd : Cert.algebraic_MixOutBwdIdeal_MixOutBwdRefIdeal_pre_mix_out_finite := by
  pair_intro
  · run_from Cert.MixOutBwdIdeal.Gen.run_main m g
  · refine (θ_run Cert.MixOutBwdRefIdeal.defs _ _).mono (fun r h c => ?_) (Cert.MixOutBwdRefIdeal.Value.run m' g')
    obtain ⟨r0, r1, r2, r3, hargs⟩ := h c
    exact ⟨r0.trans (mix_out_dx hpre c (hagree c)), r1.trans (mix_out_dym hpre c (hagree c)), r2.trans (mix_out_gw hpre c (hagree c)), r3.trans (mix_out_st hpre c (hagree c)), hargs⟩

/-! ## The feed-forward block's call with the loss -/

section
variable {m : (ℓ : Loc Cert.MlpLossIdeal.nD Cert.MlpLossIdeal.τ Cert.MlpLossIdeal.sig) → Buf (Elt Ideal) ℓ} {m' : (ℓ : Loc Cert.MlpLossRefIdeal.nD Cert.MlpLossRefIdeal.τ Cert.MlpLossRefIdeal.sig) → Buf (Elt Ideal) ℓ}

open Cert.MlpLossIdeal Cert.MlpLossIdeal.Hand
open Cert.MixInDxIdeal.Hand (XHAT ROWS hxhat)

/-- The precondition makes every entry of the residual stream finite. -/
theorem mlp_loss_x (h : Cert.Pre_MlpLossIdeal_mlp_loss_finite m) (c : Dev nD) (j : S4096x1024.Idx) : Fin' (x3 m c j) := by
  have hh (i) : Fin' ((show FVec Ideal S4096x1024 .f32 from m (c.tc.loc main_arg0)) i) := .of_lt (congrFun (h c).1 i)
  have hu (i) : Fin' ((show FVec Ideal S1024x4096 .f32 from m (c.tc.loc main_arg1)) i) := .of_lt (congrFun (h c).2.1 i)
  have hw (i) : Fin' ((show FVec Ideal S4096x1024 .f32 from m (c.tc.loc main_arg2)) i) := .of_lt (congrFun (h c).2.2.1 i)
  have hx (i) : Fin' ((show FVec Ideal S4096x1024 .f32 from m (c.tc.loc main_arg3)) i) := .of_lt (congrFun (h c).2.2.2.1 i)
  have hm : Fin' (GATE (m (c.tc.loc main_arg5)) (ix2 (0 : Fin 1) (j 1))) := .of_lt (congrFun (h c).2.2.2.2.2.1 (ix2 (0 : Fin 1) (j 1)))
  have em : GATE (m (c.tc.loc main_arg5)) (ix2 (0 : Fin 1) (j 1)) = (show FVec Ideal S6x1024 .f32 from m (c.tc.loc main_arg5)) (ix2 (5 : Fin 6) (j 1)) := by pointwise
  have hz (l : Fin 4096) : Fin' (max (pre (m (c.tc.loc main_arg0)) (m (c.tc.loc main_arg1)) (j 0) l) 0) := .max (.sum _ _ fun k => .mul (hh _) (hu _)) ⟨0, rfl⟩
  rw [show x3 m c j = _ from hres _ _ _ j, show out m c j = _ from hout2 _ _ _ j]
  exact .add (hx _) (.mul (Eq.mp (congrArg Fin' em) hm) (.sum _ _ fun l => .mul (.mul (hz l) (hz l)) (hw _)))

/-- The precondition makes every entry of the gradient of the normalised stream finite. -/
theorem mlp_loss_ct (h : Cert.Pre_MlpLossIdeal_mlp_loss_finite m) (c : Dev nD) (j : S4096x1024.Idx) : Fin' (ct m c j) := by
  have ht (i) : Fin' ((show FVec Ideal S4096x1024 .f32 from m (c.tc.loc main_arg4)) i) := .of_lt (congrFun (h c).2.2.2.2.1 i)
  have hg (i) : Fin' ((show FVec Ideal S1x1024 .f32 from m (c.tc.loc main_arg6)) i) := .of_lt (congrFun (h c).2.2.2.2.2.2 i)
  have hn : Fin' (Ideal.ofBits .f32 0x3A800000#32) := ⟨1 / 1024, by simp [Ideal.ofBits, Ideal.ieee, -EReal.coe_mul]; norm_num⟩
  have hd (i) : Fin' (diff m c i) := by
    rw [show diff m c i = _ from hdiff _ _ _ i, hxhat]
    exact .sub (.mul (.mul (mlp_loss_x h c _) (rms_fin _ fun k => mlp_loss_x h c _)) (hg _)) (ht _)
  rw [hct, hcerr]
  exact .mul (.mul (hd _) hn) (hg _)

/-- The two programs start from the same arguments on a device. -/
def Agrees (m : (ℓ : Loc nD τ sig) → Buf (Elt Ideal) ℓ) (m' : (ℓ : Loc Cert.MlpLossRefIdeal.nD Cert.MlpLossRefIdeal.τ Cert.MlpLossRefIdeal.sig) → Buf (Elt Ideal) ℓ) (c : Dev nD) : Prop :=
  m' ((c.tc : Thread Cert.MlpLossRefIdeal.nD Cert.MlpLossRefIdeal.τ).loc Cert.MlpLossRefIdeal.main_arg0) = m ((c.tc : Thread nD τ).loc main_arg0)
    ∧ m' ((c.tc : Thread Cert.MlpLossRefIdeal.nD Cert.MlpLossRefIdeal.τ).loc Cert.MlpLossRefIdeal.main_arg1) = m ((c.tc : Thread nD τ).loc main_arg1)
    ∧ m' ((c.tc : Thread Cert.MlpLossRefIdeal.nD Cert.MlpLossRefIdeal.τ).loc Cert.MlpLossRefIdeal.main_arg2) = m ((c.tc : Thread nD τ).loc main_arg2)
    ∧ m' ((c.tc : Thread Cert.MlpLossRefIdeal.nD Cert.MlpLossRefIdeal.τ).loc Cert.MlpLossRefIdeal.main_arg3) = m ((c.tc : Thread nD τ).loc main_arg3)
    ∧ m' ((c.tc : Thread Cert.MlpLossRefIdeal.nD Cert.MlpLossRefIdeal.τ).loc Cert.MlpLossRefIdeal.main_arg4) = m ((c.tc : Thread nD τ).loc main_arg4)
    ∧ m' ((c.tc : Thread Cert.MlpLossRefIdeal.nD Cert.MlpLossRefIdeal.τ).loc Cert.MlpLossRefIdeal.main_arg5) = m ((c.tc : Thread nD τ).loc main_arg5)
    ∧ m' ((c.tc : Thread Cert.MlpLossRefIdeal.nD Cert.MlpLossRefIdeal.τ).loc Cert.MlpLossRefIdeal.main_arg6) = m ((c.tc : Thread nD τ).loc main_arg6)

/-- The first result is the reference's. -/
theorem mlp_loss_z (c : Dev nD) (h : Agrees m m' c) :
    truncf .bf16 (ACT (m' ((c.tc : Thread Cert.MlpLossRefIdeal.nD Cert.MlpLossRefIdeal.τ).loc Cert.MlpLossRefIdeal.main_arg0)) (m' ((c.tc : Thread Cert.MlpLossRefIdeal.nD Cert.MlpLossRefIdeal.τ).loc Cert.MlpLossRefIdeal.main_arg1))) Cert.MlpLossRefIdeal.Gen.bitsLt_bf16_f32 = (Cert.MlpLossIdeal.Hand.dats m 0 c).arrAt 5 (cfgs 0).N := by
  obtain ⟨h0, h1, h2, h3, h4, h5, h6⟩ := h
  refine Eq.trans ?_ (final_z m c).symm
  exact congr7 (fun (H : FVec Ideal S4096x1024 .f32) (U : FVec Ideal S1024x4096 .f32) (W X T : FVec Ideal S4096x1024 .f32) (M : FVec Ideal S6x1024 .f32) (G : FVec Ideal S1x1024 .f32) => truncf .bf16 (ACT H U) Cert.MlpLossRefIdeal.Gen.bitsLt_bf16_f32) h0 h1 h2 h3 h4 h5 h6

/-- The second result is the reference's. -/
theorem mlp_loss_dx (hpre : Cert.Pre_MlpLossIdeal_mlp_loss_finite m) (c : Dev nD) (h : Agrees m m' c) :
    Cert.MlpLossRefIdeal.Value.res_main_v67 m' c = (Cert.MlpLossIdeal.Hand.dats m 0 c).arrAt 6 (cfgs 0).N := by
  obtain ⟨h0, h1, h2, h3, h4, h5, h6⟩ := h
  refine (ref_dx m' c).trans (Eq.trans ?_ (final_dx m c (mlp_loss_x hpre c) (mlp_loss_ct hpre c)).symm)
  exact congr7 (fun (H : FVec Ideal S4096x1024 .f32) (U : FVec Ideal S1024x4096 .f32) (W X T : FVec Ideal S4096x1024 .f32) (M : FVec Ideal S6x1024 .f32) (G : FVec Ideal S1x1024 .f32) => truncf .bf16 (GRAD (RES X (OUT H U W) M) (mulf (CERR (DIFF (RES X (OUT H U W) M) T G)) (ROWS G))) Cert.MlpLossRefIdeal.Gen.bitsLt_bf16_f32) h0 h1 h2 h3 h4 h5 h6

/-- The third result is the reference's. -/
theorem mlp_loss_dy (hpre : Cert.Pre_MlpLossIdeal_mlp_loss_finite m) (c : Dev nD) (h : Agrees m m' c) :
    Cert.MlpLossRefIdeal.Value.res_main_v68 m' c = (Cert.MlpLossIdeal.Hand.dats m 0 c).arrAt 7 (cfgs 0).N := by
  obtain ⟨h0, h1, h2, h3, h4, h5, h6⟩ := h
  refine (ref_dy m' c).trans (Eq.trans ?_ (final_dy m c (mlp_loss_x hpre c) (mlp_loss_ct hpre c)).symm)
  exact congr7 (fun (H : FVec Ideal S4096x1024 .f32) (U : FVec Ideal S1024x4096 .f32) (W X T : FVec Ideal S4096x1024 .f32) (M : FVec Ideal S6x1024 .f32) (G : FVec Ideal S1x1024 .f32) => truncf .bf16 (mulf (ROWS (GATE M)) (GRAD (RES X (OUT H U W) M) (mulf (CERR (DIFF (RES X (OUT H U W) M) T G)) (ROWS G)))) Cert.MlpLossRefIdeal.Gen.bitsLt_bf16_f32) h0 h1 h2 h3 h4 h5 h6

/-- The fourth result is the reference's. -/
theorem mlp_loss_st (hpre : Cert.Pre_MlpLossIdeal_mlp_loss_finite m) (c : Dev nD) (h : Agrees m m' c) :
    Cert.MlpLossRefIdeal.Value.res_main_v65 m' c = (Cert.MlpLossIdeal.Hand.dats m 0 c).arrAt 8 (cfgs 0).N := by
  obtain ⟨h0, h1, h2, h3, h4, h5, h6⟩ := h
  refine (ref_st m' c).trans (Eq.trans ?_ (final_st m c (mlp_loss_x hpre c) (mlp_loss_ct hpre c)).symm)
  exact congr7 (fun (H : FVec Ideal S4096x1024 .f32) (U : FVec Ideal S1024x4096 .f32) (W X T : FVec Ideal S4096x1024 .f32) (M : FVec Ideal S6x1024 .f32) (G : FVec Ideal S1x1024 .f32) => STATS (RES X (OUT H U W) M) (OUT H U W) (DIFF (RES X (OUT H U W) M) T G) (CERR (DIFF (RES X (OUT H U W) M) T G)) (GRAD (RES X (OUT H U W) M) (mulf (CERR (DIFF (RES X (OUT H U W) M) T G)) (ROWS G)))) h0 h1 h2 h3 h4 h5 h6

end

/-- The feed-forward block's call with the loss computes the reference's values and gradients, on finite inputs. -/
theorem algebraic_MlpLoss : Cert.algebraic_MlpLossIdeal_MlpLossRefIdeal_pre_mlp_loss_finite := by
  pair_intro
  · run_from Cert.MlpLossIdeal.Hand.run_main m g
  · refine (θ_run Cert.MlpLossRefIdeal.defs _ _).mono (fun r h c => ?_) (Cert.MlpLossRefIdeal.Value.run m' g')
    obtain ⟨r0, r1, r2, r3, hargs⟩ := h c
    exact ⟨r0.trans (mlp_loss_z c (hagree c)), r1.trans (mlp_loss_dx hpre c (hagree c)), r2.trans (mlp_loss_dy hpre c (hagree c)), r3.trans (mlp_loss_st hpre c (hagree c)), hargs⟩

/-- The mixer's output forward call computes the reference's values. -/
theorem algebraic_MixOutFwd : Cert.algebraic_MixOutFwdIdeal_MixOutFwdRefIdeal := by
  pair_intro
  · run_from Cert.MixOutFwdIdeal.Gen.run_main m g
  · run_from Cert.MixOutFwdRefIdeal.Value.run m' g'
    · exact (Cert.MixOutFwdIdeal.Hand.final_mix m c).symm
    · exact (Cert.MixOutFwdIdeal.Hand.final_res m c).symm
    · exact (Cert.MixOutFwdIdeal.Hand.final_nrm m c).symm

/-- The optimiser's call on the feed-forward block's first weight runs to its end and leaves its arguments as they were. -/
theorem frame_AdamUp : Cert.quiescent_AdamUp := fun m ρ _ => Cert.AdamUp.Gen.frame m ρ

/-- So it does when read over the extended reals. -/
theorem frame_AdamUpIdeal : Cert.quiescent_AdamUpIdeal := fun m ρ _ => Cert.AdamUpIdeal.Gen.frame m ρ

/-- Its reference runs to its end and leaves its arguments as they were. -/
theorem frame_AdamUpRefIdeal : Cert.quiescent_AdamUpRefIdeal := by
  intro m ρ _
  exact (θ_run Cert.AdamUpRefIdeal.defs _ _).mono (fun r h => ⟨fun c => (h c).2.2.2.2, sem_eq_zero_of_no_sems (by decide) r.2⟩)
    (Cert.AdamUpRefIdeal.Value.run m ρ)

/-- The optimiser's call on the feed-forward block's second weight runs to its end and leaves its arguments as they were. -/
theorem frame_AdamDown : Cert.quiescent_AdamDown := fun m ρ _ => Cert.AdamDown.Gen.frame m ρ

/-- So it does when read over the extended reals. -/
theorem frame_AdamDownIdeal : Cert.quiescent_AdamDownIdeal := fun m ρ _ => Cert.AdamDownIdeal.Gen.frame m ρ

/-- Its reference runs to its end and leaves its arguments as they were. -/
theorem frame_AdamDownRefIdeal : Cert.quiescent_AdamDownRefIdeal := by
  intro m ρ _
  exact (θ_run Cert.AdamDownRefIdeal.defs _ _).mono (fun r h => ⟨fun c => (h c).2.2.2.2, sem_eq_zero_of_no_sems (by decide) r.2⟩)
    (Cert.AdamDownRefIdeal.Value.run m ρ)

/-- The optimiser's call on the output projection runs to its end and leaves its arguments as they were. -/
theorem frame_AdamOut : Cert.quiescent_AdamOut := fun m ρ _ => Cert.AdamOut.Gen.frame m ρ

/-- So it does when read over the extended reals. -/
theorem frame_AdamOutIdeal : Cert.quiescent_AdamOutIdeal := fun m ρ _ => Cert.AdamOutIdeal.Gen.frame m ρ

/-- Its reference runs to its end and leaves its arguments as they were. -/
theorem frame_AdamOutRefIdeal : Cert.quiescent_AdamOutRefIdeal := by
  intro m ρ _
  exact (θ_run Cert.AdamOutRefIdeal.defs _ _).mono (fun r h => ⟨fun c => (h c).2.2.2.2, sem_eq_zero_of_no_sems (by decide) r.2⟩)
    (Cert.AdamOutRefIdeal.Value.run m ρ)

/-- The optimiser's call on the input projection runs to its end and leaves its arguments as they were. -/
theorem frame_AdamIn : Cert.quiescent_AdamIn := fun m ρ _ => Cert.AdamIn.Gen.frame m ρ

/-- So it does when read over the extended reals. -/
theorem frame_AdamInIdeal : Cert.quiescent_AdamInIdeal := fun m ρ _ => Cert.AdamInIdeal.Gen.frame m ρ

/-- Its reference runs to its end and leaves its arguments as they were. -/
theorem frame_AdamInRefIdeal : Cert.quiescent_AdamInRefIdeal := by
  intro m ρ _
  exact (θ_run Cert.AdamInRefIdeal.defs _ _).mono (fun r h => ⟨fun c => (h c).2.2.2.2, sem_eq_zero_of_no_sems (by decide) r.2⟩)
    (Cert.AdamInRefIdeal.Value.run m ρ)

/-- The optimiser's call on the modulation's projection, with its gradient runs to its end and leaves its arguments as they were. -/
theorem frame_AdaAdam : Cert.quiescent_AdaAdam := fun m ρ _ => Cert.AdaAdam.Gen.frame m ρ

/-- So it does when read over the extended reals. -/
theorem frame_AdaAdamIdeal : Cert.quiescent_AdaAdamIdeal := fun m ρ _ => Cert.AdaAdamIdeal.Gen.frame m ρ

/-- Its reference runs to its end and leaves its arguments as they were. -/
theorem frame_AdaAdamRefIdeal : Cert.quiescent_AdaAdamRefIdeal := by
  intro m ρ _
  exact (θ_run Cert.AdaAdamRefIdeal.defs _ _).mono (fun r h => ⟨fun c => (h c).2.2.2.2, sem_eq_zero_of_no_sems (by decide) r.2⟩)
    (Cert.AdaAdamRefIdeal.Value.run m ρ)

/-- The optimiser's call on the feed-forward block's first weight computes the reference's gradient, step and moments. -/
theorem algebraic_AdamUp : Cert.algebraic_AdamUpIdeal_AdamUpRefIdeal := by
  pair_intro
  · run_from Cert.AdamUpIdeal.Gen.run_main m g
  · run_from Cert.AdamUpRefIdeal.Value.run m' g'
    · exact (Cert.AdamUpIdeal.Hand.final_g m c).symm
    · exact (Cert.AdamUpIdeal.Hand.final_d m c).symm
    · exact (Cert.AdamUpIdeal.Hand.final_m m c).symm
    · exact (Cert.AdamUpIdeal.Hand.final_v m c).symm

/-- The optimiser's call on the feed-forward block's second weight computes the reference's gradient, step and moments. -/
theorem algebraic_AdamDown : Cert.algebraic_AdamDownIdeal_AdamDownRefIdeal := by
  pair_intro
  · run_from Cert.AdamDownIdeal.Gen.run_main m g
  · run_from Cert.AdamDownRefIdeal.Value.run m' g'
    · exact (Cert.AdamDownIdeal.Hand.final_g m c).symm
    · exact (Cert.AdamDownIdeal.Hand.final_d m c).symm
    · exact (Cert.AdamDownIdeal.Hand.final_m m c).symm
    · exact (Cert.AdamDownIdeal.Hand.final_v m c).symm

/-- The optimiser's call on the output projection computes the reference's gradient, step and moments. -/
theorem algebraic_AdamOut : Cert.algebraic_AdamOutIdeal_AdamOutRefIdeal := by
  pair_intro
  · run_from Cert.AdamOutIdeal.Gen.run_main m g
  · run_from Cert.AdamOutRefIdeal.Value.run m' g'
    · exact (Cert.AdamOutIdeal.Hand.final_g m c).symm
    · exact (Cert.AdamOutIdeal.Hand.final_d m c).symm
    · exact (Cert.AdamOutIdeal.Hand.final_m m c).symm
    · exact (Cert.AdamOutIdeal.Hand.final_v m c).symm

/-- The optimiser's call on the input projection computes the reference's gradient, step and moments. -/
theorem algebraic_AdamIn : Cert.algebraic_AdamInIdeal_AdamInRefIdeal := by
  pair_intro
  · run_from Cert.AdamInIdeal.Gen.run_main m g
  · run_from Cert.AdamInRefIdeal.Value.run m' g'
    · exact (Cert.AdamInIdeal.Hand.final_g m c).symm
    · exact (Cert.AdamInIdeal.Hand.final_d m c).symm
    · exact (Cert.AdamInIdeal.Hand.final_m m c).symm
    · exact (Cert.AdamInIdeal.Hand.final_v m c).symm

/-- The optimiser's call on the modulation's projection, with its gradient, computes the reference's gradient, step and moments. -/
theorem algebraic_AdaAdam : Cert.algebraic_AdaAdamIdeal_AdaAdamRefIdeal := by
  pair_intro
  · run_from Cert.AdaAdamIdeal.Gen.run_main m g
  · run_from Cert.AdaAdamRefIdeal.Value.run m' g'
    · exact (Cert.AdaAdamIdeal.Hand.final_g m c).symm
    · exact (Cert.AdaAdamIdeal.Hand.final_d m c).symm
    · exact (Cert.AdaAdamIdeal.Hand.final_m m c).symm
    · exact (Cert.AdaAdamIdeal.Hand.final_v m c).symm

/-- The sum over the eight devices of their rows runs to its end and leaves its arguments as they were. -/
theorem frame_SumSmall : Cert.quiescent_SumSmall := fun m ρ _ => Cert.SumSmall.Gen.frame m ρ

/-- So it does when read over the extended reals. -/
theorem frame_SumSmallIdeal : Cert.quiescent_SumSmallIdeal := fun m ρ _ => Cert.SumSmallIdeal.Gen.frame m ρ

/-- Its reference runs to its end and leaves its arguments as they were. -/
theorem frame_SumSmallRefIdeal : Cert.quiescent_SumSmallRefIdeal := by
  intro m ρ _
  exact (θ_run Cert.SumSmallRefIdeal.defs _ _).mono (fun r h => ⟨fun c => (h c).2.2, sem_eq_zero_of_no_sems (by decide) r.2⟩)
    (Cert.SumSmallRefIdeal.Value.run m ρ)

/-- The modulation's forward call runs to its end and leaves its arguments as they were. -/
theorem frame_AdaFwd : Cert.quiescent_AdaFwd := fun m ρ _ => Cert.AdaFwd.Gen.frame m ρ

/-- So it does when read over the extended reals. -/
theorem frame_AdaFwdIdeal : Cert.quiescent_AdaFwdIdeal := fun m ρ _ => Cert.AdaFwdIdeal.Gen.frame m ρ

/-- Its reference runs to its end and leaves its arguments as they were. -/
theorem frame_AdaFwdRefIdeal : Cert.quiescent_AdaFwdRefIdeal := by
  intro m ρ _
  exact (θ_run Cert.AdaFwdRefIdeal.defs _ _).mono (fun r h => ⟨fun c => (h c).2.2, sem_eq_zero_of_no_sems (by decide) r.2⟩)
    (Cert.AdaFwdRefIdeal.Value.run m ρ)

/-- The sum over the eight devices of their rows, and the loss, are the reference's values. -/
theorem algebraic_SumSmall : Cert.algebraic_SumSmallIdeal_SumSmallRefIdeal := by
  pair_intro
  · exact Cert.SumSmallIdeal.Hand.run m g
  · refine θ_run_mono (Cert.SumSmallRefIdeal.Value.run m' g') fun r hr c => ⟨(hr c).1.trans ?_, (hr c).2.1.trans ?_, (hr c).2.2⟩ <;>
      rw [hagree c]

/-- The modulation's forward call computes the reference's values. -/
theorem algebraic_AdaFwd : Cert.algebraic_AdaFwdIdeal_AdaFwdRefIdeal := by
  pair_intro
  · run_from Cert.AdaFwdIdeal.Gen.run_main m g
  · run_from Cert.AdaFwdRefIdeal.Value.run m' g'
    · exact (Cert.AdaFwdIdeal.Hand.final_mod m c).symm
    · exact (Cert.AdaFwdIdeal.Hand.final_act m c).symm

/-- The sum over a pair of devices runs to its end and leaves its arguments as they were, on every device's core and chip. -/
theorem frame_PairOut : Cert.quiescent_PairOut := fun m ρ hpre =>
  (Cert.PairOutIdeal.Hand.words_of_pre _ _ _ (hpre 0)).elim fun ch hw => Cert.PairOut.Hand.frame ch m ρ fun c => by rw [show c = 0 from Subsingleton.elim _ _]; exact hw

/-- So it does when read over the extended reals. -/
theorem frame_PairOutIdeal : Cert.quiescent_PairOutIdeal := fun m ρ hpre =>
  (Cert.PairOutIdeal.Hand.words_of_pre _ _ _ (hpre 0)).elim fun ch hw => Cert.PairOutIdeal.Hand.frame ch m ρ fun c => by rw [show c = 0 from Subsingleton.elim _ _]; exact hw

/-- Its reference runs to its end and leaves its arguments as they were. -/
theorem frame_PairOutRefIdeal : Cert.quiescent_PairOutRefIdeal := by
  intro m ρ _
  exact (θ_run Cert.PairOutRefIdeal.defs _ _).mono (fun r h => ⟨fun c => (h c).2.2, sem_eq_zero_of_no_sems (by decide) r.2⟩)
    (Cert.PairOutRefIdeal.Value.run m ρ)

/-- The same of the reference, on every device's core and chip. -/
theorem frame_PairOutRefIdeal_pre : Cert.quiescent_PairOutRefIdeal_pre_core_and_chip := fun m ρ _ => frame_PairOutRefIdeal m ρ trivial

/-- The sum over a pair of devices computes the reference's values. -/
theorem algebraic_PairOut : Cert.algebraic_PairOutIdeal_PairOutRefIdeal := by
  intro m g m' g' hpre hagree
  obtain ⟨ch, hw⟩ := Cert.PairOutIdeal.Hand.words_of_pre _ _ _ (hpre 0)
  have hp : Cert.PairOutIdeal.Hand.Pinned (F := Ideal) ch m := fun c => by rw [show c = 0 from Subsingleton.elim _ _]; exact hw
  refine ⟨_, _, θ_run_mono (Cert.PairOutIdeal.Hand.run ch m g hp) fun r hr c => ⟨((hr.1 c).2.1).trans (Cert.PairOutIdeal.Hand.final_sum ch m g hp c),
    ((hr.1 c).2.2).trans (Cert.PairOutIdeal.Hand.final_own ch m g hp c), (hr.1 c).1⟩,
    θ_run_mono (Cert.PairOutRefIdeal.Value.run m' g') fun r hr c => ⟨(hr c).1.trans ?_, (hr c).2.1.trans ?_, (hr c).2.2⟩⟩
  · obtain ⟨h0, h1, h2⟩ := hagree c
    rw [h0, h1, h2]
  · obtain ⟨h0, h1, h2⟩ := hagree c
    rw [h0, h1, h2]

/-- Everything that is claimed. -/
theorem claim : Cert.Claim := ⟨Cert.MlpDx.Gen.facts, Cert.MlpDxIdeal.Gen.facts, Cert.MlpDxRefIdeal.Gen.facts, Cert.MlpDw.Gen.facts, Cert.MlpDwIdeal.Gen.facts, Cert.MlpDwRefIdeal.Gen.facts, Cert.MixInDw.Gen.facts, Cert.MixInDwIdeal.Gen.facts, Cert.MixInDwRefIdeal.Gen.facts, Cert.MixInDx.Gen.facts, Cert.MixInDxIdeal.Gen.facts, Cert.MixInDxRefIdeal.Gen.facts, Cert.MixOutBwd.Gen.facts, Cert.MixOutBwdIdeal.Gen.facts, Cert.MixOutBwdRefIdeal.Gen.facts, Cert.MlpLoss.Gen.facts, Cert.MlpLossIdeal.Gen.facts, Cert.MlpLossRefIdeal.Gen.facts, Cert.MixOutFwd.Gen.facts, Cert.MixOutFwdIdeal.Gen.facts, Cert.MixOutFwdRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamOut.Gen.facts, Cert.AdamOutIdeal.Gen.facts, Cert.AdamOutRefIdeal.Gen.facts, Cert.AdamIn.Gen.facts, Cert.AdamInIdeal.Gen.facts, Cert.AdamInRefIdeal.Gen.facts, Cert.AdaAdam.Gen.facts, Cert.AdaAdamIdeal.Gen.facts, Cert.AdaAdamRefIdeal.Gen.facts, Cert.SumSmall.Gen.facts, Cert.SumSmallIdeal.Gen.facts, Cert.SumSmallRefIdeal.Gen.facts, Cert.AdaFwd.Gen.facts, Cert.AdaFwdIdeal.Gen.facts, Cert.AdaFwdRefIdeal.Gen.facts, Cert.PairOut.Gen.facts, Cert.PairOutIdeal.Gen.facts, Cert.PairOutRefIdeal.Gen.facts, Cert.Pre_mix_in_finite.Gen.facts, Cert.Pre_mix_out_finite.Gen.facts, Cert.Pre_mlp_loss_finite.Gen.facts, Cert.Pre_core_and_chip.Gen.facts,
  frame_MlpDx, frame_MlpDxIdeal, frame_MlpDxRefIdeal, frame_MlpDw, frame_MlpDwIdeal, frame_MlpDwRefIdeal, frame_MixInDw, frame_MixInDwIdeal, frame_MixInDwRefIdeal, frame_MixInDx, frame_MixInDxIdeal, frame_MixInDxIdeal_pre, frame_MixInDxRefIdeal, frame_MixInDxRefIdeal_pre, frame_MixOutBwd, frame_MixOutBwdIdeal, frame_MixOutBwdIdeal_pre, frame_MixOutBwdRefIdeal, frame_MixOutBwdRefIdeal_pre, frame_MlpLoss, frame_MlpLossIdeal, frame_MlpLossIdeal_pre, frame_MlpLossRefIdeal, frame_MlpLossRefIdeal_pre, frame_MixOutFwd, frame_MixOutFwdIdeal, frame_MixOutFwdRefIdeal, frame_AdamUp, frame_AdamUpIdeal, frame_AdamUpRefIdeal, frame_AdamDown, frame_AdamDownIdeal, frame_AdamDownRefIdeal, frame_AdamOut, frame_AdamOutIdeal, frame_AdamOutRefIdeal, frame_AdamIn, frame_AdamInIdeal, frame_AdamInRefIdeal, frame_AdaAdam, frame_AdaAdamIdeal, frame_AdaAdamRefIdeal, frame_SumSmall, frame_SumSmallIdeal, frame_SumSmallRefIdeal, frame_AdaFwd, frame_AdaFwdIdeal, frame_AdaFwdRefIdeal, frame_PairOut, frame_PairOutIdeal, frame_PairOutRefIdeal, frame_PairOutRefIdeal_pre,
  trivial, algebraic_MlpDx, trivial, algebraic_MlpDw, trivial, algebraic_MixInDw, trivial, algebraic_MixInDx, trivial, algebraic_MixOutBwd, trivial, algebraic_MlpLoss, trivial, algebraic_MixOutFwd, trivial, algebraic_AdamUp, trivial, algebraic_AdamDown, trivial, algebraic_AdamOut, trivial, algebraic_AdamIn, trivial, algebraic_AdaAdam, trivial, algebraic_SumSmall, trivial, algebraic_AdaFwd, trivial, algebraic_PairOut⟩

end Cert.Proof

end
